-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2.2.2.2.2.2.2.2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13))).2.2.2.2.2.2.2.2.2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.2.2.2.2.2.2.2.2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13))).2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v93_0)) (v1 : (c : Dev Cert.KernelIdeal.nD) → Buf (Elt Ideal) ((c.tc : Thread Cert.KernelIdeal.nD Cert.KernelIdeal.τ).loc Cert.KernelIdeal.main_v97)) (v2 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93_0) = v0 c
          ∧ r.2.mem ((c.tc : Thread Cert.KernelIdeal.nD Cert.KernelIdeal.τ).loc Cert.KernelIdeal.main_v97) = v1 c
          ∧ r.2.mem ((c.tc : Thread Cert.KernelIdeal.nD Cert.KernelIdeal.τ).loc Cert.KernelIdeal.main_v101) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_v199) = v1 c
          ∧ r.2.mem ((c.tc : Thread Cert.ReferenceIdeal.nD Cert.ReferenceIdeal.τ).loc Cert.ReferenceIdeal.main_v200) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)) →
    ∃ (v0 : (c : Dev Cert.Kernel2Ideal.nD) → Buf (Elt Ideal) ((c.tc : Thread Cert.Kernel2Ideal.nD Cert.Kernel2Ideal.τ).loc Cert.Kernel2Ideal.main_v38_0)) (v1 : (c : Dev Cert.Kernel2Ideal.nD) → Buf (Elt Ideal) ((c.tc : Thread Cert.Kernel2Ideal.nD Cert.Kernel2Ideal.τ).loc Cert.Kernel2Ideal.main_v38_1)) (v2 : (c : Dev Cert.Kernel2Ideal.nD) → Buf (Elt Ideal) ((c.tc : Thread Cert.Kernel2Ideal.nD Cert.Kernel2Ideal.τ).loc Cert.Kernel2Ideal.main_v38_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v38_0) = v0 c
          ∧ r.2.mem ((c.tc : Thread Cert.Kernel2Ideal.nD Cert.Kernel2Ideal.τ).loc Cert.Kernel2Ideal.main_v38_1) = v1 c
          ∧ r.2.mem ((c.tc : Thread Cert.Kernel2Ideal.nD Cert.Kernel2Ideal.τ).loc Cert.Kernel2Ideal.main_v38_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v166) = v0 c
          ∧ r.2.mem ((c.tc : Thread Cert.Reference2Ideal.nD Cert.Reference2Ideal.τ).loc Cert.Reference2Ideal.main_v167) = v1 c
          ∧ r.2.mem ((c.tc : Thread Cert.Reference2Ideal.nD Cert.Reference2Ideal.τ).loc Cert.Reference2Ideal.main_v169) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
-- ==== Pre_finite.lean ====
abbrev S1x8192x8x64 : Shape := ⟨4, ![1, 8192, 8, 64]⟩
abbrev S1x8192x2x64 : Shape := ⟨4, ![1, 8192, 2, 64]⟩
abbrev S8 : Shape := ⟨1, ![8]⟩
abbrev S1x8192x512 : Shape := ⟨3, ![1, 8192, 512]⟩
abbrev S_ : Shape := ⟨0, ![]⟩

class Facts : Prop where
  bcast_S_S1x8192x8x64 : S_.BroadcastsInDim S1x8192x8x64 (![] : Fin 0 → Fin S1x8192x8x64.rank)
  bcast_S_S1x8192x2x64 : S_.BroadcastsInDim S1x8192x2x64 (![] : Fin 0 → Fin S1x8192x2x64.rank)
  bcast_S_S8 : S_.BroadcastsInDim S8 (![] : Fin 0 → Fin S8.rank)
  bcast_S_S1x8192x512 : S_.BroadcastsInDim S1x8192x512 (![] : Fin 0 → Fin S1x8192x512.rank)

variable [Facts]

def fn {F : FTy → Type} [FloatOps F] (main_arg0 : FVec F S1x8192x8x64 .f32) (main_arg1 : FVec F S1x8192x2x64 .f32) (main_arg2 : FVec F S8 .f32) (main_arg3 : FVec F S1x8192x2x64 .f32) (main_arg4 : FVec F S1x8192x512 .f32) : IVec S1x8192x8x64 1 × IVec S1x8192x2x64 1 × IVec S8 1 × IVec S1x8192x2x64 1 × IVec S1x8192x512 1 :=
  let main_v0 : FVec F S1x8192x8x64 .f32 := Host.absf main_arg0
  let main_cst : FVec F S_ .f32 := constant S_ .f32 0x7F800000#32
  let main_v1 : FVec F S1x8192x8x64 .f32 := broadcastInDim S1x8192x8x64 ![] bcast_S_S1x8192x8x64 main_cst
  let main_v2 : IVec S1x8192x8x64 1 := cmpf .olt main_v0 main_v1
  let main_v3 : FVec F S1x8192x2x64 .f32 := Host.absf main_arg1
  let main_cst_0 : FVec F S_ .f32 := constant S_ .f32 0x7F800000#32
  let main_v4 : FVec F S1x8192x2x64 .f32 := broadcastInDim S1x8192x2x64 ![] bcast_S_S1x8192x2x64 main_cst_0
  let main_v5 : IVec S1x8192x2x64 1 := cmpf .olt main_v3 main_v4
  let main_v6 : FVec F S8 .f32 := Host.absf main_arg2
  let main_cst_1 : FVec F S_ .f32 := constant S_ .f32 0x7F800000#32
  let main_v7 : FVec F S8 .f32 := broadcastInDim S8 ![] bcast_S_S8 main_cst_1
  let main_v8 : IVec S8 1 := cmpf .olt main_v6 main_v7
  let main_v9 : FVec F S1x8192x2x64 .f32 := Host.absf main_arg3
  let main_cst_2 : FVec F S_ .f32 := constant S_ .f32 0x7F800000#32
  let main_v10 : FVec F S1x8192x2x64 .f32 := broadcastInDim S1x8192x2x64 ![] bcast_S_S1x8192x2x64 main_cst_2
  let main_v11 : IVec S1x8192x2x64 1 := cmpf .olt main_v9 main_v10
  let main_v12 : FVec F S1x8192x512 .f32 := Host.absf main_arg4
  let main_cst_3 : FVec F S_ .f32 := constant S_ .f32 0x7F800000#32
  let main_v13 : FVec F S1x8192x512 .f32 := broadcastInDim S1x8192x512 ![] bcast_S_S1x8192x512 main_cst_3
  let main_v14 : IVec S1x8192x512 1 := cmpf .olt main_v12 main_v13
  (main_v2, main_v5, main_v8, main_v11, main_v14)
-- ==== Pre_finite2.lean ====
abbrev S8192x1024 : Shape := ⟨2, ![8192, 1024]⟩
abbrev S1024 : Shape := ⟨1, ![1024]⟩
abbrev S1024x3328 : Shape := ⟨2, ![1024, 3328]⟩
abbrev S3x512 : Shape := ⟨2, ![3, 512]⟩
abbrev S8192x512 : Shape := ⟨2, ![8192, 512]⟩
abbrev S8192x128 : Shape := ⟨2, ![8192, 128]⟩
abbrev S16x128x128 : Shape := ⟨3, ![16, 128, 128]⟩
abbrev S_ : Shape := ⟨0, ![]⟩

class Facts : Prop where
  bcast_S_S8192x1024 : S_.BroadcastsInDim S8192x1024 (![] : Fin 0 → Fin S8192x1024.rank)
  bcast_S_S1024 : S_.BroadcastsInDim S1024 (![] : Fin 0 → Fin S1024.rank)
  bcast_S_S1024x3328 : S_.BroadcastsInDim S1024x3328 (![] : Fin 0 → Fin S1024x3328.rank)
  bcast_S_S3x512 : S_.BroadcastsInDim S3x512 (![] : Fin 0 → Fin S3x512.rank)
  bcast_S_S8192x512 : S_.BroadcastsInDim S8192x512 (![] : Fin 0 → Fin S8192x512.rank)
  bcast_S_S8192x128 : S_.BroadcastsInDim S8192x128 (![] : Fin 0 → Fin S8192x128.rank)
  bcast_S_S16x128x128 : S_.BroadcastsInDim S16x128x128 (![] : Fin 0 → Fin S16x128x128.rank)

variable [Facts]

def fn_part2 {F : FTy → Type} [FloatOps F] (main_arg12 : FVec F S8192x512 .f32) (main_arg13 : FVec F S8192x512 .bf16) (main_v2 : IVec S8192x1024 1) (main_v5 : IVec S1024 1) (main_v8 : IVec S1024x3328 1) (main_v11 : IVec S3x512 1) (main_v14 : IVec S8192x1024 1) (main_v17 : IVec S8192x512 1) (main_v20 : IVec S8192x128 1) (main_v23 : IVec S8192x128 1) (main_v26 : IVec S16x128x128 1) (main_v29 : IVec S16x128x128 1) (main_v32 : IVec S8192x512 1) (main_v35 : IVec S8192x512 1) : IVec S8192x1024 1 × IVec S1024 1 × IVec S1024x3328 1 × IVec S3x512 1 × IVec S8192x1024 1 × IVec S8192x512 1 × IVec S8192x128 1 × IVec S8192x128 1 × IVec S16x128x128 1 × IVec S16x128x128 1 × IVec S8192x512 1 × IVec S8192x512 1 × IVec S8192x512 1 × IVec S8192x512 1 :=
  let main_v36 : FVec F S8192x512 .f32 := Host.absf main_arg12
  let main_cst_11 : FVec F S_ .f32 := constant S_ .f32 0x7F800000#32
  let main_v37 : FVec F S8192x512 .f32 := broadcastInDim S8192x512 ![] bcast_S_S8192x512 main_cst_11
  let main_v38 : IVec S8192x512 1 := cmpf .olt main_v36 main_v37
  let main_v39 : FVec F S8192x512 .bf16 := Host.absf main_arg13
  let main_cst_12 : FVec F S_ .bf16 := constant S_ .bf16 0x7F80#16
  let main_v40 : FVec F S8192x512 .bf16 := broadcastInDim S8192x512 ![] bcast_S_S8192x512 main_cst_12
  let main_v41 : IVec S8192x512 1 := cmpf .olt main_v39 main_v40
  (main_v2, main_v5, main_v8, main_v11, main_v14, main_v17, main_v20, main_v23, main_v26, main_v29, main_v32, main_v35, main_v38, main_v41)

def fn_part1 {F : FTy → Type} [FloatOps F] (main_arg6 : FVec F S8192x128 .f32) (main_arg7 : FVec F S8192x128 .f32) (main_arg8 : FVec F S16x128x128 .f32) (main_arg9 : FVec F S16x128x128 .f32) (main_arg10 : FVec F S8192x512 .bf16) (main_arg11 : FVec F S8192x512 .bf16) (main_arg12 : FVec F S8192x512 .f32) (main_arg13 : FVec F S8192x512 .bf16) (main_v2 : IVec S8192x1024 1) (main_v5 : IVec S1024 1) (main_v8 : IVec S1024x3328 1) (main_v11 : IVec S3x512 1) (main_v14 : IVec S8192x1024 1) (main_v17 : IVec S8192x512 1) : IVec S8192x1024 1 × IVec S1024 1 × IVec S1024x3328 1 × IVec S3x512 1 × IVec S8192x1024 1 × IVec S8192x512 1 × IVec S8192x128 1 × IVec S8192x128 1 × IVec S16x128x128 1 × IVec S16x128x128 1 × IVec S8192x512 1 × IVec S8192x512 1 × IVec S8192x512 1 × IVec S8192x512 1 :=
  let main_v18 : FVec F S8192x128 .f32 := Host.absf main_arg6
  let main_cst_5 : FVec F S_ .f32 := constant S_ .f32 0x7F800000#32
  let main_v19 : FVec F S8192x128 .f32 := broadcastInDim S8192x128 ![] bcast_S_S8192x128 main_cst_5
  let main_v20 : IVec S8192x128 1 := cmpf .olt main_v18 main_v19
  let main_v21 : FVec F S8192x128 .f32 := Host.absf main_arg7
  let main_cst_6 : FVec F S_ .f32 := constant S_ .f32 0x7F800000#32
  let main_v22 : FVec F S8192x128 .f32 := broadcastInDim S8192x128 ![] bcast_S_S8192x128 main_cst_6
  let main_v23 : IVec S8192x128 1 := cmpf .olt main_v21 main_v22
  let main_v24 : FVec F S16x128x128 .f32 := Host.absf main_arg8
  let main_cst_7 : FVec F S_ .f32 := constant S_ .f32 0x7F800000#32
  let main_v25 : FVec F S16x128x128 .f32 := broadcastInDim S16x128x128 ![] bcast_S_S16x128x128 main_cst_7
  let main_v26 : IVec S16x128x128 1 := cmpf .olt main_v24 main_v25
  let main_v27 : FVec F S16x128x128 .f32 := Host.absf main_arg9
  let main_cst_8 : FVec F S_ .f32 := constant S_ .f32 0x7F800000#32
  let main_v28 : FVec F S16x128x128 .f32 := broadcastInDim S16x128x128 ![] bcast_S_S16x128x128 main_cst_8
  let main_v29 : IVec S16x128x128 1 := cmpf .olt main_v27 main_v28
  let main_v30 : FVec F S8192x512 .bf16 := Host.absf main_arg10
  let main_cst_9 : FVec F S_ .bf16 := constant S_ .bf16 0x7F80#16
  let main_v31 : FVec F S8192x512 .bf16 := broadcastInDim S8192x512 ![] bcast_S_S8192x512 main_cst_9
  let main_v32 : IVec S8192x512 1 := cmpf .olt main_v30 main_v31
  let main_v33 : FVec F S8192x512 .bf16 := Host.absf main_arg11
  let main_cst_10 : FVec F S_ .bf16 := constant S_ .bf16 0x7F80#16
  let main_v34 : FVec F S8192x512 .bf16 := broadcastInDim S8192x512 ![] bcast_S_S8192x512 main_cst_10
  let main_v35 : IVec S8192x512 1 := cmpf .olt main_v33 main_v34
  fn_part2 (F := F) main_arg12 main_arg13 main_v2 main_v5 main_v8 main_v11 main_v14 main_v17 main_v20 main_v23 main_v26 main_v29 main_v32 main_v35

def fn {F : FTy → Type} [FloatOps F] (main_arg0 : FVec F S8192x1024 .f32) (main_arg1 : FVec F S1024 .f32) (main_arg2 : FVec F S1024x3328 .f32) (main_arg3 : FVec F S3x512 .f32) (main_arg4 : FVec F S8192x1024 .f32) (main_arg5 : FVec F S8192x512 .bf16) (main_arg6 : FVec F S8192x128 .f32) (main_arg7 : FVec F S8192x128 .f32) (main_arg8 : FVec F S16x128x128 .f32) (main_arg9 : FVec F S16x128x128 .f32) (main_arg10 : FVec F S8192x512 .bf16) (main_arg11 : FVec F S8192x512 .bf16) (main_arg12 : FVec F S8192x512 .f32) (main_arg13 : FVec F S8192x512 .bf16) : IVec S8192x1024 1 × IVec S1024 1 × IVec S1024x3328 1 × IVec S3x512 1 × IVec S8192x1024 1 × IVec S8192x512 1 × IVec S8192x128 1 × IVec S8192x128 1 × IVec S16x128x128 1 × IVec S16x128x128 1 × IVec S8192x512 1 × IVec S8192x512 1 × IVec S8192x512 1 × IVec S8192x512 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024 .f32 := Host.absf main_arg1
  let main_cst_0 : FVec F S_ .f32 := constant S_ .f32 0x7F800000#32
  let main_v4 : FVec F S1024 .f32 := broadcastInDim S1024 ![] bcast_S_S1024 main_cst_0
  let main_v5 : IVec S1024 1 := cmpf .olt main_v3 main_v4
  let main_v6 : FVec F S1024x3328 .f32 := Host.absf main_arg2
  let main_cst_1 : FVec F S_ .f32 := constant S_ .f32 0x7F800000#32
  let main_v7 : FVec F S1024x3328 .f32 := broadcastInDim S1024x3328 ![] bcast_S_S1024x3328 main_cst_1
  let main_v8 : IVec S1024x3328 1 := cmpf .olt main_v6 main_v7
  let main_v9 : FVec F S3x512 .f32 := Host.absf main_arg3
  let main_cst_2 : FVec F S_ .f32 := constant S_ .f32 0x7F800000#32
  let main_v10 : FVec F S3x512 .f32 := broadcastInDim S3x512 ![] bcast_S_S3x512 main_cst_2
  let main_v11 : IVec S3x512 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  let main_v15 : FVec F S8192x512 .bf16 := Host.absf main_arg5
  let main_cst_4 : FVec F S_ .bf16 := constant S_ .bf16 0x7F80#16
  let main_v16 : FVec F S8192x512 .bf16 := broadcastInDim S8192x512 ![] bcast_S_S8192x512 main_cst_4
  let main_v17 : IVec S8192x512 1 := cmpf .olt main_v15 main_v16
  fn_part1 (F := F) main_arg6 main_arg7 main_arg8 main_arg9 main_arg10 main_arg11 main_arg12 main_arg13 main_v2 main_v5 main_v8 main_v11 main_v14 main_v17
-- ==== Kernel.lean ====
abbrev S1x8192x8x64 : Shape := ⟨4, ![1, 8192, 8, 64]⟩
abbrev S1x8192x2x64 : Shape := ⟨4, ![1, 8192, 2, 64]⟩
abbrev S8 : Shape := ⟨1, ![8]⟩
abbrev S1x8192x512 : Shape := ⟨3, ![1, 8192, 512]⟩
abbrev S_ : Shape := ⟨0, ![]⟩
abbrev S8192x8 : Shape := ⟨2, ![8192, 8]⟩
abbrev S1x8192x8x8 : Shape := ⟨4, ![1, 8192, 8, 8]⟩
abbrev S1x8192x8x48 : Shape := ⟨4, ![1, 8192, 8, 48]⟩
abbrev S1x64x128x2x4x64 : Shape := ⟨6, ![1, 64, 128, 2, 4, 64]⟩
abbrev S1x64x128x2x64 : Shape := ⟨5, ![1, 64, 128, 2, 64]⟩
abbrev S1x1x128x2x64 : Shape := ⟨5, ![1, 1, 128, 2, 64]⟩
abbrev S1x63x128x2x64 : Shape := ⟨5, ![1, 63, 128, 2, 64]⟩
abbrev S1x64x256x2x64 : Shape := ⟨5, ![1, 64, 256, 2, 64]⟩
abbrev S1x64x2x256x128x4 : Shape := ⟨6, ![1, 64, 2, 256, 128, 4]⟩
abbrev S1x64x2x4x128x256 : Shape := ⟨6, ![1, 64, 2, 4, 128, 256]⟩
abbrev S64x128x256 : Shape := ⟨3, ![64, 128, 256]⟩
abbrev S2x4 : Shape := ⟨2, ![2, 4]⟩
abbrev S1x64x2x4x128 : Shape := ⟨5, ![1, 64, 2, 4, 128]⟩
abbrev S1x64x2x64x4x128 : Shape := ⟨6, ![1, 64, 2, 64, 4, 128]⟩
abbrev S128x128 : Shape := ⟨2, ![128, 128]⟩
abbrev S1x64x2x4x128x128 : Shape := ⟨6, ![1, 64, 2, 4, 128, 128]⟩
abbrev S128x512x128 : Shape := ⟨3, ![128, 512, 128]⟩
abbrev S8192x48 : Shape := ⟨2, ![8192, 48]⟩
abbrev S8192x128 : Shape := ⟨2, ![8192, 128]⟩
abbrev S8192x512 : Shape := ⟨2, ![8192, 512]⟩
abbrev S1x8192x2x128 : Shape := ⟨4, ![1, 8192, 2, 128]⟩
abbrev S8192x256 : Shape := ⟨2, ![8192, 256]⟩
abbrev S16x128x128 : Shape := ⟨3, ![16, 128, 128]⟩
abbrev S512x512 : Shape := ⟨2, ![512, 512]⟩
abbrev S512x256 : Shape := ⟨2, ![512, 256]⟩
abbrev S128x256 : Shape := ⟨2, ![128, 256]⟩
abbrev S8x512x128 : Shape := ⟨3, ![8, 512, 128]⟩
abbrev S512x128 : Shape := ⟨2, ![512, 128]⟩
abbrev S1x128x128 : Shape := ⟨3, ![1, 128, 128]⟩
abbrev S256x128 : Shape := ⟨2, ![256, 128]⟩
abbrev S256x256 : Shape := ⟨2, ![256, 256]⟩
abbrev S128x512 : Shape := ⟨2, ![128, 512]⟩
abbrev S512 : Shape := ⟨1, ![512]⟩
abbrev S512x1 : Shape := ⟨2, ![512, 1]⟩
abbrev S1x512x128 : Shape := ⟨3, ![1, 512, 128]⟩
abbrev S15x128x128 : Shape := ⟨3, ![15, 128, 128]⟩
abbrev S16x512x128 : Shape := ⟨3, ![16, 512, 128]⟩

abbrev nBuf : Space → Nat
  | .hbm => 125
  | .vmem => 32
  | .smem => 0
  | _ => 0

abbrev bufTy : (tb : Table) → Fin (tcTables nBuf tb) → BufTy
  | .hbm, ⟨0, _⟩ => ⟨S1x8192x8x64, .f32⟩
  | .hbm, ⟨1, _⟩ => ⟨S1x8192x2x64, .f32⟩
  | .hbm, ⟨2, _⟩ => ⟨S8, .f32⟩
  | .hbm, ⟨3, _⟩ => ⟨S1x8192x2x64, .f32⟩
  | .hbm, ⟨4, _⟩ => ⟨S1x8192x512, .f32⟩
  | .hbm, ⟨5, _⟩ => ⟨S8, .f32⟩
  | .hbm, ⟨6, _⟩ => ⟨S_, .f32⟩
  | .hbm, ⟨7, _⟩ => ⟨S8, .f32⟩
  | .hbm, ⟨8, _⟩ => ⟨S8, .f32⟩
  | .hbm, ⟨9, _⟩ => ⟨S_, .f32⟩
  | .hbm, ⟨10, _⟩ => ⟨S8, .f32⟩
  | .hbm, ⟨11, _⟩ => ⟨S8, .f32⟩
  | .hbm, ⟨12, _⟩ => ⟨S8192x8, .f32⟩
  | .hbm, ⟨13, _⟩ => ⟨S8192x8, .f32⟩
  | .hbm, ⟨14, _⟩ => ⟨S8192x8, .f32⟩
  | .hbm, ⟨15, _⟩ => ⟨S8192x8, .f32⟩
  | .hbm, ⟨16, _⟩ => ⟨S8192x8, .f32⟩
  | .hbm, ⟨17, _⟩ => ⟨S1x8192x8x8, .f32⟩
  | .hbm, ⟨18, _⟩ => ⟨S1x8192x8x8, .f32⟩
  | .hbm, ⟨19, _⟩ => ⟨S1x8192x8x8, .f32⟩
  | .hbm, ⟨20, _⟩ => ⟨S1x8192x8x8, .f32⟩
  | .hbm, ⟨21, _⟩ => ⟨S1x8192x8x8, .f32⟩
  | .hbm, ⟨22, _⟩ => ⟨S1x8192x8x8, .f32⟩
  | .hbm, ⟨23, _⟩ => ⟨S1x8192x8x8, .f32⟩
  | .hbm, ⟨24, _⟩ => ⟨S1x8192x8x8, .f32⟩
  | .hbm, ⟨25, _⟩ => ⟨S1x8192x8x8, .f32⟩
  | .hbm, ⟨26, _⟩ => ⟨S1x8192x8x8, .f32⟩
  | .hbm, ⟨27, _⟩ => ⟨S1x8192x8x48, .f32⟩
  | .hbm, ⟨28, _⟩ => ⟨S1x8192x8x64, .f32⟩
  | .hbm, ⟨29, _⟩ => ⟨S_, .f32⟩
  | .hbm, ⟨30, _⟩ => ⟨S1x8192x8x64, .f32⟩
  | .hbm, ⟨31, _⟩ => ⟨S1x8192x8x64, .f32⟩
  | .hbm, ⟨32, _⟩ => ⟨S1x64x128x2x4x64, .f32⟩
  | .hbm, ⟨33, _⟩ => ⟨S1x64x128x2x64, .f32⟩
  | .hbm, ⟨34, _⟩ => ⟨S1x64x128x2x64, .f32⟩
  | .hbm, ⟨35, _⟩ => ⟨S_, .f32⟩
  | .hbm, ⟨36, _⟩ => ⟨S1x1x128x2x64, .f32⟩
  | .hbm, ⟨37, _⟩ => ⟨S1x63x128x2x64, .f32⟩
  | .hbm, ⟨38, _⟩ => ⟨S1x64x128x2x64, .f32⟩
  | .hbm, ⟨39, _⟩ => ⟨S1x64x256x2x64, .f32⟩
  | .hbm, ⟨40, _⟩ => ⟨S1x63x128x2x64, .f32⟩
  | .hbm, ⟨41, _⟩ => ⟨S1x64x128x2x64, .f32⟩
  | .hbm, ⟨42, _⟩ => ⟨S1x64x256x2x64, .f32⟩
  | .hbm, ⟨43, _⟩ => ⟨S1x64x2x256x128x4, .f32⟩
  | .hbm, ⟨44, _⟩ => ⟨S1x64x2x4x128x256, .f32⟩
  | .hbm, ⟨45, _⟩ => ⟨S64x128x256, .i32⟩
  | .hbm, ⟨46, _⟩ => ⟨S64x128x256, .i32⟩
  | .hbm, ⟨47, _⟩ => ⟨S64x128x256, .i32⟩
  | .hbm, ⟨48, _⟩ => ⟨S_, .i32⟩
  | .hbm, ⟨49, _⟩ => ⟨S64x128x256, .i32⟩
  | .hbm, ⟨50, _⟩ => ⟨S64x128x256, .i1⟩
  | .hbm, ⟨51, _⟩ => ⟨S64x128x256, .i32⟩
  | .hbm, ⟨52, _⟩ => ⟨S64x128x256, .i1⟩
  | .hbm, ⟨53, _⟩ => ⟨S64x128x256, .i1⟩
  | .hbm, ⟨54, _⟩ => ⟨S64x128x256, .i32⟩
  | .hbm, ⟨55, _⟩ => ⟨S64x128x256, .i32⟩
  | .hbm, ⟨56, _⟩ => ⟨S64x128x256, .i1⟩
  | .hbm, ⟨57, _⟩ => ⟨S64x128x256, .i1⟩
  | .hbm, ⟨58, _⟩ => ⟨S1x64x2x4x128x256, .i1⟩
  | .hbm, ⟨59, _⟩ => ⟨S_, .f32⟩
  | .hbm, ⟨60, _⟩ => ⟨S1x64x2x4x128x256, .f32⟩
  | .hbm, ⟨61, _⟩ => ⟨S1x64x2x4x128x256, .f32⟩
  | .hbm, ⟨62, _⟩ => ⟨S2x4, .f32⟩
  | .hbm, ⟨63, _⟩ => ⟨S1x64x2x4x128, .f32⟩
  | .hbm, ⟨64, _⟩ => ⟨S_, .f32⟩
  | .hbm, ⟨65, _⟩ => ⟨S1x64x2x4x128, .f32⟩
  | .hbm, ⟨66, _⟩ => ⟨S1x64x2x4x128, .f32⟩
  | .hbm, ⟨67, _⟩ => ⟨S1x64x2x4x128x256, .f32⟩
  | .hbm, ⟨68, _⟩ => ⟨S1x64x2x4x128x256, .f32⟩
  | .hbm, ⟨69, _⟩ => ⟨S1x64x2x4x128x256, .f32⟩
  | .hbm, ⟨70, _⟩ => ⟨S_, .f32⟩
  | .hbm, ⟨71, _⟩ => ⟨S1x64x2x4x128, .f32⟩
  | .hbm, ⟨72, _⟩ => ⟨S1x64x2x4x128, .f32⟩
  | .hbm, ⟨73, _⟩ => ⟨S1x64x2x4x128, .f32⟩
  | .hbm, ⟨74, _⟩ => ⟨S1x64x2x4x128, .f32⟩
  | .hbm, ⟨75, _⟩ => ⟨S1x64x2x4x128x256, .f32⟩
  | .hbm, ⟨76, _⟩ => ⟨S1x64x2x4x128x256, .f32⟩
  | .hbm, ⟨77, _⟩ => ⟨S1x64x2x64x4x128, .f32⟩
  | .hbm, ⟨78, _⟩ => ⟨S1x64x128x2x4x64, .f32⟩
  | .hbm, ⟨79, _⟩ => ⟨S128x128, .i32⟩
  | .hbm, ⟨80, _⟩ => ⟨S128x128, .i32⟩
  | .hbm, ⟨81, _⟩ => ⟨S128x128, .i1⟩
  | .hbm, ⟨82, _⟩ => ⟨S1x64x2x4x128x128, .f32⟩
  | .hbm, ⟨83, _⟩ => ⟨S1x64x2x4x128x128, .f32⟩
  | .hbm, ⟨84, _⟩ => ⟨S1x64x2x4x128x128, .i1⟩
  | .hbm, ⟨85, _⟩ => ⟨S1x64x2x4x128x128, .f32⟩
  | .hbm, ⟨86, _⟩ => ⟨S128x512x128, .f32⟩
  | .hbm, ⟨87, _⟩ => ⟨S128x512x128, .bf16⟩
  | .hbm, ⟨88, _⟩ => ⟨S_, .f32⟩
  | .hbm, ⟨89, _⟩ => ⟨S8192x48, .f32⟩
  | .hbm, ⟨90, _⟩ => ⟨S_, .f32⟩
  | .hbm, ⟨91, _⟩ => ⟨S8192x8, .f32⟩
  | .hbm, ⟨92, _⟩ => ⟨S_, .f32⟩
  | .hbm, ⟨93, _⟩ => ⟨S8192x48, .f32⟩
  | .hbm, ⟨94, _⟩ => ⟨S8192x128, .f32⟩
  | .hbm, ⟨95, _⟩ => ⟨S8192x8, .f32⟩
  | .hbm, ⟨96, _⟩ => ⟨S8192x128, .f32⟩
  | .hbm, ⟨97, _⟩ => ⟨S8192x128, .f32⟩
  | .hbm, ⟨98, _⟩ => ⟨S8192x512, .f32⟩
  | .hbm, ⟨99, _⟩ => ⟨S8192x512, .f32⟩
  | .hbm, ⟨100, _⟩ => ⟨S8192x512, .bf16⟩
  | .hbm, ⟨101, _⟩ => ⟨S1x8192x2x128, .f32⟩
  | .hbm, ⟨102, _⟩ => ⟨S8192x256, .f32⟩
  | .hbm, ⟨103, _⟩ => ⟨S8192x256, .bf16⟩
  | .hbm, ⟨104, _⟩ => ⟨S1x8192x2x128, .f32⟩
  | .hbm, ⟨105, _⟩ => ⟨S8192x256, .f32⟩
  | .hbm, ⟨106, _⟩ => ⟨S8192x256, .bf16⟩
  | .hbm, ⟨107, _⟩ => ⟨S8192x512, .bf16⟩
  | .hbm, ⟨108, _⟩ => ⟨S8192x512, .f32⟩
  | .hbm, ⟨109, _⟩ => ⟨S8192x512, .f32⟩
  | .hbm, ⟨110, _⟩ => ⟨S8192x512, .bf16⟩
  | .hbm, ⟨111, _⟩ => ⟨S8192x128, .f32⟩
  | .hbm, ⟨112, _⟩ => ⟨S8192x128, .f32⟩
  | .hbm, ⟨113, _⟩ => ⟨S16x128x128, .f32⟩
  | .hbm, ⟨114, _⟩ => ⟨S16x128x128, .f32⟩
  | .hbm, ⟨115, _⟩ => ⟨S15x128x128, .f32⟩
  | .hbm, ⟨116, _⟩ => ⟨S_, .f32⟩
  | .hbm, ⟨117, _⟩ => ⟨S16x512x128, .f32⟩
  | .hbm, ⟨118, _⟩ => ⟨S8192x128, .f32⟩
  | .hbm, ⟨119, _⟩ => ⟨S8192x128, .f32⟩
  | .hbm, ⟨120, _⟩ => ⟨S15x128x128, .f32⟩
  | .hbm, ⟨121, _⟩ => ⟨S_, .f32⟩
  | .hbm, ⟨122, _⟩ => ⟨S16x512x128, .f32⟩
  | .hbm, ⟨123, _⟩ => ⟨S8192x128, .f32⟩
  | .hbm, ⟨124, _⟩ => ⟨S8192x128, .f32⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x256, .bf16⟩
  | .local _ .vmem, ⟨5, _⟩ => ⟨S512x256, .bf16⟩
  | .local _ .vmem, ⟨6, _⟩ => ⟨S128x256, .bf16⟩
  | .local _ .vmem, ⟨7, _⟩ => ⟨S128x256, .bf16⟩
  | .local _ .vmem, ⟨8, _⟩ => ⟨S128x256, .bf16⟩
  | .local _ .vmem, ⟨9, _⟩ => ⟨S128x256, .bf16⟩
  | .local _ .vmem, ⟨10, _⟩ => ⟨S8x512x128, .bf16⟩
  | .local _ .vmem, ⟨11, _⟩ => ⟨S8x512x128, .bf16⟩
  | .local _ .vmem, ⟨12, _⟩ => ⟨S512x512, .bf16⟩
  | .local _ .vmem, ⟨13, _⟩ => ⟨S512x512, .bf16⟩
  | .local _ .vmem, ⟨14, _⟩ => ⟨S512x512, .f32⟩
  | .local _ .vmem, ⟨15, _⟩ => ⟨S512x512, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x512, .bf16⟩
  | .local _ .vmem, ⟨23, _⟩ => ⟨S512x512, .bf16⟩
  | .local _ .vmem, ⟨24, _⟩ => ⟨S512x128, .f32⟩
  | .local _ .vmem, ⟨25, _⟩ => ⟨S512x128, .f32⟩
  | .local _ .vmem, ⟨26, _⟩ => ⟨S512x128, .f32⟩
  | .local _ .vmem, ⟨27, _⟩ => ⟨S512x128, .f32⟩
  | .local _ .vmem, ⟨28, _⟩ => ⟨S1x128x128, .f32⟩
  | .local _ .vmem, ⟨29, _⟩ => ⟨S1x128x128, .f32⟩
  | .local _ .vmem, ⟨30, _⟩ => ⟨S1x128x128, .f32⟩
  | .local _ .vmem, ⟨31, _⟩ => ⟨S1x128x128, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_1 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_cst_3 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_4 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_5 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_call0_v0 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_cst_6 : Ref sig .tc := ⟨.hbm, 88, rfl⟩
abbrev main_v74 : Ref sig .tc := ⟨.hbm, 89, rfl⟩
abbrev main_cst_7 : Ref sig .tc := ⟨.hbm, 90, rfl⟩
abbrev main_v75 : Ref sig .tc := ⟨.hbm, 91, rfl⟩
abbrev main_cst_8 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93_0 : Ref sig .tc := ⟨.hbm, 110, rfl⟩
abbrev main_v93_1 : Ref sig .tc := ⟨.hbm, 111, rfl⟩
abbrev main_v93_2 : Ref sig .tc := ⟨.hbm, 112, rfl⟩
abbrev main_v93_3 : Ref sig .tc := ⟨.hbm, 113, rfl⟩
abbrev main_v93_4 : Ref sig .tc := ⟨.hbm, 114, rfl⟩
abbrev main_v94 : Ref sig .tc := ⟨.hbm, 115, rfl⟩
abbrev main_cst_9 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_10 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x128x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S1x8192x8x64 : Shape := ⟨4, ![1, 8192, 8, 64]⟩
abbrev S1x8192x2x64 : Shape := ⟨4, ![1, 8192, 2, 64]⟩
abbrev S8 : Shape := ⟨1, ![8]⟩
abbrev S1x8192x512 : Shape := ⟨3, ![1, 8192, 512]⟩
abbrev S8192 : Shape := ⟨1, ![8192]⟩
abbrev S_ : Shape := ⟨0, ![]⟩
abbrev S8192x1 : Shape := ⟨2, ![8192, 1]⟩
abbrev S1x8 : Shape := ⟨2, ![1, 8]⟩
abbrev S8192x8 : Shape := ⟨2, ![8192, 8]⟩
abbrev S1x8192x1x8 : Shape := ⟨4, ![1, 8192, 1, 8]⟩
abbrev S1x8192x8x16 : Shape := ⟨4, ![1, 8192, 8, 16]⟩
abbrev S1x8192x8x8 : Shape := ⟨4, ![1, 8192, 8, 8]⟩
abbrev S1x8192x8x48 : Shape := ⟨4, ![1, 8192, 8, 48]⟩
abbrev S1x64x128x2x4x64 : Shape := ⟨6, ![1, 64, 128, 2, 4, 64]⟩
abbrev S1x64x128x2x64 : Shape := ⟨5, ![1, 64, 128, 2, 64]⟩
abbrev S1x1x128x2x64 : Shape := ⟨5, ![1, 1, 128, 2, 64]⟩
abbrev S1x63x128x2x64 : Shape := ⟨5, ![1, 63, 128, 2, 64]⟩
abbrev S1x64x256x2x64 : Shape := ⟨5, ![1, 64, 256, 2, 64]⟩
abbrev S1x64x2x256x128x4 : Shape := ⟨6, ![1, 64, 2, 256, 128, 4]⟩
abbrev S1x64x2x4x128x256 : Shape := ⟨6, ![1, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1 : Shape := ⟨2, ![64, 1]⟩
abbrev S64x256 : Shape := ⟨2, ![64, 256]⟩
abbrev S1x128x256 : Shape := ⟨3, ![1, 128, 256]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S2x4 : Shape := ⟨2, ![2, 4]⟩
abbrev S1x1x2x4x1x1 : Shape := ⟨6, ![1, 1, 2, 4, 1, 1]⟩
abbrev S1x64x2x4x128 : Shape := ⟨5, ![1, 64, 2, 4, 128]⟩
abbrev S1x64x2x4x128x1 : Shape := ⟨6, ![1, 64, 2, 4, 128, 1]⟩
abbrev S1x64x2x64x4x128 : Shape := ⟨6, ![1, 64, 2, 64, 4, 128]⟩
abbrev S1x64x2x64x256 : Shape := ⟨5, ![1, 64, 2, 64, 256]⟩
abbrev S64x2x4x128 : Shape := ⟨4, ![64, 2, 4, 128]⟩
abbrev S1x64x2x128x4x64 : Shape := ⟨6, ![1, 64, 2, 128, 4, 64]⟩
abbrev S1x64x2x256x64 : Shape := ⟨5, ![1, 64, 2, 256, 64]⟩
abbrev S8192x512 : Shape := ⟨2, ![8192, 512]⟩
abbrev S8192x128 : Shape := ⟨2, ![8192, 128]⟩

abbrev nBuf : Space → Nat
  | .hbm => 246
  | .vmem => 0
  | .smem => 0
  | _ => 0

abbrev hbmTy0_0 (i : Nat) : BufTy := match i % 128 with
  | 0 => ⟨S1x8192x8x64, .f32⟩
  | 1 => ⟨S1x8192x2x64, .f32⟩
  | 2 => ⟨S8, .f32⟩
  | 3 => ⟨S1x8192x2x64, .f32⟩
  | 4 => ⟨S1x8192x512, .f32⟩
  | 5 => ⟨S8192, .i32⟩
  | 6 => ⟨S8, .f32⟩
  | 7 => ⟨S_, .f32⟩
  | 8 => ⟨S8, .f32⟩
  | 9 => ⟨S8, .f32⟩
  | 10 => ⟨S_, .f32⟩
  | 11 => ⟨S8, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S8192, .f32⟩
  | 21 => ⟨S8192x1, .f32⟩
  | 22 => ⟨S1x8, .f32⟩
  | 23 => ⟨S8192x8, .f32⟩
  | 24 => ⟨S8192x8, .f32⟩
  | 25 => ⟨S8192x8, .f32⟩
  | 26 => ⟨S8192x8, .f32⟩
  | 27 => ⟨S1x8192x1x8, .f32⟩
  | 28 => ⟨S8192x8, .f32⟩
  | 29 => ⟨S1x8192x1x8, .f32⟩
  | 30 => ⟨S1x8192x8x16, .f32⟩
  | 31 => ⟨S1x8192x8x8, .f32⟩
  | 32 => ⟨S1x8192x8x8, .f32⟩
  | 33 => ⟨S1x8192x8x8, .f32⟩
  | 34 => ⟨S1x8192x8x8, .f32⟩
  | 35 => ⟨S1x8192x8x8, .f32⟩
  | 36 => ⟨S1x8192x8x8, .f32⟩
  | 37 => ⟨S1x8192x8x8, .f32⟩
  | 38 => ⟨S1x8192x8x8, .f32⟩
  | 39 => ⟨S1x8192x8x8, .f32⟩
  | 40 => ⟨S1x8192x8x8, .f32⟩
  | 41 => ⟨S1x8192x8x8, .f32⟩
  | 42 => ⟨S1x8192x8x8, .f32⟩
  | 43 => ⟨S1x8192x8x16, .f32⟩
  | 44 => ⟨S1x8192x8x48, .f32⟩
  | 45 => ⟨S1x8192x8x64, .f32⟩
  | 46 => ⟨S1x64x128x2x4x64, .f32⟩
  | 47 => ⟨S1x64x128x2x64, .f32⟩
  | 48 => ⟨S1x64x128x2x64, .f32⟩
  | 49 => ⟨S_, .f32⟩
  | 50 => ⟨S1x1x128x2x64, .f32⟩
  | 51 => ⟨S1x63x128x2x64, .f32⟩
  | 52 => ⟨S1x64x128x2x64, .f32⟩
  | 53 => ⟨S_, .f32⟩
  | 54 => ⟨S1x1x128x2x64, .f32⟩
  | 55 => ⟨S1x64x256x2x64, .f32⟩
  | 56 => ⟨S1x63x128x2x64, .f32⟩
  | 57 => ⟨S1x64x128x2x64, .f32⟩
  | 58 => ⟨S_, .f32⟩
  | 59 => ⟨S1x1x128x2x64, .f32⟩
  | 60 => ⟨S1x64x256x2x64, .f32⟩
  | 61 => ⟨S1x64x2x256x128x4, .f32⟩
  | 62 => ⟨S1x64x2x4x128x256, .f32⟩
  | 63 => ⟨S_, .f32⟩
  | 64 => ⟨S1x64x2x4x128x256, .f32⟩
  | 65 => ⟨S1x64x2x4x128x256, .f32⟩
  | 66 => ⟨S128, .i32⟩
  | 67 => ⟨S128x1, .i32⟩
  | 68 => ⟨S256, .i32⟩
  | 69 => ⟨S1x256, .i32⟩
  | 70 => ⟨S_, .i32⟩
  | 71 => ⟨S128x1, .i32⟩
  | 72 => ⟨S128x1, .i32⟩
  | 73 => ⟨S128x256, .i32⟩
  | 74 => ⟨S128x256, .i32⟩
  | 75 => ⟨S128x256, .i32⟩
  | 76 => ⟨S_, .i32⟩
  | 77 => ⟨S128x256, .i32⟩
  | 78 => ⟨S128x256, .i1⟩
  | 79 => ⟨S_, .i32⟩
  | 80 => ⟨S128x256, .i32⟩
  | 81 => ⟨S128x256, .i1⟩
  | 82 => ⟨S128x256, .i1⟩
  | 83 => ⟨S64, .i32⟩
  | 84 => ⟨S64x1, .i32⟩
  | 85 => ⟨S_, .i32⟩
  | 86 => ⟨S64x1, .i32⟩
  | 87 => ⟨S64x1, .i32⟩
  | 88 => ⟨S64x256, .i32⟩
  | 89 => ⟨S64x256, .i32⟩
  | 90 => ⟨S64x256, .i32⟩
  | 91 => ⟨S_, .i32⟩
  | 92 => ⟨S64x256, .i32⟩
  | 93 => ⟨S64x256, .i32⟩
  | 94 => ⟨S_, .i32⟩
  | 95 => ⟨S64x256, .i32⟩
  | 96 => ⟨S64x256, .i1⟩
  | 97 => ⟨S1x128x256, .i1⟩
  | 98 => ⟨S64x1x256, .i1⟩
  | 99 => ⟨S64x128x256, .i1⟩
  | 100 => ⟨S64x128x256, .i1⟩
  | 101 => ⟨S64x128x256, .i1⟩
  | 102 => ⟨S1x64x1x1x128x256, .i1⟩
  | 103 => ⟨S_, .f32⟩
  | 104 => ⟨S_, .f32⟩
  | 105 => ⟨S1x64x2x4x128x256, .i1⟩
  | 106 => ⟨S1x64x2x4x128x256, .f32⟩
  | 107 => ⟨S1x64x2x4x128x256, .f32⟩
  | 108 => ⟨S_, .f32⟩
  | 109 => ⟨S1x64x2x4x128x256, .f32⟩
  | 110 => ⟨S2x4, .f32⟩
  | 111 => ⟨S1x1x2x4x1x1, .f32⟩
  | 112 => ⟨S_, .f32⟩
  | 113 => ⟨S1x64x2x4x128, .f32⟩
  | 114 => ⟨S1x64x2x4x128x1, .f32⟩
  | 115 => ⟨S1x64x2x4x128x256, .f32⟩
  | 116 => ⟨S1x64x2x4x128x256, .i1⟩
  | 117 => ⟨S1x64x2x4x128x256, .f32⟩
  | 118 => ⟨S_, .f32⟩
  | 119 => ⟨S1x64x2x4x128, .f32⟩
  | 120 => ⟨S1x64x2x4x128x1, .f32⟩
  | 121 => ⟨S1x64x2x4x128x1, .f32⟩
  | 122 => ⟨S1x64x2x4x128x1, .f32⟩
  | 123 => ⟨S1x64x2x4x128x1, .f32⟩
  | 124 => ⟨S1x64x2x4x128x1, .i1⟩
  | 125 => ⟨S1x64x2x4x128x1, .f32⟩
  | 126 => ⟨S1x64x2x4x128x1, .i1⟩
  | 127 => ⟨S_, .f32⟩
  | _ => ⟨S1x8192x8x64, .f32⟩

abbrev hbmTy0_1 (i : Nat) : BufTy := match i % 128 with
  | 0 => ⟨S1x64x2x4x128x1, .f32⟩
  | 1 => ⟨S_, .f32⟩
  | 2 => ⟨S1x64x2x4x128x1, .f32⟩
  | 3 => ⟨S_, .f32⟩
  | 4 => ⟨S1x64x2x4x128x1, .f32⟩
  | 5 => ⟨S1x64x2x4x128x1, .f32⟩
  | 6 => ⟨S1x64x2x4x128x1, .f32⟩
  | 7 => ⟨S1x64x2x4x128x256, .f32⟩
  | 8 => ⟨S1x64x2x4x128x256, .f32⟩
  | 9 => ⟨S1x64x2x4x128x256, .f32⟩
  | 10 => ⟨S_, .f32⟩
  | 11 => ⟨S1x64x2x4x128, .f32⟩
  | 12 => ⟨S1x64x2x4x128x1, .f32⟩
  | 13 => ⟨S1x64x2x4x128x1, .f32⟩
  | 14 => ⟨S1x64x2x4x128x1, .f32⟩
  | 15 => ⟨S1x64x2x4x128x1, .f32⟩
  | 16 => ⟨S1x64x2x4x128x1, .f32⟩
  | 17 => ⟨S1x64x2x4x128x256, .f32⟩
  | 18 => ⟨S1x64x2x4x128x256, .f32⟩
  | 19 => ⟨S1x64x2x4x128x1, .f32⟩
  | 20 => ⟨S_, .f32⟩
  | 21 => ⟨S1x64x2x4x128x1, .f32⟩
  | 22 => ⟨S1x64x2x4x128x1, .f32⟩
  | 23 => ⟨S1x64x2x64x4x128, .f32⟩
  | 24 => ⟨S1x64x128x2x4x64, .f32⟩
  | 25 => ⟨S1x8192x512, .f32⟩
  | 26 => ⟨S1x64x128x2x4x64, .f32⟩
  | 27 => ⟨S1x64x2x64x4x128, .f32⟩
  | 28 => ⟨S1x64x2x4x128x256, .f32⟩
  | 29 => ⟨S1x64x2x64x256, .f32⟩
  | 30 => ⟨S1x64x256x2x64, .f32⟩
  | 31 => ⟨S1x64x2x4x128x256, .f32⟩
  | 32 => ⟨S1x64x2x4x128x256, .f32⟩
  | 33 => ⟨S1x64x2x4x128x256, .f32⟩
  | 34 => ⟨S_, .f32⟩
  | 35 => ⟨S1x64x2x4x128, .f32⟩
  | 36 => ⟨S1x64x2x4x128x1, .f32⟩
  | 37 => ⟨S1x64x2x4x128x1, .f32⟩
  | 38 => ⟨S1x64x2x4x128x256, .f32⟩
  | 39 => ⟨S1x64x2x4x128x256, .f32⟩
  | 40 => ⟨S1x64x2x4x128x1, .f32⟩
  | 41 => ⟨S1x64x2x4x128x1, .f32⟩
  | 42 => ⟨S_, .f32⟩
  | 43 => ⟨S64x2x4x128, .f32⟩
  | 44 => ⟨S1x64x2x4x128, .f32⟩
  | 45 => ⟨S1x64x2x4x128x256, .f32⟩
  | 46 => ⟨S1x64x2x4x128x256, .f32⟩
  | 47 => ⟨S1x64x2x4x128x256, .f32⟩
  | 48 => ⟨S1x64x2x4x128x256, .f32⟩
  | 49 => ⟨S_, .f32⟩
  | 50 => ⟨S1x64x2x4x128, .f32⟩
  | 51 => ⟨S1x64x2x4x128x1, .f32⟩
  | 52 => ⟨S1x64x2x4x128x1, .f32⟩
  | 53 => ⟨S1x64x2x4x128x1, .f32⟩
  | 54 => ⟨S_, .f32⟩
  | 55 => ⟨S64x2x4x128, .f32⟩
  | 56 => ⟨S1x64x2x4x128, .f32⟩
  | 57 => ⟨S1x64x2x4x128, .f32⟩
  | 58 => ⟨S1x64x2x4x128x256, .f32⟩
  | 59 => ⟨S1x64x2x4x128x256, .f32⟩
  | 60 => ⟨S1x64x2x4x128x256, .f32⟩
  | 61 => ⟨S_, .f32⟩
  | 62 => ⟨S1x64x2x4x128x256, .f32⟩
  | 63 => ⟨S1x64x2x4x128x256, .f32⟩
  | 64 => ⟨S_, .f32⟩
  | 65 => ⟨S1x64x2x4x128x256, .f32⟩
  | 66 => ⟨S1x64x2x4x128x256, .f32⟩
  | 67 => ⟨S1x64x2x256x128x4, .f32⟩
  | 68 => ⟨S1x64x2x128x4x64, .f32⟩
  | 69 => ⟨S1x64x128x2x4x64, .f32⟩
  | 70 => ⟨S1x64x2x256x64, .f32⟩
  | 71 => ⟨S1x64x256x2x64, .f32⟩
  | 72 => ⟨S1x64x128x2x64, .f32⟩
  | 73 => ⟨S1x64x128x2x64, .f32⟩
  | 74 => ⟨S1x1x128x2x64, .f32⟩
  | 75 => ⟨S1x63x128x2x64, .f32⟩
  | 76 => ⟨S_, .f32⟩
  | 77 => ⟨S1x64x128x2x64, .f32⟩
  | 78 => ⟨S1x64x128x2x64, .f32⟩
  | 79 => ⟨S1x64x128x2x64, .f32⟩
  | 80 => ⟨S1x64x128x2x64, .f32⟩
  | 81 => ⟨S1x1x128x2x64, .f32⟩
  | 82 => ⟨S1x63x128x2x64, .f32⟩
  | 83 => ⟨S_, .f32⟩
  | 84 => ⟨S1x64x128x2x64, .f32⟩
  | 85 => ⟨S1x64x128x2x64, .f32⟩
  | 86 => ⟨S1x8192x2x64, .f32⟩
  | 87 => ⟨S1x8192x2x64, .f32⟩
  | 88 => ⟨S1x8192x8x64, .f32⟩
  | 89 => ⟨S1x8192x8x16, .f32⟩
  | 90 => ⟨S1x8192x8x48, .f32⟩
  | 91 => ⟨S_, .f32⟩
  | 92 => ⟨S1x8192x8x64, .f32⟩
  | 93 => ⟨S1x8192x8x8, .f32⟩
  | 94 => ⟨S1x8192x8x8, .f32⟩
  | 95 => ⟨S1x8192x8x8, .f32⟩
  | 96 => ⟨S1x8192x8x8, .f32⟩
  | 97 => ⟨S1x8192x8x8, .f32⟩
  | 98 => ⟨S1x8192x8x8, .f32⟩
  | 99 => ⟨S1x8192x8x8, .f32⟩
  | 100 => ⟨S1x8192x8x8, .f32⟩
  | 101 => ⟨S1x8192x8x8, .f32⟩
  | 102 => ⟨S1x8192x8x8, .f32⟩
  | 103 => ⟨S1x8192x8x8, .f32⟩
  | 104 => ⟨S1x8192x8x8, .f32⟩
  | 105 => ⟨S1x8192x8x8, .f32⟩
  | 106 => ⟨S_, .f32⟩
  | 107 => ⟨S1x8192x8x16, .f32⟩
  | 108 => ⟨S_, .f32⟩
  | 109 => ⟨S1x8192x8x16, .f32⟩
  | 110 => ⟨S1x8192x8x16, .f32⟩
  | 111 => ⟨S_, .f32⟩
  | 112 => ⟨S1x8192x8x64, .f32⟩
  | 113 => ⟨S1x8192x8x64, .f32⟩
  | 114 => ⟨S8192x512, .f32⟩
  | 115 => ⟨S8192x512, .bf16⟩
  | 116 => ⟨S8192x128, .f32⟩
  | 117 => ⟨S8192x128, .f32⟩
  | _ => ⟨S1x8192x8x64, .f32⟩

abbrev hbmTy (i : Nat) : BufTy := match i / 128 with
  | 0 => hbmTy0_0 i
  | 1 => hbmTy0_1 i
  | _ => ⟨S1x8192x8x64, .f32⟩

abbrev bufTy : (tb : Table) → Fin (tcTables nBuf tb) → BufTy
  | .hbm, ⟨i, _⟩ => hbmTy i
  | _, _ => ⟨S1x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_3 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_4 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_5 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_c : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_c_7 : Ref sig .tc := ⟨.hbm, 76, rfl⟩
abbrev main_v62 : Ref sig .tc := ⟨.hbm, 77, rfl⟩
abbrev main_v63 : Ref sig .tc := ⟨.hbm, 78, rfl⟩
abbrev main_c_8 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_c_9 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_c_10 : Ref sig .tc := ⟨.hbm, 91, rfl⟩
abbrev main_v74 : Ref sig .tc := ⟨.hbm, 92, rfl⟩
abbrev main_v75 : Ref sig .tc := ⟨.hbm, 93, rfl⟩
abbrev main_c_11 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_12 : Ref sig .tc := ⟨.hbm, 103, rfl⟩
abbrev main_call0_v0 : Ref sig .tc := ⟨.hbm, 104, rfl⟩
abbrev main_v84_1 : Ref sig .tc := ⟨.hbm, 105, rfl⟩
abbrev main_call0_v2 : Ref sig .tc := ⟨.hbm, 106, rfl⟩
abbrev main_v84_0 : Ref sig .tc := ⟨.hbm, 107, rfl⟩
abbrev main_call0_cst : Ref sig .tc := ⟨.hbm, 108, rfl⟩
abbrev main_v84_2 : Ref sig .tc := ⟨.hbm, 109, rfl⟩
abbrev main_v85 : Ref sig .tc := ⟨.hbm, 110, rfl⟩
abbrev main_v86 : Ref sig .tc := ⟨.hbm, 111, rfl⟩
abbrev main_cst_13 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_cst_14 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_cst_15 : Ref sig .tc := ⟨.hbm, 127, rfl⟩
abbrev main_v100 : Ref sig .tc := ⟨.hbm, 128, rfl⟩
abbrev main_cst_16 : Ref sig .tc := ⟨.hbm, 129, rfl⟩
abbrev main_v101 : Ref sig .tc := ⟨.hbm, 130, rfl⟩
abbrev main_cst_17 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_cst_18 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_19 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_v127 : Ref sig .tc := ⟨.hbm, 159, rfl⟩
abbrev main_v128 : Ref sig .tc := ⟨.hbm, 160, rfl⟩
abbrev main_v129 : Ref sig .tc := ⟨.hbm, 161, rfl⟩
abbrev main_cst_20 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_cst_21 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_cst_22 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_23 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_call1_cst : Ref sig .tc := ⟨.hbm, 189, rfl⟩
abbrev main_call1_v0 : Ref sig .tc := ⟨.hbm, 190, rfl⟩
abbrev main_v153 : Ref sig .tc := ⟨.hbm, 191, rfl⟩
abbrev main_cst_24 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_v159 : Ref sig .tc := ⟨.hbm, 198, rfl⟩
abbrev main_v160 : Ref sig .tc := ⟨.hbm, 199, rfl⟩
abbrev main_v161 : Ref sig .tc := ⟨.hbm, 200, rfl⟩
abbrev main_v162 : Ref sig .tc := ⟨.hbm, 201, rfl⟩
abbrev main_v163 : Ref sig .tc := ⟨.hbm, 202, rfl⟩
abbrev main_v164 : Ref sig .tc := ⟨.hbm, 203, rfl⟩
abbrev main_cst_25 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_cst_26 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_cst_27 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_cst_28 : Ref sig .tc := ⟨.hbm, 234, rfl⟩
abbrev main_v192 : Ref sig .tc := ⟨.hbm, 235, rfl⟩
abbrev main_cst_29 : Ref sig .tc := ⟨.hbm, 236, rfl⟩
abbrev main_v193 : Ref sig .tc := ⟨.hbm, 237, rfl⟩
abbrev main_v194 : Ref sig .tc := ⟨.hbm, 238, rfl⟩
abbrev main_cst_30 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩

abbrev nD : Nat := 1
abbrev τ : Topo := Topo.v7x

variable {F : FTy → Type} [FloatOps F]
-- ==== Kernel2.lean ====
abbrev S8192x1024 : Shape := ⟨2, ![8192, 1024]⟩
abbrev S1024 : Shape := ⟨1, ![1024]⟩
abbrev S1024x3328 : Shape := ⟨2, ![1024, 3328]⟩
abbrev S3x512 : Shape := ⟨2, ![3, 512]⟩
abbrev S8192x512 : Shape := ⟨2, ![8192, 512]⟩
abbrev S8192x128 : Shape := ⟨2, ![8192, 128]⟩
abbrev S16x128x128 : Shape := ⟨3, ![16, 128, 128]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x2560 : Shape := ⟨2, ![1024, 2560]⟩
abbrev S8192x2560 : Shape := ⟨2, ![8192, 2560]⟩
abbrev S3x4x128 : Shape := ⟨3, ![3, 4, 128]⟩
abbrev S8x4x128 : Shape := ⟨3, ![8, 4, 128]⟩
abbrev S4x8x128 : Shape := ⟨3, ![4, 8, 128]⟩
abbrev S3328x1024 : Shape := ⟨2, ![3328, 1024]⟩
abbrev S8 : Shape := ⟨1, ![8]⟩
abbrev S8192x8 : Shape := ⟨2, ![8192, 8]⟩
abbrev S8192x48 : Shape := ⟨2, ![8192, 48]⟩
abbrev S8x1024 : Shape := ⟨2, ![8, 1024]⟩
abbrev S512x1024 : Shape := ⟨2, ![512, 1024]⟩
abbrev S512x512 : Shape := ⟨2, ![512, 512]⟩
abbrev S512x128 : Shape := ⟨2, ![512, 128]⟩
abbrev S1x128x128 : Shape := ⟨3, ![1, 128, 128]⟩
abbrev S8x512 : Shape := ⟨2, ![8, 512]⟩
abbrev S512x3328 : Shape := ⟨2, ![512, 3328]⟩
abbrev S2 : Shape := ⟨1, ![2]⟩
abbrev S384x128 : Shape := ⟨2, ![384, 128]⟩
abbrev S128x128 : Shape := ⟨2, ![128, 128]⟩
abbrev S1x8x128 : Shape := ⟨3, ![1, 8, 128]⟩
abbrev S8x128 : Shape := ⟨2, ![8, 128]⟩
abbrev S1x512 : Shape := ⟨2, ![1, 512]⟩
abbrev S512 : Shape := ⟨1, ![512]⟩
abbrev S512x1 : Shape := ⟨2, ![512, 1]⟩
abbrev S256x1024 : Shape := ⟨2, ![256, 1024]⟩
abbrev S512x256 : Shape := ⟨2, ![512, 256]⟩
abbrev S1 : Shape := ⟨1, ![1]⟩
abbrev S1536x1024 : Shape := ⟨2, ![1536, 1024]⟩
abbrev S1792x1024 : Shape := ⟨2, ![1792, 1024]⟩

abbrev nBuf : Space → Nat
  | .hbm => 64
  | .vmem => 44
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x3328, .f32⟩
  | .hbm, ⟨3, _⟩ => ⟨S3x512, .f32⟩
  | .hbm, ⟨4, _⟩ => ⟨S8192x1024, .f32⟩
  | .hbm, ⟨5, _⟩ => ⟨S8192x512, .bf16⟩
  | .hbm, ⟨6, _⟩ => ⟨S8192x128, .f32⟩
  | .hbm, ⟨7, _⟩ => ⟨S8192x128, .f32⟩
  | .hbm, ⟨8, _⟩ => ⟨S16x128x128, .f32⟩
  | .hbm, ⟨9, _⟩ => ⟨S16x128x128, .f32⟩
  | .hbm, ⟨10, _⟩ => ⟨S8192x512, .bf16⟩
  | .hbm, ⟨11, _⟩ => ⟨S8192x512, .bf16⟩
  | .hbm, ⟨12, _⟩ => ⟨S8192x512, .f32⟩
  | .hbm, ⟨13, _⟩ => ⟨S8192x512, .bf16⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1024x2560, .f32⟩
  | .hbm, ⟨31, _⟩ => ⟨S8192x2560, .f32⟩
  | .hbm, ⟨32, _⟩ => ⟨S3x4x128, .f32⟩
  | .hbm, ⟨33, _⟩ => ⟨S_, .f32⟩
  | .hbm, ⟨34, _⟩ => ⟨S8x4x128, .f32⟩
  | .hbm, ⟨35, _⟩ => ⟨S1x1024, .f32⟩
  | .hbm, ⟨36, _⟩ => ⟨S4x8x128, .f32⟩
  | .hbm, ⟨37, _⟩ => ⟨S3328x1024, .f32⟩
  | .hbm, ⟨38, _⟩ => ⟨S3328x1024, .bf16⟩
  | .hbm, ⟨39, _⟩ => ⟨S8, .f32⟩
  | .hbm, ⟨40, _⟩ => ⟨S_, .f32⟩
  | .hbm, ⟨41, _⟩ => ⟨S8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S8192x8, .f32⟩
  | .hbm, ⟨47, _⟩ => ⟨S8192x8, .f32⟩
  | .hbm, ⟨48, _⟩ => ⟨S8192x8, .f32⟩
  | .hbm, ⟨49, _⟩ => ⟨S8192x8, .f32⟩
  | .hbm, ⟨50, _⟩ => ⟨S8192x8, .f32⟩
  | .hbm, ⟨51, _⟩ => ⟨S_, .f32⟩
  | .hbm, ⟨52, _⟩ => ⟨S8192x48, .f32⟩
  | .hbm, ⟨53, _⟩ => ⟨S_, .f32⟩
  | .hbm, ⟨54, _⟩ => ⟨S8192x8, .f32⟩
  | .hbm, ⟨55, _⟩ => ⟨S_, .f32⟩
  | .hbm, ⟨56, _⟩ => ⟨S8192x48, .f32⟩
  | .hbm, ⟨57, _⟩ => ⟨S8192x128, .f32⟩
  | .hbm, ⟨58, _⟩ => ⟨S8192x8, .f32⟩
  | .hbm, ⟨59, _⟩ => ⟨S8192x128, .f32⟩
  | .hbm, ⟨60, _⟩ => ⟨S8192x128, .f32⟩
  | .hbm, ⟨61, _⟩ => ⟨S8192x1024, .f32⟩
  | .hbm, ⟨62, _⟩ => ⟨S3328x1024, .f32⟩
  | .hbm, ⟨63, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S512x512, .bf16⟩
  | .local _ .vmem, ⟨6, _⟩ => ⟨S512x512, .bf16⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S1x128x128, .f32⟩
  | .local _ .vmem, ⟨12, _⟩ => ⟨S1x128x128, .f32⟩
  | .local _ .vmem, ⟨13, _⟩ => ⟨S1x128x128, .f32⟩
  | .local _ .vmem, ⟨14, _⟩ => ⟨S1x128x128, .f32⟩
  | .local _ .vmem, ⟨15, _⟩ => ⟨S1x128x128, .f32⟩
  | .local _ .vmem, ⟨16, _⟩ => ⟨S1x128x128, .f32⟩
  | .local _ .vmem, ⟨17, _⟩ => ⟨S1x128x128, .f32⟩
  | .local _ .vmem, ⟨18, _⟩ => ⟨S1x128x128, .f32⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .f32⟩
  | .local _ .vmem, ⟨26, _⟩ => ⟨S512x512, .f32⟩
  | .local _ .vmem, ⟨27, _⟩ => ⟨S8x512, .f32⟩
  | .local _ .vmem, ⟨28, _⟩ => ⟨S8x512, .f32⟩
  | .local _ .vmem, ⟨29, _⟩ => ⟨S512x1024, .f32⟩
  | .local _ .vmem, ⟨30, _⟩ => ⟨S512x1024, .f32⟩
  | .local _ .vmem, ⟨31, _⟩ => ⟨S4x8x128, .f32⟩
  | .local _ .vmem, ⟨32, _⟩ => ⟨S3328x1024, .bf16⟩
  | .local _ .vmem, ⟨33, _⟩ => ⟨S512x128, .f32⟩
  | .local _ .vmem, ⟨34, _⟩ => ⟨S512x128, .f32⟩
  | .local _ .vmem, ⟨35, _⟩ => ⟨S512x128, .f32⟩
  | .local _ .vmem, ⟨36, _⟩ => ⟨S512x128, .f32⟩
  | .local _ .vmem, ⟨37, _⟩ => ⟨S512x128, .f32⟩
  | .local _ .vmem, ⟨38, _⟩ => ⟨S512x128, .f32⟩
  | .local _ .vmem, ⟨39, _⟩ => ⟨S512x1024, .f32⟩
  | .local _ .vmem, ⟨40, _⟩ => ⟨S512x1024, .f32⟩
  | .local _ .vmem, ⟨41, _⟩ => ⟨S8x1024, .f32⟩
  | .local _ .vmem, ⟨42, _⟩ => ⟨S512x3328, .bf16⟩
  | .local _ .vmem, ⟨43, _⟩ => ⟨S3328x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_cst : Ref sig .tc := ⟨.hbm, 15, rfl⟩
abbrev main_v1 : Ref sig .tc := ⟨.hbm, 16, rfl⟩
abbrev main_v2 : Ref sig .tc := ⟨.hbm, 17, rfl⟩
abbrev main_cst_0 : Ref sig .tc := ⟨.hbm, 18, rfl⟩
abbrev main_v3 : Ref sig .tc := ⟨.hbm, 19, rfl⟩
abbrev main_v4 : Ref sig .tc := ⟨.hbm, 20, rfl⟩
abbrev main_cst_1 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_2 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_3 : Ref sig .tc := ⟨.hbm, 40, rfl⟩
abbrev main_v22 : Ref sig .tc := ⟨.hbm, 41, rfl⟩
abbrev main_v23 : Ref sig .tc := ⟨.hbm, 42, rfl⟩
abbrev main_cst_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_5 : Ref sig .tc := ⟨.hbm, 51, rfl⟩
abbrev main_v31 : Ref sig .tc := ⟨.hbm, 52, rfl⟩
abbrev main_cst_6 : Ref sig .tc := ⟨.hbm, 53, rfl⟩
abbrev main_v32 : Ref sig .tc := ⟨.hbm, 54, rfl⟩
abbrev main_cst_7 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38_0 : Ref sig .tc := ⟨.hbm, 61, rfl⟩
abbrev main_v38_1 : Ref sig .tc := ⟨.hbm, 62, rfl⟩
abbrev main_v38_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_stg22_0 : Ref sig .tc := ⟨.vmem, 41, rfl⟩
abbrev cc0_scratch0 : Ref sig .tc := ⟨.vmem, 42, rfl⟩
abbrev cc0_scratch1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem17_0 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40
abbrev cc0_sem22_0 : DmaSem sig := 41

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.muli v0 c1_i32_0
  let c15_i32 : BitVec 32 := 15#32
  let v2 : BitVec 32 := Scalar.minsi v1 c15_i32
  let c0_i32 : BitVec 32 := 0#32
  let c0_i32_1 : BitVec 32 := 0#32
  let c0_i32_2 : BitVec 32 := 0#32
  ![v2.toNat, c0_i32.toNat, c0_i32_1.toNat]

def cc0_transform_9 (i : grid0.Coords) : Fin 3 → Nat :=
  let arg0 : BitVec 32 := BitVec.ofNat 32 (i 0).val
  let c1_i32 : BitVec 32 := 1#32
  let v0 : BitVec 32 := Scalar.addi arg0 c1_i32
  let c1_i32_0 : BitVec 32 := 1#32
  let v1 : BitVec 32 := Scalar.muli v0 c1_i32_0
  let c15_i32 : BitVec 32 := 15#32
  let v2 : BitVec 32 := Scalar.minsi v1 c15_i32
  let c0_i32 : BitVec 32 := 0#32
  let c0_i32_1 : BitVec 32 := 0#32
  let c0_i32_2 : BitVec 32 := 0#32
  ![v2.toNat, c0_i32.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_15 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S4x8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S3328x1024 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 2 → Memref sig .tc .vmem S512x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 1 → Memref sig .tc .vmem S8x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== Reference2Ideal.lean ====
abbrev S8192x1024 : Shape := ⟨2, ![8192, 1024]⟩
abbrev S1024 : Shape := ⟨1, ![1024]⟩
abbrev S1024x3328 : Shape := ⟨2, ![1024, 3328]⟩
abbrev S3x512 : Shape := ⟨2, ![3, 512]⟩
abbrev S8192x512 : Shape := ⟨2, ![8192, 512]⟩
abbrev S8192x128 : Shape := ⟨2, ![8192, 128]⟩
abbrev S16x128x128 : Shape := ⟨3, ![16, 128, 128]⟩
abbrev S15x128x128 : Shape := ⟨3, ![15, 128, 128]⟩
abbrev S_ : Shape := ⟨0, ![]⟩
abbrev S16x512x128 : Shape := ⟨3, ![16, 512, 128]⟩
abbrev S8192 : Shape := ⟨1, ![8192]⟩
abbrev S8192x1 : Shape := ⟨2, ![8192, 1]⟩
abbrev S1x1024 : Shape := ⟨2, ![1, 1024]⟩
abbrev S8192x3328 : Shape := ⟨2, ![8192, 3328]⟩
abbrev S1x8192x2x64 : Shape := ⟨4, ![1, 8192, 2, 64]⟩
abbrev S8 : Shape := ⟨1, ![8]⟩
abbrev S1x8 : Shape := ⟨2, ![1, 8]⟩
abbrev S8192x8 : Shape := ⟨2, ![8192, 8]⟩
abbrev S1x8192x1x8 : Shape := ⟨4, ![1, 8192, 1, 8]⟩
abbrev S1x8192x2x16 : Shape := ⟨4, ![1, 8192, 2, 16]⟩
abbrev S1x8192x2x8 : Shape := ⟨4, ![1, 8192, 2, 8]⟩
abbrev S1x8192x2x48 : Shape := ⟨4, ![1, 8192, 2, 48]⟩
abbrev S1x8192x512 : Shape := ⟨3, ![1, 8192, 512]⟩
abbrev S1x2x512 : Shape := ⟨3, ![1, 2, 512]⟩
abbrev S1x8194x512 : Shape := ⟨3, ![1, 8194, 512]⟩
abbrev S1x512 : Shape := ⟨2, ![1, 512]⟩
abbrev S512 : Shape := ⟨1, ![512]⟩
abbrev S1x1x512 : Shape := ⟨3, ![1, 1, 512]⟩
abbrev S3328x1024 : Shape := ⟨2, ![3328, 1024]⟩
abbrev S8x1024 : Shape := ⟨2, ![8, 1024]⟩

abbrev nBuf : Space → Nat
  | .hbm => 213
  | .vmem => 0
  | .smem => 0
  | _ => 0

abbrev hbmTy0_0 (i : Nat) : BufTy := match i % 128 with
  | 0 => ⟨S8192x1024, .f32⟩
  | 1 => ⟨S1024, .f32⟩
  | 2 => ⟨S1024x3328, .f32⟩
  | 3 => ⟨S3x512, .f32⟩
  | 4 => ⟨S8192x1024, .f32⟩
  | 5 => ⟨S8192x512, .bf16⟩
  | 6 => ⟨S8192x128, .f32⟩
  | 7 => ⟨S8192x128, .f32⟩
  | 8 => ⟨S16x128x128, .f32⟩
  | 9 => ⟨S16x128x128, .f32⟩
  | 10 => ⟨S8192x512, .bf16⟩
  | 11 => ⟨S8192x512, .bf16⟩
  | 12 => ⟨S8192x512, .f32⟩
  | 13 => ⟨S8192x512, .bf16⟩
  | 14 => ⟨S8192x512, .f32⟩
  | 15 => ⟨S15x128x128, .f32⟩
  | 16 => ⟨S_, .i32⟩
  | 17 => ⟨S_, .f32⟩
  | 18 => ⟨S16x512x128, .f32⟩
  | 19 => ⟨S8192x128, .f32⟩
  | 20 => ⟨S8192x128, .f32⟩
  | 21 => ⟨S15x128x128, .f32⟩
  | 22 => ⟨S_, .i32⟩
  | 23 => ⟨S_, .f32⟩
  | 24 => ⟨S16x512x128, .f32⟩
  | 25 => ⟨S8192x128, .f32⟩
  | 26 => ⟨S8192x128, .f32⟩
  | 27 => ⟨S8192x512, .f32⟩
  | 28 => ⟨S8192x512, .f32⟩
  | 29 => ⟨S8192x512, .f32⟩
  | 30 => ⟨S8192x1024, .f32⟩
  | 31 => ⟨S_, .f32⟩
  | 32 => ⟨S8192, .f32⟩
  | 33 => ⟨S8192x1, .f32⟩
  | 34 => ⟨S_, .f32⟩
  | 35 => ⟨S8192x1, .f32⟩
  | 36 => ⟨S8192x1, .f32⟩
  | 37 => ⟨S_, .f32⟩
  | 38 => ⟨S8192x1, .f32⟩
  | 39 => ⟨S8192x1, .f32⟩
  | 40 => ⟨S8192x1, .f32⟩
  | 41 => ⟨S8192x1, .f32⟩
  | 42 => ⟨S_, .f32⟩
  | 43 => ⟨S8192x1, .f32⟩
  | 44 => ⟨S8192x1, .f32⟩
  | 45 => ⟨S8192x1024, .f32⟩
  | 46 => ⟨S8192x1024, .f32⟩
  | 47 => ⟨S1x1024, .f32⟩
  | 48 => ⟨S8192x1024, .f32⟩
  | 49 => ⟨S8192x1024, .f32⟩
  | 50 => ⟨S8192x3328, .f32⟩
  | 51 => ⟨S8192x512, .f32⟩
  | 52 => ⟨S8192x128, .f32⟩
  | 53 => ⟨S8192x128, .f32⟩
  | 54 => ⟨S8192x512, .f32⟩
  | 55 => ⟨S8192x512, .f32⟩
  | 56 => ⟨S8192x512, .f32⟩
  | 57 => ⟨S8192x512, .f32⟩
  | 58 => ⟨S8192x512, .f32⟩
  | 59 => ⟨S1x8192x2x64, .f32⟩
  | 60 => ⟨S8192, .i32⟩
  | 61 => ⟨S8, .f32⟩
  | 62 => ⟨S_, .f32⟩
  | 63 => ⟨S8, .f32⟩
  | 64 => ⟨S8, .f32⟩
  | 65 => ⟨S_, .f32⟩
  | 66 => ⟨S8, .f32⟩
  | 67 => ⟨S8, .f32⟩
  | 68 => ⟨S8, .f32⟩
  | 69 => ⟨S_, .f32⟩
  | 70 => ⟨S8, .f32⟩
  | 71 => ⟨S8, .f32⟩
  | 72 => ⟨S_, .f32⟩
  | 73 => ⟨S8, .f32⟩
  | 74 => ⟨S8, .f32⟩
  | 75 => ⟨S8192, .f32⟩
  | 76 => ⟨S8192x1, .f32⟩
  | 77 => ⟨S1x8, .f32⟩
  | 78 => ⟨S8192x8, .f32⟩
  | 79 => ⟨S8192x8, .f32⟩
  | 80 => ⟨S8192x8, .f32⟩
  | 81 => ⟨S8192x8, .f32⟩
  | 82 => ⟨S1x8192x1x8, .f32⟩
  | 83 => ⟨S8192x8, .f32⟩
  | 84 => ⟨S1x8192x1x8, .f32⟩
  | 85 => ⟨S1x8192x2x16, .f32⟩
  | 86 => ⟨S1x8192x2x8, .f32⟩
  | 87 => ⟨S1x8192x2x8, .f32⟩
  | 88 => ⟨S1x8192x2x8, .f32⟩
  | 89 => ⟨S1x8192x2x8, .f32⟩
  | 90 => ⟨S1x8192x2x8, .f32⟩
  | 91 => ⟨S1x8192x2x8, .f32⟩
  | 92 => ⟨S1x8192x2x8, .f32⟩
  | 93 => ⟨S1x8192x2x8, .f32⟩
  | 94 => ⟨S1x8192x2x8, .f32⟩
  | 95 => ⟨S1x8192x2x8, .f32⟩
  | 96 => ⟨S1x8192x2x8, .f32⟩
  | 97 => ⟨S1x8192x2x8, .f32⟩
  | 98 => ⟨S1x8192x2x16, .f32⟩
  | 99 => ⟨S1x8192x2x48, .f32⟩
  | 100 => ⟨S1x8192x2x64, .f32⟩
  | 101 => ⟨S8192x128, .f32⟩
  | 102 => ⟨S8192x512, .f32⟩
  | 103 => ⟨S1x8192x512, .f32⟩
  | 104 => ⟨S_, .f32⟩
  | 105 => ⟨S1x2x512, .f32⟩
  | 106 => ⟨S1x8194x512, .f32⟩
  | 107 => ⟨S_, .f32⟩
  | 108 => ⟨S1x2x512, .f32⟩
  | 109 => ⟨S1x512, .f32⟩
  | 110 => ⟨S512, .f32⟩
  | 111 => ⟨S1x8192x512, .f32⟩
  | 112 => ⟨S1x1x512, .f32⟩
  | 113 => ⟨S1x8192x512, .f32⟩
  | 114 => ⟨S1x8192x512, .f32⟩
  | 115 => ⟨S1x512, .f32⟩
  | 116 => ⟨S512, .f32⟩
  | 117 => ⟨S1x8192x512, .f32⟩
  | 118 => ⟨S1x1x512, .f32⟩
  | 119 => ⟨S1x8192x512, .f32⟩
  | 120 => ⟨S1x8192x512, .f32⟩
  | 121 => ⟨S1x8192x512, .f32⟩
  | 122 => ⟨S1x512, .f32⟩
  | 123 => ⟨S512, .f32⟩
  | 124 => ⟨S1x8192x512, .f32⟩
  | 125 => ⟨S1x1x512, .f32⟩
  | 126 => ⟨S1x8192x512, .f32⟩
  | 127 => ⟨S1x8192x512, .f32⟩
  | _ => ⟨S8192x1024, .f32⟩

abbrev hbmTy0_1 (i : Nat) : BufTy := match i % 128 with
  | 0 => ⟨S1x8192x512, .f32⟩
  | 1 => ⟨S8192x512, .f32⟩
  | 2 => ⟨S1x8192x512, .f32⟩
  | 3 => ⟨S1x8192x512, .f32⟩
  | 4 => ⟨S1x8192x512, .f32⟩
  | 5 => ⟨S_, .f32⟩
  | 6 => ⟨S1x8194x512, .f32⟩
  | 7 => ⟨S1x8192x512, .f32⟩
  | 8 => ⟨S1x8192x512, .f32⟩
  | 9 => ⟨S_, .f32⟩
  | 10 => ⟨S1x8194x512, .f32⟩
  | 11 => ⟨S1x8194x512, .f32⟩
  | 12 => ⟨S1x8192x512, .f32⟩
  | 13 => ⟨S1x8192x512, .f32⟩
  | 14 => ⟨S_, .f32⟩
  | 15 => ⟨S1x8194x512, .f32⟩
  | 16 => ⟨S1x8194x512, .f32⟩
  | 17 => ⟨S1x2x512, .f32⟩
  | 18 => ⟨S1x8192x512, .f32⟩
  | 19 => ⟨S_, .f32⟩
  | 20 => ⟨S8192x512, .f32⟩
  | 21 => ⟨S8192x512, .f32⟩
  | 22 => ⟨S8192x512, .f32⟩
  | 23 => ⟨S1x8192x2x64, .f32⟩
  | 24 => ⟨S1x8192x2x16, .f32⟩
  | 25 => ⟨S1x8192x2x48, .f32⟩
  | 26 => ⟨S_, .f32⟩
  | 27 => ⟨S1x8192x2x64, .f32⟩
  | 28 => ⟨S1x8192x2x8, .f32⟩
  | 29 => ⟨S1x8192x2x8, .f32⟩
  | 30 => ⟨S1x8192x2x8, .f32⟩
  | 31 => ⟨S1x8192x2x8, .f32⟩
  | 32 => ⟨S1x8192x2x8, .f32⟩
  | 33 => ⟨S1x8192x2x8, .f32⟩
  | 34 => ⟨S1x8192x2x8, .f32⟩
  | 35 => ⟨S1x8192x2x8, .f32⟩
  | 36 => ⟨S1x8192x2x8, .f32⟩
  | 37 => ⟨S1x8192x2x8, .f32⟩
  | 38 => ⟨S1x8192x2x8, .f32⟩
  | 39 => ⟨S1x8192x2x8, .f32⟩
  | 40 => ⟨S1x8192x2x8, .f32⟩
  | 41 => ⟨S_, .f32⟩
  | 42 => ⟨S1x8192x2x16, .f32⟩
  | 43 => ⟨S_, .f32⟩
  | 44 => ⟨S1x8192x2x16, .f32⟩
  | 45 => ⟨S1x8192x2x16, .f32⟩
  | 46 => ⟨S_, .f32⟩
  | 47 => ⟨S1x8192x2x64, .f32⟩
  | 48 => ⟨S1x8192x2x64, .f32⟩
  | 49 => ⟨S8192x128, .f32⟩
  | 50 => ⟨S8192x3328, .f32⟩
  | 51 => ⟨S3328x1024, .f32⟩
  | 52 => ⟨S1024x3328, .f32⟩
  | 53 => ⟨S8192x1024, .f32⟩
  | 54 => ⟨S8192x1024, .f32⟩
  | 55 => ⟨S_, .f32⟩
  | 56 => ⟨S1024, .f32⟩
  | 57 => ⟨S1x1024, .f32⟩
  | 58 => ⟨S8192x1024, .f32⟩
  | 59 => ⟨S8192x1024, .f32⟩
  | 60 => ⟨S_, .f32⟩
  | 61 => ⟨S1024, .f32⟩
  | 62 => ⟨S8192x1024, .f32⟩
  | 63 => ⟨S_, .f32⟩
  | 64 => ⟨S8192, .f32⟩
  | 65 => ⟨S8192x1, .f32⟩
  | 66 => ⟨S8192x1024, .f32⟩
  | 67 => ⟨S8192x1024, .f32⟩
  | 68 => ⟨S8192x1024, .f32⟩
  | 69 => ⟨S8192x1, .f32⟩
  | 70 => ⟨S_, .f32⟩
  | 71 => ⟨S8192x1, .f32⟩
  | 72 => ⟨S8192x1, .f32⟩
  | 73 => ⟨S_, .f32⟩
  | 74 => ⟨S8192, .f32⟩
  | 75 => ⟨S8192x1024, .f32⟩
  | 76 => ⟨S8192x1024, .f32⟩
  | 77 => ⟨S8192x1024, .f32⟩
  | 78 => ⟨S8192x1024, .f32⟩
  | 79 => ⟨S8192x1024, .f32⟩
  | 80 => ⟨S3328x1024, .f32⟩
  | 81 => ⟨S1x1024, .f32⟩
  | 82 => ⟨S_, .i32⟩
  | 83 => ⟨S_, .f32⟩
  | 84 => ⟨S8x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_call0_v0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_call1_v0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_cst_2 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_3 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_cst_5 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_6 : Ref sig .tc := ⟨.hbm, 69, rfl⟩
abbrev main_v45 : Ref sig .tc := ⟨.hbm, 70, rfl⟩
abbrev main_v46 : Ref sig .tc := ⟨.hbm, 71, rfl⟩
abbrev main_cst_7 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_8 : Ref sig .tc := ⟨.hbm, 104, rfl⟩
abbrev main_v78 : Ref sig .tc := ⟨.hbm, 105, rfl⟩
abbrev main_v79 : Ref sig .tc := ⟨.hbm, 106, rfl⟩
abbrev main_cst_9 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_cst_10 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_cst_11 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_cst_12 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_cst_13 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_cst_14 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_cst_15 : Ref sig .tc := ⟨.hbm, 169, rfl⟩
abbrev main_v136 : Ref sig .tc := ⟨.hbm, 170, rfl⟩
abbrev main_cst_16 : Ref sig .tc := ⟨.hbm, 171, rfl⟩
abbrev main_v137 : Ref sig .tc := ⟨.hbm, 172, rfl⟩
abbrev main_v138 : Ref sig .tc := ⟨.hbm, 173, rfl⟩
abbrev main_cst_17 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_v142 : Ref sig .tc := ⟨.hbm, 178, rfl⟩
abbrev main_v143 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_cst_18 : Ref sig .tc := ⟨.hbm, 183, rfl⟩
abbrev main_v147 : Ref sig .tc := ⟨.hbm, 184, rfl⟩
abbrev main_v148 : Ref sig .tc := ⟨.hbm, 185, rfl⟩
abbrev main_v149 : Ref sig .tc := ⟨.hbm, 186, rfl⟩
abbrev main_v150 : Ref sig .tc := ⟨.hbm, 187, rfl⟩
abbrev main_cst_19 : Ref sig .tc := ⟨.hbm, 188, rfl⟩
abbrev main_v151 : Ref sig .tc := ⟨.hbm, 189, rfl⟩
abbrev main_v152 : Ref sig .tc := ⟨.hbm, 190, rfl⟩
abbrev main_cst_20 : Ref sig .tc := ⟨.hbm, 191, rfl⟩
abbrev main_v153 : Ref sig .tc := ⟨.hbm, 192, rfl⟩
abbrev main_v154 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_v158 : Ref sig .tc := ⟨.hbm, 197, rfl⟩
abbrev main_cst_21 : Ref sig .tc := ⟨.hbm, 198, rfl⟩
abbrev main_v159 : Ref sig .tc := ⟨.hbm, 199, rfl⟩
abbrev main_v160 : Ref sig .tc := ⟨.hbm, 200, rfl⟩
abbrev main_cst_22 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_v167 : Ref sig .tc := ⟨.hbm, 208, rfl⟩
abbrev main_v168 : Ref sig .tc := ⟨.hbm, 209, rfl⟩
abbrev main_c_23 : Ref sig .tc := ⟨.hbm, 210, rfl⟩
abbrev main_call2_v0 : Ref sig .tc := ⟨.hbm, 211, rfl⟩
abbrev main_v169 : Ref sig .tc := ⟨.hbm, 212, rfl⟩

abbrev nD : Nat := 1
abbrev τ : Topo := Topo.v7x

variable {F : FTy → Type} [FloatOps F]
-- ==== Proof.Chain.lean ====
/- One chain of the attention gradient's body: the four query heads of one key/value head over one block of 128 rows.
   The printed body writes the same text eight times, cut into payloads at different places; here it is written once,
   as functions of the vectors it reads (`Cert.Chain`), and the stores' pieces are those functions (Pieces.lean). -/
module

public import proofs.«01_k».proof.Proof.Gen.KernelIdeal.Frame

@[expose] public section

set_option maxRecDepth 16384

noncomputable section

namespace Cert.Chain

open Cert.KernelIdeal Cert.KernelIdeal.Gen Idealize.ShloMosaic Idealize.SL.Sem

variable {F : FTy → Type} [FloatOps F]

/-- The lanes of the even head of a pair. -/
def low : IVec S128x128 1 := cmpi .slt (iota .tc S128x128 32 [1] iota_S128x128_d1_w32) (broadcast S128x128 64#32)

def lowWide : IVec S256x128 1 := cmpi .slt (iota .tc S256x128 32 [1] iota_S256x128_d1_w32) (broadcast S256x128 64#32)

/-- Two pairs of heads side by side in lanes, stacked as four heads below one another, each alone in its lanes. -/
def stack {e : FTy} (z : F e) (p0 p1 : FVec F S128x128 e) : FVec F S512x128 e :=
  concatenate S512x128 0 [⟨S128x128, select low p0 (broadcast S128x128 z)⟩,
    ⟨S128x128, select (xori low (constantI S128x128 1 1#1)) p0 (broadcast S128x128 z)⟩,
    ⟨S128x128, select low p1 (broadcast S128x128 z)⟩,
    ⟨S128x128, select (xori low (constantI S128x128 1 1#1)) p1 (broadcast S128x128 z)⟩]
    concatenates_S128x128_S128x128_S128x128_S128x128_S512x128_d0

/-- The pair of heads `2 pp`, `2 pp + 1` of the key/value head `g`, in 128 lanes of the 512. -/
def pair {e : FTy} (g pp : Fin 2) (t : FVec F S128x512 e) : FVec F S128x128 e :=
  extractStridedSlice S128x128 ![0, 256 * g.val + 128 * pp.val] t
    ⟨rfl, Fin.forall_fin_two.2 ⟨Nat.le_refl _, by show 256 * g.val + 128 * pp.val + 128 ≤ 512; omega⟩⟩

/-- A row's number within its head. -/
def rowMod : IVec S512x128 32 :=
  let d : BitVec 32 := Scalar.select (Scalar.cmpi .eq 128#32 0#32) 1#32 128#32
  let r := remsi (iota .tc S512x128 32 [0] iota_S512x128_d0_w32) (broadcast S512x128 d)
  select (andi (xori (cmpi .slt r (broadcast S512x128 0#32))
      (broadcastTo S512x128 (broadcast S512x128 (Scalar.cmpi .slt d 0#32)) broadcasts_S512x128_S512x128))
      (cmpi .ne r (broadcast S512x128 0#32)))
    (addi r (broadcast S512x128 d)) r

/-- The positions at which the folded square holds the previous block's keys. -/
def upper : IVec S512x128 1 := cmpi .sgt (iota .tc S512x128 32 [1] iota_S512x128_d1_w32) rowMod

/-- The folded square opened to both key blocks. -/
def unfolded (t : FVec F S512x128 .bf16) : FVec F S512x256 .bf16 :=
  let z : FVec F S512x128 .bf16 := broadcast S512x128 (Scalar.ofBits .bf16 0x0000#16)
  concatenate S512x256 1 [⟨S512x128, select upper t z⟩, ⟨S512x128, select upper z t⟩]
    concatenates_S512x128_S512x128_S512x256_d1

/-- The probabilities' cotangent, both key blocks. -/
def dprob (dos : FVec F S512x128 .bf16) (vg : FVec F S256x128 .bf16) : FVec F S512x256 .f32 :=
  matmul dot_S512x128_S256x128_S512x256_1_1_0_0_n_n none dos vg (constant S512x256 .f32 0x00000000#32)

/-- A row's sum of the output times its cotangent. -/
def rowSum (pr : FVec F S512x128 .f32) : FVec F S512x1 .f32 :=
  shapeCast S512x1 (multiReduction .add [1] S512 pr 0x00000000#32 reduces_S512x128_S512 (.inl rfl) rfl) shapeCasts_S512_S512x1

/-- The scores' cotangent, both key blocks. -/
def dscore (prob : Vec F S1x512x128 .bf16) (dp : FVec F S512x256 .f32) (rs : FVec F S512x1 .f32) : FVec F S512x256 .bf16 :=
  unfolded (truncf .bf16 (mulf (extf .f32 (shapeCast S512x128 prob shapeCasts_S1x512x128_S512x128 : FVec F S512x128 .bf16) bitsLt_bf16_f32)
    (subf (select upper (extractStridedSlice S512x128 ![0, 0] dp slices_S512x256_o0_0_S512x128)
        (extractStridedSlice S512x128 ![0, 128] dp slices_S512x256_o0_128_S512x128))
      (broadcastTo S512x128 rs broadcasts_S512x1_S512x128))) bitsLt_bf16_f32)

/-- A product over the stacked rows, its two halves of lanes added. -/
def overRows (w : FVec F S512x256 .bf16) (x : FVec F S512x128 .bf16) : FVec F S256x128 .f32 :=
  let d := matmul dot_S512x256_S512x128_S256x128_0_0_1_1_n_n none w x (constant S256x128 .f32 0x00000000#32)
  addf d (dynamicRotate 1 64#32 none d rotates_S256x128_d1)

/-- The values' gradient. -/
def dval (prob : Vec F S1x512x128 .bf16) (dos : FVec F S512x128 .bf16) : FVec F S256x128 .f32 :=
  overRows (unfolded (shapeCast S512x128 prob shapeCasts_S1x512x128_S512x128)) dos

/-- The rotated queries' gradient, heads stacked. -/
def dqry (ds : FVec F S512x256 .bf16) (kg : FVec F S256x128 .bf16) : FVec F S512x128 .f32 :=
  mulf (matmul dot_S512x256_S256x128_S512x128_1_0_0_1_n_n none ds kg (constant S512x128 .f32 0x00000000#32))
    (broadcast S512x128 (Scalar.ofBits .f32 0x3E000000#32))

/-- Two stacked heads back side by side. -/
def unstack (pp : Fin 2) (t : FVec F S512x128 .f32) : FVec F S128x128 .f32 :=
  select low
    (extractStridedSlice S128x128 ![256 * pp.val, 0] t ⟨rfl, Fin.forall_fin_two.2 ⟨by show 256 * pp.val + 128 ≤ 512; omega, Nat.le_refl _⟩⟩)
    (extractStridedSlice S128x128 ![256 * pp.val + 128, 0] t ⟨rfl, Fin.forall_fin_two.2 ⟨by show 256 * pp.val + 128 + 128 ≤ 512; omega, Nat.le_refl _⟩⟩)

/-- The rotation taken back. -/
def unrope (t : FVec F S128x128 .f32) (c a b : Vec F S128x128 .f32) : FVec F S128x128 .bf16 :=
  let z : FVec F S128x128 .f32 := broadcast S128x128 (Scalar.ofBits .f32 0x00000000#32)
  truncf .bf16 (addf (addf (mulf t (shapeCast S128x128 c shapeCasts_S128x128_S128x128))
      (mulf (dynamicRotate 1 120#32 none t rotates_S128x128_d1) (subf z (shapeCast S128x128 a shapeCasts_S128x128_S128x128))))
    (mulf (dynamicRotate 1 8#32 none t rotates_S128x128_d1) (subf z (shapeCast S128x128 b shapeCasts_S128x128_S128x128)))) bitsLt_bf16_f32

/-- The key/value head `g` in 128 lanes of the 256. -/
def keyHead (g : Fin 2) (t : FVec F S256x256 .bf16) : FVec F S256x128 .bf16 :=
  extractStridedSlice S256x128 ![0, 128 * g.val] t
    ⟨rfl, Fin.forall_fin_two.2 ⟨Nat.le_refl _, by show 128 * g.val + 128 ≤ 256; omega⟩⟩

/-! ## A tile's eight chains -/

/-- The key window of block `sb` of a tile: the block before and the block. -/
def window (sb : Fin 4) (prev : Vec F S128x256 .bf16) (x : Vec F S512x256 .bf16) : FVec F S256x256 .bf16 :=
  match sb with
  | 0 => concatenate S256x256 0 [⟨S128x256, shapeCast S128x256 (View.ld prev r0_0) shapeCasts_S128x256_S128x256⟩,
      ⟨S128x256, shapeCast S128x256 (View.ld x r0_1) shapeCasts_S128x256_S128x256⟩] concatenates_S128x256_S128x256_S256x256_d0
  | 1 => shapeCast S256x256 (View.ld x r0_2) shapeCasts_S256x256_S256x256
  | 2 => shapeCast S256x256 (View.ld x r0_3) shapeCasts_S256x256_S256x256
  | 3 => shapeCast S256x256 (View.ld x r0_4) shapeCasts_S256x256_S256x256

/-- Block `sb`'s rows of a tile. -/
abbrev rowsRect (sb : Fin 4) : Rect S512x512 := Rect.unit (s := S512x512) ![128 * sb.val, 0] S128x512.size
  (Fin.forall_fin_two.2 ⟨by show 128 * sb.val + 128 ≤ 512; omega, Nat.le_refl _⟩)

abbrev laneRect (sb : Fin 4) : Rect S512x128 := Rect.unit (s := S512x128) ![128 * sb.val, 0] S128x128.size
  (Fin.forall_fin_two.2 ⟨by show 128 * sb.val + 128 ≤ 512; omega, Nat.le_refl _⟩)

abbrev cellRect (sb : Fin 4) (g pp : Fin 2) : Rect S512x512 := Rect.unit (s := S512x512) ![128 * sb.val, 256 * g.val + 128 * pp.val] S128x128.size
  (Fin.forall_fin_two.2 ⟨by show 128 * sb.val + 128 ≤ 512; omega, by show 256 * g.val + 128 * pp.val + 128 ≤ 512; omega⟩)

abbrev probRect (sb : Fin 4) (g : Fin 2) : Rect S8x512x128 := Rect.unit (s := S8x512x128) ![2 * sb.val + g.val, 0, 0] S1x512x128.size
  (fun a => by
    match a with
    | 0 => exact show 2 * sb.val + g.val + 1 ≤ 8 by omega
    | 1 => exact Nat.le_refl _
    | 2 => exact Nat.le_refl _)

def rows {α : Type} (sb : Fin 4) (x : S512x512.Idx → α) : S128x512.Idx → α :=
  shapeCast S128x512 (View.ld (Val := fun _ => α) (e' := .f32) x (rowsRect sb)) shapeCasts_S128x512_S128x512

def stacked {e : FTy} (z : F e) (sb : Fin 4) (g : Fin 2) (x : FVec F S512x512 e) : FVec F S512x128 e :=
  stack z (pair g 0 (rows sb x)) (pair g 1 (rows sb x))

def DO (sb : Fin 4) (g : Fin 2) (x6 : Vec F S512x512 .bf16) : FVec F S512x128 .bf16 := stacked (Scalar.ofBits .bf16 0x0000#16) sb g x6

def DS (sb : Fin 4) (g : Fin 2) (x2 : Vec F S512x256 .bf16) (x4 : Vec F S128x256 .bf16) (x5 : Vec F S8x512x128 .bf16)
    (x6 : Vec F S512x512 .bf16) (x7 : Vec F S512x512 .f32) : FVec F S512x256 .bf16 :=
  dscore (View.ld x5 (probRect sb g)) (dprob (DO sb g x6) (keyHead g (window sb x4 x2)))
    (rowSum (stacked (Scalar.ofBits .f32 0x00000000#32) sb g x7))

def DV (sb : Fin 4) (g : Fin 2) (x5 : Vec F S8x512x128 .bf16) (x6 : Vec F S512x512 .bf16) : FVec F S256x128 .f32 :=
  dval (View.ld x5 (probRect sb g)) (DO sb g x6)

def DK (sb : Fin 4) (g : Fin 2) (x0 : Vec F S512x512 .bf16) (x2 : Vec F S512x256 .bf16) (x4 : Vec F S128x256 .bf16) (x5 : Vec F S8x512x128 .bf16)
    (x6 : Vec F S512x512 .bf16) (x7 : Vec F S512x512 .f32) : FVec F S256x128 .f32 :=
  overRows (DS sb g x2 x4 x5 x6 x7) (DO sb g x0)

/-- The queries' gradient of one pair of heads. -/
def DQ (sb : Fin 4) (g pp : Fin 2) (x1 : Vec F S512x256 .bf16) (x2 : Vec F S512x256 .bf16) (x3 : Vec F S128x256 .bf16) (x4 : Vec F S128x256 .bf16)
    (x5 : Vec F S8x512x128 .bf16) (x6 : Vec F S512x512 .bf16) (x7 : Vec F S512x512 .f32) (x8 x9 x10 : Vec F S512x128 .f32) : FVec F S128x128 .bf16 :=
  unrope (unstack pp (dqry (DS sb g x2 x4 x5 x6 x7) (keyHead g (window sb x3 x1))))
    (View.ld x8 (laneRect sb)) (View.ld x9 (laneRect sb)) (View.ld x10 (laneRect sb))

/-- Both key/value heads side by side. -/
def both (t : Fin 2 → FVec F S256x128 .f32) : FVec F S256x128 .f32 := select lowWide (t 0) (t 1)

def firstHalf (t : FVec F S256x128 .f32) : FVec F S128x128 .f32 := extractStridedSlice S128x128 ![0, 0] t slices_S256x128_o0_0_S128x128

def secondHalf (t : FVec F S256x128 .f32) : FVec F S128x128 .f32 := extractStridedSlice S128x128 ![128, 0] t slices_S256x128_o128_0_S128x128

/-- What a tile adds to its own key rows of block `sb`: from the block itself and from the one after it in the tile. -/
def blockSum (t : Fin 4 → FVec F S256x128 .f32) (sb : Fin 4) : FVec F S128x128 .f32 :=
  match sb with
  | 0 => addf (secondHalf (t 0)) (firstHalf (t 1))
  | 1 => addf (secondHalf (t 1)) (firstHalf (t 2))
  | 2 => addf (secondHalf (t 2)) (firstHalf (t 3))
  | 3 => secondHalf (t 3)

def tilePieces (t : Fin 4 → FVec F S256x128 .f32) : List (View.Piece (Elt F) S512x128 .f32) :=
  [⟨laneRect 3, blockSum t 3⟩, ⟨laneRect 2, blockSum t 2⟩, ⟨laneRect 1, blockSum t 1⟩, ⟨laneRect 0, blockSum t 0⟩]

def queryPieces (t : Fin 4 → Fin 2 → Fin 2 → FVec F S128x128 .bf16) : List (View.Piece (Elt F) S512x512 .bf16) :=
  [⟨cellRect 3 1 1, t 3 1 1⟩, ⟨cellRect 3 1 0, t 3 1 0⟩, ⟨cellRect 3 0 1, t 3 0 1⟩, ⟨cellRect 3 0 0, t 3 0 0⟩,
   ⟨cellRect 2 1 1, t 2 1 1⟩, ⟨cellRect 2 1 0, t 2 1 0⟩, ⟨cellRect 2 0 1, t 2 0 1⟩, ⟨cellRect 2 0 0, t 2 0 0⟩,
   ⟨cellRect 1 1 1, t 1 1 1⟩, ⟨cellRect 1 1 0, t 1 1 0⟩, ⟨cellRect 1 0 1, t 1 0 1⟩, ⟨cellRect 1 0 0, t 1 0 0⟩,
   ⟨cellRect 0 1 1, t 0 1 1⟩, ⟨cellRect 0 1 0, t 0 1 0⟩, ⟨cellRect 0 0 1, t 0 0 1⟩, ⟨cellRect 0 0 0, t 0 0 0⟩]

end Cert.Chain

end
-- ==== Proof.Pieces.lean ====
/- What the body's stores write, as the chains of Chain.lean. -/
module

public import proofs.«01_k».proof.Proof.Chain

@[expose] public section

set_option maxRecDepth 16384

noncomputable section

namespace Cert.Chain

open Cert.KernelIdeal Cert.KernelIdeal.Gen Idealize.ShloMosaic Idealize.SL.Sem

variable {F : FTy → Type} [FloatOps F]
variable (x0 : Vec F S512x512 .bf16) (x1 x2 : Vec F S512x256 .bf16) (x3 x4 : Vec F S128x256 .bf16) (x5 : Vec F S8x512x128 .bf16)
  (x6 : Vec F S512x512 .bf16) (x7 : Vec F S512x512 .f32) (x8 x9 x10 : Vec F S512x128 .f32)

theorem out11 : out0_11 x0 x1 x2 x3 x4 x5 x6 x7 x8 x9 x10
    = View.canon (queryPieces fun sb g pp => DQ sb g pp x1 x2 x3 x4 x5 x6 x7 x8 x9 x10) := rfl

theorem out12 : out0_12 x0 x1 x2 x3 x4 x5 x6 x7 x8 x9 x10
    = View.canon (tilePieces fun sb => both fun g => DK sb g x0 x2 x4 x5 x6 x7) := rfl

theorem out13 : out0_13 x0 x1 x2 x3 x4 x5 x6 x7 x8 x9 x10
    = View.canon (tilePieces fun sb => both fun g => DV sb g x5 x6) := rfl

theorem out14 : out0_14 x0 x1 x2 x3 x4 x5 x6 x7 x8 x9 x10
    = View.canon [⟨r0_37, shapeCast S1x128x128 (firstHalf (both fun g => DK 0 g x0 x2 x4 x5 x6 x7)) shapeCasts_S128x128_S1x128x128⟩] := rfl

theorem out15 : out0_15 x0 x1 x2 x3 x4 x5 x6 x7 x8 x9 x10
    = View.canon [⟨r0_37, shapeCast S1x128x128 (firstHalf (both fun g => DV 0 g x5 x6)) shapeCasts_S128x128_S1x128x128⟩] := rfl

end Cert.Chain

end
-- ==== Proof.Reals.lean ====
/- Finite values: sums, quotients and exponentials of reals among the extended reals, and sums over rows and lanes. -/
module

public import Idealize.ShloMosaic.Lib.Pointwise

@[expose] public section

noncomputable section

namespace Cert.Chain

open Idealize.ShloMosaic

theorem sum_coe {ι : Type} (s : Finset ι) (f : ι → ℝ) : ∑ x ∈ s, ((f x : ℝ) : EReal) = ((∑ x ∈ s, f x : ℝ) : EReal) := by
  classical
  induction s using Finset.induction_on with
  | empty => simp
  | insert a s ha ih => rw [Finset.sum_insert ha, Finset.sum_insert ha, ih, EReal.coe_add]

theorem div_coe (x : ℝ) {y : ℝ} (hy : y ≠ 0) : Ideal.div (x : EReal) (y : EReal) = ((x / y : ℝ) : EReal) := by
  unfold Ideal.div
  rw [if_neg (by exact_mod_cast hy), ← EReal.coe_inv, ← EReal.coe_mul, div_eq_mul_inv]

theorem eighth : Ideal.ofBits .f32 0x3E000000#32 = ((1 / 8 : ℝ) : EReal) := by
  simp [Ideal.ofBits, Ideal.ieee, -EReal.coe_mul]; norm_num

/-- Row `i` of head `h` among the stacked rows. -/
abbrev row (h : Fin 4) (i : Fin 128) : Fin 512 := ⟨128 * h.val + i.val, by omega⟩

/-- Lane `d` of the half `u`. -/
abbrev lane (u : Fin 2) (d : Fin 64) : Fin 128 := ⟨64 * u.val + d.val, by omega⟩

theorem sum_rows {M : Type} [AddCommMonoid M] (f : Fin 512 → M) : ∑ r, f r = ∑ h : Fin 4, ∑ i : Fin 128, f (row h i) := by
  rw [← Finset.sum_product', ← (finProdFinEquiv (m := 4) (n := 128)).sum_comp]
  exact Finset.sum_congr rfl fun p _ => congrArg f (Fin.ext (by simp [finProdFinEquiv]; omega))

theorem sum_lanes {M : Type} [AddCommMonoid M] (f : Fin 128 → M) : ∑ r, f r = ∑ u : Fin 2, ∑ d : Fin 64, f (lane u d) := by
  rw [← Finset.sum_product', ← (finProdFinEquiv (m := 2) (n := 64)).sum_comp]
  exact Finset.sum_congr rfl fun p _ => congrArg f (Fin.ext (by simp [finProdFinEquiv]; omega))

theorem sum_blocks {M : Type} [AddCommMonoid M] (f : Fin 256 → M) :
    ∑ r, f r = ∑ j : Fin 128, f ⟨j.val, by omega⟩ + ∑ j : Fin 128, f ⟨128 + j.val, by omega⟩ :=
  (Fin.sum_univ_add (a := 128) (b := 128) f)

end Cert.Chain

end
-- ==== Proof.ChainRead.lean ====
/- The chain's parts at an index, over the extended reals. -/
module

public import proofs.«01_k».proof.Proof.Chain
public import proofs.«01_k».proof.Proof.Reals

@[expose] public section

set_option maxRecDepth 16384

noncomputable section

namespace Cert.Chain

open Cert.KernelIdeal Cert.KernelIdeal.Gen Idealize.ShloMosaic Idealize.SL.Sem

theorem lowWord (l : Fin 128) : IntOp.cmpi .slt (BitVec.ofNat 32 l.val) 64#32 = if l.val < 64 then 1#1 else 0#1 := by
  revert l; decide +kernel

theorem low_at (i l : Fin 128) : low (ix2 i l) = if l.val < 64 then 1#1 else 0#1 := by
  unfold low
  pointwise
  exact lowWord l

theorem lowWide_at (i : Fin 256) (l : Fin 128) : lowWide (ix2 i l) = if l.val < 64 then 1#1 else 0#1 := by
  unfold lowWide
  pointwise
  exact lowWord l

theorem select_low {α : Type} (l : Fin 128) (x y : α) :
    Scalar.select (if l.val < 64 then 1#1 else 0#1) x y = if l.val < 64 then x else y := by
  unfold Scalar.select; split_ifs <;> simp_all

theorem select_high {α : Type} (l : Fin 128) (x y : α) :
    Scalar.select (IntOp.xori (if l.val < 64 then 1#1 else 0#1) 1#1) x y = if l.val < 64 then y else x := by
  unfold Scalar.select IntOp.xori; split_ifs <;> simp_all

theorem stack_at {e : FTy} (z : Ideal e) (p0 p1 : FVec Ideal S128x128 e) (h : Fin 4) (i l : Fin 128) :
    stack z p0 p1 (ix2 (row h i) l) = if (l.val < 64 ↔ h.val % 2 = 0) then (if h.val < 2 then p0 else p1) (ix2 i l) else z := by
  have hi := i.isLt
  have e0 : ∀ (n : ℕ) (hn : n < 128), n = i.val → ix2 (⟨n, hn⟩ : Fin 128) l = ix2 i l := fun n hn hni => by subst hni; rfl
  unfold stack
  pointwise
  split
  · rename_i c
    have hh : h.val = 0 := by omega
    rw [e0 _ _ (by omega), low_at, select_low]; simp [hh]
  split
  · rename_i c
    have hh : h.val = 1 := by omega
    rw [e0 _ _ (by omega), low_at, select_high]; simp [hh]; split_ifs <;> first | rfl | omega
  split
  · rename_i c
    have hh : h.val = 2 := by omega
    rw [e0 _ _ (by omega), low_at, select_low]; simp [hh]
  · have hh : h.val = 3 := by omega
    rw [e0 _ _ (by omega), low_at, select_high]; simp [hh]; split_ifs <;> first | rfl | omega

theorem modWord : ∀ r : Fin 512, Scalar.select
        (IntOp.andi
          (IntOp.xori
            (IntOp.cmpi .slt
              (IntOp.remsi ArithUnit.vector (BitVec.ofNat 32 r.val)
                (Scalar.select (Scalar.cmpi .eq 128#32 0#32) 1#32 128#32))
              0#32)
            (Scalar.cmpi .slt (Scalar.select (Scalar.cmpi .eq 128#32 0#32) 1#32 128#32) 0#32))
          (IntOp.cmpi .ne
            (IntOp.remsi ArithUnit.vector (BitVec.ofNat 32 r.val)
              (Scalar.select (Scalar.cmpi .eq 128#32 0#32) 1#32 128#32))
            0#32))
        (IntOp.addi
          (IntOp.remsi ArithUnit.vector (BitVec.ofNat 32 r.val)
            (Scalar.select (Scalar.cmpi .eq 128#32 0#32) 1#32 128#32))
          (Scalar.select (Scalar.cmpi .eq 128#32 0#32) 1#32 128#32))
        (IntOp.remsi ArithUnit.vector (BitVec.ofNat 32 r.val)
          (Scalar.select (Scalar.cmpi .eq 128#32 0#32) 1#32 128#32)) = BitVec.ofNat 32 (r.val % 128) := by
  decide +kernel

theorem gtWord (r : Fin 512) (l : Fin 128) :
    IntOp.cmpi .sgt (BitVec.ofNat 32 l.val) (BitVec.ofNat 32 (r.val % 128)) = if r.val % 128 < l.val then 1#1 else 0#1 := by
  rw [Idealize.ShloMosaic.WordCmp.cmpi_sgt_ofNat (by omega) (by omega)]
  split_ifs with c <;> simp [c]

theorem upper_at (r : Fin 512) (l : Fin 128) : upper (ix2 r l) = if r.val % 128 < l.val then 1#1 else 0#1 := by
  unfold upper rowMod
  pointwise
  rw [modWord]
  exact gtWord _ _

theorem unfolded_at (t : FVec Ideal S512x128 .bf16) (h : Fin 4) (i j : Fin 128) :
    unfolded t (ix2 (row h i) ⟨j.val, by omega⟩) = (if i.val < j.val then t (ix2 (row h i) j) else 0)
    ∧ unfolded t (ix2 (row h i) ⟨128 + j.val, by omega⟩) = if i.val < j.val then 0 else t (ix2 (row h i) j) := by
  have hm : (128 * h.val + i.val) % 128 = i.val := by omega
  have hj := j.isLt
  unfold unfolded
  refine ⟨?_, ?_⟩ <;> pointwise
  · simp only [upper_at, hm, dif_pos hj, Scalar.select]
    split_ifs <;> simp_all
  · simp only [upper_at, hm, Scalar.select]
    simp

theorem dprob_at (dos : FVec Ideal S512x128 .bf16) (vg : FVec Ideal S256x128 .bf16) (r : Fin 512) (j : Fin 256) :
    dprob dos vg (ix2 r j) = ∑ l : Fin 128, dos (ix2 r l) * vg (ix2 j l) := by
  unfold dprob
  pointwise

theorem overRows_at (w : FVec Ideal S512x256 .bf16) (x : FVec Ideal S512x128 .bf16) (j : Fin 256) (l : Fin 128) :
    overRows w x (ix2 j l) = ∑ r : Fin 512, w (ix2 r j) * x (ix2 r l)
      + ∑ r : Fin 512, w (ix2 r j) * x (ix2 r ⟨(l.val + 64) % 128, Nat.mod_lt _ (by omega)⟩) := by
  unfold overRows
  pointwise
  rfl

theorem unrope_at (t c a b : FVec Ideal S128x128 .f32) (i l : Fin 128) :
    unrope t c a b (ix2 i l) = t (ix2 i l) * c (ix2 i l)
      + t (ix2 i ⟨(l.val + 8) % 128, Nat.mod_lt _ (by omega)⟩) * (0 - a (ix2 i l))
      + t (ix2 i ⟨(l.val + 120) % 128, Nat.mod_lt _ (by omega)⟩) * (0 - b (ix2 i l)) := by
  unfold unrope
  pointwise
  rfl

theorem rowSum_at (x : FVec Ideal S512x128 .f32) (r : Fin 512) (u : Fin 1) : rowSum x (ix2 r u) = ∑ l : Fin 128, x (ix2 r l) := by
  unfold rowSum
  pointwise

theorem dscore_at (prob : Vec Ideal S1x512x128 .bf16) (dp : FVec Ideal S512x256 .f32) (rs : FVec Ideal S512x1 .f32) (h : Fin 4) (i j : Fin 128) :
    dscore prob dp rs (ix2 (row h i) ⟨j.val, by omega⟩)
      = (if i.val < j.val then prob (ix3 0 (row h i) j) * (dp (ix2 (row h i) ⟨j.val, by omega⟩) - rs (ix2 (row h i) 0)) else 0)
    ∧ dscore prob dp rs (ix2 (row h i) ⟨128 + j.val, by omega⟩)
      = if i.val < j.val then 0 else prob (ix3 0 (row h i) j) * (dp (ix2 (row h i) ⟨128 + j.val, by omega⟩) - rs (ix2 (row h i) 0)) := by
  have hm : (128 * h.val + i.val) % 128 = i.val := by omega
  unfold dscore
  rw [(unfolded_at _ h i j).1, (unfolded_at _ h i j).2]
  refine ⟨?_, ?_⟩ <;> split_ifs with c
  · pointwise; simp only [upper_at, hm, Scalar.select]; simp [c]
  · rfl
  · rfl
  · pointwise; simp only [upper_at, hm, Scalar.select]; simp [c]

end Cert.Chain

end
-- ==== Proof.ChainReal.lean ====
/- A chain over finite inputs: its gradients are the coercions of real sums over heads, rows and head lanes. -/
module

public import proofs.«01_k».proof.Proof.ChainRead

@[expose] public section

set_option maxRecDepth 16384

noncomputable section

namespace Cert.Chain

open Cert.KernelIdeal Cert.KernelIdeal.Gen Idealize.ShloMosaic Idealize.SL.Sem

/-- Column `d` of the query head `h` of the key/value head `g`. -/
abbrev cell (g : Fin 2) (h : Fin 4) (d : Fin 64) : Fin 512 := ⟨256 * g.val + 64 * h.val + d.val, by omega⟩

/-- Row `i` of block `sb` of a tile. -/
abbrev at4 (sb : Fin 4) (i : Fin 128) : Fin 512 := ⟨128 * sb.val + i.val, by omega⟩

abbrev low64 (l : Fin 128) : Fin 64 := ⟨l.val % 64, Nat.mod_lt _ (by omega)⟩

/-- The lanes of one head of a stacked row hold its columns, the others nothing. -/
theorem sum_half {M : Type} [AddCommMonoid M] (h : Fin 4) (f : Fin 128 → M) :
    (∑ l : Fin 128, if (l.val < 64 ↔ h.val % 2 = 0) then f l else 0) = ∑ d : Fin 64, f (lane ⟨h.val % 2, Nat.mod_lt _ (by omega)⟩ d) := by
  rw [sum_lanes, Fin.sum_univ_two]
  rcases Nat.mod_two_eq_zero_or_one h.val with e | e
  · rw [Finset.sum_eq_zero (s := Finset.univ) (f := fun d : Fin 64 => if ((lane 1 d).val < 64 ↔ h.val % 2 = 0) then f (lane 1 d) else 0), add_zero]
    · refine Finset.sum_congr rfl fun d _ => ?_
      rw [if_pos (by simp [e])]
      exact congrArg f (Fin.ext (by simp [e]))
    · intro d _; rw [if_neg (by simp [e])]
  · rw [Finset.sum_eq_zero (s := Finset.univ) (f := fun d : Fin 64 => if ((lane 0 d).val < 64 ↔ h.val % 2 = 0) then f (lane 0 d) else 0), zero_add]
    · refine Finset.sum_congr rfl fun d _ => ?_
      rw [if_pos (by simp [e])]
      exact congrArg f (Fin.ext (by simp [e]))
    · intro d _; rw [if_neg (by simp [e])]

theorem pair_at {e : FTy} (g pp : Fin 2) (t : FVec Ideal S128x512 e) (i l : Fin 128) :
    pair g pp t (ix2 i l) = t (ix2 i ⟨256 * g.val + 128 * pp.val + l.val, by omega⟩) := by
  unfold pair
  pointwise

theorem rows_at {e : FTy} (sb : Fin 4) (x : FVec Ideal S512x512 e) (i : Fin 128) (c : Fin 512) : rows sb x (ix2 i c) = x (ix2 (at4 sb i) c) := by
  unfold rows
  pointwise

theorem stacked_at {e : FTy} (z : Ideal e) (sb : Fin 4) (g : Fin 2) (x : FVec Ideal S512x512 e) (h : Fin 4) (i l : Fin 128) :
    stacked z sb g x (ix2 (row h i) l)
      = if (l.val < 64 ↔ h.val % 2 = 0) then x (ix2 (at4 sb i) ⟨256 * g.val + 128 * (h.val / 2) + l.val, by omega⟩) else z := by
  unfold stacked
  rw [stack_at]
  by_cases hh : h.val < 2
  · have : h.val / 2 = 0 := by omega
    simp only [if_pos hh, pair_at, rows_at, this, Fin.val_zero]
  · have : h.val / 2 = 1 := by omega
    simp only [if_neg hh, pair_at, rows_at, this, Fin.val_one]

/-- A product with a stacked row sums over its head's columns. -/
theorem sum_stacked {e : FTy} (z : Ideal e) (hz : (z : EReal) = 0) (sb : Fin 4) (g : Fin 2) (x : FVec Ideal S512x512 e) (h : Fin 4) (i : Fin 128) (f : Fin 128 → EReal) :
    (∑ l : Fin 128, (stacked z sb g x (ix2 (row h i) l) : EReal) * f l)
      = ∑ d : Fin 64, (x (ix2 (at4 sb i) (cell g h d)) : EReal) * f (lane ⟨h.val % 2, Nat.mod_lt _ (by omega)⟩ d) := by
  have e : ∀ l : Fin 128, (stacked z sb g x (ix2 (row h i) l) : EReal) * f l = if (l.val < 64 ↔ h.val % 2 = 0)
      then (x (ix2 (at4 sb i) ⟨256 * g.val + 128 * (h.val / 2) + l.val, by omega⟩) : EReal) * f l else 0 := fun l => by
    rw [stacked_at]; split_ifs
    · rfl
    · rw [hz, zero_mul]
  rw [Finset.sum_congr rfl fun l _ => e l, sum_half h]
  refine Finset.sum_congr rfl fun d _ => congrArg (· * _) (congrArg x (congrArg (ix2 (at4 sb i)) (Fin.ext ?_)))
  show 256 * g.val + 128 * (h.val / 2) + (64 * (h.val % 2) + d.val) = 256 * g.val + 64 * h.val + d.val
  omega

theorem keyHead_at (g : Fin 2) (t : FVec Ideal S256x256 .bf16) (j : Fin 256) (l : Fin 128) :
    keyHead g t (ix2 j l) = t (ix2 j ⟨128 * g.val + l.val, by omega⟩) := by
  unfold keyHead
  pointwise

/-- A window whose two halves of lanes agree, over reals. -/
def IsWindow (w : FVec Ideal S256x256 .bf16) (V : Fin 256 → Fin 2 → Fin 64 → ℝ) : Prop :=
  ∀ (j : Fin 256) (g : Fin 2) (l : Fin 128), w (ix2 j ⟨128 * g.val + l.val, by omega⟩) = ((V j g (low64 l) : ℝ) : EReal)

/-- A matrix of reals. -/
def IsReal2 {n m : ℕ} (x : (⟨2, ![n, m]⟩ : Shape).Idx → EReal) (X : Fin n → Fin m → ℝ) : Prop := ∀ r c, x (ix2 r c) = ((X r c : ℝ) : EReal)

/-- The keys a row of a block sees. -/
abbrev band (i : Fin 128) (j : Fin 256) : Prop := i.val < j.val ∧ j.val ≤ i.val + 128

abbrev fold (j : Fin 256) : Fin 128 := ⟨j.val % 128, Nat.mod_lt _ (by omega)⟩

variable (P : Fin 512 → Fin 128 → ℝ) (D W : Fin 512 → Fin 512 → ℝ) (V : Fin 256 → Fin 2 → Fin 64 → ℝ)

/-- The probabilities of a block, both key blocks. -/
def probR (h : Fin 4) (i : Fin 128) (j : Fin 256) : ℝ := if band i j then P (row h i) (fold j) else 0

/-- The scores' cotangent of a block, from the output's cotangent `D` and its product `W` with the output. -/
def dsR (sb : Fin 4) (g : Fin 2) (h : Fin 4) (i : Fin 128) (j : Fin 256) : ℝ :=
  if band i j then P (row h i) (fold j) * (∑ d : Fin 64, D (at4 sb i) (cell g h d) * V j g d - ∑ d : Fin 64, W (at4 sb i) (cell g h d)) else 0

theorem by_half (p : Fin 256 → Prop) (h1 : ∀ j : Fin 128, p ⟨j.val, by omega⟩) (h2 : ∀ j : Fin 128, p ⟨128 + j.val, by omega⟩) (j : Fin 256) : p j := by
  by_cases hj : j.val < 128
  · exact h1 ⟨j.val, hj⟩
  · have := h2 ⟨j.val - 128, by omega⟩
    rwa [show (⟨128 + (j.val - 128), by omega⟩ : Fin 256) = j from Fin.ext (by show 128 + (j.val - 128) = j.val; omega)] at this

variable {P D W V}
variable {sb : Fin 4} {g : Fin 2} {x1 x2 : Vec Ideal S512x256 .bf16} {x3 x4 : Vec Ideal S128x256 .bf16} {x5 : Vec Ideal S8x512x128 .bf16}
  {x6 : Vec Ideal S512x512 .bf16} {x7 : Vec Ideal S512x512 .f32} {x0 : Vec Ideal S512x512 .bf16}

theorem dprob_real (h6 : IsReal2 x6 D) (hw : IsWindow (window sb x4 x2) V) (h : Fin 4) (i : Fin 128) (j : Fin 256) :
    dprob (DO sb g x6) (keyHead g (window sb x4 x2)) (ix2 (row h i) j) = ((∑ d : Fin 64, D (at4 sb i) (cell g h d) * V j g d : ℝ) : EReal) := by
  rw [dprob_at, DO, sum_stacked (Scalar.ofBits .bf16 0x0000#16) Ideal.ofBits_zero_bf16, ← sum_coe]
  refine Finset.sum_congr rfl fun d _ => ?_
  rw [keyHead_at, hw, h6, ← EReal.coe_mul]
  congr 3
  exact Fin.ext (by simp)

theorem rowSum_real (h7 : IsReal2 x7 W) (h : Fin 4) (i : Fin 128) :
    rowSum (F := Ideal) (stacked (Scalar.ofBits .f32 0x00000000#32) sb g x7) (ix2 (row h i) 0) = ((∑ d : Fin 64, W (at4 sb i) (cell g h d) : ℝ) : EReal) := by
  rw [rowSum_at, Finset.sum_congr rfl fun l _ => (mul_one _).symm, sum_stacked (Scalar.ofBits .f32 0x00000000#32) Ideal.ofBits_zero_f32, ← sum_coe]
  exact Finset.sum_congr rfl fun d _ => by rw [h7]; exact mul_one _

theorem prob_at (x5 : Vec Ideal S8x512x128 .bf16) (r : Fin 512) (j : Fin 128) :
    View.ld x5 (probRect sb g) (ix3 0 r j) = x5 (ix3 ⟨2 * sb.val + g.val, by omega⟩ r j) := by
  pointwise

theorem DS_real (h5 : ∀ r j, x5 (ix3 ⟨2 * sb.val + g.val, by omega⟩ r j) = ((P r j : ℝ) : EReal)) (h6 : IsReal2 x6 D) (h7 : IsReal2 x7 W)
    (hw : IsWindow (window sb x4 x2) V) (h : Fin 4) (i : Fin 128) (j : Fin 256) :
    DS sb g x2 x4 x5 x6 x7 (ix2 (row h i) j) = ((dsR P D W V sb g h i j : ℝ) : EReal) := by
  have key := dscore_at (View.ld x5 (probRect sb g)) (dprob (DO sb g x6) (keyHead g (window sb x4 x2)))
    (rowSum (stacked (Scalar.ofBits .f32 0x00000000#32) sb g x7)) h i
  revert j
  refine by_half _ (fun j => ?_) (fun j => ?_)
  · rw [DS, (key j).1, dprob_real h6 hw, rowSum_real h7, prob_at, h5, ← EReal.coe_sub, ← EReal.coe_mul, dsR]
    have e : fold ⟨j.val, by omega⟩ = j := Fin.ext (Nat.mod_eq_of_lt j.isLt)
    by_cases c : i.val < j.val
    · rw [if_pos c, if_pos ⟨c, by show j.val ≤ _; omega⟩, e]
    · rw [if_neg c, if_neg (fun b => c b.1)]; rfl
  · rw [DS, (key j).2, dprob_real h6 hw, rowSum_real h7, prob_at, h5, ← EReal.coe_sub, ← EReal.coe_mul, dsR]
    have e : fold ⟨128 + j.val, by omega⟩ = j := Fin.ext (by show (128 + j.val) % 128 = _; omega)
    by_cases c : i.val < j.val
    · rw [if_pos c, if_neg (fun b => by have := b.2; simp at this; omega)]; rfl
    · rw [if_neg c, if_pos ⟨by show i.val < 128 + j.val; omega, by show 128 + j.val ≤ _; omega⟩, e]

theorem cast_at (p : FVec Ideal S1x512x128 .bf16) (r : Fin 512) (j : Fin 128) :
    (shapeCast S512x128 p shapeCasts_S1x512x128_S512x128 : FVec Ideal S512x128 .bf16) (ix2 r j) = p (ix3 0 r j) := by
  pointwise

theorem unfolded_prob (h5 : ∀ r j, x5 (ix3 ⟨2 * sb.val + g.val, by omega⟩ r j) = ((P r j : ℝ) : EReal)) (h : Fin 4) (i : Fin 128) (j : Fin 256) :
    unfolded (F := Ideal) (shapeCast S512x128 (View.ld x5 (probRect sb g)) shapeCasts_S1x512x128_S512x128) (ix2 (row h i) j) = ((probR P h i j : ℝ) : EReal) := by
  have hp : ∀ j : Fin 128, (shapeCast S512x128 (View.ld x5 (probRect sb g)) shapeCasts_S1x512x128_S512x128 : FVec Ideal S512x128 .bf16) (ix2 (row h i) j) = ((P (row h i) j : ℝ) : EReal) := fun j =>
    (cast_at _ _ j).trans ((prob_at x5 _ j).trans (h5 _ j))
  have key := unfolded_at (shapeCast S512x128 (View.ld x5 (probRect sb g)) shapeCasts_S1x512x128_S512x128) h i
  revert j
  refine by_half _ (fun j => ?_) (fun j => ?_)
  · rw [(key j).1, hp, probR]
    have e : fold ⟨j.val, by omega⟩ = j := Fin.ext (Nat.mod_eq_of_lt j.isLt)
    by_cases c : i.val < j.val
    · rw [if_pos c, if_pos ⟨c, by show j.val ≤ _; omega⟩, e]
    · rw [if_neg c, if_neg (fun b => c b.1)]; rfl
  · rw [(key j).2, hp, probR]
    have e : fold ⟨128 + j.val, by omega⟩ = j := Fin.ext (by show (128 + j.val) % 128 = _; omega)
    by_cases c : i.val < j.val
    · rw [if_pos c, if_neg (fun b => by have := b.2; simp at this; omega)]; rfl
    · rw [if_neg c, if_pos ⟨by show i.val < 128 + j.val; omega, by show 128 + j.val ≤ _; omega⟩, e]

/-- A product over the stacked rows sums over heads and rows; its two halves of lanes hold the even and the odd heads, so their sum has all. -/
theorem overRows_real {w : FVec Ideal S512x256 .bf16} {X : Fin 4 → Fin 128 → Fin 256 → ℝ} (hw : ∀ h i j, w (ix2 (row h i) j) = ((X h i j : ℝ) : EReal))
    (h6 : IsReal2 x6 D) (j : Fin 256) (l : Fin 128) :
    overRows w (DO sb g x6) (ix2 j l) = ((∑ h : Fin 4, ∑ i : Fin 128, X h i j * D (at4 sb i) (cell g h (low64 l)) : ℝ) : EReal) := by
  have side : ∀ l : Fin 128, ∑ r : Fin 512, (w (ix2 r j) : EReal) * DO sb g x6 (ix2 r l)
      = ((∑ h : Fin 4, ∑ i : Fin 128, (if (l.val < 64 ↔ h.val % 2 = 0) then X h i j * D (at4 sb i) (cell g h (low64 l)) else 0) : ℝ) : EReal) := fun l => by
    rw [sum_rows, ← sum_coe]
    refine Finset.sum_congr rfl fun h _ => ?_
    rw [← sum_coe]
    refine Finset.sum_congr rfl fun i _ => ?_
    rw [hw, DO, stacked_at]
    split_ifs with c
    · rw [h6, ← EReal.coe_mul]
      congr 3
      exact Fin.ext (by show _ = 256 * g.val + 64 * h.val + l.val % 64; simp only; omega)
    · rw [show (Scalar.ofBits .bf16 0x0000#16 : Ideal .bf16) = 0 from Ideal.ofBits_zero_bf16, mul_zero]; rfl
  rw [overRows_at, side, side, ← EReal.coe_add, ← Finset.sum_add_distrib]
  refine congrArg _ (Finset.sum_congr rfl fun h _ => ?_)
  rw [← Finset.sum_add_distrib]
  refine Finset.sum_congr rfl fun i _ => ?_
  have e : low64 ⟨(l.val + 64) % 128, Nat.mod_lt _ (by omega)⟩ = low64 l := Fin.ext (by show (l.val + 64) % 128 % 64 = l.val % 64; omega)
  rw [e]
  by_cases c : (l.val < 64 ↔ h.val % 2 = 0)
  · rw [if_pos c, if_neg (by show ¬ ((l.val + 64) % 128 < 64 ↔ h.val % 2 = 0); omega), add_zero]
  · rw [if_neg c, if_pos (by show ((l.val + 64) % 128 < 64 ↔ h.val % 2 = 0); omega), zero_add]

theorem DV_real (h5 : ∀ r j, x5 (ix3 ⟨2 * sb.val + g.val, by omega⟩ r j) = ((P r j : ℝ) : EReal)) (h6 : IsReal2 x6 D) (j : Fin 256) (l : Fin 128) :
    DV sb g x5 x6 (ix2 j l) = ((∑ h : Fin 4, ∑ i : Fin 128, probR P h i j * D (at4 sb i) (cell g h (low64 l)) : ℝ) : EReal) :=
  overRows_real (unfolded_prob h5) h6 j l

theorem DK_real {Q : Fin 512 → Fin 512 → ℝ} (h0 : IsReal2 x0 Q)
    (h5 : ∀ r j, x5 (ix3 ⟨2 * sb.val + g.val, by omega⟩ r j) = ((P r j : ℝ) : EReal)) (h6 : IsReal2 x6 D) (h7 : IsReal2 x7 W)
    (hw : IsWindow (window sb x4 x2) V) (j : Fin 256) (l : Fin 128) :
    DK sb g x0 x2 x4 x5 x6 x7 (ix2 j l) = ((∑ h : Fin 4, ∑ i : Fin 128, dsR P D W V sb g h i j * Q (at4 sb i) (cell g h (low64 l)) : ℝ) : EReal) :=
  overRows_real (DS_real h5 h6 h7 hw) h0 j l

/-- The rotated queries' gradient of a block. -/
def dqR (P : Fin 512 → Fin 128 → ℝ) (D W : Fin 512 → Fin 512 → ℝ) (V K : Fin 256 → Fin 2 → Fin 64 → ℝ) (sb : Fin 4) (g : Fin 2) (h : Fin 4) (i : Fin 128) (d : Fin 64) : ℝ :=
  (∑ j : Fin 256, dsR P D W V sb g h i j * K j g d) * (1 / 8)

theorem dqry_at (ds : FVec Ideal S512x256 .bf16) (kg : FVec Ideal S256x128 .bf16) (r : Fin 512) (l : Fin 128) :
    dqry ds kg (ix2 r l) = (∑ j : Fin 256, ds (ix2 r j) * kg (ix2 j l)) * Ideal.ofBits .f32 0x3E000000#32 := by
  unfold dqry
  pointwise

theorem unstack_at (pp : Fin 2) (t : FVec Ideal S512x128 .f32) (i l : Fin 128) :
    unstack pp t (ix2 i l) = t (ix2 (row ⟨2 * pp.val + l.val / 64, by omega⟩ i) l) := by
  unfold unstack
  pointwise
  rw [low_at, select_low]
  split_ifs with c
  · exact congrArg t (congrArg (fun r => ix2 r l) (Fin.ext (by show _ = 128 * (2 * pp.val + l.val / 64) + i.val; simp only; omega)))
  · exact congrArg t (congrArg (fun r => ix2 r l) (Fin.ext (by show _ = 128 * (2 * pp.val + l.val / 64) + i.val; simp only; omega)))

theorem dqs_real {K : Fin 256 → Fin 2 → Fin 64 → ℝ} (h5 : ∀ r j, x5 (ix3 ⟨2 * sb.val + g.val, by omega⟩ r j) = ((P r j : ℝ) : EReal)) (h6 : IsReal2 x6 D) (h7 : IsReal2 x7 W)
    (hw : IsWindow (window sb x4 x2) V) (hk : IsWindow (window sb x3 x1) K) (pp : Fin 2) (i l : Fin 128) :
    unstack pp (dqry (DS sb g x2 x4 x5 x6 x7) (keyHead g (window sb x3 x1))) (ix2 i l)
      = ((dqR P D W V K sb g ⟨2 * pp.val + l.val / 64, by omega⟩ i (low64 l) : ℝ) : EReal) := by
  rw [unstack_at, dqry_at, eighth, dqR, EReal.coe_mul, ← sum_coe]
  congr 1
  refine Finset.sum_congr rfl fun j _ => ?_
  rw [DS_real h5 h6 h7 hw, keyHead_at, hk, ← EReal.coe_mul]

end Cert.Chain

end
-- ==== Proof.TileOut.lean ====
/- A tile's stores at an index. -/
module

public import proofs.«01_k».proof.Proof.Pieces
public import proofs.«01_k».proof.Proof.ChainReal
public import Idealize.ShloMosaic.Lib.Pipeline.ReadBack

@[expose] public section

set_option maxRecDepth 16384

noncomputable section

namespace Cert.Chain

open Cert.KernelIdeal Cert.KernelIdeal.Gen Idealize.ShloMosaic Idealize.SL.Sem

/-- The query gradient's column of group `g`, head pair `pp`, lane `l`. -/
abbrev col (g pp : Fin 2) (l : Fin 128) : Fin 512 := ⟨256 * g.val + 128 * pp.val + l.val, by omega⟩

theorem cell_of (G : S512x512.Idx → Elt Ideal .bf16) (t : FVec Ideal S128x128 .bf16) (sb : Fin 4) (g pp : Fin 2)
    (h : ∀ i l, t (ix2 i l) = G (ix2 (at4 sb i) (col g pp l))) (x : (cellRect sb g pp).shape.Idx) :
    t x = G ((cellRect sb g pp).emb x) := by
  rw [show x = (ix2 (x 0) (x 1) : S128x128.Idx) from (eq_ix2 x)]
  refine (h _ _).trans (congrArg G (funext fun a => Fin.ext ?_))
  match a with
  | 0 => exact (congrArg (128 * sb.val + ·) (Nat.one_mul (x 0).val)).symm
  | 1 => exact (congrArg (256 * g.val + 128 * pp.val + ·) (Nat.one_mul (x 1).val)).symm

theorem lane_of (G : S512x128.Idx → Elt Ideal .f32) (t : FVec Ideal S128x128 .f32) (sb : Fin 4)
    (h : ∀ i l, t (ix2 i l) = G (ix2 (at4 sb i) l)) (x : (laneRect sb).shape.Idx) : t x = G ((laneRect sb).emb x) := by
  rw [show x = (ix2 (x 0) (x 1) : S128x128.Idx) from (eq_ix2 x)]
  refine (h _ _).trans (congrArg G (funext fun a => Fin.ext ?_))
  match a with
  | 0 => exact (congrArg (128 * sb.val + ·) (Nat.one_mul (x 0).val)).symm
  | 1 => exact (Nat.zero_add _).symm.trans (congrArg (0 + ·) (Nat.one_mul (x 1).val)).symm

theorem query_canon (G : S512x512.Idx → Elt Ideal .bf16) (t : Fin 4 → Fin 2 → Fin 2 → FVec Ideal S128x128 .bf16)
    (h : ∀ sb g pp i l, t sb g pp (ix2 i l) = G (ix2 (at4 sb i) (col g pp l))) (y : S512x512.Idx) :
    View.canon (Val := Elt Ideal) (queryPieces t) y = G y := by
  refine View.canon_apply_of_pieces G _ (View.PiecesOf.mem ?_) y (View.cover_of_tiled (s := S512x512) (queryPieces t) S128x128.size (by rfl) y)
  unfold queryPieces
  refine ⟨?_, ?_, ?_, ?_, ?_, ?_, ?_, ?_, ?_, ?_, ?_, ?_, ?_, ?_, ?_, ?_, trivial⟩ <;> exact cell_of G _ _ _ _ (h _ _ _)

theorem tile_canon (G : S512x128.Idx → Elt Ideal .f32) (t : Fin 4 → FVec Ideal S256x128 .f32)
    (h : ∀ sb i l, blockSum t sb (ix2 i l) = G (ix2 (at4 sb i) l)) (y : S512x128.Idx) :
    View.canon (Val := Elt Ideal) (tilePieces t) y = G y := by
  refine View.canon_apply_of_pieces G _ (View.PiecesOf.mem ?_) y (View.cover_of_tiled (s := S512x128) (tilePieces t) S128x128.size (by rfl) y)
  unfold tilePieces
  exact ⟨lane_of G _ 3 (h 3), lane_of G _ 2 (h 2), lane_of G _ 1 (h 1), lane_of G _ 0 (h 0), trivial⟩

theorem halo_at (t : FVec Ideal S128x128 .f32) (z : Fin 1) (i l : Fin 128) :
    View.canon (Val := Elt Ideal) [(⟨r0_37, shapeCast S1x128x128 t shapeCasts_S128x128_S1x128x128⟩ : View.Piece (Elt Ideal) S1x128x128 .f32)] (ix3 z i l) = t (ix2 i l) := by
  rw [View.canon_unit_zero (funext (by decide))]
  pointwise

/-- Both heads side by side at a lane. -/
theorem both_at (t : Fin 2 → FVec Ideal S256x128 .f32) (j : Fin 256) (l : Fin 128) :
    both t (ix2 j l) = t ⟨l.val / 64, by omega⟩ (ix2 j l) := by
  refine (show both t (ix2 j l) = Scalar.select (lowWide (ix2 j l)) (t 0 (ix2 j l)) (t 1 (ix2 j l)) from rfl).trans ?_
  rw [lowWide_at, select_low]
  split_ifs with hl
  · exact congrArg (fun g => t g (ix2 j l)) (Fin.ext (show 0 = l.val / 64 by omega))
  · exact congrArg (fun g => t g (ix2 j l)) (Fin.ext (show 1 = l.val / 64 by omega))

theorem first_at (t : FVec Ideal S256x128 .f32) (j l : Fin 128) : firstHalf t (ix2 j l) = t (ix2 ⟨j.val, by omega⟩ l) := by
  unfold firstHalf; pointwise
theorem second_at (t : FVec Ideal S256x128 .f32) (j l : Fin 128) : secondHalf t (ix2 j l) = t (ix2 ⟨128 + j.val, by omega⟩ l) := by
  unfold secondHalf; pointwise

/-- What a tile adds to its own key rows. -/
theorem blockSum_real (t : Fin 4 → FVec Ideal S256x128 .f32) (T : Fin 4 → Fin 256 → Fin 128 → ℝ)
    (h : ∀ sb j l, t sb (ix2 j l) = ((T sb j l : ℝ) : EReal)) (sb : Fin 4) (i l : Fin 128) :
    blockSum t sb (ix2 i l) = ((T sb ⟨128 + i.val, by omega⟩ l + (if hs : sb.val + 1 < 4 then T ⟨sb.val + 1, hs⟩ ⟨i.val, by omega⟩ l else 0) : ℝ) : EReal) := by
  match sb with
  | 0 | 1 | 2 =>
    refine (congrArg₂ (· + ·) ((second_at _ i l).trans (h _ _ _)) ((first_at _ i l).trans (h _ _ _))).trans ?_
    rw [← EReal.coe_add]; rfl
  | 3 =>
    refine ((second_at _ i l).trans (h _ _ _)).trans ?_
    simp

end Cert.Chain

end
-- ==== Proof.Region.lean ====
/- The blocks that a point of the grid stages, over the arrays the kernel is given. -/
module

public import proofs.«01_k».proof.Proof.TileOut
public import Idealize.ShloMosaic.Lib.Pipeline.ValueKit

@[expose] public section

set_option maxRecDepth 16384

noncomputable section

namespace Cert.Chain

open Cert.KernelIdeal Cert.KernelIdeal.Gen Idealize.ShloMosaic Idealize.SL.Sem

/-- The arrays the kernel is given, as reals: the scaled rotated queries, the output's cotangent, its product with the output, the keys and
    values by head, the folded probabilities, and the three tables of the rotation. -/
structure Given where
  Q : Fin 8192 → Fin 512 → ℝ
  D : Fin 8192 → Fin 512 → ℝ
  W : Fin 8192 → Fin 512 → ℝ
  K : Fin 8192 → Fin 2 → Fin 64 → ℝ
  V : Fin 8192 → Fin 2 → Fin 64 → ℝ
  P : Fin 128 → Fin 512 → Fin 128 → ℝ
  C : Fin 8192 → Fin 128 → ℝ
  A : Fin 8192 → Fin 128 → ℝ
  B : Fin 8192 → Fin 128 → ℝ

/-- Keys or values by head, each head's row twice side by side. -/
def IsHeads (x : S8192x256.Idx → EReal) (K : Fin 8192 → Fin 2 → Fin 64 → ℝ) : Prop :=
  ∀ (r : Fin 8192) (g : Fin 2) (l : Fin 128), x (ix2 r ⟨128 * g.val + l.val, by omega⟩) = ((K r g (low64 l) : ℝ) : EReal)

variable (m : (ℓ : Loc nD τ sig) → Buf (Elt Ideal) ℓ) (c : Dev nD)

/-- The arrays at the region's entry are those reals. -/
structure Entry (d : Given) : Prop where
  q : IsReal2 (V m c main_v83) d.Q
  k : IsHeads (V m c main_v86) d.K
  v : IsHeads (V m c main_v89) d.V
  p : ∀ s r j, V m c main_v73 (ix3 s r j) = ((d.P s r j : ℝ) : EReal)
  o : IsReal2 (V m c main_v90) d.D
  w : IsReal2 (V m c main_v92) d.W
  tc : IsReal2 (V m c main_v77) d.C
  ta : IsReal2 (V m c main_v79) d.A
  tb : IsReal2 (V m c main_v80) d.B

/-- Row `r` of tile `t`. -/
abbrev tileRow (t : Fin 16) (r : Fin 512) : Fin 8192 := ⟨512 * t.val + r.val, by omega⟩

theorem rowIdx : ∀ t : Fin cfg0.N, win0_0.index t = ![t.val, 0] ∧ win0_1.index t = ![t.val, 0] ∧ win0_2.index t = ![t.val, 0]
    ∧ win0_3.index t = ![4 * t.val - 1, 0] ∧ win0_4.index t = ![4 * t.val - 1, 0] ∧ win0_5.index t = ![t.val, 0, 0] ∧ win0_6.index t = ![t.val, 0]
    ∧ win0_7.index t = ![t.val, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![t.val, 0, 0] ∧ win0_15.index t = ![t.val, 0, 0] := by
  decide +kernel

variable {m c} {d : Given} (e : Entry m c d)
include e

theorem blkQ (t : Fin 16) : IsReal2 (iblk m c 0 t) fun r j => d.Q (tileRow t r) j := fun r j =>
  (show iblk m c 0 t (ix2 r j) = V m c main_v83 (ix2 (tileRow t r) j) by blk_ext [iblk, rowIdx t]).trans (e.q _ _)

theorem blkD (t : Fin 16) : IsReal2 (iblk m c 6 t) fun r j => d.D (tileRow t r) j := fun r j =>
  (show iblk m c 6 t (ix2 r j) = V m c main_v90 (ix2 (tileRow t r) j) by blk_ext [iblk, rowIdx t]).trans (e.o _ _)

theorem blkW (t : Fin 16) : IsReal2 (iblk m c 7 t) fun r j => d.W (tileRow t r) j := fun r j =>
  (show iblk m c 7 t (ix2 r j) = V m c main_v92 (ix2 (tileRow t r) j) by blk_ext [iblk, rowIdx t]).trans (e.w _ _)

theorem blkC (t : Fin 16) : IsReal2 (iblk m c 8 t) fun r j => d.C (tileRow t r) j := fun r j =>
  (show iblk m c 8 t (ix2 r j) = V m c main_v77 (ix2 (tileRow t r) j) by blk_ext [iblk, rowIdx t]).trans (e.tc _ _)

theorem blkA (t : Fin 16) : IsReal2 (iblk m c 9 t) fun r j => d.A (tileRow t r) j := fun r j =>
  (show iblk m c 9 t (ix2 r j) = V m c main_v79 (ix2 (tileRow t r) j) by blk_ext [iblk, rowIdx t]).trans (e.ta _ _)

theorem blkB (t : Fin 16) : IsReal2 (iblk m c 10 t) fun r j => d.B (tileRow t r) j := fun r j =>
  (show iblk m c 10 t (ix2 r j) = V m c main_v80 (ix2 (tileRow t r) j) by blk_ext [iblk, rowIdx t]).trans (e.tb _ _)

theorem blkP (t : Fin 16) (s : Fin 8) (r : Fin 512) (j : Fin 128) : iblk m c 5 t (ix3 s r j) = ((d.P ⟨8 * t.val + s.val, by omega⟩ r j : ℝ) : EReal) :=
  (show iblk m c 5 t (ix3 s r j) = V m c main_v73 (ix3 ⟨8 * t.val + s.val, by omega⟩ r j) by blk_ext [iblk, rowIdx t]).trans (e.p _ _ _)

end Cert.Chain

end
-- ==== Proof.Windows.lean ====
/- The windows of keys and values that a block of a tile sees. -/
module

public import proofs.«01_k».proof.Proof.Region

@[expose] public section

set_option maxRecDepth 16384

noncomputable section

namespace Cert.Chain

open Cert.KernelIdeal Cert.KernelIdeal.Gen Idealize.ShloMosaic Idealize.SL.Sem

variable {m : (ℓ : Loc nD τ sig) → Buf (Elt Ideal) ℓ} {c : Dev nD} {d : Given}

/-- The row that row `j` of block `n`'s window is. -/
abbrev winRow (n : Fin 64) (j : Fin 256) : Fin 8192 := ⟨if 128 * n.val + j.val < 128 then j.val else 128 * n.val + j.val - 128, by split_ifs <;> omega⟩

abbrev blkOf (t : Fin 16) (sb : Fin 4) : Fin 64 := ⟨4 * t.val + sb.val, by omega⟩

theorem window_at (sb : Fin 4) (x3 : Vec Ideal S128x256 .bf16) (x1 : Vec Ideal S512x256 .bf16) (j c' : Fin 256) :
    window sb x3 x1 (ix2 j c') = if h : 128 * sb.val + j.val < 128 then x3 (ix2 ⟨j.val, by omega⟩ c') else x1 (ix2 ⟨128 * sb.val + j.val - 128, by omega⟩ c') := by
  match sb with
  | 0 =>
    unfold window
    pointwise
  | 1 =>
    unfold window
    pointwise
  | 2 =>
    unfold window
    pointwise
    rw [dif_neg (by omega)]
    exact congrArg (fun r => x1 (ix2 r c')) (Fin.ext (show 128 + j.val = 256 + j.val - 128 by omega))
  | 3 =>
    unfold window
    pointwise
    rw [dif_neg (by omega)]
    exact congrArg (fun r => x1 (ix2 r c')) (Fin.ext (show 256 + j.val = 384 + j.val - 128 by omega))

theorem window_real {x : S8192x256.Idx → EReal} {K : Fin 8192 → Fin 2 → Fin 64 → ℝ} (hx : IsHeads x K) (t : Fin 16) (sb : Fin 4)
    (x3 : Vec Ideal S128x256 .bf16) (x1 : Vec Ideal S512x256 .bf16)
    (h3 : ∀ j k, x3 (ix2 j k) = x (ix2 ⟨128 * (4 * t.val - 1) + j.val, by omega⟩ k)) (h1 : ∀ r k, x1 (ix2 r k) = x (ix2 (tileRow t r) k)) :
    IsWindow (window sb x3 x1) fun j => K (winRow (blkOf t sb) j) := by
  intro j g l
  rw [window_at, ← hx]
  split_ifs with h
  · refine (h3 _ _).trans (congrArg (fun r => x (ix2 r _)) (Fin.ext ?_))
    show 128 * (4 * t.val - 1) + j.val = if 128 * (4 * t.val + sb.val) + j.val < 128 then j.val else 128 * (4 * t.val + sb.val) + j.val - 128
    split_ifs <;> omega
  · refine (h1 _ _).trans (congrArg (fun r => x (ix2 r _)) (Fin.ext ?_))
    show 512 * t.val + (128 * sb.val + j.val - 128) = if 128 * (4 * t.val + sb.val) + j.val < 128 then j.val else 128 * (4 * t.val + sb.val) + j.val - 128
    split_ifs <;> omega

theorem prev_emb (t : Fin grid0.N) (ht : t.val < 16) (j : Fin 128) (k : Fin 256) :
    ((win0_3.blk t).view.emb (ix2 j k) : S8192x256.Idx) = ix2 ⟨128 * (4 * t.val - 1) + j.val, by omega⟩ k := by
  have e := (rowIdx t).2.2.2.1
  refine funext fun (a : Fin 2) => Fin.ext ((Pipeline.Window.rect_emb_val win0_3 t _ a rfl).trans ?_)
  rw [e]
  match a with
  | 0 => exact congrArg (· + j.val) (Nat.mul_comm (4 * t.val - 1) 128)
  | 1 => exact congrArg (· + k.val) (Nat.zero_mul 256) |>.trans (Nat.zero_add _)

theorem prev_emb' (t : Fin grid0.N) (ht : t.val < 16) (j : Fin 128) (k : Fin 256) :
    ((win0_4.blk t).view.emb (ix2 j k) : S8192x256.Idx) = ix2 ⟨128 * (4 * t.val - 1) + j.val, by omega⟩ k := by
  have e := (rowIdx t).2.2.2.2.1
  refine funext fun (a : Fin 2) => Fin.ext ((Pipeline.Window.rect_emb_val win0_4 t _ a rfl).trans ?_)
  rw [e]
  match a with
  | 0 => exact congrArg (· + j.val) (Nat.mul_comm (4 * t.val - 1) 128)
  | 1 => exact congrArg (· + k.val) (Nat.zero_mul 256) |>.trans (Nat.zero_add _)

theorem own_emb (t : Fin grid0.N) (ht : t.val < 16) (j : Fin 512) (k : Fin 256) :
    ((win0_1.blk t).view.emb (ix2 j k) : S8192x256.Idx) = ix2 ⟨512 * t.val + j.val, by omega⟩ k := by
  have e := (rowIdx t).2.1
  refine funext fun (a : Fin 2) => Fin.ext ((Pipeline.Window.rect_emb_val win0_1 t _ a rfl).trans ?_)
  rw [e]
  match a with
  | 0 => exact congrArg (· + j.val) (Nat.mul_comm t.val 512)
  | 1 => exact congrArg (· + k.val) (Nat.zero_mul 256) |>.trans (Nat.zero_add _)

theorem own_emb' (t : Fin grid0.N) (ht : t.val < 16) (j : Fin 512) (k : Fin 256) :
    ((win0_2.blk t).view.emb (ix2 j k) : S8192x256.Idx) = ix2 ⟨512 * t.val + j.val, by omega⟩ k := by
  have e := (rowIdx t).2.2.1
  refine funext fun (a : Fin 2) => Fin.ext ((Pipeline.Window.rect_emb_val win0_2 t _ a rfl).trans ?_)
  rw [e]
  match a with
  | 0 => exact congrArg (· + j.val) (Nat.mul_comm t.val 512)
  | 1 => exact congrArg (· + k.val) (Nat.zero_mul 256) |>.trans (Nat.zero_add _)

theorem prevK (t : Fin 16) (j : Fin 128) (k : Fin 256) : iblk m c 3 t (ix2 j k) = V m c main_v86 (ix2 ⟨128 * (4 * t.val - 1) + j.val, by omega⟩ k) := by
  unfold iblk
  generalize V m c main_v86 = x
  exact congrArg x (prev_emb t t.isLt j k)

theorem prevV (t : Fin 16) (j : Fin 128) (k : Fin 256) : iblk m c 4 t (ix2 j k) = V m c main_v89 (ix2 ⟨128 * (4 * t.val - 1) + j.val, by omega⟩ k) := by
  unfold iblk
  generalize V m c main_v89 = x
  exact congrArg x (prev_emb' t t.isLt j k)

theorem ownK (t : Fin 16) (j : Fin 512) (k : Fin 256) : iblk m c 1 t (ix2 j k) = V m c main_v86 (ix2 (tileRow t j) k) := by
  unfold iblk
  generalize V m c main_v86 = x
  exact congrArg x (own_emb t t.isLt j k)

theorem ownV (t : Fin 16) (j : Fin 512) (k : Fin 256) : iblk m c 2 t (ix2 j k) = V m c main_v89 (ix2 (tileRow t j) k) := by
  unfold iblk
  generalize V m c main_v89 = x
  exact congrArg x (own_emb' t t.isLt j k)

variable (e : Entry m c d)
include e

theorem winK (t : Fin 16) (sb : Fin 4) : IsWindow (window sb (iblk m c 3 t) (iblk m c 1 t)) fun j => d.K (winRow (blkOf t sb) j) := by
  obtain ⟨_, hk, _⟩ := e
  have h3 := prevK (m := m) (c := c) t
  have h1 := ownK (m := m) (c := c) t
  generalize V m c main_v86 = x at hk h3 h1
  exact window_real hk t sb _ _ h3 h1

theorem winV (t : Fin 16) (sb : Fin 4) : IsWindow (window sb (iblk m c 4 t) (iblk m c 2 t)) fun j => d.V (winRow (blkOf t sb) j) := by
  obtain ⟨_, _, hk, _⟩ := e
  have h3 := prevV (m := m) (c := c) t
  have h1 := ownV (m := m) (c := c) t
  generalize V m c main_v89 = x at hk h3 h1
  exact window_real hk t sb _ _ h3 h1

end Cert.Chain

end
-- ==== Proof.Arrays.lean ====
/- The arrays that the kernel leaves. -/
module

public import proofs.«01_k».proof.Proof.Windows

@[expose] public section

set_option maxRecDepth 16384

noncomputable section

namespace Cert.Chain

open Cert.KernelIdeal Cert.KernelIdeal.Gen Idealize.ShloMosaic Idealize.SL.Sem

/-- Row `i` of block `n`. -/
abbrev at128 (n : Fin 64) (i : Fin 128) : Fin 8192 := ⟨128 * n.val + i.val, by omega⟩

abbrev headOf (l : Fin 128) : Fin 2 := ⟨l.val / 64, by omega⟩

section Formulas

variable (d : Given)

/-- A row's probability of its key `j`. -/
def probG (n : Fin 64) (g : Fin 2) (h : Fin 4) (i : Fin 128) (j : Fin 256) : ℝ :=
  if band i j then d.P ⟨2 * n.val + g.val, by omega⟩ (row h i) (fold j) else 0

/-- The scores' cotangent. -/
def scoreG (n : Fin 64) (g : Fin 2) (h : Fin 4) (i : Fin 128) (j : Fin 256) : ℝ :=
  if band i j then d.P ⟨2 * n.val + g.val, by omega⟩ (row h i) (fold j)
    * (∑ k : Fin 64, d.D (at128 n i) (cell g h k) * d.V (winRow n j) g k - ∑ k : Fin 64, d.W (at128 n i) (cell g h k)) else 0

/-- What block `n` adds to the keys' gradient in row `j` of its window, -/
def keyG (n : Fin 64) (j : Fin 256) (l : Fin 128) : ℝ :=
  ∑ h : Fin 4, ∑ i : Fin 128, scoreG d n (headOf l) h i j * d.Q (at128 n i) (cell (headOf l) h (low64 l))

/-- to the values' gradient, -/
def valG (n : Fin 64) (j : Fin 256) (l : Fin 128) : ℝ :=
  ∑ h : Fin 4, ∑ i : Fin 128, probG d n (headOf l) h i j * d.D (at128 n i) (cell (headOf l) h (low64 l))

/-- and the rotated queries' gradient. -/
def turnedG (n : Fin 64) (g : Fin 2) (h : Fin 4) (i : Fin 128) (k : Fin 64) : ℝ :=
  (∑ j : Fin 256, scoreG d n g h i j * d.K (winRow n j) g k) * (1 / 8)

/-- The queries' gradient before the rotation: the lane, and the lanes eight to either side. -/
def queryG (n : Fin 64) (i : Fin 128) (g pp : Fin 2) (l : Fin 128) : ℝ :=
  let t : Fin 128 → ℝ := fun l => turnedG d n g ⟨2 * pp.val + l.val / 64, by omega⟩ i (low64 l)
  t l * d.C (at128 n i) l + t ⟨(l.val + 8) % 128, by omega⟩ * (0 - d.A (at128 n i) l) + t ⟨(l.val + 120) % 128, by omega⟩ * (0 - d.B (at128 n i) l)

def queryOut (r : Fin 8192) (k : Fin 512) : ℝ :=
  queryG d ⟨r.val / 128, by omega⟩ ⟨r.val % 128, by omega⟩ ⟨k.val / 256, by omega⟩ ⟨k.val % 256 / 128, by omega⟩ ⟨k.val % 128, by omega⟩

/-- A tile's own part of a gradient of keys or values, and the part it leaves for the tile before. -/
def ownOut (f : Fin 64 → Fin 256 → Fin 128 → ℝ) (r : Fin 8192) (l : Fin 128) : ℝ :=
  f ⟨r.val / 128, by omega⟩ ⟨128 + r.val % 128, by omega⟩ l
    + (if hs : r.val / 128 % 4 + 1 < 4 then f ⟨r.val / 128 + 1, by omega⟩ ⟨r.val % 128, by omega⟩ l else 0)

def haloOut (f : Fin 64 → Fin 256 → Fin 128 → ℝ) (t : Fin 16) (i l : Fin 128) : ℝ := f ⟨4 * t.val, by omega⟩ ⟨i.val, by omega⟩ l

end Formulas

variable {m : (ℓ : Loc nD τ sig) → Buf (Elt Ideal) ℓ} {c : Dev nD} {d : Given} (e : Entry m c d)

theorem slab_eq (t : Fin 16) (sb : Fin 4) (g : Fin 2) (h1 : 8 * t.val + (2 * sb.val + g.val) < 128) (h2 : 2 * (blkOf t sb).val + g.val < 128) :
    (⟨8 * t.val + (2 * sb.val + g.val), h1⟩ : Fin 128) = ⟨2 * (blkOf t sb).val + g.val, h2⟩ := Fin.ext (by simp only; omega)

theorem row_eq (t : Fin 16) (sb : Fin 4) (i : Fin 128) : tileRow t (at4 sb i) = at128 (blkOf t sb) i := Fin.ext (by simp only; omega)

theorem dsR_eq (t : Fin 16) (sb : Fin 4) (g : Fin 2) (h : Fin 4) (i : Fin 128) (j : Fin 256) :
    dsR (fun r j => d.P ⟨8 * t.val + (2 * sb.val + g.val), by omega⟩ r j) (fun r j => d.D (tileRow t r) j) (fun r j => d.W (tileRow t r) j)
      (fun j => d.V (winRow (blkOf t sb) j)) sb g h i j = scoreG d (blkOf t sb) g h i j := by
  unfold dsR scoreG
  simp only [row_eq]
  rw [slab_eq t sb g (by omega) (by simp only; omega)]

theorem probR_eq (t : Fin 16) (sb : Fin 4) (g : Fin 2) (h : Fin 4) (i : Fin 128) (j : Fin 256) :
    probR (fun r j => d.P ⟨8 * t.val + (2 * sb.val + g.val), by omega⟩ r j) h i j = probG d (blkOf t sb) g h i j := by
  unfold probR probG
  rw [slab_eq t sb g (by omega) (by simp only; omega)]

include e

theorem key_tile (t : Fin 16) (sb : Fin 4) (j : Fin 256) (l : Fin 128) :
    both (fun g => DK sb g (iblk m c 0 t) (iblk m c 2 t) (iblk m c 4 t) (iblk m c 5 t) (iblk m c 6 t) (iblk m c 7 t)) (ix2 j l)
      = ((keyG d (blkOf t sb) j l : ℝ) : EReal) := by
  rw [both_at, DK_real (blkQ e t) (fun r j => blkP e t _ r j) (blkD e t) (blkW e t) (winV e t sb)]
  exact congrArg _ (Finset.sum_congr rfl fun h _ => Finset.sum_congr rfl fun i _ =>
    congrArg₂ (· * ·) (dsR_eq t sb _ h i j) (congrArg (fun r => d.Q r _) (row_eq t sb i)))

theorem val_tile (t : Fin 16) (sb : Fin 4) (j : Fin 256) (l : Fin 128) :
    both (fun g => DV sb g (iblk m c 5 t) (iblk m c 6 t)) (ix2 j l) = ((valG d (blkOf t sb) j l : ℝ) : EReal) := by
  rw [both_at, DV_real (fun r j => blkP e t _ r j) (blkD e t)]
  exact congrArg _ (Finset.sum_congr rfl fun h _ => Finset.sum_congr rfl fun i _ =>
    congrArg₂ (· * ·) (probR_eq t sb _ h i j) (congrArg (fun r => d.D r _) (row_eq t sb i)))

omit e in
theorem ld_lane {X : Fin 512 → Fin 128 → ℝ} {x : S512x128.Idx → EReal} (h : IsReal2 x X) (sb : Fin 4) (i l : Fin 128) :
    View.ld (Val := Elt Ideal) (e' := .f32) x (laneRect sb) (ix2 i l) = ((X (at4 sb i) l : ℝ) : EReal) := by
  refine Eq.trans ?_ (h _ _)
  pointwise

theorem query_tile (t : Fin 16) (sb : Fin 4) (g pp : Fin 2) (i l : Fin 128) :
    DQ sb g pp (iblk m c 1 t) (iblk m c 2 t) (iblk m c 3 t) (iblk m c 4 t) (iblk m c 5 t) (iblk m c 6 t) (iblk m c 7 t) (iblk m c 8 t) (iblk m c 9 t) (iblk m c 10 t) (ix2 i l)
      = ((queryG d (blkOf t sb) i g pp l : ℝ) : EReal) := by
  have key : ∀ l : Fin 128, unstack pp (dqry (DS sb g (iblk m c 2 t) (iblk m c 4 t) (iblk m c 5 t) (iblk m c 6 t) (iblk m c 7 t)) (keyHead g (window sb (iblk m c 3 t) (iblk m c 1 t)))) (ix2 i l)
      = ((turnedG d (blkOf t sb) g ⟨2 * pp.val + l.val / 64, by omega⟩ i (low64 l) : ℝ) : EReal) := fun l => by
    rw [dqs_real (fun r j => blkP e t _ r j) (blkD e t) (blkW e t) (winV e t sb) (winK e t sb)]
    exact congrArg (fun x : ℝ => ((x * (1 / 8) : ℝ) : EReal)) (Finset.sum_congr rfl fun j _ =>
      congrArg (· * d.K (winRow (blkOf t sb) j) g (low64 l)) (dsR_eq t sb g _ i j))
  unfold DQ
  rw [unrope_at, key, key, key, ld_lane (blkC e t), ld_lane (blkA e t), ld_lane (blkB e t)]
  unfold queryG
  simp only [row_eq, EReal.coe_add, EReal.coe_mul, EReal.coe_sub, EReal.coe_zero]

end Cert.Chain

end
-- ==== Proof.Model.lean ====
/- The computation over the reals. -/
module

public import proofs.«01_k».proof.Proof.Arrays

@[expose] public section

set_option maxRecDepth 16384

noncomputable section

namespace Cert.Chain

/-- The arguments as reals. -/
structure Args where
  q : Fin 8192 → Fin 8 → Fin 64 → ℝ
  k : Fin 8192 → Fin 2 → Fin 64 → ℝ
  s : Fin 8 → ℝ
  v : Fin 8192 → Fin 2 → Fin 64 → ℝ
  ct : Fin 8192 → Fin 512 → ℝ

/-- The angle of row `r` at frequency `f`. -/
def angle (r : Fin 8192) (f : Fin 8) : ℝ := (r.val : ℝ) * (500000 : ℝ) ^ ((f.val : ℝ) * (-1 / 8))

abbrev headAt (g : Fin 2) (h : Fin 4) : Fin 8 := ⟨4 * g.val + h.val, by omega⟩

variable (a : Args)

/-- The rotated queries. -/
def roped (r : Fin 8192) (h : Fin 8) (k : Fin 64) : ℝ :=
  if h1 : k.val < 8 then a.q r h k * Real.cos (angle r ⟨k.val, h1⟩) - a.q r h ⟨k.val + 8, by omega⟩ * Real.sin (angle r ⟨k.val, h1⟩)
  else if h2 : k.val < 16 then
    a.q r h k * Real.cos (angle r ⟨k.val - 8, by omega⟩) + a.q r h ⟨k.val - 8, by omega⟩ * Real.sin (angle r ⟨k.val - 8, by omega⟩)
  else a.q r h k

/-- Keys or values in the window of block `n`: the block before, zeros before the first, then its own. -/
def keyWin (x : Fin 8192 → Fin 2 → Fin 64 → ℝ) (n : Fin 64) (j : Fin 256) (g : Fin 2) (k : Fin 64) : ℝ :=
  if h : 128 ≤ 128 * n.val + j.val then x ⟨128 * n.val + j.val - 128, by omega⟩ g k else 0

/-- Row `i` of block `n` sees key `j` of its window. -/
abbrev Sees (n : Fin 64) (i : Fin 128) (j : Fin 256) : Prop := (i.val < j.val ∧ j.val ≤ i.val + 128) ∧ 128 ≤ 128 * n.val + j.val

def score (n : Fin 64) (g : Fin 2) (h : Fin 4) (i : Fin 128) (j : Fin 256) : ℝ :=
  ∑ k : Fin 64, keyWin a.k n j g k * (roped a (at128 n i) (headAt g h) k * (1 / 8))

def weight (n : Fin 64) (g : Fin 2) (h : Fin 4) (i : Fin 128) (j : Fin 256) : ℝ :=
  if Sees n i j then Real.exp (score a n g h i j) else 0

def denom (n : Fin 64) (g : Fin 2) (h : Fin 4) (i : Fin 128) : ℝ := ∑ j : Fin 256, weight a n g h i j + Real.exp (a.s (headAt g h))

/-- The attention's probabilities, -/
def prob (n : Fin 64) (g : Fin 2) (h : Fin 4) (i : Fin 128) (j : Fin 256) : ℝ := weight a n g h i j / denom a n g h i

/-- and its output. -/
def attended (n : Fin 64) (g : Fin 2) (h : Fin 4) (i : Fin 128) (k : Fin 64) : ℝ := ∑ j : Fin 256, keyWin a.v n j g k * prob a n g h i j

end Cert.Chain

end
-- ==== Proof.Words.lean ====
/- The masks' index words. -/
module

public import proofs.«01_k».proof.Proof.Model

@[expose] public section

namespace Cert.Chain

open Idealize.ShloMosaic

theorem toInt_word {n : ℕ} (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

theorem add_word (a b : ℕ) : IntOp.addi (BitVec.ofNat 32 a) (BitVec.ofNat 32 b) = BitVec.ofNat 32 (a + b) := (BitVec.ofNat_add a b).symm

theorem mul_word (a b : ℕ) : IntOp.muli (BitVec.ofNat 32 a) (BitVec.ofNat 32 b) = BitVec.ofNat 32 (a * b) := (BitVec.ofNat_mul a b).symm

theorem sub_word {a b : ℕ} (ha : a < 2 ^ 30) (hb : b < 2 ^ 30) : (IntOp.subi (BitVec.ofNat 32 a) (BitVec.ofNat 32 b)).toInt = (a : ℤ) - b := by
  show (BitVec.ofNat 32 a - BitVec.ofNat 32 b).toInt = _
  rw [BitVec.toInt_sub, toInt_word (by omega), toInt_word (by omega)]
  exact Int.bmod_eq_of_le (by omega) (by omega)

theorem sgt_word (x y : BitVec 32) : IntOp.cmpi .sgt x y = BitVec.ofBool (decide (y.toInt < x.toInt)) := rfl
theorem sle_word (x y : BitVec 32) : IntOp.cmpi .sle x y = BitVec.ofBool (decide (x.toInt ≤ y.toInt)) := rfl
theorem sge_word (x y : BitVec 32) : IntOp.cmpi .sge x y = BitVec.ofBool (decide (y.toInt ≤ x.toInt)) := rfl
theorem slt_word (x y : BitVec 32) : IntOp.cmpi .slt x y = BitVec.ofBool (decide (x.toInt < y.toInt)) := rfl
theorem and_word (p q : Bool) : IntOp.andi (BitVec.ofBool p) (BitVec.ofBool q) = BitVec.ofBool (p && q) := by cases p <;> cases q <;> rfl
theorem select_word {α : Type} (p : Bool) (x y : α) : Scalar.select (BitVec.ofBool p) x y = if p then x else y := by cases p <;> rfl

theorem sees_word (n : Fin 64) (i : Fin 128) (j : Fin 256) :
    IntOp.andi (IntOp.andi (IntOp.cmpi .sgt (BitVec.ofNat 32 j.val) (BitVec.ofNat 32 i.val))
        (IntOp.cmpi .sle (BitVec.ofNat 32 j.val) (IntOp.addi (BitVec.ofNat 32 i.val) 128#32)))
      (IntOp.cmpi .sge (IntOp.addi (IntOp.muli (BitVec.ofNat 32 n.val) 128#32) (BitVec.ofNat 32 j.val)) 128#32)
      = BitVec.ofBool (decide (Sees n i j)) := by
  rw [mul_word, add_word, add_word, sgt_word, sle_word, sge_word, and_word, and_word, toInt_word (by omega), toInt_word (by omega), toInt_word (by omega),
    toInt_word (by omega), toInt_word (by omega)]
  congr 1
  unfold Sees
  rw [← Bool.decide_and, ← Bool.decide_and]
  exact decide_eq_decide.2 (by omega)

theorem sees_word' (n : Fin 64) (i : Fin 128) (j : Fin 256) (d : BitVec 32) (hd : d.toInt = ((i.val + 128 : ℕ) : ℤ) - (j.val : ℕ)) (e : BitVec 32)
    (he : e.toInt = ((n.val * 128 + j.val : ℕ) : ℤ) - (128 : ℕ)) :
    IntOp.andi (IntOp.andi (IntOp.cmpi .sge d 0#32) (IntOp.cmpi .slt d 128#32)) (IntOp.cmpi .sge e 0#32) = BitVec.ofBool (decide (Sees n i j)) := by
  rw [sge_word, slt_word, sge_word, and_word, and_word, hd, he, show (0#32 : BitVec 32).toInt = 0 from rfl, show (128#32 : BitVec 32).toInt = 128 from rfl]
  congr 1
  unfold Sees
  rw [← Bool.decide_and, ← Bool.decide_and]
  exact decide_eq_decide.2 (by omega)

end Cert.Chain

end
-- ==== Proof.HostQ.lean ====
/- The host's rotation tables and rotated queries. -/
module

public import proofs.«01_k».proof.Proof.Words
public import Idealize.ShloMosaic.Lib.StableHlo.ReadAt
public import Idealize.ShloMosaic.Lib.Claim

@[expose] public section

set_option maxRecDepth 16384

noncomputable section

namespace Cert.Chain

open Cert.KernelIdeal Cert.KernelIdeal.Gen Idealize.ShloMosaic Idealize.SL.Sem

theorem sitofp_nat {n : ℕ} (h : n < 2 ^ 31) : (FloatOps.sitofp FTy.f32 (BitVec.ofNat 32 n) : Ideal .f32) = (((n : ℝ) : ℝ) : EReal) := by
  show (((BitVec.ofNat 32 n).toInt : ℝ) : EReal) = _
  rw [toInt_word h, Int.cast_natCast]

theorem neg_eighth : Ideal.ofBits .f32 0xBE000000#32 = ((-1 / 8 : ℝ) : EReal) := by
  simp [Ideal.ofBits, Ideal.ieee, -EReal.coe_mul]; norm_num

theorem rope_base : Ideal.ofBits .f32 0x48F42400#32 = ((500000 : ℝ) : EReal) := by
  simp [Ideal.ofBits, Ideal.ieee, -EReal.coe_mul]; norm_num

theorem minus_inf : Ideal.ofBits .f32 0xFF800000#32 = (⊥ : EReal) := by
  simp [Ideal.ofBits, Ideal.ieee]

theorem angle_at (r : Fin 8192) (f : Fin 8) :
    ((FloatOps.sitofp FTy.f32 (BitVec.ofNat 32 r.val) : Ideal .f32) : EReal)
      * Ideal.pow (Ideal.ofBits FTy.f32 0x48F42400#32) (((FloatOps.sitofp FTy.f32 (BitVec.ofNat 32 f.val) : Ideal .f32) : EReal) * Ideal.ofBits FTy.f32 0xBE000000#32)
      = ((angle r f : ℝ) : EReal) := by
  rw [sitofp_nat (by omega), sitofp_nat (by omega), rope_base, neg_eighth, ← EReal.coe_mul]
  show _ * (((500000 : ℝ) ^ ((f.val : ℝ) * (-1 / 8)) : ℝ) : EReal) = _
  rw [← EReal.coe_mul]
  rfl

variable (W : Valuation τ sig (Elt Ideal)) (a : Args)

abbrev seg0 : List (HloOp τ sig (Elt Ideal)) := hostOps0.take 12
abbrev seg1 : List (HloOp τ sig (Elt Ideal)) := (hostOps0.drop 12).take 16

/-- The arguments are those reals. -/
structure Given0 : Prop where
  q : ∀ r h k, W (Proc.devRef .tc main_arg0) (ix4 0 r h k) = ((a.q r h k : ℝ) : EReal)
  k : ∀ r g k, W (Proc.devRef .tc main_arg1) (ix4 0 r g k) = ((a.k r g k : ℝ) : EReal)
  s : ∀ h, W (Proc.devRef .tc main_arg2) (ix1 h) = ((a.s h : ℝ) : EReal)
  v : ∀ r g k, W (Proc.devRef .tc main_arg3) (ix4 0 r g k) = ((a.v r g k : ℝ) : EReal)
  ct : ∀ r c, W (Proc.devRef .tc main_arg4) (ix3 0 r c) = ((a.ct r c : ℝ) : EReal)

structure Given1 : Prop extends Given0 W a where
  cos : ∀ r f, W (Proc.devRef .tc main_v8) (ix2 r f) = ((Real.cos (angle r f) : ℝ) : EReal)
  sin : ∀ r f, W (Proc.devRef .tc main_v9) (ix2 r f) = ((Real.sin (angle r f) : ℝ) : EReal)

structure Given2 : Prop extends Given1 W a where
  rq : ∀ r h k, W (Proc.devRef .tc main_v23) (ix4 0 r h k) = ((roped a r h k * (1 / 8) : ℝ) : EReal)
  rqb : ∀ n i g h k, W (Proc.devRef .tc main_v24) (ix6 0 n i g h k) = ((roped a (at128 n i) (headAt g h) k * (1 / 8) : ℝ) : EReal)

variable {W a}

theorem given1 (e : Given0 W a) : Given1 (StableHlo.after seg0 W) a := by
  simp only [seg0, hostOps0, List.take]
  refine ⟨⟨?_, ?_, ?_, ?_, ?_⟩, fun r f => ?_, fun r f => ?_⟩
  · after_reads_simp; exact e.q
  · after_reads_simp; exact e.k
  · after_reads_simp; exact e.s
  · after_reads_simp; exact e.v
  · after_reads_simp; exact e.ct
  · after_reads_at
    rw [angle_at]; rfl
  · after_reads_at
    rw [angle_at]; rfl

set_option maxHeartbeats 1600000 in
theorem roped_at (e : Given1 W a) (r : Fin 8192) (h : Fin 8) (k : Fin 64) :
    StableHlo.after seg1 W (Proc.devRef .tc main_v23) (ix4 0 r h k) = ((roped a r h k * (1 / 8) : ℝ) : EReal) := by
  simp only [seg1, hostOps0, List.take, List.drop]
  after_reads_simp
  pointwise
  after_reads_simp
  pointwise
  rw [eighth, EReal.coe_mul]
  refine congrArg (· * (((1 / 8 : ℝ) : ℝ) : EReal)) ?_
  have hk := k.isLt
  have hq := e.q
  have hc := e.cos
  have hs := e.sin
  clear e
  generalize W (Proc.devRef .tc main_arg0) = x at hq ⊢
  generalize W (Proc.devRef .tc main_v8) = x at hc ⊢
  generalize W (Proc.devRef .tc main_v9) = x at hs ⊢
  unfold roped
  by_cases h1 : k.val < 8
  · rw [dif_pos h1, dif_pos h1, hq, hq, hc, hs, EReal.coe_sub, EReal.coe_mul, EReal.coe_mul]
    have h4 : (⟨8 + k.val, by omega⟩ : Fin 64) = ⟨k.val + 8, by omega⟩ := Fin.ext (Nat.add_comm _ _)
    rw [h4]
  · rw [dif_neg h1, dif_neg h1]
    by_cases h2 : k.val - 8 < 8
    · have h3 : k.val < 16 := by omega
      have h4 : (⟨8 + (k.val - 8), by omega⟩ : Fin 64) = k := Fin.ext (by simp only; omega)
      rw [dif_pos h2, dif_pos h3, hq, hq, hc, hs, EReal.coe_add, EReal.coe_mul, EReal.coe_mul]
      rw [h4]
    · have h3 : ¬ k.val < 16 := by omega
      have h4 : (⟨16 + (k.val - 8 - 8), by omega⟩ : Fin 64) = k := Fin.ext (by simp only; omega)
      rw [dif_neg h2, dif_neg h3, hq]
      rw [h4]

set_option maxHeartbeats 1600000 in
theorem given2 (e : Given1 W a) : Given2 (StableHlo.after seg1 W) a := by
  have hq := roped_at e
  refine ⟨⟨⟨?_, ?_, ?_, ?_, ?_⟩, ?_, ?_⟩, hq, fun n i g h k => ?_⟩
  · simp only [seg1, hostOps0, List.take, List.drop]; after_reads_simp; exact e.q
  · simp only [seg1, hostOps0, List.take, List.drop]; after_reads_simp; exact e.k
  · simp only [seg1, hostOps0, List.take, List.drop]; after_reads_simp; exact e.s
  · simp only [seg1, hostOps0, List.take, List.drop]; after_reads_simp; exact e.v
  · simp only [seg1, hostOps0, List.take, List.drop]; after_reads_simp; exact e.ct
  · simp only [seg1, hostOps0, List.take, List.drop]; after_reads_simp; exact e.cos
  · simp only [seg1, hostOps0, List.take, List.drop]; after_reads_simp; exact e.sin
  · have hs : StableHlo.after seg1 W (Proc.devRef .tc main_v24)
        = shapeCast S1x64x128x2x4x64 (StableHlo.after seg1 W (Proc.devRef .tc main_v23)) shapeCasts_S1x8192x8x64_S1x64x128x2x4x64 := by
      simp only [seg1, hostOps0, List.take, List.drop]; after_reads_simp
      try rfl
    rw [hs]
    generalize StableHlo.after seg1 W (Proc.devRef .tc main_v23) = x at hq ⊢
    pointwise
    have e1 : (⟨n.val * 128 + i.val, by omega⟩ : Fin 8192) = at128 n i := Fin.ext (by simp only; omega)
    have e2 : (⟨g.val * 4 + h.val, by omega⟩ : Fin 8) = headAt g h := Fin.ext (by simp only; omega)
    rw [hq, e1, e2]

end Cert.Chain

end
-- ==== Proof.Folds.lean ====
/- Sums and maxima along the last axis of the scores. -/
module

public import proofs.«01_k».proof.Proof.Reals
public import Idealize.ShloMosaic.Lib.Pointwise
public import Idealize.ShloMosaic.PureOps.Ideal.Laws

@[expose] public section

set_option maxRecDepth 16384

noncomputable section

namespace Cert.Chain

open Idealize.ShloMosaic

abbrev Scores : Shape := ⟨6, ![1, 64, 2, 4, 128, 256]⟩
abbrev Rows : Shape := ⟨5, ![1, 64, 2, 4, 128]⟩

theorem along : Scores.Reduces [5] Rows := by decide

theorem lift_at (n : Fin 64) (g : Fin 2) (h : Fin 4) (i : Fin 128) (k : Fin 256) : along.lift (ix5 0 n g h i) k = ix6 0 n g h i k := by
  funext b
  match b with
  | 0 => rfl
  | 1 => rfl
  | 2 => rfl
  | 3 => rfl
  | 4 => rfl
  | 5 => rfl

theorem sum_last {φ : FTy} (h' : Scores.ReducesTo [5] Rows) (x : FVec Ideal Scores φ) (z : EReal) (n : Fin 64) (g : Fin 2) (h : Fin 4) (i : Fin 128) :
    Ideal.hostReduceAdd h' x z (ix5 0 n g h i) = z + ∑ k : Fin 256, x (ix6 0 n g h i k) := by
  rw [Ideal.hostReduceAdd_single h' along]
  exact congrArg (z + ·) (Finset.sum_congr rfl fun k _ => congrArg x (lift_at n g h i k))

theorem max_last {u : Shape} (h' : Scores.ReducesTo [5] Rows) (x : Scores.Idx → EReal) (z : u.Idx → EReal) (hu : 0 < u.numel) (n : Fin 64) (g : Fin 2) (h : Fin 4) (i : Fin 128) :
    Host.reduce (max : EReal → EReal → EReal) x z h' hu (ix5 0 n g h i) = (Finset.univ : Finset (Fin 256)).fold max (z (Shape.Idx.first hu)) fun k => x (ix6 0 n g h i k) := by
  rw [Host.reduce_eq_fold_single max x z h' along]
  exact Finset.fold_congr fun k _ => congrArg x (lift_at n g h i k)

abbrev Column : Shape := ⟨6, ![1, 64, 2, 4, 128, 1]⟩
abbrev Heads : Shape := ⟨4, ![64, 2, 4, 128]⟩

/-- A sum along two axes of one element. -/
theorem sum_unit {φ : FTy} (h' : Column.ReducesTo [0, 5] Heads) (x : FVec Ideal Column φ) (z : EReal) (n : Fin 64) (g : Fin 2) (h : Fin 4) (i : Fin 128) :
    Ideal.hostReduceAdd h' x z (ix4 n g h i) = z + x (ix6 0 n g h i 0) := by
  refine congrArg (z + ·) (Finset.sum_eq_single (ix6 0 n g h i 0) (fun b hb hne => absurd ?_ hne) fun hb => absurd (Finset.mem_filter.2 ⟨Finset.mem_univ _, ?_⟩) hb)
  · have hd := (Finset.mem_filter.1 hb).2
    funext k
    match k with
    | 0 => exact Subsingleton.elim (α := Fin 1) _ _
    | 1 => exact Fin.ext (congrArg Fin.val (congrFun hd 0))
    | 2 => exact Fin.ext (congrArg Fin.val (congrFun hd 1))
    | 3 => exact Fin.ext (congrArg Fin.val (congrFun hd 2))
    | 4 => exact Fin.ext (congrArg Fin.val (congrFun hd 3))
    | 5 => exact Subsingleton.elim (α := Fin 1) _ _
  · funext k
    match k with
    | 0 => rfl
    | 1 => rfl
    | 2 => rfl
    | 3 => rfl

/-- A maximum of values below infinity is below infinity, -/
theorem fold_lt_top {ι : Type} (s : Finset ι) (f : ι → EReal) (h : ∀ j ∈ s, f j < ⊤) : s.fold max ⊥ f < ⊤ := by
  classical
  induction s using Finset.induction_on with
  | empty => exact bot_lt_top
  | insert a s ha ih =>
    rw [Finset.fold_insert ha]
    exact max_lt (h a (Finset.mem_insert_self a s)) (ih fun j hj => h j (Finset.mem_insert_of_mem hj))

/-- and above each of them. -/
theorem le_fold {ι : Type} (s : Finset ι) (f : ι → EReal) (j : ι) (hj : j ∈ s) : f j ≤ s.fold max ⊥ f := by
  classical
  induction s using Finset.induction_on with
  | empty => exact absurd hj (Finset.notMem_empty j)
  | insert a s ha ih =>
    rw [Finset.fold_insert ha]
    rcases Finset.mem_insert.1 hj with rfl | h
    · exact le_max_left _ _
    · exact (ih h).trans (le_max_right _ _)

/-- It is one of them, unless there is none above its start. -/
theorem fold_mem {ι : Type} (s : Finset ι) (f : ι → EReal) : s.fold max ⊥ f = ⊥ ∨ ∃ j ∈ s, f j = s.fold max ⊥ f := by
  classical
  induction s using Finset.induction_on with
  | empty => exact Or.inl rfl
  | insert a s ha ih =>
    rw [Finset.fold_insert ha]
    rcases le_total (f a) (s.fold max ⊥ f) with h | h
    · rw [max_eq_right h]
      exact ih.imp id fun ⟨j, hj, e⟩ => ⟨j, Finset.mem_insert_of_mem hj, e⟩
    · rw [max_eq_left h]
      exact Or.inr ⟨a, Finset.mem_insert_self a s, rfl⟩

theorem max_real (x : EReal) (hx : x < ⊤) (s : ℝ) : ∃ M : ℝ, max x (s : EReal) = (M : EReal) :=
  ⟨(max x s).toReal, (EReal.coe_toReal (max_lt hx (EReal.coe_lt_top s)).ne ((EReal.bot_lt_coe s).trans_le (le_max_right _ _)).ne').symm⟩

end Cert.Chain

end
-- ==== Proof.Soft.lean ====
/- The softmax shifted by any real is the softmax. -/
module

public import proofs.«01_k».proof.Proof.Words
public import proofs.«01_k».proof.Proof.Folds

@[expose] public section

noncomputable section

namespace Cert.Chain

open Idealize.ShloMosaic

variable (a : Args) (n : Fin 64) (g : Fin 2) (h : Fin 4) (i : Fin 128)

/-- A masked score. -/
def masked (j : Fin 256) : EReal := if Sees n i j then ((score a n g h i j : ℝ) : EReal) else ⊥

theorem masked_lt (j : Fin 256) : masked a n g h i j < ⊤ := by
  unfold masked
  split_ifs
  · exact EReal.coe_lt_top _
  · exact bot_lt_top

/-- The shift the programs take: the largest score or the sink. -/
def shift : ℝ := (max ((Finset.univ : Finset (Fin 256)).fold max ⊥ (masked a n g h i)) ((a.s (headAt g h) : ℝ) : EReal)).toReal

theorem shift_eq : max ((Finset.univ : Finset (Fin 256)).fold max ⊥ (masked a n g h i)) ((a.s (headAt g h) : ℝ) : EReal) = ((shift a n g h i : ℝ) : EReal) := by
  obtain ⟨M, hM⟩ := max_real _ (fold_lt_top Finset.univ _ fun j _ => masked_lt a n g h i j) (a.s (headAt g h))
  unfold shift
  rw [hM, EReal.toReal_coe]

variable (M : ℝ)

/-- A weight after the shift by `M`, -/
def weightAt (j : Fin 256) : ℝ := if Sees n i j then Real.exp (score a n g h i j - M) else 0

/-- and their sum with the sink's. -/
def denomAt : ℝ := ∑ j : Fin 256, weightAt a n g h i M j + Real.exp (a.s (headAt g h) - M)

theorem exp_masked (j : Fin 256) : Ideal.exp (masked a n g h i j - (M : EReal)) = ((weightAt a n g h i M j : ℝ) : EReal) := by
  unfold masked weightAt
  split_ifs
  · rw [← EReal.coe_sub]; rfl
  · rw [EReal.bot_sub]; rfl

theorem weightAt_eq (j : Fin 256) : weightAt a n g h i M j = weight a n g h i j * Real.exp (-M) := by
  unfold weightAt weight
  split_ifs
  · rw [← Real.exp_add, sub_eq_add_neg]
  · rw [zero_mul]

theorem denomAt_eq : denomAt a n g h i M = denom a n g h i * Real.exp (-M) := by
  unfold denomAt denom
  rw [add_mul, Finset.sum_mul, ← Real.exp_add, sub_eq_add_neg]
  exact congrArg (· + _) (Finset.sum_congr rfl fun j _ => weightAt_eq a n g h i M j)

theorem denom_pos : 0 < denom a n g h i :=
  add_pos_of_nonneg_of_pos (Finset.sum_nonneg fun j _ => by unfold weight; split_ifs; exacts [(Real.exp_pos _).le, le_rfl]) (Real.exp_pos _)

theorem denomAt_pos : 0 < denomAt a n g h i M := by
  rw [denomAt_eq]; exact mul_pos (denom_pos a n g h i) (Real.exp_pos _)

theorem prob_eq (j : Fin 256) : weightAt a n g h i M j / denomAt a n g h i M = prob a n g h i j := by
  rw [weightAt_eq, denomAt_eq, mul_div_mul_right _ _ (Real.exp_pos _).ne']
  rfl

end Cert.Chain

end
-- ==== Proof.HostP.lean ====
/- The host's probabilities and output. -/
module

public import proofs.«01_k».proof.Proof.HostQ
public import proofs.«01_k».proof.Proof.Soft

@[expose] public section

set_option maxRecDepth 16384

noncomputable section

namespace Cert.Chain

open Cert.KernelIdeal Cert.KernelIdeal.Gen Idealize.ShloMosaic Idealize.SL.Sem

variable (W : Valuation τ sig (Elt Ideal)) (a : Args)

abbrev seg2 : List (HloOp τ sig (Elt Ideal)) := (hostOps0.drop 28).take 10
abbrev seg3 : List (HloOp τ sig (Elt Ideal)) := (hostOps0.drop 38).take 19
abbrev seg4 : List (HloOp τ sig (Elt Ideal)) := (hostOps0.drop 57).take 5
abbrev seg5 : List (HloOp τ sig (Elt Ideal)) := (hostOps0.drop 62).take 10
abbrev seg6 : List (HloOp τ sig (Elt Ideal)) := (hostOps0.drop 72).take 7

theorem keyWin_at (X : Fin 8192 → Fin 2 → Fin 64 → EReal) (x : Fin 8192 → Fin 2 → Fin 64 → ℝ) (hX : ∀ r g k, X r g k = ((x r g k : ℝ) : EReal))
    (n : Fin 64) (j : Fin 256) (g : Fin 2) (k : Fin 64) :
    (if h : j.val < 128 then if h' : n.val < 1 then (0 : EReal) else X ⟨(n.val - 1) * 128 + j.val, by omega⟩ g k
      else X ⟨n.val * 128 + (j.val - 128), by omega⟩ g k) = ((keyWin x n j g k : ℝ) : EReal) := by
  unfold keyWin
  by_cases h : j.val < 128
  · rw [dif_pos h]
    by_cases h' : n.val < 1
    · rw [dif_pos h', dif_neg (by omega)]; rfl
    · rw [dif_neg h', dif_pos (by omega), hX]
      have e : (⟨(n.val - 1) * 128 + j.val, by omega⟩ : Fin 8192) = ⟨128 * n.val + j.val - 128, by omega⟩ := Fin.ext (by simp only; omega)
      rw [e]
  · rw [dif_neg h, dif_pos (by omega), hX]
    have e : (⟨n.val * 128 + (j.val - 128), by omega⟩ : Fin 8192) = ⟨128 * n.val + j.val - 128, by omega⟩ := Fin.ext (by simp only; omega)
    rw [e]

structure Given3 : Prop extends Given2 W a where
  kk : ∀ n j g k, W (Proc.devRef .tc main_v30) (ix5 0 n j g k) = ((keyWin a.k n j g k : ℝ) : EReal)
  vv : ∀ n j g k, W (Proc.devRef .tc main_v33) (ix5 0 n j g k) = ((keyWin a.v n j g k : ℝ) : EReal)

/-- What the later lines need of the earlier. -/
structure Kept : Prop extends Given1 W a where
  rq : ∀ r h k, W (Proc.devRef .tc main_v23) (ix4 0 r h k) = ((roped a r h k * (1 / 8) : ℝ) : EReal)
  vv : ∀ n j g k, W (Proc.devRef .tc main_v33) (ix5 0 n j g k) = ((keyWin a.v n j g k : ℝ) : EReal)

variable {W a}

set_option maxHeartbeats 1600000 in
theorem given3 (e : Given2 W a) : Given3 (StableHlo.after seg2 W) a := by
  simp only [seg2, hostOps0, List.take, List.drop]
  refine ⟨⟨⟨⟨?_, ?_, ?_, ?_, ?_⟩, ?_, ?_⟩, ?_, ?_⟩, fun n j g k => ?_, fun n j g k => ?_⟩
  · after_reads_simp; exact e.q
  · after_reads_simp; exact e.k
  · after_reads_simp; exact e.s
  · after_reads_simp; exact e.v
  · after_reads_simp; exact e.ct
  · after_reads_simp; exact e.cos
  · after_reads_simp; exact e.sin
  · after_reads_simp; exact e.rq
  · after_reads_simp; exact e.rqb
  · after_reads_simp
    pointwise
    after_reads_simp
    pointwise
    exact keyWin_at (fun r g k => W (Proc.devRef .tc main_arg1) (ix4 0 r g k)) a.k e.k n j g k
  · after_reads_simp
    pointwise
    after_reads_simp
    pointwise
    exact keyWin_at (fun r g k => W (Proc.devRef .tc main_arg3) (ix4 0 r g k)) a.v e.v n j g k

theorem kept {ops : List (HloOp τ sig (Elt Ideal))} (e : Kept W a) (h0 : StableHlo.after ops W (Proc.devRef .tc main_arg0) = W (Proc.devRef .tc main_arg0))
    (h1 : StableHlo.after ops W (Proc.devRef .tc main_arg1) = W (Proc.devRef .tc main_arg1))
    (h2 : StableHlo.after ops W (Proc.devRef .tc main_arg2) = W (Proc.devRef .tc main_arg2))
    (h3 : StableHlo.after ops W (Proc.devRef .tc main_arg3) = W (Proc.devRef .tc main_arg3))
    (h4 : StableHlo.after ops W (Proc.devRef .tc main_arg4) = W (Proc.devRef .tc main_arg4))
    (h5 : StableHlo.after ops W (Proc.devRef .tc main_v8) = W (Proc.devRef .tc main_v8))
    (h6 : StableHlo.after ops W (Proc.devRef .tc main_v9) = W (Proc.devRef .tc main_v9))
    (h7 : StableHlo.after ops W (Proc.devRef .tc main_v23) = W (Proc.devRef .tc main_v23))
    (h8 : StableHlo.after ops W (Proc.devRef .tc main_v33) = W (Proc.devRef .tc main_v33)) : Kept (StableHlo.after ops W) a := by
  refine ⟨⟨⟨?_, ?_, ?_, ?_, ?_⟩, ?_, ?_⟩, ?_, ?_⟩
  · rw [h0]; exact e.q
  · rw [h1]; exact e.k
  · rw [h2]; exact e.s
  · rw [h3]; exact e.v
  · rw [h4]; exact e.ct
  · rw [h5]; exact e.cos
  · rw [h6]; exact e.sin
  · rw [h7]; exact e.rq
  · rw [h8]; exact e.vv

set_option maxHeartbeats 1600000 in
theorem kept3 (e : Given3 W a) : Kept (StableHlo.after seg3 W) a := by
  apply kept ⟨e.toGiven1, e.rq, e.vv⟩ <;> (simp only [seg3, hostOps0, List.take, List.drop]; after_reads_simp)

set_option maxHeartbeats 1600000 in
theorem kept4 (e : Kept W a) : Kept (StableHlo.after seg4 W) a := by
  apply kept e <;> (simp only [seg4, hostOps0, List.take, List.drop]; after_reads_simp)

set_option maxHeartbeats 1600000 in
theorem kept5 (e : Kept W a) : Kept (StableHlo.after seg5 W) a := by
  apply kept e <;> (simp only [seg5, hostOps0, List.take, List.drop]; after_reads_simp)

set_option maxHeartbeats 1600000 in
theorem kept6 (e : Kept W a) : Kept (StableHlo.after seg6 W) a := by
  apply kept e <;> (simp only [seg6, hostOps0, List.take, List.drop]; after_reads_simp)

set_option maxHeartbeats 1600000 in
theorem scores_at (e : Given3 W a) (n : Fin 64) (g : Fin 2) (h : Fin 4) (i : Fin 128) (j : Fin 256) :
    StableHlo.after seg3 W (Proc.devRef .tc main_v50) (ix6 0 n g h i j) = masked a n g h i j := by
  have hk := e.kk
  have hq := e.rqb
  simp only [seg3, hostOps0, List.take, List.drop]
  after_reads_at
  rw [sees_word, select_word, minus_inf]
  unfold masked
  simp only [decide_eq_true_eq]
  refine if_congr Iff.rfl ?_ rfl
  unfold score
  rw [← sum_coe]
  exact Finset.sum_congr rfl fun k _ => by rw [hk, hq, ← EReal.coe_mul]

set_option maxHeartbeats 1600000 in
theorem sinks_at (e : Kept W a) (n : Fin 64) (g : Fin 2) (h : Fin 4) (i : Fin 128) :
    StableHlo.after seg4 W (Proc.devRef .tc main_v52) (ix5 0 n g h i) = ((a.s (headAt g h) : ℝ) : EReal) := by
  have hs := e.s
  simp only [seg4, hostOps0, List.take, List.drop]
  after_reads_at
  generalize W (Proc.devRef .tc main_arg2) = x at hs ⊢
  rw [hs]
  have e2 : (⟨g.val * 4 + h.val, by omega⟩ : Fin 8) = headAt g h := Fin.ext (by simp only; omega)
  rw [e2]

/-- The row's largest score, as the reduction the host runs. -/
def rowMax (x : FVec Ideal S1x64x2x4x128x256 .f32) : FVec Ideal S1x64x2x4x128 .f32 :=
  Host.reduce (FloatOps.maximumf (F := Ideal) (φ := .f32)) x (constant S_ .f32 0xFF800000#32) reducesTo_S1x64x2x4x128x256_S1x64x2x4x128_d5 h_S_

theorem maximumf_max : (FloatOps.maximumf (F := Ideal) (φ := .f32)) = (max : EReal → EReal → EReal) := rfl

theorem rowMax_at (x : FVec Ideal S1x64x2x4x128x256 .f32) (n : Fin 64) (g : Fin 2) (h : Fin 4) (i : Fin 128) :
    rowMax x (ix5 0 n g h i) = (Finset.univ : Finset (Fin 256)).fold max ⊥ fun k => x (ix6 0 n g h i k) := by
  unfold rowMax
  rw [maximumf_max, max_last, ← minus_inf]
  rfl

theorem shift_read : StableHlo.after seg4 W (Proc.devRef .tc main_v54)
    = maximumf (F := Ideal) (s := S1x64x2x4x128) (φ := .f32) (rowMax (W (Proc.devRef .tc main_v50))) (StableHlo.after seg4 W (Proc.devRef .tc main_v52)) := by
  simp only [seg4, hostOps0, List.take, List.drop]
  after_reads_simp
  rfl

theorem max_val (z y : FVec Ideal S1x64x2x4x128 .f32) (j : S1x64x2x4x128.Idx) : maximumf z y j = (max (z j : EReal) (y j : EReal) : EReal) := rfl

theorem shift_val (x : FVec Ideal S1x64x2x4x128x256 .f32) (y : FVec Ideal S1x64x2x4x128 .f32) (n : Fin 64) (g : Fin 2) (h : Fin 4) (i : Fin 128)
    (hs : ∀ j, x (ix6 0 n g h i j) = masked a n g h i j) (h2 : y (ix5 0 n g h i) = ((a.s (headAt g h) : ℝ) : EReal)) :
    maximumf (rowMax x) y (ix5 0 n g h i) = ((shift a n g h i : ℝ) : EReal) := by
  rw [max_val, rowMax_at, h2, ← shift_eq, Finset.fold_congr fun k _ => hs k]

theorem shift_at (e : Kept W a) (hs : ∀ n g h i j, W (Proc.devRef .tc main_v50) (ix6 0 n g h i j) = masked a n g h i j) (n : Fin 64) (g : Fin 2) (h : Fin 4) (i : Fin 128) :
    StableHlo.after seg4 W (Proc.devRef .tc main_v54) (ix5 0 n g h i) = ((shift a n g h i : ℝ) : EReal) :=
  (congrFun shift_read (ix5 0 n g h i)).trans (shift_val (W (Proc.devRef .tc main_v50)) _ n g h i (hs n g h i) (sinks_at e n g h i))

set_option maxHeartbeats 1600000 in
theorem prob_at5 (h50 : ∀ n g h i j, W (Proc.devRef .tc main_v50) (ix6 0 n g h i j) = masked a n g h i j)
    (h52 : ∀ n g h i, W (Proc.devRef .tc main_v52) (ix5 0 n g h i) = ((a.s (headAt g h) : ℝ) : EReal))
    (h54 : ∀ n g h i, W (Proc.devRef .tc main_v54) (ix5 0 n g h i) = ((shift a n g h i : ℝ) : EReal))
    (n : Fin 64) (g : Fin 2) (h : Fin 4) (i : Fin 128) (j : Fin 256) :
    StableHlo.after seg5 W (Proc.devRef .tc main_v63) (ix6 0 n g h i j) = ((prob a n g h i j : ℝ) : EReal) := by
  simp only [seg5, hostOps0, List.take, List.drop]
  after_reads_at
  generalize W (Proc.devRef .tc main_v50) = x at h50 ⊢
  generalize W (Proc.devRef .tc main_v52) = y at h52 ⊢
  generalize W (Proc.devRef .tc main_v54) = z at h54 ⊢
  rw [h50, h52, h54, exp_masked, sum_last]
  have hsum : (0 : EReal) + ∑ k : Fin 256, Host.exp (F := Ideal) (φ := .f32) (subf x (broadcastInDim S1x64x2x4x128x256 ![0, 1, 2, 3, 4]
      bcast_S1x64x2x4x128_S1x64x2x4x128x256_0_1_2_3_4 z)) (ix6 0 n g h i k) = ((∑ k, weightAt a n g h i (shift a n g h i) k : ℝ) : EReal) := by
    rw [zero_add, ← sum_coe]
    refine Finset.sum_congr rfl fun k _ => ?_
    pointwise
    rw [h50, h54, exp_masked]
  rw [← prob_eq a n g h i (shift a n g h i) j, ← div_coe _ (denomAt_pos a n g h i _).ne']
  refine congrArg (Ideal.div _) ?_
  unfold denomAt
  rw [EReal.coe_add, ← hsum]
  rfl

set_option maxHeartbeats 1600000 in
theorem attended_at (e : Kept W a) (h63 : ∀ n g h i j, W (Proc.devRef .tc main_v63) (ix6 0 n g h i j) = ((prob a n g h i j : ℝ) : EReal))
    (n : Fin 64) (g : Fin 2) (h : Fin 4) (i : Fin 128) (k : Fin 64) :
    StableHlo.after seg6 W (Proc.devRef .tc main_v65) (ix6 0 n i g h k) = ((attended a n g h i k : ℝ) : EReal) := by
  have hv := e.vv
  simp only [seg6, hostOps0, List.take, List.drop]
  after_reads_at
  generalize W (Proc.devRef .tc main_v63) = x at h63 ⊢
  generalize W (Proc.devRef .tc main_v33) = y at hv ⊢
  unfold attended
  rw [← sum_coe]
  exact Finset.sum_congr rfl fun j _ => by rw [hv, h63, ← EReal.coe_mul]

set_option maxHeartbeats 1600000 in
theorem halves_at (h63 : ∀ n g h i j, W (Proc.devRef .tc main_v63) (ix6 0 n g h i j) = ((prob a n g h i j : ℝ) : EReal))
    (n : Fin 64) (g : Fin 2) (h : Fin 4) (i j : Fin 128) :
    StableHlo.after seg6 W (Proc.devRef .tc main_v69) (ix6 0 n g h i j) = ((prob a n g h i ⟨j.val, by omega⟩ : ℝ) : EReal)
      ∧ StableHlo.after seg6 W (Proc.devRef .tc main_v70) (ix6 0 n g h i j) = ((prob a n g h i ⟨128 + j.val, by omega⟩ : ℝ) : EReal)
      ∧ StableHlo.after seg6 W (Proc.devRef .tc main_v68) (ix2 i j) = BitVec.ofBool (decide (i.val < j.val)) := by
  simp only [seg6, hostOps0, List.take, List.drop]
  refine ⟨?_, ?_, ?_⟩
  · after_reads_at
    generalize W (Proc.devRef .tc main_v63) = x at h63 ⊢
    exact h63 ..
  · after_reads_at
    generalize W (Proc.devRef .tc main_v63) = x at h63 ⊢
    exact h63 ..
  · after_reads_at
    rw [sgt_word, toInt_word (by omega), toInt_word (by omega)]
    exact congrArg BitVec.ofBool (decide_eq_decide.2 (by omega))

end Cert.Chain

end
-- ==== Proof.Host.lean ====
/- The arrays at the region's entry, from the arguments. -/
module

public import proofs.«01_k».proof.Proof.HostP
public import proofs.«01_k».proof.Proof.Region

@[expose] public section

set_option maxRecDepth 16384

noncomputable section

namespace Cert.Chain

open Cert.KernelIdeal Cert.KernelIdeal.Gen Idealize.ShloMosaic Idealize.SL.Sem

/-- The row's tables: cosines, sines with either sign, over the first sixteen lanes of a head. -/
def cosLane (r : Fin 8192) (l : Fin 128) : ℝ := if h : l.val % 64 < 16 then Real.cos (angle r ⟨l.val % 8, by omega⟩) else 1
def firstSin (r : Fin 8192) (l : Fin 128) : ℝ := if l.val % 64 < 8 then -Real.sin (angle r ⟨l.val % 8, by omega⟩) else 0
def secondSin (r : Fin 8192) (l : Fin 128) : ℝ := if 8 ≤ l.val % 64 ∧ l.val % 64 < 16 then Real.sin (angle r ⟨l.val % 8, by omega⟩) else 0

/-- The region's arrays over the reals. -/
def given (a : Args) : Given where
  Q r c := roped a r ⟨c.val / 64, by omega⟩ ⟨c.val % 64, by omega⟩ * (1 / 8)
  D := a.ct
  W r c := a.ct r c * attended a ⟨r.val / 128, by omega⟩ ⟨c.val / 256, by omega⟩ ⟨c.val / 64 % 4, by omega⟩ ⟨r.val % 128, by omega⟩ ⟨c.val % 64, by omega⟩
  K := a.k
  V := a.v
  P s r j := if r.val % 128 < j.val then prob a ⟨s.val / 2, by omega⟩ ⟨s.val % 2, by omega⟩ ⟨r.val / 128, by omega⟩ ⟨r.val % 128, by omega⟩ ⟨j.val, by omega⟩
    else prob a ⟨s.val / 2, by omega⟩ ⟨s.val % 2, by omega⟩ ⟨r.val / 128, by omega⟩ ⟨r.val % 128, by omega⟩ ⟨128 + j.val, by omega⟩
  C := cosLane
  A := firstSin
  B := secondSin

section Tables

variable (l : Fin 128)

theorem pick_at (u v : EReal) (p q : Fin 8 → EReal) (y : ℝ)
    (hp : ∀ (h : l.val % 64 < 8), p ⟨l.val % 64, h⟩ = (y : EReal))
    (hq : ∀ (h1 : 8 ≤ l.val % 64) (h2 : l.val % 64 - 8 < 8), q ⟨l.val % 64 - 8, h2⟩ = (y : EReal))
    (hu : 16 ≤ l.val % 64 → u = (y : EReal)) (huv : u = v) :
    (if h : l.val < 8 then p ⟨l.val, h⟩
      else if h : l.val - 8 < 8 then q ⟨l.val - 8, h⟩
      else if h : l.val - 8 - 8 < 48 then u
      else if h : l.val - 8 - 8 - 48 < 8 then p ⟨l.val - 8 - 8 - 48, h⟩
      else if h : l.val - 8 - 8 - 48 - 8 < 8 then q ⟨l.val - 8 - 8 - 48 - 8, h⟩ else v) = (y : EReal) := by
  have hl := l.isLt
  have hpt : ∀ (k : ℕ) (hk : k < 8), k = l.val % 64 → p ⟨k, hk⟩ = (y : EReal) := by
    intro k hk e; subst e; exact hp hk
  have hqt : ∀ (k : ℕ) (hk : k < 8), 8 ≤ l.val % 64 → k = l.val % 64 - 8 → q ⟨k, hk⟩ = (y : EReal) := by
    intro k hk e1 e; subst e; exact hq e1 hk
  split_ifs with h1 h2 h3 h4 h5
  · exact hpt _ _ (by omega)
  · exact hqt _ _ (by omega) (by omega)
  · exact hu (by omega)
  · exact hpt _ _ (by omega)
  · exact hqt _ _ (by omega) (by omega)
  · exact huv ▸ hu (by omega)

end Tables

variable {W : Valuation τ sig (Elt Ideal)} {a : Args}

/-- The lines that prepare the arrays. -/
abbrev lastOps (W : Valuation τ sig (Elt Ideal)) : Valuation τ sig (Elt Ideal) := StableHlo.after hostOps0_2 (StableHlo.after hostOps0_1 W)

set_option maxHeartbeats 1600000 in
theorem cos_table (e : Given1 W a) : IsReal2 (lastOps W (Proc.devRef .tc main_v77)) cosLane := by
  intro r l
  have hc := e.cos
  simp only [lastOps, hostOps0_1, hostOps0_2]
  after_reads_simp
  pointwise
  after_reads_simp
  pointwise
  have hl := l.isLt
  refine pick_at l 1 1 (fun f => (W (Proc.devRef .tc main_v8) (ix2 r f) : EReal)) (fun f => (W (Proc.devRef .tc main_v8) (ix2 r f) : EReal)) (cosLane r l) (fun h => ?_) (fun h1 h2 => ?_) (fun h => ?_) rfl
  · show (W (Proc.devRef .tc main_v8) (ix2 r ⟨l.val % 64, h⟩) : EReal) = _
    rw [hc, cosLane, dif_pos (by omega)]
    have e1 : (⟨l.val % 64, h⟩ : Fin 8) = ⟨l.val % 8, by omega⟩ := Fin.ext (by simp only; omega)
    rw [e1]
  · show (W (Proc.devRef .tc main_v8) (ix2 r ⟨l.val % 64 - 8, h2⟩) : EReal) = _
    rw [hc, cosLane, dif_pos (by omega)]
    have e1 : (⟨l.val % 64 - 8, h2⟩ : Fin 8) = ⟨l.val % 8, by omega⟩ := Fin.ext (by simp only; omega)
    rw [e1]
  · rw [cosLane, dif_neg (by omega)]; rfl

set_option maxHeartbeats 1600000 in
theorem second_table (e : Given1 W a) : IsReal2 (lastOps W (Proc.devRef .tc main_v80)) secondSin := by
  intro r l
  have hc := e.sin
  simp only [lastOps, hostOps0_1, hostOps0_2]
  after_reads_simp
  pointwise
  after_reads_simp
  pointwise
  have hl := l.isLt
  refine pick_at l 0 0 (fun _ => 0) (fun f => (W (Proc.devRef .tc main_v9) (ix2 r f) : EReal)) (secondSin r l) (fun h => ?_) (fun h1 h2 => ?_) (fun h => ?_) rfl
  · rw [secondSin, if_neg (by omega)]; rfl
  · show (W (Proc.devRef .tc main_v9) (ix2 r ⟨l.val % 64 - 8, h2⟩) : EReal) = _
    rw [hc, secondSin, if_pos (by omega)]
    have e1 : (⟨l.val % 64 - 8, h2⟩ : Fin 8) = ⟨l.val % 8, by omega⟩ := Fin.ext (by simp only; omega)
    rw [e1]
  · rw [secondSin, if_neg (by omega)]; rfl

set_option maxHeartbeats 1600000 in
theorem first_table (e : Given1 W a) : IsReal2 (lastOps W (Proc.devRef .tc main_v79)) firstSin := by
  intro r l
  have hc := e.sin
  simp only [lastOps, hostOps0_1, hostOps0_2]
  after_reads_simp
  pointwise
  after_reads_simp
  pointwise
  have hl := l.isLt
  refine pick_at l 0 0 (fun f => Neg.neg (α := EReal) (W (Proc.devRef .tc main_v9) (ix2 r f))) (fun _ => 0) (firstSin r l) (fun h => ?_) (fun h1 h2 => ?_) (fun h => ?_) rfl
  · show Neg.neg (α := EReal) (W (Proc.devRef .tc main_v9) (ix2 r ⟨l.val % 64, h⟩)) = _
    rw [hc, firstSin, if_pos (by omega), EReal.coe_neg]
    have e1 : (⟨l.val % 64, h⟩ : Fin 8) = ⟨l.val % 8, by omega⟩ := Fin.ext (by simp only; omega)
    rw [e1]
  · rw [firstSin, if_neg (by omega)]; rfl
  · rw [firstSin, if_neg (by omega)]; rfl

theorem twice_at (X : Fin 8192 → Fin 2 → Fin 64 → EReal) (x : Fin 8192 → Fin 2 → Fin 64 → ℝ) (hX : ∀ r g k, X r g k = ((x r g k : ℝ) : EReal))
    (r : Fin 8192) (g : Fin 2) (l : Fin 128) :
    (if h : (128 * g.val + l.val) % 128 < 64 then X r ⟨(128 * g.val + l.val) / 128, by omega⟩ ⟨(128 * g.val + l.val) % 128, h⟩
      else X r ⟨(128 * g.val + l.val) / 128, by omega⟩ ⟨(128 * g.val + l.val) % 128 - 64, by omega⟩) = ((x r g (low64 l) : ℝ) : EReal) := by
  have e1 : (⟨(128 * g.val + l.val) / 128, by omega⟩ : Fin 2) = g := Fin.ext (by simp only; omega)
  split_ifs with h
  · have e2 : (⟨(128 * g.val + l.val) % 128, h⟩ : Fin 64) = low64 l := Fin.ext (by simp only; omega)
    rw [hX, e1, e2]
  · have e2 : (⟨(128 * g.val + l.val) % 128 - 64, by omega⟩ : Fin 64) = low64 l := Fin.ext (by simp only; omega)
    rw [hX, e1, e2]

set_option maxHeartbeats 1600000 in
theorem keys_at (e : Given1 W a) : IsHeads (lastOps W (Proc.devRef .tc main_v86)) a.k := by
  intro r g l
  simp only [lastOps, hostOps0_1, hostOps0_2]
  after_reads_simp
  pointwise
  after_reads_simp
  pointwise
  exact twice_at (fun r g k => W (Proc.devRef .tc main_arg1) (ix4 0 r g k)) a.k e.k r g l

set_option maxHeartbeats 1600000 in
theorem vals_at (e : Given1 W a) : IsHeads (lastOps W (Proc.devRef .tc main_v89)) a.v := by
  intro r g l
  simp only [lastOps, hostOps0_1, hostOps0_2]
  after_reads_simp
  pointwise
  after_reads_simp
  pointwise
  exact twice_at (fun r g k => W (Proc.devRef .tc main_arg3) (ix4 0 r g k)) a.v e.v r g l

set_option maxHeartbeats 1600000 in
theorem queries_at (h : ∀ r h k, W (Proc.devRef .tc main_v23) (ix4 0 r h k) = ((roped a r h k * (1 / 8) : ℝ) : EReal)) :
    IsReal2 (lastOps W (Proc.devRef .tc main_v83)) (given a).Q := by
  intro r l
  simp only [lastOps, hostOps0_1, hostOps0_2]
  after_reads_at
  exact h _ _ _

set_option maxHeartbeats 1600000 in
theorem outs_at (e : Given1 W a) : IsReal2 (lastOps W (Proc.devRef .tc main_v90)) a.ct := by
  intro r l
  simp only [lastOps, hostOps0_1, hostOps0_2]
  after_reads_at
  exact e.ct _ _

set_option maxHeartbeats 1600000 in
theorem prods_at (e : Given1 W a) (h : ∀ n g h i k, W (Proc.devRef .tc main_v65) (ix6 0 n i g h k) = ((attended a n g h i k : ℝ) : EReal)) :
    IsReal2 (lastOps W (Proc.devRef .tc main_v92)) (given a).W := by
  intro r l
  have hct := e.ct
  simp only [lastOps, hostOps0_1, hostOps0_2]
  after_reads_at
  generalize W (Proc.devRef .tc main_v65) = x at h ⊢
  generalize W (Proc.devRef .tc main_arg4) = y at hct ⊢
  rw [h, hct, ← EReal.coe_mul]
  rfl

set_option maxHeartbeats 1600000 in
theorem probs_at (h : ∀ n g h i (j : Fin 128),
      W (Proc.devRef .tc main_v69) (ix6 0 n g h i j) = ((prob a n g h i ⟨j.val, by omega⟩ : ℝ) : EReal)
      ∧ W (Proc.devRef .tc main_v70) (ix6 0 n g h i j) = ((prob a n g h i ⟨128 + j.val, by omega⟩ : ℝ) : EReal)
      ∧ W (Proc.devRef .tc main_v68) (ix2 i j) = BitVec.ofBool (decide (i.val < j.val))) (s : Fin 128) (r : Fin 512) (j : Fin 128) :
    lastOps W (Proc.devRef .tc main_v73) (ix3 s r j) = (((given a).P s r j : ℝ) : EReal) := by
  simp only [lastOps, hostOps0_1, hostOps0_2]
  after_reads_at
  generalize W (Proc.devRef .tc main_v68) = x at h ⊢
  generalize W (Proc.devRef .tc main_v69) = y at h ⊢
  generalize W (Proc.devRef .tc main_v70) = z at h ⊢
  rw [(h _ _ _ _ _).1, (h _ _ _ _ _).2.1, (h 0 0 0 _ _).2.2, select_word]
  simp only [decide_eq_true_eq, given]
  split_ifs <;> rfl

theorem after_append (p q : List (HloOp τ sig (Elt Ideal))) (W : Valuation τ sig (Elt Ideal)) :
    StableHlo.after (p ++ q) W = StableHlo.after q (StableHlo.after p W) := by
  induction p generalizing W with
  | nil => rfl
  | cons o p ih => exact ih _

theorem after_split (n : ℕ) (p : List (HloOp τ sig (Elt Ideal))) (W : Valuation τ sig (Elt Ideal)) :
    StableHlo.after p W = StableHlo.after (p.drop n) (StableHlo.after (p.take n) W) := by
  rw [← after_append, List.take_append_drop]

theorem host_split (W : Valuation τ sig (Elt Ideal)) : StableHlo.after hostOps0 W
    = StableHlo.after seg6 (StableHlo.after seg5 (StableHlo.after seg4 (StableHlo.after seg3 (StableHlo.after seg2 (StableHlo.after seg1 (StableHlo.after seg0 W)))))) := by
  rw [after_split 12 hostOps0, after_split 16 (hostOps0.drop 12), List.drop_drop, after_split 10 (hostOps0.drop 28), List.drop_drop,
    after_split 19 (hostOps0.drop 38), List.drop_drop, after_split 5 (hostOps0.drop 57), List.drop_drop, after_split 10 (hostOps0.drop 62),
    List.drop_drop]
  have h : hostOps0.drop 72 = seg6 := rfl
  rw [h]

variable {m : (ℓ : Loc nD τ sig) → Buf (Elt Ideal) ℓ} {c : Dev nD}

theorem entry (e : Given0 (fun b => m (c, b)) a) : Entry m c (given a) := by
  have e1 := given1 e
  have e2 := given2 e1
  have e3 := given3 e2
  have k3 := kept3 e3
  have s3 := scores_at e3
  have k4 := kept4 k3
  have t4 := shift_at k3 s3
  have u4 := sinks_at k3
  have k5 := kept5 k4
  have p5 := prob_at5 (a := a) (W := StableHlo.after seg4 _) (by
    intro n g h i j
    refine Eq.trans ?_ (s3 n g h i j)
    refine congrFun ?_ _
    simp only [seg4, hostOps0, List.take, List.drop]
    after_reads_simp) u4 t4
  have k6 := kept6 k5
  have o6 := attended_at k5 p5
  have h6 := halves_at p5
  have hV : ∀ b, V m c b = lastOps (StableHlo.after hostOps0 (fun b => m (c, b))) (Proc.devRef .tc b) := by
    intro b
    show StableHlo.after (List.flatten [hostOps0, hostOps0_1, hostOps0_2]) _ _ = _
    rw [List.flatten_cons, List.flatten_cons, List.flatten_cons, List.flatten_nil, List.append_nil, after_append, after_append]
  rw [host_split] at hV
  constructor <;> rw [hV]
  · exact queries_at k6.rq
  · exact keys_at k6.toGiven1
  · exact vals_at k6.toGiven1
  · exact probs_at h6
  · exact outs_at k6.toGiven1
  · exact prods_at k6.toGiven1 o6
  · exact cos_table k6.toGiven1
  · exact first_table k6.toGiven1
  · exact second_table k6.toGiven1

end Cert.Chain

end
-- ==== Proof.Left.lean ====
/- The kernel's result arrays after the run, as reals. -/
module

public import proofs.«01_k».proof.Proof.Arrays

@[expose] public section

set_option maxRecDepth 16384

noncomputable section

namespace Cert.Chain

open Cert.KernelIdeal Cert.KernelIdeal.Gen Idealize.ShloMosaic Idealize.SL.Sem

variable {m : (ℓ : Loc nD τ sig) → Buf (Elt Ideal) ℓ} {c : Dev nD} {d : Given} (e : Entry m c d)

def query_arr (d : Given) : S8192x512.Idx → EReal := fun x => ((queryOut d (x 0) (x 1) : ℝ) : EReal)
def own_arr (f : Fin 64 → Fin 256 → Fin 128 → ℝ) : S8192x128.Idx → EReal := fun x => ((ownOut f (x 0) (x 1) : ℝ) : EReal)
def halo_arr (f : Fin 64 → Fin 256 → Fin 128 → ℝ) : S16x128x128.Idx → EReal := fun x => ((haloOut f (x 0) (x 1) (x 2) : ℝ) : EReal)

theorem queryOut_at (t : Fin 16) (sb : Fin 4) (g pp : Fin 2) (i l : Fin 128) :
    queryOut d (tileRow t (at4 sb i)) (col g pp l) = queryG d (blkOf t sb) i g pp l := by
  unfold queryOut
  congr 1 <;> exact Fin.ext (by simp only; omega)

theorem ownOut_at (f : Fin 64 → Fin 256 → Fin 128 → ℝ) (t : Fin 16) (sb : Fin 4) (i l : Fin 128) :
    ownOut f (tileRow t (at4 sb i)) l = f (blkOf t sb) ⟨128 + i.val, by omega⟩ l
      + (if hs : sb.val + 1 < 4 then f (blkOf t ⟨sb.val + 1, hs⟩) ⟨i.val, by omega⟩ l else 0) := by
  have e1 : ∀ h, (⟨(tileRow t (at4 sb i)).val / 128, h⟩ : Fin 64) = blkOf t sb := fun h => Fin.ext (by simp only; omega)
  have e2 : ∀ h, (⟨128 + (tileRow t (at4 sb i)).val % 128, h⟩ : Fin 256) = ⟨128 + i.val, by omega⟩ := fun h => Fin.ext (by simp only; omega)
  have e3 : ∀ h, (⟨(tileRow t (at4 sb i)).val % 128, h⟩ : Fin 256) = ⟨i.val, by omega⟩ := fun h => Fin.ext (by simp only; omega)
  unfold ownOut
  rw [e1, e2, e3]
  congr 1
  by_cases hs : sb.val + 1 < 4
  · rw [dif_pos hs, dif_pos (by simp only; omega)]
    exact congrArg (fun n => f n _ _) (Fin.ext (by simp only; omega))
  · rw [dif_neg hs, dif_neg (by simp only; omega)]

theorem emb11 (t : Fin 16) (y : S512x512.Idx) : ((win0_11.blk t).view.emb y : S8192x512.Idx) = ix2 (tileRow t (y 0)) (y 1) := by
  have e := (rowIdx t).2.2.2.2.2.2.2.2.2.2.2.1
  refine funext fun (a : Fin 2) => Fin.ext ((Pipeline.Window.rect_emb_val win0_11 t _ a rfl).trans ?_)
  rw [e]
  match a with
  | 0 => exact congrArg (· + (y 0).val) (Nat.mul_comm t.val 512)
  | 1 => exact congrArg (· + (y 1).val) (Nat.zero_mul 512) |>.trans (Nat.zero_add _)

include e

theorem tile11 (t : Fin 16) (y : S512x512.Idx) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = query_arr d (ix2 (tileRow t (y 0)) (y 1)) := by
  rw [out11]
  exact query_canon (fun y => query_arr d (ix2 (tileRow t (y 0)) (y 1))) _ (fun sb g pp i l =>
    (query_tile e t sb g pp i l).trans (congrArg _ (queryOut_at t sb g pp i l).symm)) y

theorem left11 : (dats m 0 c).arrAt 11 (cfgs 0).N = query_arr d := by
  refine (dats m 0 c).arrAt_eq_of_covers 11 _ (by decide +kernel) fun t hf y => ?_
  rw [after0_11]
  have h := tile11 e t y
  generalize out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) = x at h ⊢
  exact h.trans (congrArg (query_arr d) (emb11 t y)).symm

omit e

theorem emb12 (t : Fin 16) (y : S512x128.Idx) : ((win0_12.blk t).view.emb y : S8192x128.Idx) = ix2 (tileRow t (y 0)) (y 1) := by
  have e := (rowIdx t).2.2.2.2.2.2.2.2.2.2.2.2.1
  refine funext fun (a : Fin 2) => Fin.ext ((Pipeline.Window.rect_emb_val win0_12 t _ a rfl).trans ?_)
  rw [e]
  match a with
  | 0 => exact congrArg (· + (y 0).val) (Nat.mul_comm t.val 512)
  | 1 => exact congrArg (· + (y 1).val) (Nat.zero_mul 128) |>.trans (Nat.zero_add _)

theorem emb13 (t : Fin 16) (y : S512x128.Idx) : ((win0_13.blk t).view.emb y : S8192x128.Idx) = ix2 (tileRow t (y 0)) (y 1) := by
  have e := (rowIdx t).2.2.2.2.2.2.2.2.2.2.2.2.2.1
  refine funext fun (a : Fin 2) => Fin.ext ((Pipeline.Window.rect_emb_val win0_13 t _ a rfl).trans ?_)
  rw [e]
  match a with
  | 0 => exact congrArg (· + (y 0).val) (Nat.mul_comm t.val 512)
  | 1 => exact congrArg (· + (y 1).val) (Nat.zero_mul 128) |>.trans (Nat.zero_add _)

theorem emb14 (t : Fin 16) (y : S1x128x128.Idx) : ((win0_14.blk t).view.emb y : S16x128x128.Idx) = ix3 t (y 1) (y 2) := by
  have e := (rowIdx t).2.2.2.2.2.2.2.2.2.2.2.2.2.2.1
  have h0 := (y 0).isLt
  refine funext fun (a : Fin 3) => Fin.ext ((Pipeline.Window.rect_emb_val win0_14 t _ a rfl).trans ?_)
  rw [e]
  match a with
  | 0 => exact show t.val * 1 + (y 0).val = t.val by change (y 0).val < 1 at h0; omega
  | 1 => exact congrArg (· + (y 1).val) (Nat.zero_mul 128) |>.trans (Nat.zero_add _)
  | 2 => exact congrArg (· + (y 2).val) (Nat.zero_mul 128) |>.trans (Nat.zero_add _)

theorem emb15 (t : Fin 16) (y : S1x128x128.Idx) : ((win0_15.blk t).view.emb y : S16x128x128.Idx) = ix3 t (y 1) (y 2) := by
  have e := (rowIdx t).2.2.2.2.2.2.2.2.2.2.2.2.2.2.2
  have h0 := (y 0).isLt
  refine funext fun (a : Fin 3) => Fin.ext ((Pipeline.Window.rect_emb_val win0_15 t _ a rfl).trans ?_)
  rw [e]
  match a with
  | 0 => exact show t.val * 1 + (y 0).val = t.val by change (y 0).val < 1 at h0; omega
  | 1 => exact congrArg (· + (y 1).val) (Nat.zero_mul 128) |>.trans (Nat.zero_add _)
  | 2 => exact congrArg (· + (y 2).val) (Nat.zero_mul 128) |>.trans (Nat.zero_add _)

/-- A tile's own part and halo, from its blocks' values. -/
theorem own_canon (x : Fin 4 → FVec Ideal S256x128 .f32) (f : Fin 64 → Fin 256 → Fin 128 → ℝ) (t : Fin 16)
    (h : ∀ sb j l, x sb (ix2 j l) = ((f (blkOf t sb) j l : ℝ) : EReal)) (y : S512x128.Idx) :
    View.canon (Val := Elt Ideal) (tilePieces x) y = own_arr f (ix2 (tileRow t (y 0)) (y 1)) :=
  tile_canon (fun y => own_arr f (ix2 (tileRow t (y 0)) (y 1))) x (fun sb i l =>
    (blockSum_real x (fun sb => f (blkOf t sb)) h sb i l).trans (congrArg _ (ownOut_at f t sb i l).symm)) y

theorem halo_canon (x : FVec Ideal S256x128 .f32) (f : Fin 64 → Fin 256 → Fin 128 → ℝ) (t : Fin 16)
    (h : ∀ j l, x (ix2 j l) = ((f (blkOf t 0) j l : ℝ) : EReal)) (y : S1x128x128.Idx) :
    View.canon (Val := Elt Ideal) [(⟨r0_37, shapeCast S1x128x128 (firstHalf x) shapeCasts_S128x128_S1x128x128⟩ : View.Piece (Elt Ideal) S1x128x128 .f32)] y
      = halo_arr f (ix3 t (y 1) (y 2)) := by
  rw [eq_ix3 y]
  exact (halo_at _ _ _ _).trans ((first_at _ _ _).trans (h _ _))

include e

theorem tile12 (t : Fin 16) (y : S512x128.Idx) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = own_arr (keyG d) (ix2 (tileRow t (y 0)) (y 1)) := by
  rw [out12]
  exact own_canon _ _ t (key_tile e t) y

theorem tile13 (t : Fin 16) (y : S512x128.Idx) :
    out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = own_arr (valG d) (ix2 (tileRow t (y 0)) (y 1)) := by
  rw [out13]
  exact own_canon _ _ t (val_tile e t) y

theorem tile14 (t : Fin 16) (y : S1x128x128.Idx) :
    out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = halo_arr (keyG d) (ix3 t (y 1) (y 2)) := by
  rw [out14]
  exact halo_canon _ _ t (key_tile e t 0) y

theorem tile15 (t : Fin 16) (y : S1x128x128.Idx) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) y
      = halo_arr (valG d) (ix3 t (y 1) (y 2)) := by
  rw [out15]
  exact halo_canon _ _ t (val_tile e t 0) y

theorem left12 : (dats m 0 c).arrAt 12 (cfgs 0).N = own_arr (keyG d) := by
  refine (dats m 0 c).arrAt_eq_of_covers 12 _ (by decide +kernel) fun t hf y => ?_
  rw [after0_12]
  have h := tile12 e t y
  generalize out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) = x at h ⊢
  exact h.trans (congrArg (own_arr (keyG d)) (emb12 t y)).symm

theorem left13 : (dats m 0 c).arrAt 13 (cfgs 0).N = own_arr (valG d) := by
  refine (dats m 0 c).arrAt_eq_of_covers 13 _ (by decide +kernel) fun t hf y => ?_
  rw [after0_13]
  have h := tile13 e t y
  generalize out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) = x at h ⊢
  exact h.trans (congrArg (own_arr (valG d)) (emb13 t y)).symm

theorem left14 : (dats m 0 c).arrAt 14 (cfgs 0).N = halo_arr (keyG d) := by
  refine (dats m 0 c).arrAt_eq_of_covers 14 _ (by decide +kernel) fun t hf y => ?_
  rw [after0_14]
  have h := tile14 e t y
  generalize out0_14 (iblk m c 0 t) (iblk m c 1 t) (iblk m c 2 t) (iblk m c 3 t) (iblk m c 4 t) (iblk m c 5 t) (iblk m c 6 t) (iblk m c 7 t) (iblk m c 8 t) (iblk m c 9 t) (iblk m c 10 t) = x at h ⊢
  exact h.trans (congrArg (halo_arr (keyG d)) (emb14 t y)).symm

theorem left15 : (dats m 0 c).arrAt 15 (cfgs 0).N = halo_arr (valG d) := by
  refine (dats m 0 c).arrAt_eq_of_covers 15 _ (by decide +kernel) fun t hf y => ?_
  rw [after0_15]
  have h := tile15 e t y
  generalize out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) = x at h ⊢
  exact h.trans (congrArg (halo_arr (valG d)) (emb15 t y)).symm

end Cert.Chain

end
-- ==== Proof.Tail.lean ====
/- The kernel's results from the arrays its call leaves. -/
module

public import proofs.«01_k».proof.Proof.Left
public import Idealize.ShloMosaic.Lib.StableHlo.ReadAt
public import Idealize.ShloMosaic.Lib.Claim

@[expose] public section

set_option maxRecDepth 16384

noncomputable section

namespace Cert.Chain

open Cert.KernelIdeal Cert.KernelIdeal.Gen Idealize.ShloMosaic Idealize.SL.Sem

/-- A block's gradient of keys or values, its own part and the next block's. -/
def wholeOut (f : Fin 64 → Fin 256 → Fin 128 → ℝ) (r : Fin 8192) (l : Fin 128) : ℝ :=
  f ⟨r.val / 128, by omega⟩ ⟨128 + r.val % 128, by omega⟩ l
    + (if hs : r.val / 128 + 1 < 64 then f ⟨r.val / 128 + 1, hs⟩ ⟨r.val % 128, by omega⟩ l else 0)

theorem whole_split (f : Fin 64 → Fin 256 → Fin 128 → ℝ) (r : Fin 8192) (l : Fin 128) :
    ownOut f r l + (if h : r.val / 512 < 15 ∧ 384 ≤ r.val % 512 then haloOut f ⟨1 + r.val / 512, by omega⟩ ⟨r.val % 512 - 384, by omega⟩ l else 0)
      = wholeOut f r l := by
  unfold ownOut wholeOut haloOut
  by_cases h : r.val / 512 < 15 ∧ 384 ≤ r.val % 512
  · have h1 : ¬ r.val / 128 % 4 + 1 < 4 := by omega
    have h2 : r.val / 128 + 1 < 64 := by omega
    rw [dif_pos h, dif_neg h1, dif_pos h2, add_zero]
    have e1 : (⟨4 * (1 + r.val / 512), by omega⟩ : Fin 64) = ⟨r.val / 128 + 1, h2⟩ := Fin.ext (by simp only; omega)
    have e2 : (⟨r.val % 512 - 384, by omega⟩ : Fin 256) = ⟨r.val % 128, by omega⟩ := Fin.ext (by simp only; omega)
    rw [e1, e2]
  · rw [dif_neg h, add_zero]
    by_cases hs : r.val / 128 % 4 + 1 < 4
    · have h2 : r.val / 128 + 1 < 64 := by omega
      rw [dif_pos hs, dif_pos h2]
    · have h2 : ¬ r.val / 128 + 1 < 64 := by omega
      rw [dif_neg hs, dif_neg h2]

theorem spread_at (X : FVec Ideal S8192x128 .f32) (x : FVec Ideal S16x128x128 .f32) (f : Fin 64 → Fin 256 → Fin 128 → ℝ)
    (hX : ∀ r l, X (ix2 r l) = ((ownOut f r l : ℝ) : EReal)) (hx : ∀ t i l, x (ix3 t i l) = ((haloOut f t i l : ℝ) : EReal)) (r : Fin 8192) (l : Fin 128) :
    addf X (shapeCast S8192x128 (pad S16x512x128 ![0, 384, 0] ![1, 0, 0] ![0, 0, 0] (extractStridedSlice S15x128x128 ![1, 0, 0] x slices_S16x128x128_S15x128x128_1_0_0)
      (constant S_ .f32 0x00000000#32) pads_S15x128x128_S16x512x128_010_38400_000 h_S_) shapeCasts_S16x512x128_S8192x128) (ix2 r l)
      = ((wholeOut f r l : ℝ) : EReal) := by
  have h0 := hX r l
  rw [← whole_split, EReal.coe_add, ← h0]
  clear h0 hX
  generalize haloOut f = y at hx ⊢
  pointwise
  split_ifs with h h' h'
  · rw [hx]
  · exact absurd ⟨h.1, h.2.1⟩ h'
  · exact absurd ⟨h'.1, h'.2, by omega⟩ h
  · rfl

def whole_arr (f : Fin 64 → Fin 256 → Fin 128 → ℝ) : S8192x128.Idx → EReal := fun x => ((wholeOut f (x 0) (x 1) : ℝ) : EReal)

theorem tail97 (V' : Valuation τ sig (Elt Ideal)) (f : Fin 64 → Fin 256 → Fin 128 → ℝ) (h1 : V' (Proc.devRef .tc main_v93_1) = own_arr f)
    (h3 : V' (Proc.devRef .tc main_v93_3) = halo_arr f) : StableHlo.after hostOps1 V' (Proc.devRef .tc main_v97) = whole_arr f := by
  after_results_simp
  funext x
  rw [eq_ix2 x]
  exact spread_at _ _ f (fun r l => congrFun h1 (ix2 r l)) (fun t i l => congrFun h3 (ix3 t i l)) _ _

theorem tail101 (V' : Valuation τ sig (Elt Ideal)) (f : Fin 64 → Fin 256 → Fin 128 → ℝ) (h1 : V' (Proc.devRef .tc main_v93_2) = own_arr f)
    (h3 : V' (Proc.devRef .tc main_v93_4) = halo_arr f) : StableHlo.after hostOps1 V' (Proc.devRef .tc main_v101) = whole_arr f := by
  after_results_simp
  funext x
  rw [eq_ix2 x]
  exact spread_at _ _ f (fun r l => congrFun h1 (ix2 r l)) (fun t i l => congrFun h3 (ix3 t i l)) _ _

end Cert.Chain

end
-- ==== Proof.Grad.lean ====
/- The gradient over the reals, and the kernel's arrays as parts of it. -/
module

public import proofs.«01_k».proof.Proof.Host
public import proofs.«01_k».proof.Proof.Tail

@[expose] public section

set_option maxRecDepth 16384

noncomputable section

namespace Cert.Chain

variable (a : Args)

/-- The probabilities' cotangent, -/
def probCt (n : Fin 64) (g : Fin 2) (h : Fin 4) (i : Fin 128) (j : Fin 256) : ℝ := ∑ k : Fin 64, a.ct (at128 n i) (cell g h k) * keyWin a.v n j g k

/-- the scores', -/
def scoreCt (n : Fin 64) (g : Fin 2) (h : Fin 4) (i : Fin 128) (j : Fin 256) : ℝ :=
  prob a n g h i j * (probCt a n g h i j - ∑ j' : Fin 256, prob a n g h i j' * probCt a n g h i j')

/-- and those of a block's window of keys, its window of values and its rotated queries. -/
def keyCt (n : Fin 64) (j : Fin 256) (g : Fin 2) (k : Fin 64) : ℝ :=
  ∑ i : Fin 128, ∑ h : Fin 4, scoreCt a n g h i j * (1 / 8) * roped a (at128 n i) (headAt g h) k

def valCt (n : Fin 64) (j : Fin 256) (g : Fin 2) (k : Fin 64) : ℝ := ∑ h : Fin 4, ∑ i : Fin 128, a.ct (at128 n i) (cell g h k) * prob a n g h i j

def queryCt (n : Fin 64) (g : Fin 2) (h : Fin 4) (i : Fin 128) (k : Fin 64) : ℝ := ∑ j : Fin 256, scoreCt a n g h i j * (1 / 8) * keyWin a.k n j g k

/-- The rotation's transpose. -/
def unroped (y : Fin 64 → ℝ) (r : Fin 8192) (k : Fin 64) : ℝ :=
  if h1 : k.val < 8 then y k * Real.cos (angle r ⟨k.val, h1⟩) + y ⟨k.val + 8, by omega⟩ * Real.sin (angle r ⟨k.val, h1⟩)
  else if h2 : k.val < 16 then y k * Real.cos (angle r ⟨k.val - 8, by omega⟩) - y ⟨k.val - 8, by omega⟩ * Real.sin (angle r ⟨k.val - 8, by omega⟩)
  else y k

def queryGrad (r : Fin 8192) (c : Fin 512) : ℝ :=
  unroped (queryCt a ⟨r.val / 128, by omega⟩ ⟨c.val / 256, by omega⟩ ⟨c.val / 64 % 4, by omega⟩ ⟨r.val % 128, by omega⟩) r ⟨c.val % 64, by omega⟩

def keyLane (n : Fin 64) (j : Fin 256) (l : Fin 128) : ℝ := keyCt a n j (headOf l) (low64 l)
def valLane (n : Fin 64) (j : Fin 256) (l : Fin 128) : ℝ := valCt a n j (headOf l) (low64 l)

variable {a} {n : Fin 64} {g : Fin 2} {h : Fin 4} {i : Fin 128} {j : Fin 256}

theorem prob_unseen (hs : ¬ Sees n i j) : prob a n g h i j = 0 := by
  unfold prob weight
  rw [if_neg hs, zero_div]

theorem scoreCt_unseen (hs : ¬ Sees n i j) : scoreCt a n g h i j = 0 := by
  unfold scoreCt
  rw [prob_unseen hs, zero_mul]

theorem keyWin_seen (x : Fin 8192 → Fin 2 → Fin 64 → ℝ) (hs : Sees n i j) (k : Fin 64) : x (winRow n j) g k = keyWin x n j g k := by
  unfold keyWin
  rw [dif_pos hs.2]
  exact congrArg (fun r => x r g k) (Fin.ext (if_neg (by have := hs.2; omega)))

theorem prob_given (hb : band i j) : (given a).P ⟨2 * n.val + g.val, by omega⟩ (row h i) (fold j) = prob a n g h i j := by
  show (if (128 * h.val + i.val) % 128 < j.val % 128
    then prob a ⟨(2 * n.val + g.val) / 2, by omega⟩ ⟨(2 * n.val + g.val) % 2, by omega⟩ ⟨(128 * h.val + i.val) / 128, by omega⟩ ⟨(128 * h.val + i.val) % 128, by omega⟩ ⟨j.val % 128, by omega⟩
    else prob a ⟨(2 * n.val + g.val) / 2, by omega⟩ ⟨(2 * n.val + g.val) % 2, by omega⟩ ⟨(128 * h.val + i.val) / 128, by omega⟩ ⟨(128 * h.val + i.val) % 128, by omega⟩ ⟨128 + j.val % 128, by omega⟩) = _
  have hb1 := hb.1
  have hb2 := hb.2
  have e1 : (⟨(2 * n.val + g.val) / 2, by omega⟩ : Fin 64) = n := Fin.ext (by simp only; omega)
  have e2 : (⟨(2 * n.val + g.val) % 2, by omega⟩ : Fin 2) = g := Fin.ext (by simp only; omega)
  have e3 : (⟨(128 * h.val + i.val) / 128, by omega⟩ : Fin 4) = h := Fin.ext (by simp only; omega)
  have e4 : (⟨(128 * h.val + i.val) % 128, by omega⟩ : Fin 128) = i := Fin.ext (by simp only; omega)
  rw [e1, e2, e3, e4]
  split_ifs with hc
  · exact congrArg _ (Fin.ext (by simp only; omega))
  · exact congrArg _ (Fin.ext (by simp only; omega))

theorem prods_given : ∑ k : Fin 64, (given a).W (at128 n i) (cell g h k) = ∑ j : Fin 256, prob a n g h i j * probCt a n g h i j := by
  have e0 : ∀ k : Fin 64, (given a).W (at128 n i) (cell g h k) = a.ct (at128 n i) (cell g h k) * attended a n g h i k := fun k => by
    show _ * attended a ⟨(128 * n.val + i.val) / 128, by omega⟩ ⟨(256 * g.val + 64 * h.val + k.val) / 256, by omega⟩
      ⟨(256 * g.val + 64 * h.val + k.val) / 64 % 4, by omega⟩ ⟨(128 * n.val + i.val) % 128, by omega⟩ ⟨(256 * g.val + 64 * h.val + k.val) % 64, by omega⟩ = _
    have e1 : (⟨(128 * n.val + i.val) / 128, by omega⟩ : Fin 64) = n := Fin.ext (by simp only; omega)
    have e2 : (⟨(256 * g.val + 64 * h.val + k.val) / 256, by omega⟩ : Fin 2) = g := Fin.ext (by simp only; omega)
    have e3 : (⟨(256 * g.val + 64 * h.val + k.val) / 64 % 4, by omega⟩ : Fin 4) = h := Fin.ext (by simp only; omega)
    have e4 : (⟨(128 * n.val + i.val) % 128, by omega⟩ : Fin 128) = i := Fin.ext (by simp only; omega)
    have e5 : (⟨(256 * g.val + 64 * h.val + k.val) % 64, by omega⟩ : Fin 64) = k := Fin.ext (by simp only; omega)
    rw [e1, e2, e3, e4, e5]
  simp only [e0, attended, probCt, Finset.mul_sum]
  rw [Finset.sum_comm]
  exact Finset.sum_congr rfl fun j _ => Finset.sum_congr rfl fun k _ => by ring

theorem probG_eq : probG (given a) n g h i j = prob a n g h i j := by
  unfold probG
  split_ifs with hb
  · exact prob_given hb
  · exact (prob_unseen fun hs => hb hs.1).symm

theorem scoreG_eq : scoreG (given a) n g h i j = scoreCt a n g h i j := by
  unfold scoreG
  split_ifs with hb
  · rw [prob_given hb, prods_given]
    by_cases hs : Sees n i j
    · unfold scoreCt probCt
      exact congrArg (fun x => prob a n g h i j * (x - _)) (Finset.sum_congr rfl fun k _ => congrArg (_ * ·) (keyWin_seen a.v hs k))
    · rw [prob_unseen hs, zero_mul, scoreCt_unseen hs]
  · exact (scoreCt_unseen fun hs => hb hs.1).symm

theorem turnedG_eq (k : Fin 64) : turnedG (given a) n g h i k = queryCt a n g h i k := by
  unfold turnedG queryCt
  rw [Finset.sum_mul]
  refine Finset.sum_congr rfl fun j _ => ?_
  rw [scoreG_eq]
  by_cases hs : Sees n i j
  · rw [← keyWin_seen a.k hs k]
    show scoreCt a n g h i j * a.k (winRow n j) g k * (1 / 8) = _
    ring
  · rw [scoreCt_unseen hs]; ring

theorem keyG_eq : keyG (given a) = keyLane a := by
  funext n j l
  unfold keyG keyLane keyCt
  rw [Finset.sum_comm]
  refine Finset.sum_congr rfl fun i _ => Finset.sum_congr rfl fun h _ => ?_
  rw [scoreG_eq]
  show _ * (roped a (at128 n i) ⟨(256 * (l.val / 64) + 64 * h.val + l.val % 64) / 64, by omega⟩ ⟨(256 * (l.val / 64) + 64 * h.val + l.val % 64) % 64, by omega⟩ * (1 / 8)) = _
  have e1 : (⟨(256 * (l.val / 64) + 64 * h.val + l.val % 64) / 64, by omega⟩ : Fin 8) = headAt (headOf l) h := Fin.ext (by simp only; omega)
  have e2 : (⟨(256 * (l.val / 64) + 64 * h.val + l.val % 64) % 64, by omega⟩ : Fin 64) = low64 l := Fin.ext (by simp only; omega)
  rw [e1, e2]
  ring

theorem valG_eq : valG (given a) = valLane a := by
  funext n j l
  unfold valG valLane valCt
  refine Finset.sum_congr rfl fun h _ => Finset.sum_congr rfl fun i _ => ?_
  rw [probG_eq, mul_comm]
  rfl

theorem queryOut_eq (r : Fin 8192) (c : Fin 512) : queryOut (given a) r c = queryGrad a r c := by
  unfold queryOut queryG queryGrad
  simp only [turnedG_eq]
  have hc := c.isLt
  have er : at128 ⟨r.val / 128, by omega⟩ ⟨r.val % 128, by omega⟩ = r := Fin.ext (by simp only; omega)
  rw [er]
  have e0 : (⟨2 * (c.val % 256 / 128) + c.val % 128 / 64, by omega⟩ : Fin 4) = ⟨c.val / 64 % 4, by omega⟩ := Fin.ext (by simp only; omega)
  have e1 : low64 ⟨c.val % 128, by omega⟩ = ⟨c.val % 64, by omega⟩ := Fin.ext (by simp only; omega)
  rw [e0, e1]
  simp only [given]
  unfold cosLane firstSin secondSin unroped
  have el : c.val % 128 % 64 = c.val % 64 := by omega
  by_cases h1 : c.val % 64 < 8
  · rw [dif_pos (by simp only; omega), if_pos (by simp only; omega), if_neg (by simp only; omega), dif_pos h1]
    have e2 : (⟨2 * (c.val % 256 / 128) + (c.val % 128 + 8) % 128 / 64, by omega⟩ : Fin 4) = ⟨c.val / 64 % 4, by omega⟩ := Fin.ext (by simp only; omega)
    have e3 : low64 ⟨(c.val % 128 + 8) % 128, by omega⟩ = ⟨c.val % 64 + 8, by omega⟩ := Fin.ext (by simp only; omega)
    have e4 : (⟨c.val % 128 % 8, by omega⟩ : Fin 8) = ⟨c.val % 64, h1⟩ := Fin.ext (by simp only; omega)
    rw [e2, e3, e4]
    ring
  · by_cases h2 : c.val % 64 < 16
    · rw [dif_pos (by simp only; omega), if_neg (by simp only; omega), if_pos (by simp only; omega), dif_neg h1, dif_pos h2]
      have e2 : (⟨2 * (c.val % 256 / 128) + (c.val % 128 + 120) % 128 / 64, by omega⟩ : Fin 4) = ⟨c.val / 64 % 4, by omega⟩ := Fin.ext (by simp only; omega)
      have e3 : low64 ⟨(c.val % 128 + 120) % 128, by omega⟩ = ⟨c.val % 64 - 8, by omega⟩ := Fin.ext (by simp only; omega)
      have e4 : (⟨c.val % 128 % 8, by omega⟩ : Fin 8) = ⟨c.val % 64 - 8, by omega⟩ := Fin.ext (by simp only; omega)
      rw [e2, e3, e4]
      ring
    · rw [dif_neg (by simp only; omega), if_neg (by simp only; omega), if_neg (by simp only; omega), dif_neg h1, dif_neg h2]
      ring

end Cert.Chain

end
-- ==== Proof.RefHead.lean ====
/- The reference's forward pass over the reals. -/
module

public import proofs.«01_k».proof.Proof.Grad
public import proofs.«01_k».proof.Proof.Gen.ReferenceIdeal.Run

@[expose] public section

set_option maxRecDepth 16384

noncomputable section

namespace Cert.Chain

open Cert.ReferenceIdeal Cert.ReferenceIdeal.Value Idealize.ShloMosaic Idealize.SL.Sem

variable (W : Valuation τ sig (Elt Ideal)) (a : Args)

/-- The reference's arguments are those reals. -/
structure Taken : Prop where
  q : ∀ r h k, W (Proc.devRef .tc main_arg0) (ix4 0 r h k) = ((a.q r h k : ℝ) : EReal)
  k : ∀ r g k, W (Proc.devRef .tc main_arg1) (ix4 0 r g k) = ((a.k r g k : ℝ) : EReal)
  s : ∀ h, W (Proc.devRef .tc main_arg2) (ix1 h) = ((a.s h : ℝ) : EReal)
  v : ∀ r g k, W (Proc.devRef .tc main_arg3) (ix4 0 r g k) = ((a.v r g k : ℝ) : EReal)
  ct : ∀ r c, W (Proc.devRef .tc main_arg4) (ix3 0 r c) = ((a.ct r c : ℝ) : EReal)

theorem two : Ideal.ofBits .f32 0x40000000#32 = ((2 : ℝ) : EReal) := by
  simp [Ideal.ofBits, Ideal.ieee, -EReal.coe_mul]; norm_num

theorem sixteen : Ideal.ofBits .f32 0x41800000#32 = ((16 : ℝ) : EReal) := by
  simp [Ideal.ofBits, Ideal.ieee, -EReal.coe_mul]; norm_num

variable {W a}

theorem ref_angle (r : Fin 8192) (f : Fin 8) : res_main_v16 W (ix2 r f) = ((angle r f : ℝ) : EReal) := by
  unfold res_main_v16
  clean_types
  pointwise
  rw [sitofp_nat (by omega), sitofp_nat (by omega), rope_base, two, sixteen, ← EReal.coe_mul, ← EReal.coe_neg, div_coe _ (by norm_num)]
  show _ * (((500000 : ℝ) ^ (-(2 * (f.val : ℝ)) / 16) : ℝ) : EReal) = _
  rw [← EReal.coe_mul, angle, show -(2 * (f.val : ℝ)) / 16 = (f.val : ℝ) * (-1 / 8) by ring]

theorem ref_cos (r : Fin 8192) (f : Fin 8) : res_main_v18 W (ix4 0 r 0 f) = ((Real.cos (angle r f) : ℝ) : EReal) := by
  unfold res_main_v18
  clean_types
  pointwise
  rw [ref_angle]
  rfl

theorem ref_sin (r : Fin 8192) (f : Fin 8) : res_main_v20 W (ix4 0 r 0 f) = ((Real.sin (angle r f) : ℝ) : EReal) := by
  unfold res_main_v20
  clean_types
  pointwise
  rw [ref_angle]
  rfl

theorem ref_low (e : Taken W a) (r : Fin 8192) (h f : Fin 8) : res_main_v22 W (ix4 0 r h f) = ((a.q r h ⟨f.val, by omega⟩ : ℝ) : EReal) := by
  unfold res_main_v22 res_main_v21
  clean_types
  pointwise
  exact e.q _ _ _

theorem ref_high (e : Taken W a) (r : Fin 8192) (h f : Fin 8) : res_main_v23 W (ix4 0 r h f) = ((a.q r h ⟨f.val + 8, by omega⟩ : ℝ) : EReal) := by
  unfold res_main_v23 res_main_v21
  clean_types
  pointwise
  rw [e.q]
  exact congrArg (fun k => ((a.q r h k : ℝ) : EReal)) (Fin.ext (Nat.add_comm _ _))

/-- A sum of reals, and of their products. -/
theorem sum_of {ι : Type} [Fintype ι] (x : ι → EReal) (f : ι → ℝ) (hx : ∀ k, x k = ((f k : ℝ) : EReal)) : ∑ k, x k = ((∑ k, f k : ℝ) : EReal) := by
  rw [← sum_coe]
  exact Finset.sum_congr rfl fun k _ => hx k

theorem sum_mul_of {ι : Type} [Fintype ι] (x y : ι → EReal) (f g : ι → ℝ) (hx : ∀ k, x k = ((f k : ℝ) : EReal)) (hy : ∀ k, y k = ((g k : ℝ) : EReal)) :
    ∑ k, x k * y k = ((∑ k, f k * g k : ℝ) : EReal) :=
  sum_of _ _ fun k => by rw [hx, hy, ← EReal.coe_mul]

theorem sum_mul_two {ι κ : Type} [Fintype ι] [Fintype κ] (x y : ι → κ → EReal) (f g : ι → κ → ℝ) (hx : ∀ k l, x k l = ((f k l : ℝ) : EReal))
    (hy : ∀ k l, y k l = ((g k l : ℝ) : EReal)) : ∑ k, ∑ l, x k l * y k l = ((∑ k, ∑ l, f k l * g k l : ℝ) : EReal) :=
  sum_of _ _ fun k => sum_mul_of _ _ _ _ (hx k) (hy k)

/-- A rotated lane from its halves. -/
theorem ref_lane (x y c s : Fin 8 → EReal) (z : Fin 64 → EReal) (r : Fin 8192) (h : Fin 8) (hx : ∀ f, x f = ((a.q r h ⟨f.val, by omega⟩ : ℝ) : EReal))
    (hy : ∀ f, y f = ((a.q r h ⟨f.val + 8, by omega⟩ : ℝ) : EReal)) (hc : ∀ f, c f = ((Real.cos (angle r f) : ℝ) : EReal))
    (hs : ∀ f, s f = ((Real.sin (angle r f) : ℝ) : EReal)) (hz : ∀ k, z k = ((a.q r h k : ℝ) : EReal)) (k : Fin 64) :
    (if h1 : k.val < 16 then if h2 : k.val < 8 then x ⟨k.val, h2⟩ * c ⟨k.val, h2⟩ - y ⟨k.val, h2⟩ * s ⟨k.val, h2⟩
      else y ⟨k.val - 8, by omega⟩ * c ⟨k.val - 8, by omega⟩ + x ⟨k.val - 8, by omega⟩ * s ⟨k.val - 8, by omega⟩
      else z ⟨16 + (k.val - 16), by omega⟩) = ((roped a r h k : ℝ) : EReal) := by
  unfold roped
  by_cases h1 : k.val < 8
  · rw [dif_pos (by omega), dif_pos h1, dif_pos h1, hx, hy, hc, hs, ← EReal.coe_mul, ← EReal.coe_mul, ← EReal.coe_sub]
  · rw [dif_neg h1]
    by_cases h2 : k.val < 16
    · rw [dif_pos h2, dif_pos h2, dif_neg h1, hx, hy, hc, hs, ← EReal.coe_mul, ← EReal.coe_mul, ← EReal.coe_add]
      have ek : (⟨k.val - 8 + 8, by omega⟩ : Fin 64) = k := Fin.ext (by simp only; omega)
      rw [ek]
    · rw [dif_neg h2, dif_neg h2, hz]
      have ek : (⟨16 + (k.val - 16), by omega⟩ : Fin 64) = k := Fin.ext (by simp only; omega)
      rw [ek]

set_option maxHeartbeats 1600000 in
theorem ref_roped (e : Taken W a) (n : Fin 64) (i : Fin 128) (g : Fin 2) (h : Fin 4) (k : Fin 64) :
    res_main_v37 W (ix6 0 n i g h k) = ((roped a (at128 n i) (headAt g h) k : ℝ) : EReal) := by
  have er : at128 n i = ⟨n.val * 128 + i.val, by omega⟩ := Fin.ext (by simp only; omega)
  have eh : headAt g h = ⟨g.val * 4 + h.val, by omega⟩ := Fin.ext (by simp only; omega)
  rw [er, eh]
  rw [← ref_lane (fun f => res_main_v22 W (ix4 0 _ _ f)) (fun f => res_main_v23 W (ix4 0 _ _ f)) (fun f => res_main_v18 W (ix4 0 _ 0 f))
    (fun f => res_main_v20 W (ix4 0 _ 0 f)) (fun k => W (Proc.devRef .tc main_arg0) (ix4 0 _ _ k)) _ _ (ref_low e _ _) (ref_high e _ _) (ref_cos _) (ref_sin _) (e.q _ _) k]
  unfold res_main_v37
  clean_types
  pointwise

theorem ref_zero (g : Fin 2) (i : Fin 128) (k : Fin 64) : res_main_v40 W (ix5 0 0 i g k) = (0 : EReal) := by
  unfold res_main_v40
  clean_types
  pointwise

theorem ref_key (e : Taken W a) (n : Fin 64) (i : Fin 128) (g : Fin 2) (k : Fin 64) :
    res_main_v38 W (ix5 0 n i g k) = ((a.k ⟨n.val * 128 + i.val, by omega⟩ g k : ℝ) : EReal) := by
  unfold res_main_v38
  clean_types
  pointwise
  exact e.k _ _ _

theorem ref_val (e : Taken W a) (n : Fin 64) (i : Fin 128) (g : Fin 2) (k : Fin 64) :
    res_main_v39 W (ix5 0 n i g k) = ((a.v ⟨n.val * 128 + i.val, by omega⟩ g k : ℝ) : EReal) := by
  unfold res_main_v39
  clean_types
  pointwise
  exact e.v _ _ _

/-- A window from its blocks. -/
theorem ref_window (x : Fin 8192 → Fin 2 → Fin 64 → ℝ) (z : Fin 128 → EReal) (y : Fin 64 → Fin 128 → EReal) (g : Fin 2) (k : Fin 64) (hz : ∀ i, z i = 0)
    (hy : ∀ n i, y n i = ((x ⟨n.val * 128 + i.val, by omega⟩ g k : ℝ) : EReal)) (n : Fin 64) (j : Fin 256) :
    (if h : j.val < 128 then if n.val < 1 then z ⟨j.val, h⟩ else y ⟨n.val - 1, by omega⟩ ⟨j.val, h⟩ else y n ⟨j.val - 128, by omega⟩)
      = ((keyWin x n j g k : ℝ) : EReal) := by
  rw [← keyWin_at (fun r g k => ((x r g k : ℝ) : EReal)) x (fun _ _ _ => rfl) n j g k]
  split_ifs with h1 h2
  · exact hz _
  · exact hy _ _
  · exact hy _ _

theorem ref_keys (e : Taken W a) (n : Fin 64) (j : Fin 256) (g : Fin 2) (k : Fin 64) : res_main_v44 W (ix5 0 n j g k) = ((keyWin a.k n j g k : ℝ) : EReal) := by
  rw [← ref_window a.k (fun i => res_main_v40 W (ix5 0 0 i g k)) (fun n i => res_main_v38 W (ix5 0 n i g k)) g k (fun i => ref_zero g i k) (fun n i => ref_key e n i g k) n j]
  unfold res_main_v44
  clean_types
  pointwise
  split_ifs with h1 h2
  · have en : (⟨n.val, by omega⟩ : Fin 1) = 0 := Fin.ext (by simp only; omega)
    rw [en]
  all_goals rfl

theorem ref_vals (e : Taken W a) (n : Fin 64) (j : Fin 256) (g : Fin 2) (k : Fin 64) : res_main_v48 W (ix5 0 n j g k) = ((keyWin a.v n j g k : ℝ) : EReal) := by
  rw [← ref_window a.v (fun i => res_main_v40 W (ix5 0 0 i g k)) (fun n i => res_main_v39 W (ix5 0 n i g k)) g k (fun i => ref_zero g i k) (fun n i => ref_val e n i g k) n j]
  unfold res_main_v48
  clean_types
  pointwise
  split_ifs with h1 h2
  · have en : (⟨n.val, by omega⟩ : Fin 1) = 0 := Fin.ext (by simp only; omega)
    rw [en]
  all_goals rfl

theorem ref_delta (i : Fin 128) (j : Fin 256) : (res_main_v61 W (ix2 i j)).toInt = ((i.val + 128 : ℕ) : ℤ) - (j.val : ℕ) := by
  unfold res_main_v61 res_main_v56
  clean_types
  pointwise
  rw [add_word, sub_word (by omega) (by omega)]

theorem ref_sees (n : Fin 64) (g : Fin 2) (h : Fin 4) (i : Fin 128) (j : Fin 256) :
    res_main_v84_1 W (ix6 0 n g h i j) = BitVec.ofBool (decide (Sees n i j)) := by
  have hd := ref_delta (W := W) i j
  unfold res_main_v84_1 res_main_v56
  clean_types
  pointwise
  generalize res_main_v61 W (ix2 i j) = d at hd ⊢
  refine sees_word' n i j d hd _ ?_
  rw [mul_word, add_word, sub_word (by omega) (by omega)]

theorem ref_masked (e : Taken W a) (n : Fin 64) (g : Fin 2) (h : Fin 4) (i : Fin 128) (j : Fin 256) :
    res_main_v84_0 W (ix6 0 n g h i j) = masked a n g h i j := by
  have hs := ref_sees (W := W) n g h i j
  unfold res_main_v84_0
  clean_types
  pointwise
  generalize res_main_v84_1 W (ix6 0 n g h i j) = d at hs ⊢
  rw [hs, select_word]
  unfold masked
  simp only [decide_eq_true_eq]
  refine if_congr Iff.rfl ?_ minus_inf
  unfold score
  refine (congrArg (· * _) (sum_mul_of (fun k => res_main_v44 W (ix5 0 n j g k)) (fun k => res_main_v37 W (ix6 0 n i g h k)) _ _
    (fun k => ref_keys e n j g k) (fun k => ref_roped e n i g h k))).trans ?_
  rw [eighth, ← EReal.coe_mul, Finset.sum_mul]
  exact congrArg _ (Finset.sum_congr rfl fun k _ => by ring)

theorem ref_sink (e : Taken W a) (g : Fin 2) (h : Fin 4) : res_main_v86 W (ix6 0 0 g h 0 0) = ((a.s (headAt g h) : ℝ) : EReal) := by
  unfold res_main_v86
  clean_types
  pointwise
  rw [e.s]
  exact congrArg (fun k => ((a.s k : ℝ) : EReal)) (Fin.ext (by simp only; omega))

theorem ref_max (e : Taken W a) (n : Fin 64) (g : Fin 2) (h : Fin 4) (i : Fin 128) :
    res_main_v87 W (ix5 0 n g h i) = (Finset.univ : Finset (Fin 256)).fold max ⊥ (masked a n g h i) := by
  have h0 : res_main_v87 W = rowMax (res_main_v84_0 W) := rfl
  rw [h0, rowMax_at]
  exact Finset.fold_congr fun k _ => ref_masked e n g h i k

theorem ref_max' (n : Fin 64) (g : Fin 2) (h : Fin 4) (i : Fin 128) : res_main_v93 W (ix6 0 n g h i 0) = res_main_v87 W (ix5 0 n g h i) := by
  unfold res_main_v93
  clean_types
  generalize res_main_v87 W = x
  pointwise

theorem ref_larger (x : FVec Ideal S1x64x2x4x128x1 .f32) (y : FVec Ideal S1x1x2x4x1x1 .f32) (n : Fin 64) (g : Fin 2) (h : Fin 4) (i : Fin 128) :
    maximumf x (broadcastInDim S1x64x2x4x128x1 ![0, 1, 2, 3, 4, 5] Gen.bcast_S1x1x2x4x1x1_S1x64x2x4x128x1_0_1_2_3_4_5 y) (ix6 0 n g h i 0)
      = max (x (ix6 0 n g h i 0) : EReal) (y (ix6 0 0 g h 0 0) : EReal) := by
  pointwise

theorem ref_shift (e : Taken W a) (n : Fin 64) (g : Fin 2) (h : Fin 4) (i : Fin 128) :
    res_main_v95 W (ix6 0 n g h i 0) = ((shift a n g h i : ℝ) : EReal) := by
  refine (ref_larger (res_main_v93 W) (res_main_v86 W) n g h i).trans ?_
  rw [ref_max', ref_max e, ref_sink e, shift_eq]

theorem ref_weight (e : Taken W a) (n : Fin 64) (g : Fin 2) (h : Fin 4) (i : Fin 128) (j : Fin 256) :
    res_main_v107 W (ix6 0 n g h i j) = ((weightAt a n g h i (shift a n g h i) j : ℝ) : EReal) := by
  unfold res_main_v107
  clean_types
  have h1 := ref_masked e n g h i j
  have h2 := ref_shift e n g h i
  generalize res_main_v84_0 W = x at h1 ⊢
  generalize res_main_v95 W = y at h2 ⊢
  pointwise
  rw [h1, h2, exp_masked]

theorem ref_sinkWeight (e : Taken W a) (n : Fin 64) (g : Fin 2) (h : Fin 4) (i : Fin 128) :
    res_main_v112 W (ix6 0 n g h i 0) = ((Real.exp (a.s (headAt g h) - shift a n g h i) : ℝ) : EReal) := by
  unfold res_main_v112
  clean_types
  have h1 := ref_sink e g h
  have h2 := ref_shift e n g h i
  generalize res_main_v86 W = x at h1 ⊢
  generalize res_main_v95 W = y at h2 ⊢
  pointwise
  rw [h1, h2, ← EReal.coe_sub]
  rfl

theorem ref_denom (e : Taken W a) (n : Fin 64) (g : Fin 2) (h : Fin 4) (i : Fin 128) :
    res_main_v113 W (ix6 0 n g h i 0) = ((denomAt a n g h i (shift a n g h i) : ℝ) : EReal) := by
  unfold res_main_v113
  clean_types
  have h1 := ref_weight e n g h i
  have h2 := ref_sinkWeight e n g h i
  generalize res_main_v107 W = x at h1 ⊢
  generalize res_main_v112 W = y at h2 ⊢
  pointwise
  rw [sum_last (φ := .f32), h2, zero_add]
  refine (congrArg (· + _) (sum_of (fun k => x (ix6 0 n g h i k)) _ h1)).trans ?_
  rw [← EReal.coe_add]
  rfl

theorem ref_prob (e : Taken W a) (n : Fin 64) (g : Fin 2) (h : Fin 4) (i : Fin 128) (j : Fin 256) :
    res_main_v115 W (ix6 0 n g h i j) = ((prob a n g h i j : ℝ) : EReal) := by
  unfold res_main_v115
  clean_types
  have h1 := ref_weight e n g h i j
  have h2 := ref_denom e n g h i
  generalize res_main_v107 W = x at h1 ⊢
  generalize res_main_v113 W = y at h2 ⊢
  pointwise
  rw [h1, h2, div_coe _ (denomAt_pos a n g h i _).ne', prob_eq]

end Cert.Chain

end
-- ==== Proof.RefGrad.lean ====
/- The reference's backward pass over the reals. -/
module

public import proofs.«01_k».proof.Proof.RefHead

@[expose] public section

set_option maxRecDepth 16384

noncomputable section

namespace Cert.Chain

open Cert.ReferenceIdeal Cert.ReferenceIdeal.Value Idealize.ShloMosaic Idealize.SL.Sem

section Reals

variable (a : Args) (n : Fin 64) (g : Fin 2) (h : Fin 4) (i : Fin 128) (M : ℝ)

/-- What the row's sum receives from its probabilities. -/
def sumCt : ℝ := -∑ j : Fin 256, probCt a n g h i j * (1 / (denomAt a n g h i M * denomAt a n g h i M)) * weightAt a n g h i M j

theorem weightAt_prob (j : Fin 256) : weightAt a n g h i M j = prob a n g h i j * denomAt a n g h i M := by
  rw [← prob_eq a n g h i M j, div_mul_cancel₀ _ (denomAt_pos a n g h i M).ne']

theorem sumCt_eq : sumCt a n g h i M = -(∑ j : Fin 256, prob a n g h i j * probCt a n g h i j) / denomAt a n g h i M := by
  have hd := (denomAt_pos a n g h i M).ne'
  unfold sumCt
  rw [neg_div, Finset.sum_div]
  refine congrArg Neg.neg (Finset.sum_congr rfl fun j _ => ?_)
  rw [weightAt_prob]
  field_simp

theorem scoreCt_eq (j : Fin 256) : (probCt a n g h i j / denomAt a n g h i M + sumCt a n g h i M) * weightAt a n g h i M j = scoreCt a n g h i j := by
  have hd := (denomAt_pos a n g h i M).ne'
  rw [sumCt_eq, weightAt_prob]
  unfold scoreCt
  field_simp
  ring

/-- The shift receives nothing. -/
theorem shiftCt_eq : -(sumCt a n g h i M * Real.exp (a.s (headAt g h) - M)) + ∑ j : Fin 256, -scoreCt a n g h i j = 0 := by
  have hd := (denomAt_pos a n g h i M).ne'
  have hs : Real.exp (a.s (headAt g h) - M) = denomAt a n g h i M * (1 - ∑ j : Fin 256, prob a n g h i j) := by
    have e : denomAt a n g h i M = (∑ j : Fin 256, prob a n g h i j) * denomAt a n g h i M + Real.exp (a.s (headAt g h) - M) := by
      rw [Finset.sum_mul]
      exact congrArg (· + _) (Finset.sum_congr rfl fun j _ => weightAt_prob a n g h i M j)
    linarith
  have ht : ∑ j : Fin 256, -scoreCt a n g h i j
      = (∑ j : Fin 256, prob a n g h i j * probCt a n g h i j) * (∑ j : Fin 256, prob a n g h i j) - ∑ j : Fin 256, prob a n g h i j * probCt a n g h i j := by
    rw [Finset.mul_sum, ← Finset.sum_sub_distrib]
    exact Finset.sum_congr rfl fun j _ => by unfold scoreCt; ring
  rw [hs, ht, sumCt_eq]
  field_simp
  ring

end Reals

variable {W : Valuation τ sig (Elt Ideal)} {a : Args}

theorem ref_ct (e : Taken W a) (n : Fin 64) (g : Fin 2) (k : Fin 64) (h : Fin 4) (i : Fin 128) :
    res_main_v123 W (ix6 0 n g k h i) = ((a.ct (at128 n i) (cell g h k) : ℝ) : EReal) := by
  unfold res_main_v123
  clean_types
  pointwise
  rw [e.ct]
  have e1 : (⟨n.val * 128 + i.val, by omega⟩ : Fin 8192) = at128 n i := Fin.ext (by simp only; omega)
  have e2 : (⟨g.val * 256 + h.val * 64 + k.val, by omega⟩ : Fin 512) = cell g h k := Fin.ext (by simp only; omega)
  rw [e1, e2]

theorem ref_probCt (e : Taken W a) (n : Fin 64) (g : Fin 2) (h : Fin 4) (i : Fin 128) (j : Fin 256) :
    res_main_v124 W (ix6 0 n g h i j) = ((probCt a n g h i j : ℝ) : EReal) := by
  refine Eq.trans ?_ (sum_mul_of (fun k => res_main_v123 W (ix6 0 n g k h i)) (fun k => res_main_v48 W (ix5 0 n j g k)) _ _
    (fun k => ref_ct e n g k h i) (fun k => ref_vals e n j g k))
  unfold res_main_v124
  clean_types
  pointwise

theorem ref_valCt (e : Taken W a) (n : Fin 64) (j : Fin 256) (g : Fin 2) (k : Fin 64) :
    res_main_v126 W (ix5 0 n j g k) = ((valCt a n j g k : ℝ) : EReal) := by
  refine Eq.trans ?_ (sum_mul_two (fun h i => res_main_v123 W (ix6 0 n g k h i)) (fun h i => res_main_v115 W (ix6 0 n g h i j)) _ _
    (fun h i => ref_ct e n g k h i) (fun h i => ref_prob e n g h i j))
  unfold res_main_v126
  clean_types
  pointwise

theorem ref_sumCt (e : Taken W a) (n : Fin 64) (g : Fin 2) (h : Fin 4) (i : Fin 128) :
    res_main_v132 W (ix6 0 n g h i 0) = ((sumCt a n g h i (shift a n g h i) : ℝ) : EReal) := by
  unfold res_main_v132
  clean_types
  have h1 := ref_probCt e n g h i
  have h2 := ref_denom e n g h i
  have h3 := ref_weight e n g h i
  generalize res_main_v124 W = x at h1 ⊢
  generalize res_main_v113 W = y at h2 ⊢
  generalize res_main_v107 W = z at h3 ⊢
  pointwise
  rw [sum_last (φ := .f32), zero_add]
  unfold sumCt
  rw [EReal.coe_neg]
  refine congrArg Neg.neg (sum_of _ _ fun k => ?_)
  pointwise
  rw [h1, h2, h3, ← EReal.coe_one, ← EReal.coe_mul, div_coe _ (mul_self_pos.2 (denomAt_pos a n g h i _).ne').ne', ← EReal.coe_mul, ← EReal.coe_mul]

theorem ref_scoreCt (e : Taken W a) (n : Fin 64) (g : Fin 2) (h : Fin 4) (i : Fin 128) (j : Fin 256) :
    res_main_v141 W (ix6 0 n g h i j) = ((scoreCt a n g h i j : ℝ) : EReal) := by
  unfold res_main_v141
  clean_types
  have h1 := ref_probCt e n g h i j
  have h2 := ref_denom e n g h i
  have h3 := ref_weight e n g h i j
  have h4 := ref_sumCt e n g h i
  generalize res_main_v124 W = x at h1 ⊢
  generalize res_main_v113 W = y at h2 ⊢
  generalize res_main_v107 W = z at h3 ⊢
  generalize res_main_v132 W = w at h4 ⊢
  pointwise
  rw [sum_unit (φ := .f32), h1, h2, h3, h4, zero_add, div_coe _ (denomAt_pos a n g h i _).ne', ← EReal.coe_add, ← EReal.coe_mul, scoreCt_eq]

theorem bit_real (p : Bool) : (FloatOps.uitofp FTy.f32 (BitVec.ofBool p) : Ideal .f32) = ((if p then 1 else 0 : ℝ) : EReal) := by
  cases p
  · show (((BitVec.ofBool false).toNat : ℝ) : EReal) = _
    simp
  · show (((BitVec.ofBool true).toNat : ℝ) : EReal) = _
    simp

/-- The largest score is met, so its ties are at least one. -/
theorem ref_ties (e : Taken W a) (n : Fin 64) (g : Fin 2) (h : Fin 4) (i : Fin 128) :
    ∃ b : Fin 256 → ℝ, (∀ j, res_main_v91 W (ix6 0 n g h i j) = ((b j : ℝ) : EReal)) ∧ 0 < ∑ j, b j := by
  classical
  have h1 := ref_masked e n g h i
  have h2 := ref_max e n g h i
  refine ⟨fun j => if masked a n g h i j = (Finset.univ : Finset (Fin 256)).fold max ⊥ (masked a n g h i) then 1 else 0, fun j => ?_, ?_⟩
  · unfold res_main_v91
    clean_types
    generalize res_main_v84_0 W = x at h1 ⊢
    generalize res_main_v87 W = y at h2 ⊢
    pointwise
    rw [h1, h2, bit_real]
    simp only [decide_eq_true_eq]
  · obtain ⟨j, hj⟩ : ∃ j, masked a n g h i j = (Finset.univ : Finset (Fin 256)).fold max ⊥ (masked a n g h i) := by
      rcases fold_mem Finset.univ (masked a n g h i) with hb | ⟨j, _, hj⟩
      · have hle := le_fold Finset.univ (masked a n g h i) ⟨128 + i.val, by omega⟩ (Finset.mem_univ _)
        rw [hb] at hle
        unfold masked at hle
        rw [if_pos ⟨⟨by simp only; omega, by simp only; omega⟩, by simp only; omega⟩] at hle
        exact absurd hle (EReal.bot_lt_coe _).not_ge
      · exact ⟨j, hj⟩
    refine Finset.sum_pos' (fun k _ => by split_ifs; exacts [zero_le_one, le_rfl]) ⟨j, Finset.mem_univ _, ?_⟩
    rw [if_pos hj]
    exact one_pos

theorem ref_none (n : Fin 64) (g : Fin 2) (h : Fin 4) (i : Fin 128) (u v : EReal) (w : Fin 256 → EReal) (hu : u = ((sumCt a n g h i (shift a n g h i) : ℝ) : EReal))
    (hv : v = ((Real.exp (a.s (headAt g h) - shift a n g h i) : ℝ) : EReal)) (hw : ∀ k, w k = ((-scoreCt a n g h i k : ℝ) : EReal)) :
    -(u * v) + (0 + ∑ k, w k) = 0 := by
  rw [hu, hv, zero_add, sum_of w _ hw, ← EReal.coe_mul, ← EReal.coe_neg, ← EReal.coe_add, shiftCt_eq, EReal.coe_zero]

theorem ref_finish (p : Bool) (s u t c b : EReal) (S C : ℝ) (hs : s = ((S : ℝ) : EReal)) (hu : u = 0) (hc : c = ((C : ℝ) : EReal)) (hC : 0 < C) :
    Scalar.select (BitVec.ofBool p) ((s + Ideal.div (u * t) c * b) * Ideal.ofBits FTy.f32 1040187392#32) 0 = ((if p then S * (1 / 8) else 0 : ℝ) : EReal) := by
  have hd : Ideal.div 0 ((C : ℝ) : EReal) = 0 := (div_coe 0 hC.ne').trans (by rw [zero_div, EReal.coe_zero])
  rw [hs, hu, hc, zero_mul, hd, zero_mul, add_zero, eighth, ← EReal.coe_mul, select_word]
  cases p
  · rw [if_neg Bool.false_ne_true, if_neg Bool.false_ne_true, EReal.coe_zero]
  · rw [if_pos rfl, if_pos rfl]

/-- Which part of the shift's cotangent the scores receive, -/
def choiceOf (x6 : FVec Ideal S1x64x2x4x128x1 .f32) (x7 : FVec Ideal S1x1x2x4x1x1 .f32) : FVec Ideal S1x64x2x4x128x1 .f32 :=
  select (cmpf .ogt x6 (broadcastInDim S1x64x2x4x128x1 ![0, 1, 2, 3, 4, 5] Gen.bcast_S1x1x2x4x1x1_S1x64x2x4x128x1_0_1_2_3_4_5 x7)) (broadcastInDim S1x64x2x4x128x1 ![] Gen.bcast_S_S1x64x2x4x128x1 (constant S_ .f32 0x3F800000#32)) (select (cmpf .oeq x6 (broadcastInDim S1x64x2x4x128x1 ![0, 1, 2, 3, 4, 5] Gen.bcast_S1x1x2x4x1x1_S1x64x2x4x128x1_0_1_2_3_4_5 x7)) (broadcastInDim S1x64x2x4x128x1 ![] Gen.bcast_S_S1x64x2x4x128x1 (constant S_ .f32 0x3F000000#32)) (broadcastInDim S1x64x2x4x128x1 ![] Gen.bcast_S_S1x64x2x4x128x1 (constant S_ .f32 0x00000000#32)))

/-- and the scores' cotangent, of the arrays it is made from. -/
def scaledOf (x1 : IVec S1x64x2x4x128x256 1) (x2 : FVec Ideal S1x64x2x4x128x256 .f32) (x3 x4 : FVec Ideal S1x64x2x4x128x1 .f32) (x5 : FVec Ideal S1x64x2x4x128x256 .f32)
    (t : FVec Ideal S1x64x2x4x128x1 .f32) : FVec Ideal S1x64x2x256x128x4 .f32 :=
  transpose S1x64x2x256x128x4 [0, 1, 2, 5, 4, 3] (mulf (select x1 (addf x2 (mulf (broadcastInDim S1x64x2x4x128x256 ![0, 1, 2, 3, 4] Gen.bcast_S1x64x2x4x128_S1x64x2x4x128x256_0_1_2_3_4 (Host.divf (broadcastInDim S1x64x2x4x128 ![1, 2, 3, 4] Gen.bcast_S64x2x4x128_S1x64x2x4x128_1_2_3_4 (Host.reduceAdd (mulf (addf (Host.negf (mulf x3 x4)) (shapeCast _ (Host.reduceAdd (Host.negf x2) (constant S_ .f32 0x00000000#32) Gen.reducesTo_S1x64x2x4x128x256_S1x64x2x4x128_d5 Gen.h_S_) Gen.shapeCasts_S1x64x2x4x128_S1x64x2x4x128x1)) t) (constant S_ .f32 0x00000000#32) Gen.reducesTo_S1x64x2x4x128x1_S64x2x4x128_d0_5 Gen.h_S_)) (Host.reduceAdd x5 (constant S_ .f32 0x00000000#32) Gen.reducesTo_S1x64x2x4x128x256_S1x64x2x4x128_d5 Gen.h_S_))) x5)) (broadcastInDim S1x64x2x4x128x256 ![] Gen.bcast_S_S1x64x2x4x128x256 (constant S_ .f32 0x00000000#32))) (broadcastInDim S1x64x2x4x128x256 ![] Gen.bcast_S_S1x64x2x4x128x256 (constant S_ .f32 0x3E000000#32))) Gen.transposes_S1x64x2x4x128x256_S1x64x2x256x128x4_0_1_2_5_4_3

theorem scaled_read : res_main_v156 W
    = scaledOf (res_main_v84_1 W) (res_main_v141 W) (res_main_v132 W) (res_main_v112 W) (res_main_v91 W) (choiceOf (res_main_v93 W) (res_main_v86 W)) := rfl

set_option maxHeartbeats 1600000 in
theorem scaled_val (n : Fin 64) (g : Fin 2) (j : Fin 256) (i : Fin 128) (h : Fin 4)
    (x1 : IVec S1x64x2x4x128x256 1) (x2 : FVec Ideal S1x64x2x4x128x256 .f32) (x3 x4 : FVec Ideal S1x64x2x4x128x1 .f32) (x5 : FVec Ideal S1x64x2x4x128x256 .f32)
    (t : FVec Ideal S1x64x2x4x128x1 .f32) (b : Fin 256 → ℝ) (h1 : x1 (ix6 0 n g h i j) = BitVec.ofBool (decide (Sees n i j)))
    (h2 : ∀ j, x2 (ix6 0 n g h i j) = ((scoreCt a n g h i j : ℝ) : EReal)) (h3 : x3 (ix6 0 n g h i 0) = ((sumCt a n g h i (shift a n g h i) : ℝ) : EReal))
    (h4 : x4 (ix6 0 n g h i 0) = ((Real.exp (a.s (headAt g h) - shift a n g h i) : ℝ) : EReal)) (h5 : ∀ j, x5 (ix6 0 n g h i j) = ((b j : ℝ) : EReal)) (h6 : 0 < ∑ j, b j) :
    scaledOf x1 x2 x3 x4 x5 t (ix6 0 n g j i h) = ((scoreCt a n g h i j * (1 / 8) : ℝ) : EReal) := by
  unfold scaledOf
  pointwise
  rw [sum_unit (φ := .f32), sum_last (φ := .f32)]
  pointwise
  rw [sum_last (φ := .f32)]
  have hn := ref_none n g h i (x3 (ix6 0 n g h i 0)) (x4 (ix6 0 n g h i 0)) (fun k => Host.negf (F := Ideal) (φ := .f32) x2 (ix6 0 n g h i k)) h3 h4
    fun k => by pointwise; rw [h2, ← EReal.coe_neg]
  have hb := sum_of (fun k => x5 (ix6 0 n g h i k)) _ h5
  beta_reduce at hn hb
  rw [hn, hb, h1, h2, ref_finish (decide (Sees n i j)) _ 0 _ _ _ _ _ rfl rfl rfl h6]
  refine congrArg _ ?_
  simp only [decide_eq_true_eq]
  split_ifs with hs
  · rfl
  · rw [scoreCt_unseen hs, zero_mul]

theorem ref_scaled (e : Taken W a) (n : Fin 64) (g : Fin 2) (j : Fin 256) (i : Fin 128) (h : Fin 4) :
    res_main_v156 W (ix6 0 n g j i h) = ((scoreCt a n g h i j * (1 / 8) : ℝ) : EReal) := by
  obtain ⟨b, h5, h6⟩ := ref_ties e n g h i
  exact (congrFun scaled_read _).trans (scaled_val n g j i h _ _ _ _ _ _ b (ref_sees n g h i j) (ref_scoreCt e n g h i) (ref_sumCt e n g h i) (ref_sinkWeight e n g h i) h5 h6)

end Cert.Chain

end
-- ==== Proof.RefOut.lean ====
/- The reference's results. -/
module

public import proofs.«01_k».proof.Proof.RefGrad

@[expose] public section

set_option maxRecDepth 16384

noncomputable section

namespace Cert.Chain

open Cert.ReferenceIdeal Cert.ReferenceIdeal.Value Idealize.ShloMosaic Idealize.SL.Sem

variable {W : Valuation τ sig (Elt Ideal)} {a : Args}

/-- A row of the keys' shape is a row of one key-and-value head, -/
theorem keys_flat (z : FVec Ideal S1x64x128x2x64 .f32) (r : Fin 8192) (l : Fin 128) :
    shapeCast S8192x128 (shapeCast S1x8192x2x64 z Gen.shapeCasts_S1x64x128x2x64_S1x8192x2x64) Gen.shapeCasts_S1x8192x2x64_S8192x128 (ix2 r l)
      = z (ix5 0 ⟨r.val / 128, by omega⟩ ⟨r.val % 128, by omega⟩ ⟨l.val / 64, by omega⟩ ⟨l.val % 64, by omega⟩) := by
  pointwise

/-- the block after a block is its neighbour, and nothing after the last, -/
theorem keys_next (y : FVec Ideal S1x64x128x2x64 .f32) (n : Fin 64) (i : Fin 128) (g : Fin 2) (k : Fin 64) :
    pad S1x64x128x2x64 ![0, 0, 0, 0, 0] ![0, 1, 0, 0, 0] ![0, 0, 0, 0, 0] (extractStridedSlice S1x63x128x2x64 ![0, 1, 0, 0, 0] y Gen.slices_S1x64x128x2x64_S1x63x128x2x64_0_1_0_0_0) (constant S_ .f32 0x00000000#32) Gen.pads_S1x63x128x2x64_S1x64x128x2x64_000_010_000_000_000 Gen.h_S_ (ix5 0 n i g k)
      = if h : n.val + 1 < 64 then y (ix5 0 ⟨n.val + 1, h⟩ i g k) else (0 : EReal) := by
  pointwise
  by_cases h : n.val + 1 < 64
  · rw [dif_pos (by omega), dif_pos h]
    exact congrArg (fun v => y (ix5 0 v i g k)) (Fin.ext (Nat.add_comm _ _))
  · rw [dif_neg (by omega), dif_neg h]

/-- and a row of the heads is a row of one head. -/
theorem heads_flat (z : FVec Ideal S1x8192x8x64 .f32) (r : Fin 8192) (l : Fin 512) :
    truncf (F := Ideal) .bf16 (shapeCast S8192x512 z Gen.shapeCasts_S1x8192x8x64_S8192x512) Gen.bitsLt_bf16_f32 (ix2 r l)
      = z (ix4 0 r ⟨l.val / 64, by omega⟩ ⟨l.val % 64, by omega⟩) := by
  pointwise

theorem heads_first (p q : FVec Ideal S1x8192x8x8 .f32) (r : Fin 8192) (h : Fin 8) (k : Fin 16) :
    addf (pad S1x8192x8x16 ![0, 0, 0, 8] ![0, 0, 0, 0] ![0, 0, 0, 0] p (constant S_ .f32 0x00000000#32) Gen.pads_S1x8192x8x8_S1x8192x8x16_000_000_000_800 Gen.h_S_) (pad S1x8192x8x16 ![0, 0, 0, 0] ![0, 0, 0, 8] ![0, 0, 0, 0] q (constant S_ .f32 0x00000000#32) Gen.pads_S1x8192x8x8_S1x8192x8x16_000_000_000_080 Gen.h_S_) (ix4 0 r h k)
      = if hk : k.val < 8 then q (ix4 0 r h ⟨k.val, hk⟩) else p (ix4 0 r h ⟨k.val - 8, by omega⟩) := by
  pointwise
  by_cases hk : k.val < 8
  · rw [dif_neg (by omega), dif_pos hk, dif_pos hk, zero_add]
  · rw [dif_pos (by omega), dif_neg hk, dif_neg hk, add_zero]

theorem heads_whole (x : FVec Ideal S1x8192x8x64 .f32) (p : FVec Ideal S1x8192x8x16 .f32) (r : Fin 8192) (h : Fin 8) (k : Fin 64) :
    addf (pad S1x8192x8x64 ![0, 0, 0, 16] ![0, 0, 0, 0] ![0, 0, 0, 0] (extractStridedSlice S1x8192x8x48 ![0, 0, 0, 16] x Gen.slices_S1x8192x8x64_S1x8192x8x48_0_0_0_16) (constant S_ .f32 0x00000000#32) Gen.pads_S1x8192x8x48_S1x8192x8x64_000_000_000_1600 Gen.h_S_) (pad S1x8192x8x64 ![0, 0, 0, 0] ![0, 0, 0, 48] ![0, 0, 0, 0] p (constant S_ .f32 0x00000000#32) Gen.pads_S1x8192x8x16_S1x8192x8x64_000_000_000_0480 Gen.h_S_) (ix4 0 r h k)
      = if hk : k.val < 16 then p (ix4 0 r h ⟨k.val, hk⟩) else x (ix4 0 r h k) := by
  pointwise
  by_cases hk : k.val < 16
  · rw [dif_neg (by omega), dif_pos hk, dif_pos hk, zero_add]
  · have ek : (⟨16 + (k.val - 16), by omega⟩ : Fin 64) = k := Fin.ext (by simp only; omega)
    rw [dif_pos (by omega), dif_neg hk, dif_neg hk, add_zero, ek]

theorem heads_high (u v : FVec Ideal S1x8192x8x8 .f32) (c s : FVec Ideal S1x8192x1x8 .f32) (r : Fin 8192) (h f : Fin 8) :
    addf (mulf v (broadcastInDim S1x8192x8x8 ![0, 1, 2, 3] Gen.bcast_S1x8192x1x8_S1x8192x8x8_0_1_2_3 c)) (mulf (Host.negf u) (broadcastInDim S1x8192x8x8 ![0, 1, 2, 3] Gen.bcast_S1x8192x1x8_S1x8192x8x8_0_1_2_3 s)) (ix4 0 r h f)
      = v (ix4 0 r h f) * c (ix4 0 r 0 f) + (Neg.neg (α := EReal) (u (ix4 0 r h f))) * s (ix4 0 r 0 f) := by
  pointwise

theorem heads_low (u v : FVec Ideal S1x8192x8x8 .f32) (c s : FVec Ideal S1x8192x1x8 .f32) (r : Fin 8192) (h f : Fin 8) :
    addf (mulf v (broadcastInDim S1x8192x8x8 ![0, 1, 2, 3] Gen.bcast_S1x8192x1x8_S1x8192x8x8_0_1_2_3 s)) (mulf u (broadcastInDim S1x8192x8x8 ![0, 1, 2, 3] Gen.bcast_S1x8192x1x8_S1x8192x8x8_0_1_2_3 c)) (ix4 0 r h f)
      = v (ix4 0 r h f) * s (ix4 0 r 0 f) + u (ix4 0 r h f) * c (ix4 0 r 0 f) := by
  pointwise

theorem ref_spread (x y : FVec Ideal S1x64x128x2x64 .f32) (f : Fin 64 → Fin 256 → Fin 2 → Fin 64 → ℝ)
    (hx : ∀ n i g k, x (ix5 0 n i g k) = ((f n ⟨128 + i.val, by omega⟩ g k : ℝ) : EReal)) (hy : ∀ n i g k, y (ix5 0 n i g k) = ((f n ⟨i.val, by omega⟩ g k : ℝ) : EReal))
    (r : Fin 8192) (l : Fin 128) :
    shapeCast S8192x128 (shapeCast S1x8192x2x64 (addf x (pad S1x64x128x2x64 ![0, 0, 0, 0, 0] ![0, 1, 0, 0, 0] ![0, 0, 0, 0, 0] (extractStridedSlice S1x63x128x2x64 ![0, 1, 0, 0, 0] y Gen.slices_S1x64x128x2x64_S1x63x128x2x64_0_1_0_0_0) (constant S_ .f32 0x00000000#32) Gen.pads_S1x63x128x2x64_S1x64x128x2x64_000_010_000_000_000 Gen.h_S_)) Gen.shapeCasts_S1x64x128x2x64_S1x8192x2x64) Gen.shapeCasts_S1x8192x2x64_S8192x128 (ix2 r l)
      = ((wholeOut (fun n j l => f n j (headOf l) (low64 l)) r l : ℝ) : EReal) := by
  rw [keys_flat, addf_apply, keys_next, hx]
  unfold wholeOut
  rw [EReal.coe_add]
  refine congrArg (_ + ·) ?_
  by_cases h : r.val / 128 + 1 < 64
  · rw [dif_pos h, dif_pos h, hy]
  · rw [dif_neg h, dif_neg h]
    rfl

theorem ref_unrope (x : FVec Ideal S1x8192x8x64 .f32) (u v : FVec Ideal S1x8192x8x8 .f32) (c s : FVec Ideal S1x8192x1x8 .f32) (y : Fin 8192 → Fin 8 → Fin 64 → ℝ)
    (hx : ∀ r h k, x (ix4 0 r h k) = ((y r h k : ℝ) : EReal)) (hu : ∀ r h f, u (ix4 0 r h f) = ((y r h ⟨f.val, by omega⟩ : ℝ) : EReal))
    (hv : ∀ r h f, v (ix4 0 r h f) = ((y r h ⟨f.val + 8, by omega⟩ : ℝ) : EReal)) (hc : ∀ r f, c (ix4 0 r 0 f) = ((Real.cos (angle r f) : ℝ) : EReal))
    (hs : ∀ r f, s (ix4 0 r 0 f) = ((Real.sin (angle r f) : ℝ) : EReal)) (r : Fin 8192) (l : Fin 512) :
    truncf (F := Ideal) .bf16 (shapeCast S8192x512 (addf (pad S1x8192x8x64 ![0, 0, 0, 16] ![0, 0, 0, 0] ![0, 0, 0, 0] (extractStridedSlice S1x8192x8x48 ![0, 0, 0, 16] x Gen.slices_S1x8192x8x64_S1x8192x8x48_0_0_0_16) (constant S_ .f32 0x00000000#32) Gen.pads_S1x8192x8x48_S1x8192x8x64_000_000_000_1600 Gen.h_S_) (pad S1x8192x8x64 ![0, 0, 0, 0] ![0, 0, 0, 48] ![0, 0, 0, 0] (addf (pad S1x8192x8x16 ![0, 0, 0, 8] ![0, 0, 0, 0] ![0, 0, 0, 0] (addf (mulf v (broadcastInDim S1x8192x8x8 ![0, 1, 2, 3] Gen.bcast_S1x8192x1x8_S1x8192x8x8_0_1_2_3 c)) (mulf (Host.negf u) (broadcastInDim S1x8192x8x8 ![0, 1, 2, 3] Gen.bcast_S1x8192x1x8_S1x8192x8x8_0_1_2_3 s))) (constant S_ .f32 0x00000000#32) Gen.pads_S1x8192x8x8_S1x8192x8x16_000_000_000_800 Gen.h_S_) (pad S1x8192x8x16 ![0, 0, 0, 0] ![0, 0, 0, 8] ![0, 0, 0, 0] (addf (mulf v (broadcastInDim S1x8192x8x8 ![0, 1, 2, 3] Gen.bcast_S1x8192x1x8_S1x8192x8x8_0_1_2_3 s)) (mulf u (broadcastInDim S1x8192x8x8 ![0, 1, 2, 3] Gen.bcast_S1x8192x1x8_S1x8192x8x8_0_1_2_3 c))) (constant S_ .f32 0x00000000#32) Gen.pads_S1x8192x8x8_S1x8192x8x16_000_000_000_080 Gen.h_S_)) (constant S_ .f32 0x00000000#32) Gen.pads_S1x8192x8x16_S1x8192x8x64_000_000_000_0480 Gen.h_S_)) Gen.shapeCasts_S1x8192x8x64_S8192x512) Gen.bitsLt_bf16_f32 (ix2 r l)
      = ((unroped (y r ⟨l.val / 64, by omega⟩) r ⟨l.val % 64, by omega⟩ : ℝ) : EReal) := by
  rw [heads_flat, heads_whole]
  unfold unroped
  by_cases h1 : l.val % 64 < 8
  · rw [dif_pos (show l.val % 64 < 16 by omega), heads_first, dif_pos h1, dif_pos h1, heads_low, hu, hv, hc, hs, add_comm, ← EReal.coe_mul, ← EReal.coe_mul, ← EReal.coe_add]
  · by_cases h2 : l.val % 64 < 16
    · rw [dif_pos h2, heads_first, dif_neg h1, dif_neg h1, dif_pos h2, heads_high, hu, hv, hc, hs, EReal.coe_sub, EReal.coe_mul, EReal.coe_mul, EReal.neg_mul, ← sub_eq_add_neg]
      have e1 : (⟨l.val % 64 - 8 + 8, by omega⟩ : Fin 64) = ⟨l.val % 64, by omega⟩ := Fin.ext (by simp only; omega)
      rw [e1]
    · rw [dif_neg h2, dif_neg h1, dif_neg h2, hx]

/-- The gradient of the roped keys, of the scores' cotangent and the roped queries, -/
def keysOf (x : FVec Ideal S1x64x2x256x128x4 .f32) (y : FVec Ideal S1x64x128x2x4x64 .f32) : FVec Ideal S1x64x256x2x64 .f32 :=
  transpose S1x64x256x2x64 [0, 1, 3, 2, 4] (Host.dotGeneral dot_S1x64x2x256x128x4_S1x64x128x2x4x64_S1x64x2x256x64_45_24_3_5_012_013 none x y) Gen.transposes_S1x64x2x256x64_S1x64x256x2x64_0_1_3_2_4

/-- and of the roped queries, of the scores' cotangent and the keys. -/
def queriesOf (x : FVec Ideal S1x64x2x256x128x4 .f32) (y : FVec Ideal S1x64x256x2x64 .f32) : FVec Ideal S1x8192x8x64 .f32 :=
  shapeCast _ (transpose S1x64x128x2x4x64 [0, 1, 3, 2, 4, 5] (Host.dotGeneral dot_S1x64x2x256x128x4_S1x64x256x2x64_S1x64x2x128x4x64_3_2_45_4_012_013 none x y) Gen.transposes_S1x64x2x128x4x64_S1x64x128x2x4x64_0_1_3_2_4_5) Gen.shapeCasts_S1x64x128x2x4x64_S1x8192x8x64

theorem keys_val (x : FVec Ideal S1x64x2x256x128x4 .f32) (y : FVec Ideal S1x64x128x2x4x64 .f32) (n : Fin 64) (j : Fin 256) (g : Fin 2) (k : Fin 64) :
    keysOf x y (ix5 0 n j g k) = ∑ i : Fin 128, ∑ h : Fin 4, x (ix6 0 n g j i h) * y (ix6 0 n i g h k) := by
  unfold keysOf
  pointwise

theorem queries_val (x : FVec Ideal S1x64x2x256x128x4 .f32) (y : FVec Ideal S1x64x256x2x64 .f32) (r : Fin 8192) (h : Fin 8) (k : Fin 64) :
    queriesOf x y (ix4 0 r h k) = ∑ j : Fin 256, x (ix6 0 ⟨r.val / 128, by omega⟩ ⟨h.val / 4, by omega⟩ j ⟨r.val % 128, by omega⟩ ⟨h.val % 4, by omega⟩) * y (ix5 0 ⟨r.val / 128, by omega⟩ j ⟨h.val / 4, by omega⟩ k) := by
  unfold queriesOf
  pointwise

theorem ref_keyCt (e : Taken W a) (n : Fin 64) (j : Fin 256) (g : Fin 2) (k : Fin 64) :
    res_main_v160 W (ix5 0 n j g k) = ((keyCt a n j g k : ℝ) : EReal) :=
  ((congrFun (rfl : res_main_v160 W = keysOf (res_main_v156 W) (res_main_v37 W)) _).trans (keys_val _ _ n j g k)).trans
    (sum_mul_two (fun i h => res_main_v156 W (ix6 0 n g j i h)) (fun i h => res_main_v37 W (ix6 0 n i g h k)) _ _ (fun i h => ref_scaled e n g j i h) (fun i h => ref_roped e n i g h k))

/-- The gradient of a roped query, by its row and its head. -/
def headCt (a : Args) (r : Fin 8192) (h : Fin 8) (k : Fin 64) : ℝ :=
  queryCt a ⟨r.val / 128, by omega⟩ ⟨h.val / 4, by omega⟩ ⟨h.val % 4, by omega⟩ ⟨r.val % 128, by omega⟩ k

theorem ref_queryCt (e : Taken W a) (r : Fin 8192) (h : Fin 8) (k : Fin 64) : res_main_v175 W (ix4 0 r h k) = ((headCt a r h k : ℝ) : EReal) :=
  ((congrFun (rfl : res_main_v175 W = queriesOf (res_main_v156 W) (res_main_v44 W)) _).trans (queries_val _ _ r h k)).trans
    (sum_mul_of (fun j => res_main_v156 W (ix6 0 ⟨r.val / 128, by omega⟩ ⟨h.val / 4, by omega⟩ j ⟨r.val % 128, by omega⟩ ⟨h.val % 4, by omega⟩))
      (fun j => res_main_v44 W (ix5 0 ⟨r.val / 128, by omega⟩ j ⟨h.val / 4, by omega⟩ k)) _ _ (fun j => ref_scaled e _ _ j _ _) (fun j => ref_keys e _ j _ k))

def lowOf (x : FVec Ideal S1x8192x8x64 .f32) : FVec Ideal S1x8192x8x8 .f32 :=
  extractStridedSlice S1x8192x8x8 ![0, 0, 0, 0] (extractStridedSlice S1x8192x8x16 ![0, 0, 0, 0] x Gen.slices_S1x8192x8x64_S1x8192x8x16_0_0_0_0) Gen.slices_S1x8192x8x16_S1x8192x8x8_0_0_0_0

def highOf (x : FVec Ideal S1x8192x8x64 .f32) : FVec Ideal S1x8192x8x8 .f32 :=
  extractStridedSlice S1x8192x8x8 ![0, 0, 0, 8] (extractStridedSlice S1x8192x8x16 ![0, 0, 0, 0] x Gen.slices_S1x8192x8x64_S1x8192x8x16_0_0_0_0) Gen.slices_S1x8192x8x16_S1x8192x8x8_0_0_0_8

theorem low_val (x : FVec Ideal S1x8192x8x64 .f32) (r : Fin 8192) (h f : Fin 8) : lowOf x (ix4 0 r h f) = x (ix4 0 r h ⟨f.val, by omega⟩) := by
  unfold lowOf
  pointwise

theorem high_val (x : FVec Ideal S1x8192x8x64 .f32) (r : Fin 8192) (h f : Fin 8) : highOf x (ix4 0 r h f) = x (ix4 0 r h ⟨f.val + 8, by omega⟩) := by
  unfold highOf
  pointwise
  exact congrArg (fun v => x (ix4 0 r h v)) (Fin.ext (Nat.add_comm _ _))

theorem ref_before (x : FVec Ideal S1x64x256x2x64 .f32) (f : Fin 64 → Fin 256 → Fin 2 → Fin 64 → ℝ) (hx : ∀ n j g k, x (ix5 0 n j g k) = ((f n j g k : ℝ) : EReal))
    (n : Fin 64) (i : Fin 128) (g : Fin 2) (k : Fin 64) :
    extractStridedSlice S1x64x128x2x64 ![0, 0, 0, 0, 0] x Gen.slices_S1x64x256x2x64_S1x64x128x2x64_0_0_0_0_0 (ix5 0 n i g k) = ((f n ⟨i.val, by omega⟩ g k : ℝ) : EReal)
      ∧ extractStridedSlice S1x64x128x2x64 ![0, 0, 128, 0, 0] x Gen.slices_S1x64x256x2x64_S1x64x128x2x64_0_0_128_0_0 (ix5 0 n i g k) = ((f n ⟨128 + i.val, by omega⟩ g k : ℝ) : EReal) := by
  constructor
  · pointwise
    exact hx _ _ _ _
  · pointwise
    exact hx _ _ _ _

theorem query_head (a : Args) (r : Fin 8192) (c : Fin 512) : unroped (headCt a r ⟨c.val / 64, by omega⟩) r ⟨c.val % 64, by omega⟩ = queryGrad a r c := by
  unfold queryGrad
  refine congrArg (fun y => unroped y r ⟨c.val % 64, by omega⟩) (funext fun k => ?_)
  unfold headCt
  exact congrArg (fun g => queryCt a ⟨r.val / 128, by omega⟩ g ⟨c.val / 64 % 4, by omega⟩ ⟨r.val % 128, by omega⟩ k) (Fin.ext (by simp only; omega))

/-- The gradient of the queries, -/
theorem ref_queryGrad (e : Taken W a) : truncf .bf16 (shapeCast S8192x512 (addf (pad S1x8192x8x64 ![0, 0, 0, 16] ![0, 0, 0, 0] ![0, 0, 0, 0] (extractStridedSlice S1x8192x8x48 ![0, 0, 0, 16] (res_main_v175 W) Gen.slices_S1x8192x8x64_S1x8192x8x48_0_0_0_16) (constant S_ .f32 0x00000000#32) Gen.pads_S1x8192x8x48_S1x8192x8x64_000_000_000_1600 Gen.h_S_) (pad S1x8192x8x64 ![0, 0, 0, 0] ![0, 0, 0, 48] ![0, 0, 0, 0] (addf (pad S1x8192x8x16 ![0, 0, 0, 8] ![0, 0, 0, 0] ![0, 0, 0, 0] (addf (mulf (res_main_v180 W) (broadcastInDim S1x8192x8x8 ![0, 1, 2, 3] Gen.bcast_S1x8192x1x8_S1x8192x8x8_0_1_2_3 (res_main_v18 W))) (mulf (Host.negf (res_main_v179 W)) (broadcastInDim S1x8192x8x8 ![0, 1, 2, 3] Gen.bcast_S1x8192x1x8_S1x8192x8x8_0_1_2_3 (res_main_v20 W)))) (constant S_ .f32 0x00000000#32) Gen.pads_S1x8192x8x8_S1x8192x8x16_000_000_000_800 Gen.h_S_) (pad S1x8192x8x16 ![0, 0, 0, 0] ![0, 0, 0, 8] ![0, 0, 0, 0] (addf (mulf (res_main_v180 W) (broadcastInDim S1x8192x8x8 ![0, 1, 2, 3] Gen.bcast_S1x8192x1x8_S1x8192x8x8_0_1_2_3 (res_main_v20 W))) (mulf (res_main_v179 W) (broadcastInDim S1x8192x8x8 ![0, 1, 2, 3] Gen.bcast_S1x8192x1x8_S1x8192x8x8_0_1_2_3 (res_main_v18 W)))) (constant S_ .f32 0x00000000#32) Gen.pads_S1x8192x8x8_S1x8192x8x16_000_000_000_080 Gen.h_S_)) (constant S_ .f32 0x00000000#32) Gen.pads_S1x8192x8x16_S1x8192x8x64_000_000_000_0480 Gen.h_S_)) Gen.shapeCasts_S1x8192x8x64_S8192x512) Gen.bitsLt_bf16_f32
    = fun x => ((queryGrad a (x 0) (x 1) : ℝ) : EReal) := by
  funext x
  rw [eq_ix2 x]
  refine (ref_unrope (res_main_v175 W) (res_main_v179 W) (res_main_v180 W) (res_main_v18 W) (res_main_v20 W) (headCt a) (fun r h k => ref_queryCt e r h k)
    (fun r h f => ((congrFun (rfl : res_main_v179 W = lowOf (res_main_v175 W)) _).trans (low_val _ r h f)).trans (ref_queryCt e r h _))
    (fun r h f => ((congrFun (rfl : res_main_v180 W = highOf (res_main_v175 W)) _).trans (high_val _ r h f)).trans (ref_queryCt e r h _))
    (fun r f => ref_cos r f) (fun r f => ref_sin r f) (x 0) (x 1)).trans ?_
  exact congrArg _ (query_head a (x 0) (x 1))

/-- of the keys before their rope, -/
theorem ref_keyGrad (e : Taken W a) : shapeCast S8192x128 (shapeCast S1x8192x2x64 (addf (extractStridedSlice S1x64x128x2x64 ![0, 0, 128, 0, 0] (res_main_v160 W) Gen.slices_S1x64x256x2x64_S1x64x128x2x64_0_0_128_0_0) (pad S1x64x128x2x64 ![0, 0, 0, 0, 0] ![0, 1, 0, 0, 0] ![0, 0, 0, 0, 0] (extractStridedSlice S1x63x128x2x64 ![0, 1, 0, 0, 0] (res_main_v167 W) Gen.slices_S1x64x128x2x64_S1x63x128x2x64_0_1_0_0_0) (constant S_ .f32 0x00000000#32) Gen.pads_S1x63x128x2x64_S1x64x128x2x64_000_010_000_000_000 Gen.h_S_)) Gen.shapeCasts_S1x64x128x2x64_S1x8192x2x64) Gen.shapeCasts_S1x8192x2x64_S8192x128
    = fun x => ((wholeOut (keyLane a) (x 0) (x 1) : ℝ) : EReal) := by
  funext x
  rw [eq_ix2 x]
  exact ref_spread _ _ (keyCt a) (fun n i g k => (ref_before _ _ (fun n j g k => ref_keyCt e n j g k) n i g k).2)
    (fun n i g k => (ref_before _ _ (fun n j g k => ref_keyCt e n j g k) n i g k).1) (x 0) (x 1)

/-- and of the values. -/
theorem ref_valGrad (e : Taken W a) : shapeCast S8192x128 (shapeCast S1x8192x2x64 (addf (extractStridedSlice S1x64x128x2x64 ![0, 0, 128, 0, 0] (res_main_v126 W) Gen.slices_S1x64x256x2x64_S1x64x128x2x64_0_0_128_0_0) (pad S1x64x128x2x64 ![0, 0, 0, 0, 0] ![0, 1, 0, 0, 0] ![0, 0, 0, 0, 0] (extractStridedSlice S1x63x128x2x64 ![0, 1, 0, 0, 0] (res_main_v161 W) Gen.slices_S1x64x128x2x64_S1x63x128x2x64_0_1_0_0_0) (constant S_ .f32 0x00000000#32) Gen.pads_S1x63x128x2x64_S1x64x128x2x64_000_010_000_000_000 Gen.h_S_)) Gen.shapeCasts_S1x64x128x2x64_S1x8192x2x64) Gen.shapeCasts_S1x8192x2x64_S8192x128
    = fun x => ((wholeOut (valLane a) (x 0) (x 1) : ℝ) : EReal) := by
  funext x
  rw [eq_ix2 x]
  exact ref_spread _ _ (valCt a) (fun n i g k => (ref_before _ _ (fun n j g k => ref_valCt e n j g k) n i g k).2)
    (fun n i g k => (ref_before _ _ (fun n j g k => ref_valCt e n j g k) n i g k).1) (x 0) (x 1)

end Cert.Chain

end
-- ==== Proof.Finite.lean ====
/- Finite arguments as reals. -/
module

public import proofs.«01_k».proof.Defs
public import proofs.«01_k».proof.Proof.Host

@[expose] public section

set_option maxRecDepth 16384

noncomputable section

namespace Cert.Chain

open Idealize.ShloMosaic Idealize.SL.Sem

theorem pre_facts : Cert.Pre_finite.Facts where
  bcast_S_S1x8192x8x64 := by decide
  bcast_S_S1x8192x2x64 := by decide
  bcast_S_S8 := by decide
  bcast_S_S1x8192x512 := by decide

/-- The reals of the five argument arrays. -/
def argsOf (q : Cert.KernelIdeal.S1x8192x8x64.Idx → EReal) (k : Cert.KernelIdeal.S1x8192x2x64.Idx → EReal) (s : Cert.KernelIdeal.S8.Idx → EReal)
    (v : Cert.KernelIdeal.S1x8192x2x64.Idx → EReal) (ct : Cert.KernelIdeal.S1x8192x512.Idx → EReal) : Args where
  q r h k := (q (ix4 0 r h k)).toReal
  k r g l := (k (ix4 0 r g l)).toReal
  s h := (s (ix1 h)).toReal
  v r g k := (v (ix4 0 r g k)).toReal
  ct r c := (ct (ix3 0 r c)).toReal

theorem top_word : Ideal.ofBits .f32 0x7F800000#32 = (⊤ : EReal) := by
  simp [Ideal.ofBits, Ideal.ieee]

theorem real_of_abs {x : EReal} (h : FloatOps.absf (F := Ideal) (φ := .f32) x < (⊤ : EReal)) : x = (x.toReal : EReal) := by
  refine (EReal.coe_toReal ?_ ?_).symm
  · rintro rfl
    exact absurd h (by simp [FloatOps.absf])
  · rintro rfl
    exact absurd h (by simp [FloatOps.absf])

/-- An array the precondition holds of is of reals. -/
theorem real_of {s : Shape} {x b : FVec Ideal s .f32} (h : cmpf .olt (Host.absf x) b = fun _ => 1#1) (hb : ∀ i, b i = Ideal.ofBits .f32 0x7F800000#32) (i : s.Idx) :
    x i = ((x i).toReal : EReal) := by
  have hi : BitVec.ofBool (decide (FloatOps.absf (F := Ideal) (φ := .f32) (x i) < b i)) = 1#1 := congrFun h i
  rw [hb, top_word] at hi
  refine real_of_abs ?_
  by_contra hn
  rw [decide_eq_false hn] at hi
  exact absurd hi (by decide)

variable {m : (ℓ : Loc Cert.KernelIdeal.nD Cert.KernelIdeal.τ Cert.KernelIdeal.sig) → Buf (Elt Ideal) ℓ}

/-- The reals of device `c`'s arguments. -/
def argsAt (m : (ℓ : Loc Cert.KernelIdeal.nD Cert.KernelIdeal.τ Cert.KernelIdeal.sig) → Buf (Elt Ideal) ℓ) (c : Dev Cert.KernelIdeal.nD) : Args :=
  argsOf (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4))

theorem given_of (h : Cert.Pre_KernelIdeal_finite (hPre_finite := pre_facts) m) (c : Dev Cert.KernelIdeal.nD) : Given0 (fun b => m (c, b)) (argsAt m c) where
  q r h' k := real_of (h c).1 (fun _ => rfl) (ix4 0 r h' k)
  k r g k := real_of (h c).2.1 (fun _ => rfl) (ix4 0 r g k)
  s h' := real_of (h c).2.2.1 (fun _ => rfl) (ix1 h')
  v r g k := real_of (h c).2.2.2.1 (fun _ => rfl) (ix4 0 r g k)
  ct r l := real_of (h c).2.2.2.2 (fun _ => rfl) (ix3 0 r l)

end Cert.Chain

end
-- ==== Proof.Finish.lean ====
/- The kernel's run and the reference's, with their results as reals. -/
module

public import proofs.«01_k».proof.Proof.Grad
public import proofs.«01_k».proof.Proof.Tail
public import proofs.«01_k».proof.Proof.RefOut
public import proofs.«01_k».proof.Proof.Finite

@[expose] public section

set_option maxRecDepth 16384

noncomputable section

namespace Cert.Chain

open Cert.KernelIdeal Cert.KernelIdeal.Gen Idealize.ShloMosaic Idealize.SL.Sem

variable {m : (ℓ : Loc nD τ sig) → Buf (Elt Ideal) ℓ}

/-- A block array the call leaves, as the lines after it find it. -/
theorem left_at (c : Dev nD) (w : Fin cfg0.W) :
    Pipeline.withArrays (cfgs 0).spec c (V0 m c) (fun w => (dats m 0 c).arrAt w (cfgs 0).N) (Proc.devRef .tc (Pipeline.arrRef spec0 w)) = (dats m 0 c).arrAt w (cfgs 0).N :=
  (dats m 0 c).withArrays_arrAt sharedIn0 (V0 m c) (A_eq m c) w

theorem keys_left {c : Dev nD} {d : Given} (e : Entry m c d) : Pipeline.afterTail₀ cfgs (dats m) 0 (V0 m) [hostOps1] c main_v97 = whole_arr (keyG d) := by
  unfold Pipeline.afterTail₀
  exact tail97 _ (keyG d) ((left_at c 12).trans (left12 e)) ((left_at c 14).trans (left14 e))

theorem vals_left {c : Dev nD} {d : Given} (e : Entry m c d) : Pipeline.afterTail₀ cfgs (dats m) 0 (V0 m) [hostOps1] c main_v101 = whole_arr (valG d) := by
  unfold Pipeline.afterTail₀
  exact tail101 _ (valG d) ((left_at c 13).trans (left13 e)) ((left_at c 15).trans (left15 e))

/-- The kernel's run: the three gradients, and its arguments kept. -/
theorem kernel_run (ρ : Dev nD → PrngReg) (a : Dev nD → Args) (he : ∀ c, Given0 (fun b => m (c, b)) (a c)) :
    θ_run defs (onTc (τ := τ) (main (F := Ideal))) ⟨m, fun _ => 0, ρ⟩ fun r => ∀ c : Dev nD,
      r.2.mem ((c.tc : Thread nD τ).loc main_v93_0) = query_arr (given (a c))
      ∧ r.2.mem ((c.tc : Thread nD τ).loc main_v97) = whole_arr (keyG (given (a c)))
      ∧ r.2.mem ((c.tc : Thread nD τ).loc main_v101) = whole_arr (valG (given (a c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 11).trans (left11 (entry (he c))),
      ((h c).2 main_v97 (Pipeline.mem_restRefs_of main_v97 (by decide) (by decide))).trans (keys_left (entry (he c))),
      ((h c).2 main_v101 (Pipeline.mem_restRefs_of main_v101 (by decide) (by decide))).trans (vals_left (entry (he c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

/-- The reference's gradients are the kernel's. -/
theorem query_same (a : Args) : (fun x => ((queryGrad a (x 0) (x 1) : ℝ) : EReal) : Cert.ReferenceIdeal.S8192x512.Idx → EReal) = query_arr (given a) :=
  funext fun x => congrArg (fun y : ℝ => (y : EReal)) (queryOut_eq (x 0) (x 1)).symm

theorem key_same (a : Args) : (fun x => ((wholeOut (keyLane a) (x 0) (x 1) : ℝ) : EReal) : Cert.ReferenceIdeal.S8192x128.Idx → EReal) = whole_arr (keyG (given a)) := by
  rw [keyG_eq]
  rfl

theorem val_same (a : Args) : (fun x => ((wholeOut (valLane a) (x 0) (x 1) : ℝ) : EReal) : Cert.ReferenceIdeal.S8192x128.Idx → EReal) = whole_arr (valG (given a)) := by
  rw [valG_eq]
  rfl

theorem reference_run (m' : (ℓ : Loc Cert.ReferenceIdeal.nD Cert.ReferenceIdeal.τ Cert.ReferenceIdeal.sig) → Buf (Elt Ideal) ℓ) (ρ : Dev Cert.ReferenceIdeal.nD → PrngReg)
    (a : Dev Cert.ReferenceIdeal.nD → Args) (he : ∀ c, Taken (StableHlo.launchContents m' c) (a c)) :
    θ_run Cert.ReferenceIdeal.defs (onTc (τ := Cert.ReferenceIdeal.τ) (Cert.ReferenceIdeal.main (F := Ideal))) ⟨m', fun _ => 0, ρ⟩ fun r => ∀ c : Dev Cert.ReferenceIdeal.nD,
      r.2.mem ((c.tc : Thread Cert.ReferenceIdeal.nD Cert.ReferenceIdeal.τ).loc Cert.ReferenceIdeal.main_v198) = query_arr (given (a c))
      ∧ r.2.mem ((c.tc : Thread Cert.ReferenceIdeal.nD Cert.ReferenceIdeal.τ).loc Cert.ReferenceIdeal.main_v199) = whole_arr (keyG (given (a c)))
      ∧ r.2.mem ((c.tc : Thread Cert.ReferenceIdeal.nD Cert.ReferenceIdeal.τ).loc Cert.ReferenceIdeal.main_v200) = whole_arr (valG (given (a c)))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4) :=
  (θ_run Cert.ReferenceIdeal.defs _ _).mono (fun r h c => ⟨((h c).1.trans (ref_queryGrad (he c))).trans (query_same (a c)),
      ((h c).2.1.trans (ref_keyGrad (he c))).trans (key_same (a c)), ((h c).2.2.1.trans (ref_valGrad (he c))).trans (val_same (a c)), (h c).2.2.2⟩)
    (Cert.ReferenceIdeal.Value.run (F := Ideal) m' ρ)

end Cert.Chain

end
-- ==== Proof.ProjSpec.lean ====
module

public import proofs.«01_k».proof.Proof.Gen.Kernel2Ideal.Frame
public import proofs.«01_k».proof.Proof.Gen.Kernel2Ideal.Skeleton

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

/-- The result kept in the large memory, whole. -/
abbrev gwMem : Memref sig .tc .hbm S3328x1024 .f32 := Memref.whole main_v38_1

/-- The large result's buffer held whole at the contents `f`. -/
abbrev gwAt (c : Dev nD) (f : Buf (Elt F) (gwMem.view.loc (c : Thread nD τ))) : sProp 𝕄 := gwMem.view.loc (c : Thread nD τ) ↦{fullShare} f

/-- The inputs' staging buffers, each at its block. -/
def held (c : Dev nD)
    (a1 : Memref sig .tc .vmem S512x1024 .f32) (a2 : Memref sig .tc .vmem S1x1024 .f32)
    (a3 : Memref sig .tc .vmem S512x1024 .f32) (a4 : Memref sig .tc .vmem S512x512 .bf16)
    (a5 : Memref sig .tc .vmem S512x128 .f32) (a6 : Memref sig .tc .vmem S512x128 .f32)
    (a7 : Memref sig .tc .vmem S1x128x128 .f32) (a8 : Memref sig .tc .vmem S1x128x128 .f32)
    (a9 : Memref sig .tc .vmem S1x128x128 .f32) (a10 : Memref sig .tc .vmem S1x128x128 .f32)
    (a11 : Memref sig .tc .vmem S512x512 .bf16) (a12 : Memref sig .tc .vmem S512x512 .bf16)
    (a13 : Memref sig .tc .vmem S512x512 .bf16) (a14 : Memref sig .tc .vmem S512x512 .f32)
    (a15 : Memref sig .tc .vmem S8x512 .f32) (a16 : Memref sig .tc .vmem S512x1024 .f32)
    (a17 : Memref sig .tc .vmem S4x8x128 .f32) (a18 : Memref sig .tc .vmem S3328x1024 .bf16)
    (a19 : Memref sig .tc .vmem S512x128 .f32) (a20 : Memref sig .tc .vmem S512x128 .f32)
    (a21 : Memref sig .tc .vmem S512x128 .f32)
    (x0 : Vec F S512x1024 .f32) (x1 : Vec F S1x1024 .f32) (x2 : Vec F S512x1024 .f32) (x3 : Vec F S512x512 .bf16)
    (x4 : Vec F S512x128 .f32) (x5 : Vec F S512x128 .f32) (x6 : Vec F S1x128x128 .f32) (x7 : Vec F S1x128x128 .f32)
    (x8 : Vec F S1x128x128 .f32) (x9 : Vec F S1x128x128 .f32) (x10 : Vec F S512x512 .bf16)
    (x11 : Vec F S512x512 .bf16) (x12 : Vec F S512x512 .bf16) (x13 : Vec F S512x512 .f32) (x14 : Vec F S8x512 .f32)
    (x15 : Vec F S512x1024 .f32) (x16 : Vec F S4x8x128 .f32) (x17 : Vec F S3328x1024 .bf16)
    (x18 : Vec F S512x128 .f32) (x19 : Vec F S512x128 .f32) (x20 : Vec F S512x128 .f32) : sProp 𝕄 :=
  iprop(owns (c : Thread nD τ) a1 fullShare x0 ∗ owns (c : Thread nD τ) a2 fullShare x1 ∗ owns (c : Thread nD τ) a3 fullShare x2
      ∗ owns (c : Thread nD τ) a4 fullShare x3 ∗ owns (c : Thread nD τ) a5 fullShare x4 ∗ owns (c : Thread nD τ) a6 fullShare x5
      ∗ owns (c : Thread nD τ) a7 fullShare x6 ∗ owns (c : Thread nD τ) a8 fullShare x7 ∗ owns (c : Thread nD τ) a9 fullShare x8
      ∗ owns (c : Thread nD τ) a10 fullShare x9 ∗ owns (c : Thread nD τ) a11 fullShare x10 ∗ owns (c : Thread nD τ) a12 fullShare x11
      ∗ owns (c : Thread nD τ) a13 fullShare x12 ∗ owns (c : Thread nD τ) a14 fullShare x13 ∗ owns (c : Thread nD τ) a15 fullShare x14
      ∗ owns (c : Thread nD τ) a16 fullShare x15 ∗ owns (c : Thread nD τ) a17 fullShare x16 ∗ owns (c : Thread nD τ) a18 fullShare x17
      ∗ owns (c : Thread nD τ) a19 fullShare x18 ∗ owns (c : Thread nD τ) a20 fullShare x19 ∗ owns (c : Thread nD τ) a21 fullShare x20)

/-- What the body takes and gives back beyond the inputs and the tile it is run for: the rows' small sums at `y`, the rows'
    cotangent at any contents, the accumulator at `z`, its two cells at zero, the large result at `g`, and what the core owes. -/
def beside (c : Dev nD) (a24 : Memref sig .tc .vmem S8x1024 .f32) (a25 : Memref sig .tc .vmem S512x3328 .bf16) (a26 : Memref sig .tc .vmem S3328x1024 .f32)
    (y : Vec F S8x1024 .f32) (z : Vec F S3328x1024 .f32) (g : Buf (Elt F) (gwMem.view.loc (c : Thread nD τ))) : sProp 𝕄 :=
  iprop(owns (c : Thread nD τ) a24 fullShare y ∗ (∃ d, owns (c : Thread nD τ) a25 fullShare d) ∗ owns (c : Thread nD τ) a26 fullShare z
      ∗ semVal ((c : Thread nD τ), SemLoc.dma 42) 0 ∗ semVal ((c : Thread nD τ), SemLoc.dma 43) 0 ∗ gwAt c g
      ∗ (∃ W, owes (c : Thread nD τ) 0 W))

/-- What a run of the body leaves: the pieces of the first result's tile, the small sums, the accumulator and the large result. -/
structure Leaves (F : FTy → Type) [FloatOps F] (c : Dev nD) where
  tile : List (View.Piece (Elt F) S512x1024 .f32)
  sums : Vec F S8x1024 .f32
  acc : Vec F S3328x1024 .f32
  large : Buf (Elt F) (gwMem.view.loc (c : Thread nD τ))

/-- The body, run on whole buffers: from the inputs at their blocks, the small sums, the accumulator and the large result at
    given contents it ends with the inputs as they were and what `o` says of the rest. -/
def Runs (c : Dev nD) (i : grid0.Coords)
    (a1 : Memref sig .tc .vmem S512x1024 .f32) (a2 : Memref sig .tc .vmem S1x1024 .f32)
    (a3 : Memref sig .tc .vmem S512x1024 .f32) (a4 : Memref sig .tc .vmem S512x512 .bf16)
    (a5 : Memref sig .tc .vmem S512x128 .f32) (a6 : Memref sig .tc .vmem S512x128 .f32)
    (a7 : Memref sig .tc .vmem S1x128x128 .f32) (a8 : Memref sig .tc .vmem S1x128x128 .f32)
    (a9 : Memref sig .tc .vmem S1x128x128 .f32) (a10 : Memref sig .tc .vmem S1x128x128 .f32)
    (a11 : Memref sig .tc .vmem S512x512 .bf16) (a12 : Memref sig .tc .vmem S512x512 .bf16)
    (a13 : Memref sig .tc .vmem S512x512 .bf16) (a14 : Memref sig .tc .vmem S512x512 .f32)
    (a15 : Memref sig .tc .vmem S8x512 .f32) (a16 : Memref sig .tc .vmem S512x1024 .f32)
    (a17 : Memref sig .tc .vmem S4x8x128 .f32) (a18 : Memref sig .tc .vmem S3328x1024 .bf16)
    (a19 : Memref sig .tc .vmem S512x128 .f32) (a20 : Memref sig .tc .vmem S512x128 .f32)
    (a21 : Memref sig .tc .vmem S512x128 .f32) (a22 : Memref sig .tc .vmem S512x1024 .f32)
    (a24 : Memref sig .tc .vmem S8x1024 .f32) (a25 : Memref sig .tc .vmem S512x3328 .bf16)
    (a26 : Memref sig .tc .vmem S3328x1024 .f32)
    (h1 : a1.IsWhole) (h2 : a2.IsWhole) (h3 : a3.IsWhole) (h4 : a4.IsWhole) (h5 : a5.IsWhole) (h6 : a6.IsWhole)
    (h7 : a7.IsWhole) (h8 : a8.IsWhole) (h9 : a9.IsWhole) (h10 : a10.IsWhole) (h11 : a11.IsWhole) (h12 : a12.IsWhole)
    (h13 : a13.IsWhole) (h14 : a14.IsWhole) (h15 : a15.IsWhole) (h16 : a16.IsWhole) (h17 : a17.IsWhole)
    (h18 : a18.IsWhole) (h19 : a19.IsWhole) (h20 : a20.IsWhole) (h21 : a21.IsWhole) (h22 : a22.IsWhole)
    (h24 : a24.IsWhole) (h25 : a25.IsWhole) (h26 : a26.IsWhole)
    (x0 : Vec F S512x1024 .f32) (x1 : Vec F S1x1024 .f32) (x2 : Vec F S512x1024 .f32) (x3 : Vec F S512x512 .bf16)
    (x4 : Vec F S512x128 .f32) (x5 : Vec F S512x128 .f32) (x6 : Vec F S1x128x128 .f32) (x7 : Vec F S1x128x128 .f32)
    (x8 : Vec F S1x128x128 .f32) (x9 : Vec F S1x128x128 .f32) (x10 : Vec F S512x512 .bf16)
    (x11 : Vec F S512x512 .bf16) (x12 : Vec F S512x512 .bf16) (x13 : Vec F S512x512 .f32) (x14 : Vec F S8x512 .f32)
    (x15 : Vec F S512x1024 .f32) (x16 : Vec F S4x8x128 .f32) (x17 : Vec F S3328x1024 .bf16)
    (x18 : Vec F S512x128 .f32) (x19 : Vec F S512x128 .f32) (x20 : Vec F S512x128 .f32)
    (y : Vec F S8x1024 .f32) (z : Vec F S3328x1024 .f32) (g : Buf (Elt F) (gwMem.view.loc (c : Thread nD τ)))
    (o : Leaves F c) : Prop :=
  ∀ K : PUnit → sProp 𝕄,
    iprop(held c a1 a2 a3 a4 a5 a6 a7 a8 a9 a10 a11 a12 a13 a14 a15 a16 a17 a18 a19 a20 a21 x0 x1 x2 x3 x4 x5 x6 x7 x8 x9 x10 x11 x12 x13 x14 x15 x16 x17 x18 x19 x20
        ∗ (∃ d, owns (c : Thread nD τ) a22 fullShare d) ∗ beside c a24 a25 a26 y z g
        ∗ (iprop(held c a1 a2 a3 a4 a5 a6 a7 a8 a9 a10 a11 a12 a13 a14 a15 a16 a17 a18 a19 a20 a21 x0 x1 x2 x3 x4 x5 x6 x7 x8 x9 x10 x11 x12 x13 x14 x15 x16 x17 x18 x19 x20
            ∗ (∃ f, a22.view.loc (c : Thread nD τ) ↦[a22.view.set]{fullShare} a22.view.writes (Elt F) f o.tile) ∗ beside c a24 a25 a26 o.sums o.acc o.large) -∗ K ⟨⟩))
      ⊢ wp frame (wpE (defs₀ (F := F)) Variants.none c none) Set.univ
          (cc0_bwd_proj i a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 (Memref.whole main_v38_1) (Memref.isWhole_whole _) a24 h24 a25 h25 a26 h26 cc0_scratch2) K

/-- The body is at its first point. -/
abbrev first (i : grid0.Coords) : Prop := (Scalar.cmpi .ne (Scalar.extui (Scalar.cmpi .eq (BitVec.ofNat 32 (i 0).val) 0#32)) 0#32) = 1#1

/-- The body is at its last point. -/
abbrev last (i : grid0.Coords) : Prop := (Scalar.cmpi .ne (Scalar.extui (Scalar.cmpi .eq (BitVec.ofNat 32 (i 0).val) 15#32)) 0#32) = 1#1

end Cert.Proj

end
-- ==== Proof.ProjRunA.lean ====
module

public import proofs.«01_k».proof.Proof.ProjSpec
public import proofs.«01_k».proof.Proof.Gen.Kernel2Ideal.Skeleton

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

set_option maxHeartbeats 16000000 in
/-- The body's run at the first point, with what it leaves. -/
def runA (c : Dev nD) (i : grid0.Coords)
    (a1 : Memref sig .tc .vmem S512x1024 .f32) (a2 : Memref sig .tc .vmem S1x1024 .f32)
    (a3 : Memref sig .tc .vmem S512x1024 .f32) (a4 : Memref sig .tc .vmem S512x512 .bf16)
    (a5 : Memref sig .tc .vmem S512x128 .f32) (a6 : Memref sig .tc .vmem S512x128 .f32)
    (a7 : Memref sig .tc .vmem S1x128x128 .f32) (a8 : Memref sig .tc .vmem S1x128x128 .f32)
    (a9 : Memref sig .tc .vmem S1x128x128 .f32) (a10 : Memref sig .tc .vmem S1x128x128 .f32)
    (a11 : Memref sig .tc .vmem S512x512 .bf16) (a12 : Memref sig .tc .vmem S512x512 .bf16)
    (a13 : Memref sig .tc .vmem S512x512 .bf16) (a14 : Memref sig .tc .vmem S512x512 .f32)
    (a15 : Memref sig .tc .vmem S8x512 .f32) (a16 : Memref sig .tc .vmem S512x1024 .f32)
    (a17 : Memref sig .tc .vmem S4x8x128 .f32) (a18 : Memref sig .tc .vmem S3328x1024 .bf16)
    (a19 : Memref sig .tc .vmem S512x128 .f32) (a20 : Memref sig .tc .vmem S512x128 .f32)
    (a21 : Memref sig .tc .vmem S512x128 .f32) (a22 : Memref sig .tc .vmem S512x1024 .f32)
    (a24 : Memref sig .tc .vmem S8x1024 .f32) (a25 : Memref sig .tc .vmem S512x3328 .bf16)
    (a26 : Memref sig .tc .vmem S3328x1024 .f32)
    (h1 : a1.IsWhole) (h2 : a2.IsWhole) (h3 : a3.IsWhole) (h4 : a4.IsWhole) (h5 : a5.IsWhole) (h6 : a6.IsWhole)
    (h7 : a7.IsWhole) (h8 : a8.IsWhole) (h9 : a9.IsWhole) (h10 : a10.IsWhole) (h11 : a11.IsWhole) (h12 : a12.IsWhole)
    (h13 : a13.IsWhole) (h14 : a14.IsWhole) (h15 : a15.IsWhole) (h16 : a16.IsWhole) (h17 : a17.IsWhole)
    (h18 : a18.IsWhole) (h19 : a19.IsWhole) (h20 : a20.IsWhole) (h21 : a21.IsWhole) (h22 : a22.IsWhole)
    (h24 : a24.IsWhole) (h25 : a25.IsWhole) (h26 : a26.IsWhole)
    (x0 : Vec F S512x1024 .f32) (x1 : Vec F S1x1024 .f32) (x2 : Vec F S512x1024 .f32) (x3 : Vec F S512x512 .bf16)
    (x4 : Vec F S512x128 .f32) (x5 : Vec F S512x128 .f32) (x6 : Vec F S1x128x128 .f32) (x7 : Vec F S1x128x128 .f32)
    (x8 : Vec F S1x128x128 .f32) (x9 : Vec F S1x128x128 .f32) (x10 : Vec F S512x512 .bf16)
    (x11 : Vec F S512x512 .bf16) (x12 : Vec F S512x512 .bf16) (x13 : Vec F S512x512 .f32) (x14 : Vec F S8x512 .f32)
    (x15 : Vec F S512x1024 .f32) (x16 : Vec F S4x8x128 .f32) (x17 : Vec F S3328x1024 .bf16)
    (x18 : Vec F S512x128 .f32) (x19 : Vec F S512x128 .f32) (x20 : Vec F S512x128 .f32)
    (y : Vec F S8x1024 .f32) (z : Vec F S3328x1024 .f32) (g : Buf (Elt F) (gwMem.view.loc (c : Thread nD τ)))
    (hc0 : first i) (hc1 : ¬last i) :
    { o : Leaves F c // Runs c i a1 a2 a3 a4 a5 a6 a7 a8 a9 a10 a11 a12 a13 a14 a15 a16 a17 a18 a19 a20 a21 a22 a24 a25 a26 h1 h2 h3 h4 h5 h6 h7 h8 h9 h10 h11 h12 h13 h14 h15 h16 h17 h18 h19 h20 h21 h22 h24 h25 h26 x0 x1 x2 x3 x4 x5 x6 x7 x8 x9 x10 x11 x12 x13 x14 x15 x16 x17 x18 x19 x20 y z g o } := by
  refine ⟨⟨?_, ?_, ?_, ?_⟩, fun K => ?run⟩
  case run =>
    simp only [cc0_bwd_proj_eq_skeleton]; unfold cc0_bwd_proj_skel
    simp only [k0_part1_eq_skeleton, k0_part2_eq_skeleton, k0_part3_eq_skeleton, k0_part4_eq_skeleton, k0_part5_eq_skeleton,
      k0_part6_eq_skeleton, k0_part7_eq_skeleton, k0_part8_eq_skeleton]
    unfold held beside owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩, ⟨%d21, %f21, -, H21⟩, ⟨⟨%f22, %hf22, H22⟩, ⟨%ds0, %fs0, -, HS0⟩, ⟨%fs1, %hs1, HS1⟩, Hq0, Hq1, Hh0, ⟨%W, HW⟩⟩, Hk⟩
    obtain rfl := h1.eq_unread hf0; obtain rfl := h2.eq_unread hf1; obtain rfl := h3.eq_unread hf2; obtain rfl := h4.eq_unread hf3
    obtain rfl := h5.eq_unread hf4; obtain rfl := h6.eq_unread hf5; obtain rfl := h7.eq_unread hf6; obtain rfl := h8.eq_unread hf7
    obtain rfl := h9.eq_unread hf8; obtain rfl := h10.eq_unread hf9; obtain rfl := h11.eq_unread hf10; obtain rfl := h12.eq_unread hf11
    obtain rfl := h13.eq_unread hf12; obtain rfl := h14.eq_unread hf13; obtain rfl := h15.eq_unread hf14; obtain rfl := h16.eq_unread hf15
    obtain rfl := h17.eq_unread hf16; obtain rfl := h18.eq_unread hf17; obtain rfl := h19.eq_unread hf18; obtain rfl := h20.eq_unread hf19
    obtain rfl := h21.eq_unread hf20; obtain rfl := h24.eq_unread hf22; obtain rfl := h26.eq_unread hs1
    sl_exec (disch := first | sl_exact hc0 | sl_exact hc1)
    sl_step
    iapply Hk
    isplitl [H0 H1 H2 H3 H4 H5 H6 H7 H8 H9 H10 H11 H12 H13 H14 H15 H16 H17 H18 H19 H20]
    · isplitl [H0]
      · iexists _; isplitr; · ipureintro; exact h1.read_unread _
        iexact H0
      isplitl [H1]
      · iexists _; isplitr; · ipureintro; exact h2.read_unread _
        iexact H1
      isplitl [H2]
      · iexists _; isplitr; · ipureintro; exact h3.read_unread _
        iexact H2
      isplitl [H3]
      · iexists _; isplitr; · ipureintro; exact h4.read_unread _
        iexact H3
      isplitl [H4]
      · iexists _; isplitr; · ipureintro; exact h5.read_unread _
        iexact H4
      isplitl [H5]
      · iexists _; isplitr; · ipureintro; exact h6.read_unread _
        iexact H5
      isplitl [H6]
      · iexists _; isplitr; · ipureintro; exact h7.read_unread _
        iexact H6
      isplitl [H7]
      · iexists _; isplitr; · ipureintro; exact h8.read_unread _
        iexact H7
      isplitl [H8]
      · iexists _; isplitr; · ipureintro; exact h9.read_unread _
        iexact H8
      isplitl [H9]
      · iexists _; isplitr; · ipureintro; exact h10.read_unread _
        iexact H9
      isplitl [H10]
      · iexists _; isplitr; · ipureintro; exact h11.read_unread _
        iexact H10
      isplitl [H11]
      · iexists _; isplitr; · ipureintro; exact h12.read_unread _
        iexact H11
      isplitl [H12]
      · iexists _; isplitr; · ipureintro; exact h13.read_unread _
        iexact H12
      isplitl [H13]
      · iexists _; isplitr; · ipureintro; exact h14.read_unread _
        iexact H13
      isplitl [H14]
      · iexists _; isplitr; · ipureintro; exact h15.read_unread _
        iexact H14
      isplitl [H15]
      · iexists _; isplitr; · ipureintro; exact h16.read_unread _
        iexact H15
      isplitl [H16]
      · iexists _; isplitr; · ipureintro; exact h17.read_unread _
        iexact H16
      isplitl [H17]
      · iexists _; isplitr; · ipureintro; exact h18.read_unread _
        iexact H17
      isplitl [H18]
      · iexists _; isplitr; · ipureintro; exact h19.read_unread _
        iexact H18
      isplitl [H19]
      · iexists _; isplitr; · ipureintro; exact h20.read_unread _
        iexact H19
      iexists _; isplitr; · ipureintro; exact h21.read_unread _
      iexact H20
    isplitl [H21]; · iexists _; iexact H21
    isplitl [H22]
    · iexists _; isplitr
      on_goal 2 => iexact H22
      ipureintro; rfl
    isplitl [HS0]
    · iexists _; iexists _; isplitr
      on_goal 2 => iexact HS0
      ipureintro; rfl
    isplitl [HS1]
    · iexists _; isplitr
      on_goal 2 => iexact HS1
      ipureintro; rfl
    isplitl [Hq0]; · iexact Hq0
    isplitl [Hq1]; · iexact Hq1
    isplitl [Hh0]; · iexact Hh0
    iexists _; iexact HW

end Cert.Proj

end
-- ==== Proof.ProjRunB.lean ====
module

public import proofs.«01_k».proof.Proof.ProjSpec
public import proofs.«01_k».proof.Proof.Gen.Kernel2Ideal.Skeleton

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

set_option maxHeartbeats 16000000 in
/-- The body's run at the middle points, with what it leaves. -/
def runB (c : Dev nD) (i : grid0.Coords)
    (a1 : Memref sig .tc .vmem S512x1024 .f32) (a2 : Memref sig .tc .vmem S1x1024 .f32)
    (a3 : Memref sig .tc .vmem S512x1024 .f32) (a4 : Memref sig .tc .vmem S512x512 .bf16)
    (a5 : Memref sig .tc .vmem S512x128 .f32) (a6 : Memref sig .tc .vmem S512x128 .f32)
    (a7 : Memref sig .tc .vmem S1x128x128 .f32) (a8 : Memref sig .tc .vmem S1x128x128 .f32)
    (a9 : Memref sig .tc .vmem S1x128x128 .f32) (a10 : Memref sig .tc .vmem S1x128x128 .f32)
    (a11 : Memref sig .tc .vmem S512x512 .bf16) (a12 : Memref sig .tc .vmem S512x512 .bf16)
    (a13 : Memref sig .tc .vmem S512x512 .bf16) (a14 : Memref sig .tc .vmem S512x512 .f32)
    (a15 : Memref sig .tc .vmem S8x512 .f32) (a16 : Memref sig .tc .vmem S512x1024 .f32)
    (a17 : Memref sig .tc .vmem S4x8x128 .f32) (a18 : Memref sig .tc .vmem S3328x1024 .bf16)
    (a19 : Memref sig .tc .vmem S512x128 .f32) (a20 : Memref sig .tc .vmem S512x128 .f32)
    (a21 : Memref sig .tc .vmem S512x128 .f32) (a22 : Memref sig .tc .vmem S512x1024 .f32)
    (a24 : Memref sig .tc .vmem S8x1024 .f32) (a25 : Memref sig .tc .vmem S512x3328 .bf16)
    (a26 : Memref sig .tc .vmem S3328x1024 .f32)
    (h1 : a1.IsWhole) (h2 : a2.IsWhole) (h3 : a3.IsWhole) (h4 : a4.IsWhole) (h5 : a5.IsWhole) (h6 : a6.IsWhole)
    (h7 : a7.IsWhole) (h8 : a8.IsWhole) (h9 : a9.IsWhole) (h10 : a10.IsWhole) (h11 : a11.IsWhole) (h12 : a12.IsWhole)
    (h13 : a13.IsWhole) (h14 : a14.IsWhole) (h15 : a15.IsWhole) (h16 : a16.IsWhole) (h17 : a17.IsWhole)
    (h18 : a18.IsWhole) (h19 : a19.IsWhole) (h20 : a20.IsWhole) (h21 : a21.IsWhole) (h22 : a22.IsWhole)
    (h24 : a24.IsWhole) (h25 : a25.IsWhole) (h26 : a26.IsWhole)
    (x0 : Vec F S512x1024 .f32) (x1 : Vec F S1x1024 .f32) (x2 : Vec F S512x1024 .f32) (x3 : Vec F S512x512 .bf16)
    (x4 : Vec F S512x128 .f32) (x5 : Vec F S512x128 .f32) (x6 : Vec F S1x128x128 .f32) (x7 : Vec F S1x128x128 .f32)
    (x8 : Vec F S1x128x128 .f32) (x9 : Vec F S1x128x128 .f32) (x10 : Vec F S512x512 .bf16)
    (x11 : Vec F S512x512 .bf16) (x12 : Vec F S512x512 .bf16) (x13 : Vec F S512x512 .f32) (x14 : Vec F S8x512 .f32)
    (x15 : Vec F S512x1024 .f32) (x16 : Vec F S4x8x128 .f32) (x17 : Vec F S3328x1024 .bf16)
    (x18 : Vec F S512x128 .f32) (x19 : Vec F S512x128 .f32) (x20 : Vec F S512x128 .f32)
    (y : Vec F S8x1024 .f32) (z : Vec F S3328x1024 .f32) (g : Buf (Elt F) (gwMem.view.loc (c : Thread nD τ)))
    (hc0 : ¬first i) (hc1 : ¬last i) :
    { o : Leaves F c // Runs c i a1 a2 a3 a4 a5 a6 a7 a8 a9 a10 a11 a12 a13 a14 a15 a16 a17 a18 a19 a20 a21 a22 a24 a25 a26 h1 h2 h3 h4 h5 h6 h7 h8 h9 h10 h11 h12 h13 h14 h15 h16 h17 h18 h19 h20 h21 h22 h24 h25 h26 x0 x1 x2 x3 x4 x5 x6 x7 x8 x9 x10 x11 x12 x13 x14 x15 x16 x17 x18 x19 x20 y z g o } := by
  refine ⟨⟨?_, ?_, ?_, ?_⟩, fun K => ?run⟩
  case run =>
    simp only [cc0_bwd_proj_eq_skeleton]; unfold cc0_bwd_proj_skel
    simp only [k0_part1_eq_skeleton, k0_part2_eq_skeleton, k0_part3_eq_skeleton, k0_part4_eq_skeleton, k0_part5_eq_skeleton,
      k0_part6_eq_skeleton, k0_part7_eq_skeleton, k0_part8_eq_skeleton]
    unfold held beside owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩, ⟨%d21, %f21, -, H21⟩, ⟨⟨%f22, %hf22, H22⟩, ⟨%ds0, %fs0, -, HS0⟩, ⟨%fs1, %hs1, HS1⟩, Hq0, Hq1, Hh0, ⟨%W, HW⟩⟩, Hk⟩
    obtain rfl := h1.eq_unread hf0; obtain rfl := h2.eq_unread hf1; obtain rfl := h3.eq_unread hf2; obtain rfl := h4.eq_unread hf3
    obtain rfl := h5.eq_unread hf4; obtain rfl := h6.eq_unread hf5; obtain rfl := h7.eq_unread hf6; obtain rfl := h8.eq_unread hf7
    obtain rfl := h9.eq_unread hf8; obtain rfl := h10.eq_unread hf9; obtain rfl := h11.eq_unread hf10; obtain rfl := h12.eq_unread hf11
    obtain rfl := h13.eq_unread hf12; obtain rfl := h14.eq_unread hf13; obtain rfl := h15.eq_unread hf14; obtain rfl := h16.eq_unread hf15
    obtain rfl := h17.eq_unread hf16; obtain rfl := h18.eq_unread hf17; obtain rfl := h19.eq_unread hf18; obtain rfl := h20.eq_unread hf19
    obtain rfl := h21.eq_unread hf20; obtain rfl := h24.eq_unread hf22; obtain rfl := h26.eq_unread hs1
    sl_exec (disch := first | sl_exact hc0 | sl_exact hc1)
    sl_step
    iapply Hk
    isplitl [H0 H1 H2 H3 H4 H5 H6 H7 H8 H9 H10 H11 H12 H13 H14 H15 H16 H17 H18 H19 H20]
    · isplitl [H0]
      · iexists _; isplitr; · ipureintro; exact h1.read_unread _
        iexact H0
      isplitl [H1]
      · iexists _; isplitr; · ipureintro; exact h2.read_unread _
        iexact H1
      isplitl [H2]
      · iexists _; isplitr; · ipureintro; exact h3.read_unread _
        iexact H2
      isplitl [H3]
      · iexists _; isplitr; · ipureintro; exact h4.read_unread _
        iexact H3
      isplitl [H4]
      · iexists _; isplitr; · ipureintro; exact h5.read_unread _
        iexact H4
      isplitl [H5]
      · iexists _; isplitr; · ipureintro; exact h6.read_unread _
        iexact H5
      isplitl [H6]
      · iexists _; isplitr; · ipureintro; exact h7.read_unread _
        iexact H6
      isplitl [H7]
      · iexists _; isplitr; · ipureintro; exact h8.read_unread _
        iexact H7
      isplitl [H8]
      · iexists _; isplitr; · ipureintro; exact h9.read_unread _
        iexact H8
      isplitl [H9]
      · iexists _; isplitr; · ipureintro; exact h10.read_unread _
        iexact H9
      isplitl [H10]
      · iexists _; isplitr; · ipureintro; exact h11.read_unread _
        iexact H10
      isplitl [H11]
      · iexists _; isplitr; · ipureintro; exact h12.read_unread _
        iexact H11
      isplitl [H12]
      · iexists _; isplitr; · ipureintro; exact h13.read_unread _
        iexact H12
      isplitl [H13]
      · iexists _; isplitr; · ipureintro; exact h14.read_unread _
        iexact H13
      isplitl [H14]
      · iexists _; isplitr; · ipureintro; exact h15.read_unread _
        iexact H14
      isplitl [H15]
      · iexists _; isplitr; · ipureintro; exact h16.read_unread _
        iexact H15
      isplitl [H16]
      · iexists _; isplitr; · ipureintro; exact h17.read_unread _
        iexact H16
      isplitl [H17]
      · iexists _; isplitr; · ipureintro; exact h18.read_unread _
        iexact H17
      isplitl [H18]
      · iexists _; isplitr; · ipureintro; exact h19.read_unread _
        iexact H18
      isplitl [H19]
      · iexists _; isplitr; · ipureintro; exact h20.read_unread _
        iexact H19
      iexists _; isplitr; · ipureintro; exact h21.read_unread _
      iexact H20
    isplitl [H21]; · iexists _; iexact H21
    isplitl [H22]
    · iexists _; isplitr
      on_goal 2 => iexact H22
      ipureintro; rfl
    isplitl [HS0]
    · iexists _; iexists _; isplitr
      on_goal 2 => iexact HS0
      ipureintro; rfl
    isplitl [HS1]
    · iexists _; isplitr
      on_goal 2 => iexact HS1
      ipureintro; rfl
    isplitl [Hq0]; · iexact Hq0
    isplitl [Hq1]; · iexact Hq1
    isplitl [Hh0]; · iexact Hh0
    iexists _; iexact HW

end Cert.Proj

end
-- ==== Proof.ProjRunC.lean ====
module

public import proofs.«01_k».proof.Proof.ProjSpec
public import proofs.«01_k».proof.Proof.Gen.Kernel2Ideal.Skeleton

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

set_option maxHeartbeats 16000000 in
set_option sl_exec.dmaWindow true in
set_option sl_exec.dmaWindowSet true in
/-- The body's run at the last point, with what it leaves. -/
def runC (c : Dev nD) (i : grid0.Coords)
    (a1 : Memref sig .tc .vmem S512x1024 .f32) (a2 : Memref sig .tc .vmem S1x1024 .f32)
    (a3 : Memref sig .tc .vmem S512x1024 .f32) (a4 : Memref sig .tc .vmem S512x512 .bf16)
    (a5 : Memref sig .tc .vmem S512x128 .f32) (a6 : Memref sig .tc .vmem S512x128 .f32)
    (a7 : Memref sig .tc .vmem S1x128x128 .f32) (a8 : Memref sig .tc .vmem S1x128x128 .f32)
    (a9 : Memref sig .tc .vmem S1x128x128 .f32) (a10 : Memref sig .tc .vmem S1x128x128 .f32)
    (a11 : Memref sig .tc .vmem S512x512 .bf16) (a12 : Memref sig .tc .vmem S512x512 .bf16)
    (a13 : Memref sig .tc .vmem S512x512 .bf16) (a14 : Memref sig .tc .vmem S512x512 .f32)
    (a15 : Memref sig .tc .vmem S8x512 .f32) (a16 : Memref sig .tc .vmem S512x1024 .f32)
    (a17 : Memref sig .tc .vmem S4x8x128 .f32) (a18 : Memref sig .tc .vmem S3328x1024 .bf16)
    (a19 : Memref sig .tc .vmem S512x128 .f32) (a20 : Memref sig .tc .vmem S512x128 .f32)
    (a21 : Memref sig .tc .vmem S512x128 .f32) (a22 : Memref sig .tc .vmem S512x1024 .f32)
    (a24 : Memref sig .tc .vmem S8x1024 .f32) (a25 : Memref sig .tc .vmem S512x3328 .bf16)
    (a26 : Memref sig .tc .vmem S3328x1024 .f32)
    (h1 : a1.IsWhole) (h2 : a2.IsWhole) (h3 : a3.IsWhole) (h4 : a4.IsWhole) (h5 : a5.IsWhole) (h6 : a6.IsWhole)
    (h7 : a7.IsWhole) (h8 : a8.IsWhole) (h9 : a9.IsWhole) (h10 : a10.IsWhole) (h11 : a11.IsWhole) (h12 : a12.IsWhole)
    (h13 : a13.IsWhole) (h14 : a14.IsWhole) (h15 : a15.IsWhole) (h16 : a16.IsWhole) (h17 : a17.IsWhole)
    (h18 : a18.IsWhole) (h19 : a19.IsWhole) (h20 : a20.IsWhole) (h21 : a21.IsWhole) (h22 : a22.IsWhole)
    (h24 : a24.IsWhole) (h25 : a25.IsWhole) (h26 : a26.IsWhole)
    (x0 : Vec F S512x1024 .f32) (x1 : Vec F S1x1024 .f32) (x2 : Vec F S512x1024 .f32) (x3 : Vec F S512x512 .bf16)
    (x4 : Vec F S512x128 .f32) (x5 : Vec F S512x128 .f32) (x6 : Vec F S1x128x128 .f32) (x7 : Vec F S1x128x128 .f32)
    (x8 : Vec F S1x128x128 .f32) (x9 : Vec F S1x128x128 .f32) (x10 : Vec F S512x512 .bf16)
    (x11 : Vec F S512x512 .bf16) (x12 : Vec F S512x512 .bf16) (x13 : Vec F S512x512 .f32) (x14 : Vec F S8x512 .f32)
    (x15 : Vec F S512x1024 .f32) (x16 : Vec F S4x8x128 .f32) (x17 : Vec F S3328x1024 .bf16)
    (x18 : Vec F S512x128 .f32) (x19 : Vec F S512x128 .f32) (x20 : Vec F S512x128 .f32)
    (y : Vec F S8x1024 .f32) (z : Vec F S3328x1024 .f32) (g : Buf (Elt F) (gwMem.view.loc (c : Thread nD τ)))
    (hc0 : ¬first i) (hc1 : last i) :
    { o : Leaves F c // Runs c i a1 a2 a3 a4 a5 a6 a7 a8 a9 a10 a11 a12 a13 a14 a15 a16 a17 a18 a19 a20 a21 a22 a24 a25 a26 h1 h2 h3 h4 h5 h6 h7 h8 h9 h10 h11 h12 h13 h14 h15 h16 h17 h18 h19 h20 h21 h22 h24 h25 h26 x0 x1 x2 x3 x4 x5 x6 x7 x8 x9 x10 x11 x12 x13 x14 x15 x16 x17 x18 x19 x20 y z g o } := by
  refine ⟨⟨?_, ?_, ?_, ?_⟩, fun K => ?run⟩
  case run =>
    simp only [cc0_bwd_proj_eq_skeleton]; unfold cc0_bwd_proj_skel
    simp only [k0_part1_eq_skeleton, k0_part2_eq_skeleton, k0_part3_eq_skeleton, k0_part4_eq_skeleton, k0_part5_eq_skeleton,
      k0_part6_eq_skeleton, k0_part7_eq_skeleton, k0_part8_eq_skeleton]
    unfold held beside owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩⟩, ⟨%d21, %f21, -, H21⟩, ⟨⟨%f22, %hf22, H22⟩, ⟨%ds0, %fs0, -, HS0⟩, ⟨%fs1, %hs1, HS1⟩, Hq0, Hq1, Hh0, ⟨%W, HW⟩⟩, Hk⟩
    obtain rfl := h1.eq_unread hf0; obtain rfl := h2.eq_unread hf1; obtain rfl := h3.eq_unread hf2; obtain rfl := h4.eq_unread hf3
    obtain rfl := h5.eq_unread hf4; obtain rfl := h6.eq_unread hf5; obtain rfl := h7.eq_unread hf6; obtain rfl := h8.eq_unread hf7
    obtain rfl := h9.eq_unread hf8; obtain rfl := h10.eq_unread hf9; obtain rfl := h11.eq_unread hf10; obtain rfl := h12.eq_unread hf11
    obtain rfl := h13.eq_unread hf12; obtain rfl := h14.eq_unread hf13; obtain rfl := h15.eq_unread hf14; obtain rfl := h16.eq_unread hf15
    obtain rfl := h17.eq_unread hf16; obtain rfl := h18.eq_unread hf17; obtain rfl := h19.eq_unread hf18; obtain rfl := h20.eq_unread hf19
    obtain rfl := h21.eq_unread hf20; obtain rfl := h24.eq_unread hf22; obtain rfl := h26.eq_unread hs1
    have hd0 : Disjoint ((Memref.whole main_v38_1).slice (Rect.unit (s := S3328x1024) ![1536, 0] S1792x1024.size inb_S3328x1024_S1792x1024_1536_0) (fun _ => rfl)).view.set
        ((Memref.whole main_v38_1).slice (Rect.unit (s := S3328x1024) ![0, 0] S1536x1024.size inb_S3328x1024_S1536x1024_0_0) (fun _ => rfl)).view.set :=
      View.disjoint_slice_of_disj (Memref.whole main_v38_1).view (Rect.unit (s := S3328x1024) ![1536, 0] S1792x1024.size inb_S3328x1024_S1792x1024_1536_0)
        (Rect.unit (s := S3328x1024) ![0, 0] S1536x1024.size inb_S3328x1024_S1536x1024_0_0) (by decide +kernel)
    sl_exec (disch := first | sl_exact hc0 | sl_exact hc1)
    sl_step
    iapply Hk
    isplitl [H0 H1 H2 H3 H4 H5 H6 H7 H8 H9 H10 H11 H12 H13 H14 H15 H16 H17 H18 H19 H20]
    · isplitl [H0]
      · iexists _; isplitr; · ipureintro; exact h1.read_unread _
        iexact H0
      isplitl [H1]
      · iexists _; isplitr; · ipureintro; exact h2.read_unread _
        iexact H1
      isplitl [H2]
      · iexists _; isplitr; · ipureintro; exact h3.read_unread _
        iexact H2
      isplitl [H3]
      · iexists _; isplitr; · ipureintro; exact h4.read_unread _
        iexact H3
      isplitl [H4]
      · iexists _; isplitr; · ipureintro; exact h5.read_unread _
        iexact H4
      isplitl [H5]
      · iexists _; isplitr; · ipureintro; exact h6.read_unread _
        iexact H5
      isplitl [H6]
      · iexists _; isplitr; · ipureintro; exact h7.read_unread _
        iexact H6
      isplitl [H7]
      · iexists _; isplitr; · ipureintro; exact h8.read_unread _
        iexact H7
      isplitl [H8]
      · iexists _; isplitr; · ipureintro; exact h9.read_unread _
        iexact H8
      isplitl [H9]
      · iexists _; isplitr; · ipureintro; exact h10.read_unread _
        iexact H9
      isplitl [H10]
      · iexists _; isplitr; · ipureintro; exact h11.read_unread _
        iexact H10
      isplitl [H11]
      · iexists _; isplitr; · ipureintro; exact h12.read_unread _
        iexact H11
      isplitl [H12]
      · iexists _; isplitr; · ipureintro; exact h13.read_unread _
        iexact H12
      isplitl [H13]
      · iexists _; isplitr; · ipureintro; exact h14.read_unread _
        iexact H13
      isplitl [H14]
      · iexists _; isplitr; · ipureintro; exact h15.read_unread _
        iexact H14
      isplitl [H15]
      · iexists _; isplitr; · ipureintro; exact h16.read_unread _
        iexact H15
      isplitl [H16]
      · iexists _; isplitr; · ipureintro; exact h17.read_unread _
        iexact H16
      isplitl [H17]
      · iexists _; isplitr; · ipureintro; exact h18.read_unread _
        iexact H17
      isplitl [H18]
      · iexists _; isplitr; · ipureintro; exact h19.read_unread _
        iexact H18
      isplitl [H19]
      · iexists _; isplitr; · ipureintro; exact h20.read_unread _
        iexact H19
      iexists _; isplitr; · ipureintro; exact h21.read_unread _
      iexact H20
    isplitl [H21]; · iexists _; iexact H21
    isplitl [H22]
    · iexists _; isplitr
      on_goal 2 => iexact H22
      ipureintro; rfl
    isplitl [HS0]
    · iexists _; iexists _; isplitr
      on_goal 2 => iexact HS0
      ipureintro; rfl
    isplitl [HS1]
    · iexists _; isplitr
      on_goal 2 => iexact HS1
      ipureintro; rfl
    isplitl [Hq0]; · iexact Hq0
    isplitl [Hq1]; · iexact Hq1
    isplitl [Hh0]; · iexact Hh0
    iexists _; iexact HW

end Cert.Proj

end
-- ==== Proof.ProjLeaves.lean ====
/- What the body leaves at each point. -/
module

public import proofs.«01_k».proof.Proof.ProjRunA
public import proofs.«01_k».proof.Proof.ProjRunB
public import proofs.«01_k».proof.Proof.ProjRunC
public import proofs.«01_k».proof.Proof.Gen.Kernel2Ideal.Skeleton

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

theorem first_iff : ∀ t : Fin cfg0.N, first (grid0.coords t) ↔ t.val = 0 :=
  (fun t => by
    have ht : t.val < 16 := Nat.lt_of_lt_of_eq t.isLt N_0
    have e0 : (grid0.coords t 0).val = t.val / 1 % 16 := Pipeline.Grid.coords_val t 0 (by decide) rfl
    simp only [first, e0]
    word_cmp
   : ∀ t : Fin grid0.N, first (grid0.coords t) ↔ t.val = 0)

theorem last_iff : ∀ t : Fin cfg0.N, last (grid0.coords t) ↔ t.val = 15 :=
  (fun t => by
    have ht : t.val < 16 := Nat.lt_of_lt_of_eq t.isLt N_0
    have e0 : (grid0.coords t 0).val = t.val / 1 % 16 := Pipeline.Grid.coords_val t 0 (by decide) rfl
    simp only [last, e0]
    word_cmp
   : ∀ t : Fin grid0.N, last (grid0.coords t) ↔ t.val = 15)

/-- The two scratch buffers, whole. -/
abbrev scM0 : Memref sig .tc .vmem S512x3328 .bf16 := Memref.whole cc0_scratch0
abbrev scM1 : Memref sig .tc .vmem S3328x1024 .f32 := Memref.whole cc0_scratch1

/-- What the body leaves at a point, from the small sums, the accumulator and the large result at given contents. -/
def leaves (t : Fin cfg0.N) (y : Vec F S8x1024 .f32) (z : Vec F S3328x1024 .f32) (g : Buf (Elt F) (gwMem.view.loc (c : Thread nD τ))) : Leaves F c :=
  if h0 : first (grid0.coords t) then
    if h1 : last (grid0.coords t) then ⟨[], y, z, g⟩ else
    (runA c (grid0.coords t)
      (st0_0 t) (st0_1 t) (st0_2 t) (st0_3 t) (st0_4 t) (st0_5 t) (st0_6 t) (st0_7 t) (st0_8 t) (st0_9 t) (st0_10 t)
      (st0_11 t) (st0_12 t) (st0_13 t) (st0_14 t) (st0_15 t) (st0_16 t) (st0_17 t) (st0_18 t) (st0_19 t) (st0_20 t)
      (st0_21 t) (st0_22 t) scM0 scM1
      (hstage0_0 ((cfg0.slots t 0).cast nbuf0_0)) (hstage0_1 ((cfg0.slots t 1).cast nbuf0_1)) (hstage0_2 ((cfg0.slots
      t 2).cast nbuf0_2)) (hstage0_3 ((cfg0.slots t 3).cast nbuf0_3)) (hstage0_4 ((cfg0.slots t 4).cast nbuf0_4))
      (hstage0_5 ((cfg0.slots t 5).cast nbuf0_5)) (hstage0_6 ((cfg0.slots t 6).cast nbuf0_6)) (hstage0_7 ((cfg0.slots
      t 7).cast nbuf0_7)) (hstage0_8 ((cfg0.slots t 8).cast nbuf0_8)) (hstage0_9 ((cfg0.slots t 9).cast nbuf0_9))
      (hstage0_10 ((cfg0.slots t 10).cast nbuf0_10)) (hstage0_11 ((cfg0.slots t 11).cast nbuf0_11)) (hstage0_12
      ((cfg0.slots t 12).cast nbuf0_12)) (hstage0_13 ((cfg0.slots t 13).cast nbuf0_13)) (hstage0_14 ((cfg0.slots t
      14).cast nbuf0_14)) (hstage0_15 ((cfg0.slots t 15).cast nbuf0_15)) (hstage0_16 ((cfg0.slots t 16).cast
      nbuf0_16)) (hstage0_17 ((cfg0.slots t 17).cast nbuf0_17)) (hstage0_18 ((cfg0.slots t 18).cast nbuf0_18))
      (hstage0_19 ((cfg0.slots t 19).cast nbuf0_19)) (hstage0_20 ((cfg0.slots t 20).cast nbuf0_20)) (hstage0_21
      ((cfg0.slots t 21).cast nbuf0_21)) (hstage0_22 ((cfg0.slots t 22).cast nbuf0_22)) (Memref.isWhole_whole _)
      (Memref.isWhole_whole _)
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (X0_15 m c t) (iblk m c 16 t) (iblk m c 17 t) (iblk m c 18 t) (iblk m c 19 t) (iblk m c 20 t) y z g h0 h1).1
  else if h1 : last (grid0.coords t) then
    (runC c (grid0.coords t)
      (st0_0 t) (st0_1 t) (st0_2 t) (st0_3 t) (st0_4 t) (st0_5 t) (st0_6 t) (st0_7 t) (st0_8 t) (st0_9 t) (st0_10 t)
      (st0_11 t) (st0_12 t) (st0_13 t) (st0_14 t) (st0_15 t) (st0_16 t) (st0_17 t) (st0_18 t) (st0_19 t) (st0_20 t)
      (st0_21 t) (st0_22 t) scM0 scM1
      (hstage0_0 ((cfg0.slots t 0).cast nbuf0_0)) (hstage0_1 ((cfg0.slots t 1).cast nbuf0_1)) (hstage0_2 ((cfg0.slots
      t 2).cast nbuf0_2)) (hstage0_3 ((cfg0.slots t 3).cast nbuf0_3)) (hstage0_4 ((cfg0.slots t 4).cast nbuf0_4))
      (hstage0_5 ((cfg0.slots t 5).cast nbuf0_5)) (hstage0_6 ((cfg0.slots t 6).cast nbuf0_6)) (hstage0_7 ((cfg0.slots
      t 7).cast nbuf0_7)) (hstage0_8 ((cfg0.slots t 8).cast nbuf0_8)) (hstage0_9 ((cfg0.slots t 9).cast nbuf0_9))
      (hstage0_10 ((cfg0.slots t 10).cast nbuf0_10)) (hstage0_11 ((cfg0.slots t 11).cast nbuf0_11)) (hstage0_12
      ((cfg0.slots t 12).cast nbuf0_12)) (hstage0_13 ((cfg0.slots t 13).cast nbuf0_13)) (hstage0_14 ((cfg0.slots t
      14).cast nbuf0_14)) (hstage0_15 ((cfg0.slots t 15).cast nbuf0_15)) (hstage0_16 ((cfg0.slots t 16).cast
      nbuf0_16)) (hstage0_17 ((cfg0.slots t 17).cast nbuf0_17)) (hstage0_18 ((cfg0.slots t 18).cast nbuf0_18))
      (hstage0_19 ((cfg0.slots t 19).cast nbuf0_19)) (hstage0_20 ((cfg0.slots t 20).cast nbuf0_20)) (hstage0_21
      ((cfg0.slots t 21).cast nbuf0_21)) (hstage0_22 ((cfg0.slots t 22).cast nbuf0_22)) (Memref.isWhole_whole _)
      (Memref.isWhole_whole _)
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (X0_15 m c t) (iblk m c 16 t) (iblk m c 17 t) (iblk m c 18 t) (iblk m c 19 t) (iblk m c 20 t) y z g h0 h1).1
  else
    (runB c (grid0.coords t)
      (st0_0 t) (st0_1 t) (st0_2 t) (st0_3 t) (st0_4 t) (st0_5 t) (st0_6 t) (st0_7 t) (st0_8 t) (st0_9 t) (st0_10 t)
      (st0_11 t) (st0_12 t) (st0_13 t) (st0_14 t) (st0_15 t) (st0_16 t) (st0_17 t) (st0_18 t) (st0_19 t) (st0_20 t)
      (st0_21 t) (st0_22 t) scM0 scM1
      (hstage0_0 ((cfg0.slots t 0).cast nbuf0_0)) (hstage0_1 ((cfg0.slots t 1).cast nbuf0_1)) (hstage0_2 ((cfg0.slots
      t 2).cast nbuf0_2)) (hstage0_3 ((cfg0.slots t 3).cast nbuf0_3)) (hstage0_4 ((cfg0.slots t 4).cast nbuf0_4))
      (hstage0_5 ((cfg0.slots t 5).cast nbuf0_5)) (hstage0_6 ((cfg0.slots t 6).cast nbuf0_6)) (hstage0_7 ((cfg0.slots
      t 7).cast nbuf0_7)) (hstage0_8 ((cfg0.slots t 8).cast nbuf0_8)) (hstage0_9 ((cfg0.slots t 9).cast nbuf0_9))
      (hstage0_10 ((cfg0.slots t 10).cast nbuf0_10)) (hstage0_11 ((cfg0.slots t 11).cast nbuf0_11)) (hstage0_12
      ((cfg0.slots t 12).cast nbuf0_12)) (hstage0_13 ((cfg0.slots t 13).cast nbuf0_13)) (hstage0_14 ((cfg0.slots t
      14).cast nbuf0_14)) (hstage0_15 ((cfg0.slots t 15).cast nbuf0_15)) (hstage0_16 ((cfg0.slots t 16).cast
      nbuf0_16)) (hstage0_17 ((cfg0.slots t 17).cast nbuf0_17)) (hstage0_18 ((cfg0.slots t 18).cast nbuf0_18))
      (hstage0_19 ((cfg0.slots t 19).cast nbuf0_19)) (hstage0_20 ((cfg0.slots t 20).cast nbuf0_20)) (hstage0_21
      ((cfg0.slots t 21).cast nbuf0_21)) (hstage0_22 ((cfg0.slots t 22).cast nbuf0_22)) (Memref.isWhole_whole _)
      (Memref.isWhole_whole _)
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (X0_15 m c t) (iblk m c 16 t) (iblk m c 17 t) (iblk m c 18 t) (iblk m c 19 t) (iblk m c 20 t) y z g h0 h1).1

theorem leaves_runs (t : Fin cfg0.N) (y : Vec F S8x1024 .f32) (z : Vec F S3328x1024 .f32) (g : Buf (Elt F) (gwMem.view.loc (c : Thread nD τ))) : Runs c (grid0.coords t)
      (st0_0 t) (st0_1 t) (st0_2 t) (st0_3 t) (st0_4 t) (st0_5 t) (st0_6 t) (st0_7 t) (st0_8 t) (st0_9 t) (st0_10 t)
      (st0_11 t) (st0_12 t) (st0_13 t) (st0_14 t) (st0_15 t) (st0_16 t) (st0_17 t) (st0_18 t) (st0_19 t) (st0_20 t)
      (st0_21 t) (st0_22 t) scM0 scM1
      (hstage0_0 ((cfg0.slots t 0).cast nbuf0_0)) (hstage0_1 ((cfg0.slots t 1).cast nbuf0_1)) (hstage0_2 ((cfg0.slots
      t 2).cast nbuf0_2)) (hstage0_3 ((cfg0.slots t 3).cast nbuf0_3)) (hstage0_4 ((cfg0.slots t 4).cast nbuf0_4))
      (hstage0_5 ((cfg0.slots t 5).cast nbuf0_5)) (hstage0_6 ((cfg0.slots t 6).cast nbuf0_6)) (hstage0_7 ((cfg0.slots
      t 7).cast nbuf0_7)) (hstage0_8 ((cfg0.slots t 8).cast nbuf0_8)) (hstage0_9 ((cfg0.slots t 9).cast nbuf0_9))
      (hstage0_10 ((cfg0.slots t 10).cast nbuf0_10)) (hstage0_11 ((cfg0.slots t 11).cast nbuf0_11)) (hstage0_12
      ((cfg0.slots t 12).cast nbuf0_12)) (hstage0_13 ((cfg0.slots t 13).cast nbuf0_13)) (hstage0_14 ((cfg0.slots t
      14).cast nbuf0_14)) (hstage0_15 ((cfg0.slots t 15).cast nbuf0_15)) (hstage0_16 ((cfg0.slots t 16).cast
      nbuf0_16)) (hstage0_17 ((cfg0.slots t 17).cast nbuf0_17)) (hstage0_18 ((cfg0.slots t 18).cast nbuf0_18))
      (hstage0_19 ((cfg0.slots t 19).cast nbuf0_19)) (hstage0_20 ((cfg0.slots t 20).cast nbuf0_20)) (hstage0_21
      ((cfg0.slots t 21).cast nbuf0_21)) (hstage0_22 ((cfg0.slots t 22).cast nbuf0_22)) (Memref.isWhole_whole _)
      (Memref.isWhole_whole _)
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (X0_15 m c t) (iblk m c 16 t) (iblk m c 17 t) (iblk m c 18 t) (iblk m c 19 t) (iblk m c 20 t) y z g (leaves m c t y z g) := by
  unfold leaves
  by_cases h0 : first (grid0.coords t)
  · by_cases h1 : last (grid0.coords t)
    · exact absurd ((first_iff t).mp h0) (by have := (last_iff t).mp h1; omega)
    · rw [dif_pos h0, dif_neg h1]; exact (runA c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ h0 h1).2
  · by_cases h1 : last (grid0.coords t)
    · rw [dif_neg h0, dif_pos h1]; exact (runC c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ h0 h1).2
    · rw [dif_neg h0, dif_neg h1]; exact (runB c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ h0 h1).2

end Cert.Proj

end
-- ==== Proof.ProjTile.lean ====
/- What the body stores at a tile, over what it loads. -/
module

public import proofs.«01_k».proof.Proof.ProjLeaves
public import Idealize.ShloMosaic.Lib.WritesUnit
public import Idealize.ShloMosaic.Lib.Pointwise.Index
public import Idealize.ShloMosaic.Lib.Pipeline.ReadBack

@[expose] public section

set_option maxRecDepth 65536

noncomputable section

namespace Cert.Proj

open Cert.Kernel2Ideal Cert.Kernel2Ideal.Gen Idealize.ShloMosaic Idealize.ShloMosaic.TcCoe Idealize.ShloMosaic.Tactic Idealize.SL.Sem

variable {F : FTy → Type} [FloatOps F]

/-- What the body loads at a tile. -/
structure Loads (F : FTy → Type) [FloatOps F] where
  l0 : Vec F S512x1024 .f32
  l1 : Vec F S1x1024 .f32
  l2 : Vec F S512x1024 .f32
  l3 : Vec F S512x512 .bf16
  l4 : Vec F S512x128 .f32
  l5 : Vec F S512x128 .f32
  l8 : Vec F S1x128x128 .f32
  l9 : Vec F S1x128x128 .f32
  l10 : Vec F S512x512 .bf16
  l11 : Vec F S512x512 .bf16
  l12 : Vec F S512x512 .bf16
  l13 : Vec F S512x512 .f32
  l14 : Vec F S8x512 .f32
  left : Vec F S512x512 .f32
  right : Vec F S512x512 .f32
  q0 : Vec F S1x8x128 .f32
  q1 : Vec F S1x8x128 .f32
  q2 : Vec F S1x8x128 .f32
  q3 : Vec F S1x8x128 .f32
  l17 : Vec F S3328x1024 .bf16
  l18 : Vec F S512x128 .f32
  l19 : Vec F S512x128 .f32
  l20 : Vec F S512x128 .f32

/-- What a load of the box `r` reads from a whole buffer holding `x`. -/
def rd {s : Shape} {e : EltTy} (a : Memref sig .tc .vmem s e) (h : a.IsWhole) (x : s.Idx → Elt F e) (r : Rect s) : r.shape.Idx → Elt F e :=
  a.view.readAt (Elt F) r.toLoadRect (h.unread x)

omit [FloatOps F] in
theorem rd_at {s : Shape} {e : EltTy} (a : Memref sig .tc .vmem s e) (h : a.IsWhole) (x : s.Idx → Elt F e) (r : Rect s) (j : r.shape.Idx) :
    rd a h x r j = x (r.idx j) :=
  congrFun (h.read_unread x) (r.idx j)

variable (m : (ℓ : Loc nD τ sig) → Buf (Elt F) ℓ) (c : Dev nD)

def loads (t : Fin cfg0.N) : Loads F where
  l0 := rd (st0_0 t) (hstage0_0 ((cfg0.slots t 0).cast nbuf0_0)) (iblk m c 0 t) (Rect.unit (s := S512x1024) ![0, 0] S512x1024.size inb_S512x1024_S512x1024_0_0)
  l1 := rd (st0_1 t) (hstage0_1 ((cfg0.slots t 1).cast nbuf0_1)) (iblk m c 1 t) (Rect.unit (s := S1x1024) ![0, 0] S1x1024.size inb_S1x1024_S1x1024_0_0)
  l2 := rd (st0_2 t) (hstage0_2 ((cfg0.slots t 2).cast nbuf0_2)) (iblk m c 2 t) (Rect.unit (s := S512x1024) ![0, 0] S512x1024.size inb_S512x1024_S512x1024_0_0)
  l3 := rd (st0_3 t) (hstage0_3 ((cfg0.slots t 3).cast nbuf0_3)) (iblk m c 3 t) (Rect.unit (s := S512x512) ![0, 0] S512x512.size inb_S512x512_S512x512_0_0)
  l4 := rd (st0_4 t) (hstage0_4 ((cfg0.slots t 4).cast nbuf0_4)) (iblk m c 4 t) (Rect.unit (s := S512x128) ![0, 0] S512x128.size inb_S512x128_S512x128_0_0)
  l5 := rd (st0_5 t) (hstage0_5 ((cfg0.slots t 5).cast nbuf0_5)) (iblk m c 5 t) (Rect.unit (s := S512x128) ![0, 0] S512x128.size inb_S512x128_S512x128_0_0)
  l8 := rd (st0_8 t) (hstage0_8 ((cfg0.slots t 8).cast nbuf0_8)) (iblk m c 8 t) (Rect.unit (s := S1x128x128) ![0, 0, 0] S1x128x128.size inb_S1x128x128_S1x128x128_0_0_0)
  l9 := rd (st0_9 t) (hstage0_9 ((cfg0.slots t 9).cast nbuf0_9)) (iblk m c 9 t) (Rect.unit (s := S1x128x128) ![0, 0, 0] S1x128x128.size inb_S1x128x128_S1x128x128_0_0_0)
  l10 := rd (st0_10 t) (hstage0_10 ((cfg0.slots t 10).cast nbuf0_10)) (iblk m c 10 t) (Rect.unit (s := S512x512) ![0, 0] S512x512.size inb_S512x512_S512x512_0_0)
  l11 := rd (st0_11 t) (hstage0_11 ((cfg0.slots t 11).cast nbuf0_11)) (iblk m c 11 t) (Rect.unit (s := S512x512) ![0, 0] S512x512.size inb_S512x512_S512x512_0_0)
  l12 := rd (st0_12 t) (hstage0_12 ((cfg0.slots t 12).cast nbuf0_12)) (iblk m c 12 t) (Rect.unit (s := S512x512) ![0, 0] S512x512.size inb_S512x512_S512x512_0_0)
  l13 := rd (st0_13 t) (hstage0_13 ((cfg0.slots t 13).cast nbuf0_13)) (iblk m c 13 t) (Rect.unit (s := S512x512) ![0, 0] S512x512.size inb_S512x512_S512x512_0_0)
  l14 := rd (st0_14 t) (hstage0_14 ((cfg0.slots t 14).cast nbuf0_14)) (iblk m c 14 t) (Rect.unit (s := S8x512) ![0, 0] S8x512.size inb_S8x512_S8x512_0_0)
  left := rd (st0_15 t) (hstage0_15 ((cfg0.slots t 15).cast nbuf0_15)) (X0_15 m c t) (Rect.unit (s := S512x1024) ![0, 0] S512x512.size inb_S512x1024_S512x512_0_0)
  right := rd (st0_15 t) (hstage0_15 ((cfg0.slots t 15).cast nbuf0_15)) (X0_15 m c t) (Rect.unit (s := S512x1024) ![0, 512] S512x512.size inb_S512x1024_S512x512_0_512)
  q0 := rd (st0_16 t) (hstage0_16 ((cfg0.slots t 16).cast nbuf0_16)) (iblk m c 16 t) (Rect.unit (s := S4x8x128) ![0, 0, 0] S1x8x128.size inb_S4x8x128_S1x8x128_0_0_0)
  q1 := rd (st0_16 t) (hstage0_16 ((cfg0.slots t 16).cast nbuf0_16)) (iblk m c 16 t) (Rect.unit (s := S4x8x128) ![1, 0, 0] S1x8x128.size inb_S4x8x128_S1x8x128_1_0_0)
  q2 := rd (st0_16 t) (hstage0_16 ((cfg0.slots t 16).cast nbuf0_16)) (iblk m c 16 t) (Rect.unit (s := S4x8x128) ![2, 0, 0] S1x8x128.size inb_S4x8x128_S1x8x128_2_0_0)
  q3 := rd (st0_16 t) (hstage0_16 ((cfg0.slots t 16).cast nbuf0_16)) (iblk m c 16 t) (Rect.unit (s := S4x8x128) ![3, 0, 0] S1x8x128.size inb_S4x8x128_S1x8x128_3_0_0)
  l17 := rd (st0_17 t) (hstage0_17 ((cfg0.slots t 17).cast nbuf0_17)) (iblk m c 17 t) (Rect.unit (s := S3328x1024) ![0, 0] S3328x1024.size inb_S3328x1024_S3328x1024_0_0)
  l18 := rd (st0_18 t) (hstage0_18 ((cfg0.slots t 18).cast nbuf0_18)) (iblk m c 18 t) (Rect.unit (s := S512x128) ![0, 0] S512x128.size inb_S512x128_S512x128_0_0)
  l19 := rd (st0_19 t) (hstage0_19 ((cfg0.slots t 19).cast nbuf0_19)) (iblk m c 19 t) (Rect.unit (s := S512x128) ![0, 0] S512x128.size inb_S512x128_S512x128_0_0)
  l20 := rd (st0_20 t) (hstage0_20 ((cfg0.slots t 20).cast nbuf0_20)) (iblk m c 20 t) (Rect.unit (s := S512x128) ![0, 0] S512x128.size inb_S512x128_S512x128_0_0)

/-- The pieces of the projection's cotangent, the last stored first. -/
def cotPieces (i : grid0.Coords) (v : Loads F) : List (View.Piece (Elt F) S512x3328 .bf16) :=
  [⟨Rect.unit (s := S512x3328) ![0, 2816] S512x512.size inb_S512x3328_S512x512_0_2816, k0_pay20 v.l12⟩,
   ⟨Rect.unit (s := S512x3328) ![0, 2304] S512x512.size inb_S512x3328_S512x512_0_2304, k0_pay19 (k0_pay16 v.l13 (k0_pay14 (k0_pay3 i) v.l14) (k0_pay15 v.q0) v.q1 v.q2 v.q3) v.left⟩,
   ⟨Rect.unit (s := S512x3328) ![0, 1792] S512x512.size inb_S512x3328_S512x512_0_1792, k0_pay18 (k0_pay17 v.l13 (k0_pay14 (k0_pay3 i) v.l14) (k0_pay15 v.q0) v.q1 v.q2 v.q3 v.right)⟩,
   ⟨Rect.unit (s := S512x3328) ![0, 1280] S512x512.size inb_S512x3328_S512x512_0_1280, k0_pay13 v.l11⟩,
   ⟨Rect.unit (s := S512x3328) ![0, 768] S512x512.size inb_S512x3328_S512x512_0_768, k0_pay12 v.l10⟩,
   ⟨Rect.unit (s := S512x3328) ![0, 640] S512x128.size inb_S512x3328_S512x128_0_640, k0_pay11 (k0_pay6 i v.l9 v.l5)⟩,
   ⟨Rect.unit (s := S512x3328) ![0, 512] S512x128.size inb_S512x3328_S512x128_0_512, k0_pay10 (k0_pay5 i v.l8 v.l4) (k0_pay8 v.l18) (k0_pay9 v.l19) v.l20⟩,
   ⟨Rect.unit (s := S512x3328) ![0, 0] S512x512.size inb_S512x3328_S512x512_0_0, k0_pay7 v.l3⟩]

/-- What the tile of the first result is left with. -/
def stored (i : grid0.Coords) (v : Loads F) : Vec F S512x1024 .f32 :=
  k0_pay26 (k0_pay21 v.l0) (k0_pay22 v.l0)
    (k0_pay24 (scM0.view.readCov (cotPieces i v) (Rect.unit (s := S512x3328) ![0, 0] S512x3328.size inb_S512x3328_S512x3328_0_0).toLoadRect) v.l17) v.l1 v.l2

/-- The rows' cotangent, the normed rows' and the scaled normed rows. -/
def dpOf (i : grid0.Coords) (v : Loads F) : Vec F S512x3328 .bf16 :=
  scM0.view.readCov (cotPieces i v) (Rect.unit (s := S512x3328) ![0, 0] S512x3328.size inb_S512x3328_S512x3328_0_0).toLoadRect
def dxnOf (i : grid0.Coords) (v : Loads F) : FVec F S512x1024 .f32 := k0_pay24 (dpOf i v) v.l17
def xnOf (v : Loads F) : FVec F S512x1024 .bf16 := k0_pay23 v.l0 v.l1

/-- The first row of the small sums. -/
abbrev topRow : Rect S8x1024 := Rect.unit (s := S8x1024) ![0, 0] S1x1024.size inb_S8x1024_S1x1024_0_0

/-- What is stored in the first row, over what is loaded from it. -/
def rowPiece (i : grid0.Coords) (v : Loads F) (l : Vec F S1x1024 .f32) : View.Piece (Elt F) S8x1024 .f32 :=
  ⟨topRow, k0_pay25 (k0_pay22 v.l0) (dxnOf i v) l⟩

/-- What a buffer of a shape holds once zeroed. -/
def zeroSums : View.Piece (Elt F) S8x1024 .f32 := ⟨Rect.unit (s := S8x1024) ![0, 0] S8x1024.size inb_S8x1024_S8x1024_0_0, k0_pay1 (F := F)⟩
def zeroAcc : View.Piece (Elt F) S3328x1024 .f32 := ⟨Rect.unit (s := S3328x1024) ![0, 0] S3328x1024.size inb_S3328x1024_S3328x1024_0_0, k0_pay2 (F := F)⟩

/-- The small sums after a point. -/
def sumsAfter (i : grid0.Coords) (v : Loads F) (y : Vec F S8x1024 .f32) : Vec F S8x1024 .f32 := fun x =>
  if (x 0).val = 0 then k0_pay25 (k0_pay22 v.l0) (dxnOf i v) (fun j => y (topRow.idx j)) (ix2 0 (x 1)) else y x

def band0 (i : grid0.Coords) (v : Loads F) (l : Vec F S256x1024 .f32) : View.Piece (Elt F) S3328x1024 .f32 :=
  ⟨Rect.unit (s := S3328x1024) ![0, 0] S256x1024.size inb_S3328x1024_S256x1024_0_0, k0_pay27 (xnOf v) l (scM0.view.readCov (cotPieces i v) (Rect.unit (s := S512x3328) ![0, 0] S512x256.size inb_S512x3328_S512x256_0_0).toLoadRect)⟩
def band1 (i : grid0.Coords) (v : Loads F) (l : Vec F S256x1024 .f32) : View.Piece (Elt F) S3328x1024 .f32 :=
  ⟨Rect.unit (s := S3328x1024) ![256, 0] S256x1024.size inb_S3328x1024_S256x1024_256_0, k0_pay29 l (k0_pay28 (xnOf v) (scM0.view.readCov (cotPieces i v) (Rect.unit (s := S512x3328) ![0, 256] S512x256.size inb_S512x3328_S512x256_0_256).toLoadRect))⟩
def band2 (i : grid0.Coords) (v : Loads F) (l : Vec F S256x1024 .f32) : View.Piece (Elt F) S3328x1024 .f32 :=
  ⟨Rect.unit (s := S3328x1024) ![512, 0] S256x1024.size inb_S3328x1024_S256x1024_512_0, k0_pay30 (xnOf v) l (scM0.view.readCov (cotPieces i v) (Rect.unit (s := S512x3328) ![0, 512] S512x256.size inb_S512x3328_S512x256_0_512).toLoadRect)⟩
def band3 (i : grid0.Coords) (v : Loads F) (l : Vec F S256x1024 .f32) : View.Piece (Elt F) S3328x1024 .f32 :=
  ⟨Rect.unit (s := S3328x1024) ![768, 0] S256x1024.size inb_S3328x1024_S256x1024_768_0, k0_pay31 (xnOf v) l (scM0.view.readCov (cotPieces i v) (Rect.unit (s := S512x3328) ![0, 768] S512x256.size inb_S512x3328_S512x256_0_768).toLoadRect)⟩
def band4 (i : grid0.Coords) (v : Loads F) (l : Vec F S256x1024 .f32) : View.Piece (Elt F) S3328x1024 .f32 :=
  ⟨Rect.unit (s := S3328x1024) ![1024, 0] S256x1024.size inb_S3328x1024_S256x1024_1024_0, k0_pay32 (xnOf v) l (scM0.view.readCov (cotPieces i v) (Rect.unit (s := S512x3328) ![0, 1024] S512x256.size inb_S512x3328_S512x256_0_1024).toLoadRect)⟩
def band5 (i : grid0.Coords) (v : Loads F) (l : Vec F S256x1024 .f32) : View.Piece (Elt F) S3328x1024 .f32 :=
  ⟨Rect.unit (s := S3328x1024) ![1280, 0] S256x1024.size inb_S3328x1024_S256x1024_1280_0, k0_pay34 l (k0_pay33 (xnOf v) (scM0.view.readCov (cotPieces i v) (Rect.unit (s := S512x3328) ![0, 1280] S512x256.size inb_S512x3328_S512x256_0_1280).toLoadRect))⟩
def band6 (i : grid0.Coords) (v : Loads F) (l : Vec F S256x1024 .f32) : View.Piece (Elt F) S3328x1024 .f32 :=
  ⟨Rect.unit (s := S3328x1024) ![1536, 0] S256x1024.size inb_S3328x1024_S256x1024_1536_0, k0_pay35 (xnOf v) l (scM0.view.readCov (cotPieces i v) (Rect.unit (s := S512x3328) ![0, 1536] S512x256.size inb_S512x3328_S512x256_0_1536).toLoadRect)⟩
def band7 (i : grid0.Coords) (v : Loads F) (l : Vec F S256x1024 .f32) : View.Piece (Elt F) S3328x1024 .f32 :=
  ⟨Rect.unit (s := S3328x1024) ![1792, 0] S256x1024.size inb_S3328x1024_S256x1024_1792_0, k0_pay36 (xnOf v) l (scM0.view.readCov (cotPieces i v) (Rect.unit (s := S512x3328) ![0, 1792] S512x256.size inb_S512x3328_S512x256_0_1792).toLoadRect)⟩
def band8 (i : grid0.Coords) (v : Loads F) (l : Vec F S256x1024 .f32) : View.Piece (Elt F) S3328x1024 .f32 :=
  ⟨Rect.unit (s := S3328x1024) ![2048, 0] S256x1024.size inb_S3328x1024_S256x1024_2048_0, k0_pay37 (xnOf v) l (scM0.view.readCov (cotPieces i v) (Rect.unit (s := S512x3328) ![0, 2048] S512x256.size inb_S512x3328_S512x256_0_2048).toLoadRect)⟩
def band9 (i : grid0.Coords) (v : Loads F) (l : Vec F S256x1024 .f32) : View.Piece (Elt F) S3328x1024 .f32 :=
  ⟨Rect.unit (s := S3328x1024) ![2304, 0] S256x1024.size inb_S3328x1024_S256x1024_2304_0, k0_pay38 (xnOf v) l (scM0.view.readCov (cotPieces i v) (Rect.unit (s := S512x3328) ![0, 2304] S512x256.size inb_S512x3328_S512x256_0_2304).toLoadRect)⟩
def band10 (i : grid0.Coords) (v : Loads F) (l : Vec F S256x1024 .f32) : View.Piece (Elt F) S3328x1024 .f32 :=
  ⟨Rect.unit (s := S3328x1024) ![2560, 0] S256x1024.size inb_S3328x1024_S256x1024_2560_0, k0_pay39 (xnOf v) l (scM0.view.readCov (cotPieces i v) (Rect.unit (s := S512x3328) ![0, 2560] S512x256.size inb_S512x3328_S512x256_0_2560).toLoadRect)⟩
def band11 (i : grid0.Coords) (v : Loads F) (l : Vec F S256x1024 .f32) : View.Piece (Elt F) S3328x1024 .f32 :=
  ⟨Rect.unit (s := S3328x1024) ![2816, 0] S256x1024.size inb_S3328x1024_S256x1024_2816_0, k0_pay40 (xnOf v) l (scM0.view.readCov (cotPieces i v) (Rect.unit (s := S512x3328) ![0, 2816] S512x256.size inb_S512x3328_S512x256_0_2816).toLoadRect)⟩
def band12 (i : grid0.Coords) (v : Loads F) (l : Vec F S256x1024 .f32) : View.Piece (Elt F) S3328x1024 .f32 :=
  ⟨Rect.unit (s := S3328x1024) ![3072, 0] S256x1024.size inb_S3328x1024_S256x1024_3072_0, k0_pay41 (xnOf v) l (scM0.view.readCov (cotPieces i v) (Rect.unit (s := S512x3328) ![0, 3072] S512x256.size inb_S512x3328_S512x256_0_3072).toLoadRect)⟩

/-- The accumulator's pieces of a point, over what is loaded of each band. -/
def accPieces (i : grid0.Coords) (v : Loads F) (l : Fin 13 → Vec F S256x1024 .f32) : List (View.Piece (Elt F) S3328x1024 .f32) :=
  [band12 i v (l 12), band11 i v (l 11), band10 i v (l 10), band9 i v (l 9), band8 i v (l 8), band7 i v (l 7), band6 i v (l 6), band5 i v (l 5), band4 i v (l 4), band3 i v (l 3), band2 i v (l 2), band1 i v (l 1), band0 i v (l 0)]

/-- The six of them in the part that leaves first. -/
def lowPieces (i : grid0.Coords) (v : Loads F) (l : Fin 13 → Vec F S256x1024 .f32) : List (View.Piece (Elt F) S3328x1024 .f32) :=
  [band5 i v (l 5), band4 i v (l 4), band3 i v (l 3), band2 i v (l 2), band1 i v (l 1), band0 i v (l 0)]

/-- The same at the first point, where each band is loaded over the zeros and the bands before it. -/
def fresh0 : List (View.Piece (Elt F) S3328x1024 .f32) := [zeroAcc]
def fresh1 (i : grid0.Coords) (v : Loads F) : List (View.Piece (Elt F) S3328x1024 .f32) :=
  band0 i v (scM1.view.readCov (fresh0) (Rect.unit (s := S3328x1024) ![0, 0] S256x1024.size inb_S3328x1024_S256x1024_0_0).toLoadRect) :: fresh0
def fresh2 (i : grid0.Coords) (v : Loads F) : List (View.Piece (Elt F) S3328x1024 .f32) :=
  band1 i v (scM1.view.readCov (fresh1 i v) (Rect.unit (s := S3328x1024) ![256, 0] S256x1024.size inb_S3328x1024_S256x1024_256_0).toLoadRect) :: fresh1 i v
def fresh3 (i : grid0.Coords) (v : Loads F) : List (View.Piece (Elt F) S3328x1024 .f32) :=
  band2 i v (scM1.view.readCov (fresh2 i v) (Rect.unit (s := S3328x1024) ![512, 0] S256x1024.size inb_S3328x1024_S256x1024_512_0).toLoadRect) :: fresh2 i v
def fresh4 (i : grid0.Coords) (v : Loads F) : List (View.Piece (Elt F) S3328x1024 .f32) :=
  band3 i v (scM1.view.readCov (fresh3 i v) (Rect.unit (s := S3328x1024) ![768, 0] S256x1024.size inb_S3328x1024_S256x1024_768_0).toLoadRect) :: fresh3 i v
def fresh5 (i : grid0.Coords) (v : Loads F) : List (View.Piece (Elt F) S3328x1024 .f32) :=
  band4 i v (scM1.view.readCov (fresh4 i v) (Rect.unit (s := S3328x1024) ![1024, 0] S256x1024.size inb_S3328x1024_S256x1024_1024_0).toLoadRect) :: fresh4 i v
def fresh6 (i : grid0.Coords) (v : Loads F) : List (View.Piece (Elt F) S3328x1024 .f32) :=
  band5 i v (scM1.view.readCov (fresh5 i v) (Rect.unit (s := S3328x1024) ![1280, 0] S256x1024.size inb_S3328x1024_S256x1024_1280_0).toLoadRect) :: fresh5 i v
def fresh7 (i : grid0.Coords) (v : Loads F) : List (View.Piece (Elt F) S3328x1024 .f32) :=
  band6 i v (scM1.view.readCov (fresh6 i v) (Rect.unit (s := S3328x1024) ![1536, 0] S256x1024.size inb_S3328x1024_S256x1024_1536_0).toLoadRect) :: fresh6 i v
def fresh8 (i : grid0.Coords) (v : Loads F) : List (View.Piece (Elt F) S3328x1024 .f32) :=
  band7 i v (scM1.view.readCov (fresh7 i v) (Rect.unit (s := S3328x1024) ![1792, 0] S256x1024.size inb_S3328x1024_S256x1024_1792_0).toLoadRect) :: fresh7 i v
def fresh9 (i : grid0.Coords) (v : Loads F) : List (View.Piece (Elt F) S3328x1024 .f32) :=
  band8 i v (scM1.view.readCov (fresh8 i v) (Rect.unit (s := S3328x1024) ![2048, 0] S256x1024.size inb_S3328x1024_S256x1024_2048_0).toLoadRect) :: fresh8 i v
def fresh10 (i : grid0.Coords) (v : Loads F) : List (View.Piece (Elt F) S3328x1024 .f32) :=
  band9 i v (scM1.view.readCov (fresh9 i v) (Rect.unit (s := S3328x1024) ![2304, 0] S256x1024.size inb_S3328x1024_S256x1024_2304_0).toLoadRect) :: fresh9 i v
def fresh11 (i : grid0.Coords) (v : Loads F) : List (View.Piece (Elt F) S3328x1024 .f32) :=
  band10 i v (scM1.view.readCov (fresh10 i v) (Rect.unit (s := S3328x1024) ![2560, 0] S256x1024.size inb_S3328x1024_S256x1024_2560_0).toLoadRect) :: fresh10 i v
def fresh12 (i : grid0.Coords) (v : Loads F) : List (View.Piece (Elt F) S3328x1024 .f32) :=
  band11 i v (scM1.view.readCov (fresh11 i v) (Rect.unit (s := S3328x1024) ![2816, 0] S256x1024.size inb_S3328x1024_S256x1024_2816_0).toLoadRect) :: fresh11 i v
def fresh13 (i : grid0.Coords) (v : Loads F) : List (View.Piece (Elt F) S3328x1024 .f32) :=
  band12 i v (scM1.view.readCov (fresh12 i v) (Rect.unit (s := S3328x1024) ![3072, 0] S256x1024.size inb_S3328x1024_S256x1024_3072_0).toLoadRect) :: fresh12 i v

variable (t : Fin cfg0.N) (y : Vec F S8x1024 .f32) (z : Vec F S3328x1024 .f32) (g : Buf (Elt F) (gwMem.view.loc (c : Thread nD τ)))

/-- What the tile of the first result is left with. -/
theorem tile_left : (leaves m c t y z g).tile
    = [⟨Rect.unit (s := S512x1024) ![0, 0] S512x1024.size inb_S512x1024_S512x1024_0_0, stored (grid0.coords t) (loads m c t)⟩] := by
  unfold leaves
  by_cases h0 : first (grid0.coords t)
  · by_cases h1 : last (grid0.coords t)
    · exact absurd ((first_iff t).mp h0) (by have := (last_iff t).mp h1; omega)
    · rw [dif_pos h0, dif_neg h1]; sl_kernel_rfl
  · by_cases h1 : last (grid0.coords t)
    · rw [dif_neg h0, dif_pos h1]; sl_kernel_rfl
    · rw [dif_neg h0, dif_neg h1]; sl_kernel_rfl

theorem sums_first (h0 : first (grid0.coords t)) : (leaves m c t y z g).sums
    = (st0_22 t).view.read (Elt F) ((st0_22 t).view.writes (Elt F) ((hstage0_22 ((cfg0.slots t 22).cast nbuf0_22)).unread y)
        [rowPiece (grid0.coords t) (loads m c t) ((st0_22 t).view.readCov [zeroSums] topRow.toLoadRect), zeroSums]) := by
  unfold leaves
  by_cases h1 : last (grid0.coords t)
  · exact absurd ((first_iff t).mp h0) (by have := (last_iff t).mp h1; omega)
  · rw [dif_pos h0, dif_neg h1]; sl_kernel_rfl

theorem sums_later (h0 : ¬first (grid0.coords t)) : (leaves m c t y z g).sums
    = (st0_22 t).view.read (Elt F) ((st0_22 t).view.writes (Elt F) ((hstage0_22 ((cfg0.slots t 22).cast nbuf0_22)).unread y)
        [rowPiece (grid0.coords t) (loads m c t) (rd (st0_22 t) (hstage0_22 ((cfg0.slots t 22).cast nbuf0_22)) y topRow)]) := by
  unfold leaves
  by_cases h1 : last (grid0.coords t)
  · rw [dif_neg h0, dif_pos h1]; sl_kernel_rfl
  · rw [dif_neg h0, dif_neg h1]; sl_kernel_rfl

/-- What is loaded of the accumulator's bands after the first point. -/
def rdBands (z : Vec F S3328x1024 .f32) : Fin 13 → Vec F S256x1024 .f32 :=
  ![rd scM1 (Memref.isWhole_whole _) z (Rect.unit (s := S3328x1024) ![0, 0] S256x1024.size inb_S3328x1024_S256x1024_0_0),
    rd scM1 (Memref.isWhole_whole _) z (Rect.unit (s := S3328x1024) ![256, 0] S256x1024.size inb_S3328x1024_S256x1024_256_0),
    rd scM1 (Memref.isWhole_whole _) z (Rect.unit (s := S3328x1024) ![512, 0] S256x1024.size inb_S3328x1024_S256x1024_512_0),
    rd scM1 (Memref.isWhole_whole _) z (Rect.unit (s := S3328x1024) ![768, 0] S256x1024.size inb_S3328x1024_S256x1024_768_0),
    rd scM1 (Memref.isWhole_whole _) z (Rect.unit (s := S3328x1024) ![1024, 0] S256x1024.size inb_S3328x1024_S256x1024_1024_0),
    rd scM1 (Memref.isWhole_whole _) z (Rect.unit (s := S3328x1024) ![1280, 0] S256x1024.size inb_S3328x1024_S256x1024_1280_0),
    rd scM1 (Memref.isWhole_whole _) z (Rect.unit (s := S3328x1024) ![1536, 0] S256x1024.size inb_S3328x1024_S256x1024_1536_0),
    rd scM1 (Memref.isWhole_whole _) z (Rect.unit (s := S3328x1024) ![1792, 0] S256x1024.size inb_S3328x1024_S256x1024_1792_0),
    rd scM1 (Memref.isWhole_whole _) z (Rect.unit (s := S3328x1024) ![2048, 0] S256x1024.size inb_S3328x1024_S256x1024_2048_0),
    rd scM1 (Memref.isWhole_whole _) z (Rect.unit (s := S3328x1024) ![2304, 0] S256x1024.size inb_S3328x1024_S256x1024_2304_0),
    rd scM1 (Memref.isWhole_whole _) z (Rect.unit (s := S3328x1024) ![2560, 0] S256x1024.size inb_S3328x1024_S256x1024_2560_0),
    rd scM1 (Memref.isWhole_whole _) z (Rect.unit (s := S3328x1024) ![2816, 0] S256x1024.size inb_S3328x1024_S256x1024_2816_0),
    rd scM1 (Memref.isWhole_whole _) z (Rect.unit (s := S3328x1024) ![3072, 0] S256x1024.size inb_S3328x1024_S256x1024_3072_0)]

theorem acc_first (h0 : first (grid0.coords t)) : (leaves m c t y z g).acc
    = scM1.view.read (Elt F) (scM1.view.writes (Elt F) ((Memref.isWhole_whole cc0_scratch1).unread z) (fresh13 (grid0.coords t) (loads m c t))) := by
  unfold leaves
  by_cases h1 : last (grid0.coords t)
  · exact absurd ((first_iff t).mp h0) (by have := (last_iff t).mp h1; omega)
  · rw [dif_pos h0, dif_neg h1]; sl_kernel_rfl

theorem acc_later (h0 : ¬first (grid0.coords t)) : (leaves m c t y z g).acc
    = scM1.view.read (Elt F) (scM1.view.writes (Elt F) ((Memref.isWhole_whole cc0_scratch1).unread z) (accPieces (grid0.coords t) (loads m c t) (rdBands z))) := by
  unfold leaves
  by_cases h1 : last (grid0.coords t)
  · rw [dif_neg h0, dif_pos h1]; sl_kernel_rfl
  · rw [dif_neg h0, dif_neg h1]; sl_kernel_rfl

/-- The two parts in which the accumulator leaves for the large memory. -/
abbrev lowPart : Rect S3328x1024 := Rect.unit (s := S3328x1024) ![0, 0] S1536x1024.size inb_S3328x1024_S1536x1024_0_0
abbrev highPart : Rect S3328x1024 := Rect.unit (s := S3328x1024) ![1536, 0] ![1792, 1024] inb_S3328x1024_S1792x1024_1536_0

theorem large_last (h1 : last (grid0.coords t)) : (leaves m c t y z g).large
    = gwMem.view.writes (Elt F) g
      [⟨highPart, fun j => scM1.view.read (Elt F) (scM1.view.writes (Elt F) ((Memref.isWhole_whole cc0_scratch1).unread z) (accPieces (grid0.coords t) (loads m c t) (rdBands z))) (highPart.emb j)⟩,
       ⟨lowPart, fun j => scM1.view.read (Elt F) (scM1.view.writes (Elt F) ((Memref.isWhole_whole cc0_scratch1).unread z) (lowPieces (grid0.coords t) (loads m c t) (rdBands z))) (lowPart.emb j)⟩] := by
  unfold leaves
  by_cases h0 : first (grid0.coords t)
  · exact absurd ((first_iff t).mp h0) (by have := (last_iff t).mp h1; omega)
  · rw [dif_neg h0, dif_pos h1]; sl_kernel_rfl

theorem large_before (h1 : ¬last (grid0.coords t)) : (leaves m c t y z g).large = g := by
  unfold leaves
  by_cases h0 : first (grid0.coords t)
  · rw [dif_pos h0, dif_neg h1]; sl_kernel_rfl
  · rw [dif_neg h0, dif_neg h1]; sl_kernel_rfl

end Cert.Proj

end
-- ==== Proof.ProjState.lean ====
/- The small sums and the accumulator after a point, over what they held before it. -/
module

public import proofs.«01_k».proof.Proof.ProjTile

@[expose] public section

set_option maxRecDepth 65536

noncomputable section

namespace Cert.Proj

open Cert.Kernel2Ideal Cert.Kernel2Ideal.Gen Idealize.ShloMosaic Idealize.ShloMosaic.TcCoe Idealize.ShloMosaic.Tactic Idealize.SL.Sem

variable {F : FTy → Type} [FloatOps F]

/-- A buffer of eight rows after a store of its first. -/
theorem row_left (a : View sig .tc .vmem S8x1024 .f32) (f : a.ty.Contents (Elt F)) (w : Vec F S1x1024 .f32) (L : List (View.Piece (Elt F) S8x1024 .f32)) (x : S8x1024.Idx) :
    a.read (Elt F) (a.writes (Elt F) f ((⟨topRow, w⟩ : View.Piece (Elt F) S8x1024 .f32) :: L)) x
      = if (x 0).val = 0 then w (ix2 0 (x 1)) else a.read (Elt F) (a.writes (Elt F) f L) x := by
  split_ifs with h
  · exact View.read_writes_cons_rows_of_mem a f inb_S8x1024_S1x1024_0_0 w L x (ix2 0 (x 1)) (o := 0) rfl h rfl
  · exact View.read_writes_cons_rows_of_not_mem a f inb_S8x1024_S1x1024_0_0 w L x (o := 0) (W := 1) rfl rfl (Or.inr (by omega))

variable (m : (ℓ : Loc nD τ sig) → Buf (Elt F) ℓ) (c : Dev nD)
variable (t : Fin cfg0.N) (y : Vec F S8x1024 .f32) (z : Vec F S3328x1024 .f32) (g : Buf (Elt F) (gwMem.view.loc (c : Thread nD τ)))

theorem no_offset : (![0, 0] : Fin 2 → ℕ) = fun _ => 0 := funext fun a => match a with | 0 => rfl | 1 => rfl

/-- A store of the whole shape is what is read after it. -/
theorem whole_left {s : Shape} {e : EltTy} (a : View sig .tc .vmem s e) (f : a.ty.Contents (Elt F)) {off : Fin s.rank → ℕ} (h : off = fun _ => 0)
    (inb : ∀ b, off b + s.size b ≤ s.size b) (w : s.Idx → Elt F e) :
    a.read (Elt F) (a.writes (Elt F) f [(⟨Rect.unit off s.size inb, w⟩ : View.Piece (Elt F) s e)]) = w :=
  (View.read_writes_eq_canon a f _ fun x => ⟨_, List.mem_singleton_self _, View.mem_set_unit_zero h inb x⟩).trans (View.canon_unit_zero h inb w)

/-- Two stores that cover a shape, both of one array, leave that array. -/
theorem two_left {sp : Space} {s : Shape} {e : EltTy} (a : View sig .tc sp s e) (f : a.ty.Contents (Elt F)) (r r' : Rect s) (G : s.Idx → Elt F e)
    (w : r.shape.Idx → Elt F e) (w' : r'.shape.Idx → Elt F e) (h : ∀ j, w j = G (r.emb j)) (h' : ∀ j, w' j = G (r'.emb j)) (hc : ∀ x, x ∈ r.set ∨ x ∈ r'.set) :
    a.read (Elt F) (a.writes (Elt F) f [(⟨r, w⟩ : View.Piece (Elt F) s e), ⟨r', w'⟩]) = G := by
  funext x
  have hx : ∃ p ∈ [(⟨r, w⟩ : View.Piece (Elt F) s e), ⟨r', w'⟩], x ∈ p.1.set := (hc x).elim
    (fun hm => ⟨_, List.mem_cons_self, hm⟩) (fun hm => ⟨_, List.mem_cons_of_mem _ (List.mem_singleton_self _), hm⟩)
  exact (View.read_writes_apply_eq_canon a f x _ hx).trans (View.canon_apply_of_pieces G _ (View.PiecesOf.mem (show View.PiecesOf G [(⟨r, w⟩ : View.Piece (Elt F) s e), ⟨r', w'⟩] from ⟨h, h', trivial⟩)) x hx)

theorem zeroed_sums (a : View sig .tc .vmem S8x1024 .f32) (f : a.ty.Contents (Elt F)) : a.read (Elt F) (a.writes (Elt F) f [zeroSums]) = k0_pay1 (F := F) := by
  unfold zeroSums
  exact whole_left a f no_offset _ _

theorem zeroed_acc (f : scM1.view.ty.Contents (Elt F)) : scM1.view.read (Elt F) (scM1.view.writes (Elt F) f [zeroAcc]) = k0_pay2 (F := F) := by
  unfold zeroAcc
  exact whole_left scM1.view f no_offset _ _

theorem sums_of_first (h0 : first (grid0.coords t)) : (leaves m c t y z g).sums = sumsAfter (grid0.coords t) (loads m c t) (k0_pay1 (F := F)) := by
  rw [sums_first m c t y z g h0]
  generalize loads m c t = v
  generalize grid0.coords t = i
  funext x
  unfold rowPiece sumsAfter
  rw [row_left, zeroed_sums, View.readCov_eq_canon']
  rw [show View.canon (Val := Elt F) [zeroSums] = k0_pay1 (F := F) from View.canon_unit_zero no_offset _ _]
  rfl

theorem sums_of_later (h0 : ¬first (grid0.coords t)) : (leaves m c t y z g).sums = sumsAfter (grid0.coords t) (loads m c t) y := by
  rw [sums_later m c t y z g h0]
  generalize loads m c t = v
  generalize grid0.coords t = i
  funext x
  unfold rowPiece sumsAfter
  rw [row_left, show rd (st0_22 t) (hstage0_22 ((cfg0.slots t 22).cast nbuf0_22)) y topRow = fun j => y (topRow.idx j) from funext fun j => rd_at _ _ _ _ _]
  split_ifs
  · rfl
  · exact congrFun ((hstage0_22 ((cfg0.slots t 22).cast nbuf0_22)).read_unread y) x

/-- The accumulator after a point. -/
def accAfter (i : grid0.Coords) (v : Loads F) (z : Vec F S3328x1024 .f32) : Vec F S3328x1024 .f32 :=
  scM1.view.read (Elt F) (scM1.view.writes (Elt F) ((Memref.isWhole_whole cc0_scratch1).unread z) (accPieces i v (rdBands z)))

theorem acc_of_later (h0 : ¬first (grid0.coords t)) : (leaves m c t y z g).acc = accAfter (grid0.coords t) (loads m c t) z :=
  acc_later m c t y z g h0

/-- A row below a band is not in it. -/
theorem off_band (o : ℕ) (inb) (x : S3328x1024.Idx) (h : o + 256 ≤ (x 0).val) : x ∉ (Rect.unit (s := S3328x1024) ![o, 0] S256x1024.size inb).set := by
  rw [Rect.mem_set_unit]
  intro hall
  have h1 : (x 0).val < o + 256 := (hall 0).2
  omega

theorem at_least (o : ℕ) (inb) (j : (Rect.unit (s := S3328x1024) ![o, 0] S256x1024.size inb).shape.Idx) :
    o ≤ ((Rect.unit (s := S3328x1024) ![o, 0] S256x1024.size inb).idx j 0).val := by
  show o ≤ o + 1 * (j 0).val
  omega

section
variable (i : grid0.Coords) (v : Loads F)

theorem above (o : ℕ) (inb) (w : Vec F S256x1024 .f32) (L : List (View.Piece (Elt F) S3328x1024 .f32)) (x : S3328x1024.Idx) (h : o + 256 ≤ (x 0).val) :
    View.canon ((⟨Rect.unit (s := S3328x1024) ![o, 0] S256x1024.size inb, w⟩ : View.Piece (Elt F) S3328x1024 .f32) :: L) x = View.canon L x :=
  View.canon_cons_of_not_mem ⟨Rect.unit (s := S3328x1024) ![o, 0] S256x1024.size inb, w⟩ L (off_band o inb x h)

/-- At the first point the bands not yet stored are zero. -/
theorem untouched0 (x : S3328x1024.Idx) : View.canon (Val := Elt F) fresh0 x = k0_pay2 (F := F) x :=
  congrFun (View.canon_unit_zero no_offset _ _) x
theorem untouched1 (x : S3328x1024.Idx) (h : 256 ≤ (x 0).val) : View.canon (Val := Elt F) (fresh1 i v) x = k0_pay2 (F := F) x :=
  (above 0 _ _ _ x h).trans (untouched0 x)
theorem untouched2 (x : S3328x1024.Idx) (h : 512 ≤ (x 0).val) : View.canon (Val := Elt F) (fresh2 i v) x = k0_pay2 (F := F) x :=
  (above 256 _ _ _ x h).trans (untouched1 i v x (by omega))
theorem untouched3 (x : S3328x1024.Idx) (h : 768 ≤ (x 0).val) : View.canon (Val := Elt F) (fresh3 i v) x = k0_pay2 (F := F) x :=
  (above 512 _ _ _ x h).trans (untouched2 i v x (by omega))
theorem untouched4 (x : S3328x1024.Idx) (h : 1024 ≤ (x 0).val) : View.canon (Val := Elt F) (fresh4 i v) x = k0_pay2 (F := F) x :=
  (above 768 _ _ _ x h).trans (untouched3 i v x (by omega))
theorem untouched5 (x : S3328x1024.Idx) (h : 1280 ≤ (x 0).val) : View.canon (Val := Elt F) (fresh5 i v) x = k0_pay2 (F := F) x :=
  (above 1024 _ _ _ x h).trans (untouched4 i v x (by omega))
theorem untouched6 (x : S3328x1024.Idx) (h : 1536 ≤ (x 0).val) : View.canon (Val := Elt F) (fresh6 i v) x = k0_pay2 (F := F) x :=
  (above 1280 _ _ _ x h).trans (untouched5 i v x (by omega))
theorem untouched7 (x : S3328x1024.Idx) (h : 1792 ≤ (x 0).val) : View.canon (Val := Elt F) (fresh7 i v) x = k0_pay2 (F := F) x :=
  (above 1536 _ _ _ x h).trans (untouched6 i v x (by omega))
theorem untouched8 (x : S3328x1024.Idx) (h : 2048 ≤ (x 0).val) : View.canon (Val := Elt F) (fresh8 i v) x = k0_pay2 (F := F) x :=
  (above 1792 _ _ _ x h).trans (untouched7 i v x (by omega))
theorem untouched9 (x : S3328x1024.Idx) (h : 2304 ≤ (x 0).val) : View.canon (Val := Elt F) (fresh9 i v) x = k0_pay2 (F := F) x :=
  (above 2048 _ _ _ x h).trans (untouched8 i v x (by omega))
theorem untouched10 (x : S3328x1024.Idx) (h : 2560 ≤ (x 0).val) : View.canon (Val := Elt F) (fresh10 i v) x = k0_pay2 (F := F) x :=
  (above 2304 _ _ _ x h).trans (untouched9 i v x (by omega))
theorem untouched11 (x : S3328x1024.Idx) (h : 2816 ≤ (x 0).val) : View.canon (Val := Elt F) (fresh11 i v) x = k0_pay2 (F := F) x :=
  (above 2560 _ _ _ x h).trans (untouched10 i v x (by omega))
theorem untouched12 (x : S3328x1024.Idx) (h : 3072 ≤ (x 0).val) : View.canon (Val := Elt F) (fresh12 i v) x = k0_pay2 (F := F) x :=
  (above 2816 _ _ _ x h).trans (untouched11 i v x (by omega))
theorem load0 : scM1.view.readCov (fresh0) (Rect.unit (s := S3328x1024) ![0, 0] S256x1024.size inb_S3328x1024_S256x1024_0_0).toLoadRect = rdBands (k0_pay2 (F := F)) 0 := by
  rw [View.readCov_eq_canon']
  exact funext fun j => (untouched0 _).trans (rd_at scM1 (Memref.isWhole_whole _) (k0_pay2 (F := F)) (Rect.unit (s := S3328x1024) ![0, 0] S256x1024.size inb_S3328x1024_S256x1024_0_0) j).symm
theorem load1 : scM1.view.readCov (fresh1 i v) (Rect.unit (s := S3328x1024) ![256, 0] S256x1024.size inb_S3328x1024_S256x1024_256_0).toLoadRect = rdBands (k0_pay2 (F := F)) 1 := by
  rw [View.readCov_eq_canon']
  exact funext fun j => (untouched1 i v _ (at_least 256 _ j)).trans (rd_at scM1 (Memref.isWhole_whole _) (k0_pay2 (F := F)) (Rect.unit (s := S3328x1024) ![256, 0] S256x1024.size inb_S3328x1024_S256x1024_256_0) j).symm
theorem load2 : scM1.view.readCov (fresh2 i v) (Rect.unit (s := S3328x1024) ![512, 0] S256x1024.size inb_S3328x1024_S256x1024_512_0).toLoadRect = rdBands (k0_pay2 (F := F)) 2 := by
  rw [View.readCov_eq_canon']
  exact funext fun j => (untouched2 i v _ (at_least 512 _ j)).trans (rd_at scM1 (Memref.isWhole_whole _) (k0_pay2 (F := F)) (Rect.unit (s := S3328x1024) ![512, 0] S256x1024.size inb_S3328x1024_S256x1024_512_0) j).symm
theorem load3 : scM1.view.readCov (fresh3 i v) (Rect.unit (s := S3328x1024) ![768, 0] S256x1024.size inb_S3328x1024_S256x1024_768_0).toLoadRect = rdBands (k0_pay2 (F := F)) 3 := by
  rw [View.readCov_eq_canon']
  exact funext fun j => (untouched3 i v _ (at_least 768 _ j)).trans (rd_at scM1 (Memref.isWhole_whole _) (k0_pay2 (F := F)) (Rect.unit (s := S3328x1024) ![768, 0] S256x1024.size inb_S3328x1024_S256x1024_768_0) j).symm
theorem load4 : scM1.view.readCov (fresh4 i v) (Rect.unit (s := S3328x1024) ![1024, 0] S256x1024.size inb_S3328x1024_S256x1024_1024_0).toLoadRect = rdBands (k0_pay2 (F := F)) 4 := by
  rw [View.readCov_eq_canon']
  exact funext fun j => (untouched4 i v _ (at_least 1024 _ j)).trans (rd_at scM1 (Memref.isWhole_whole _) (k0_pay2 (F := F)) (Rect.unit (s := S3328x1024) ![1024, 0] S256x1024.size inb_S3328x1024_S256x1024_1024_0) j).symm
theorem load5 : scM1.view.readCov (fresh5 i v) (Rect.unit (s := S3328x1024) ![1280, 0] S256x1024.size inb_S3328x1024_S256x1024_1280_0).toLoadRect = rdBands (k0_pay2 (F := F)) 5 := by
  rw [View.readCov_eq_canon']
  exact funext fun j => (untouched5 i v _ (at_least 1280 _ j)).trans (rd_at scM1 (Memref.isWhole_whole _) (k0_pay2 (F := F)) (Rect.unit (s := S3328x1024) ![1280, 0] S256x1024.size inb_S3328x1024_S256x1024_1280_0) j).symm
theorem load6 : scM1.view.readCov (fresh6 i v) (Rect.unit (s := S3328x1024) ![1536, 0] S256x1024.size inb_S3328x1024_S256x1024_1536_0).toLoadRect = rdBands (k0_pay2 (F := F)) 6 := by
  rw [View.readCov_eq_canon']
  exact funext fun j => (untouched6 i v _ (at_least 1536 _ j)).trans (rd_at scM1 (Memref.isWhole_whole _) (k0_pay2 (F := F)) (Rect.unit (s := S3328x1024) ![1536, 0] S256x1024.size inb_S3328x1024_S256x1024_1536_0) j).symm
theorem load7 : scM1.view.readCov (fresh7 i v) (Rect.unit (s := S3328x1024) ![1792, 0] S256x1024.size inb_S3328x1024_S256x1024_1792_0).toLoadRect = rdBands (k0_pay2 (F := F)) 7 := by
  rw [View.readCov_eq_canon']
  exact funext fun j => (untouched7 i v _ (at_least 1792 _ j)).trans (rd_at scM1 (Memref.isWhole_whole _) (k0_pay2 (F := F)) (Rect.unit (s := S3328x1024) ![1792, 0] S256x1024.size inb_S3328x1024_S256x1024_1792_0) j).symm
theorem load8 : scM1.view.readCov (fresh8 i v) (Rect.unit (s := S3328x1024) ![2048, 0] S256x1024.size inb_S3328x1024_S256x1024_2048_0).toLoadRect = rdBands (k0_pay2 (F := F)) 8 := by
  rw [View.readCov_eq_canon']
  exact funext fun j => (untouched8 i v _ (at_least 2048 _ j)).trans (rd_at scM1 (Memref.isWhole_whole _) (k0_pay2 (F := F)) (Rect.unit (s := S3328x1024) ![2048, 0] S256x1024.size inb_S3328x1024_S256x1024_2048_0) j).symm
theorem load9 : scM1.view.readCov (fresh9 i v) (Rect.unit (s := S3328x1024) ![2304, 0] S256x1024.size inb_S3328x1024_S256x1024_2304_0).toLoadRect = rdBands (k0_pay2 (F := F)) 9 := by
  rw [View.readCov_eq_canon']
  exact funext fun j => (untouched9 i v _ (at_least 2304 _ j)).trans (rd_at scM1 (Memref.isWhole_whole _) (k0_pay2 (F := F)) (Rect.unit (s := S3328x1024) ![2304, 0] S256x1024.size inb_S3328x1024_S256x1024_2304_0) j).symm
theorem load10 : scM1.view.readCov (fresh10 i v) (Rect.unit (s := S3328x1024) ![2560, 0] S256x1024.size inb_S3328x1024_S256x1024_2560_0).toLoadRect = rdBands (k0_pay2 (F := F)) 10 := by
  rw [View.readCov_eq_canon']
  exact funext fun j => (untouched10 i v _ (at_least 2560 _ j)).trans (rd_at scM1 (Memref.isWhole_whole _) (k0_pay2 (F := F)) (Rect.unit (s := S3328x1024) ![2560, 0] S256x1024.size inb_S3328x1024_S256x1024_2560_0) j).symm
theorem load11 : scM1.view.readCov (fresh11 i v) (Rect.unit (s := S3328x1024) ![2816, 0] S256x1024.size inb_S3328x1024_S256x1024_2816_0).toLoadRect = rdBands (k0_pay2 (F := F)) 11 := by
  rw [View.readCov_eq_canon']
  exact funext fun j => (untouched11 i v _ (at_least 2816 _ j)).trans (rd_at scM1 (Memref.isWhole_whole _) (k0_pay2 (F := F)) (Rect.unit (s := S3328x1024) ![2816, 0] S256x1024.size inb_S3328x1024_S256x1024_2816_0) j).symm
theorem load12 : scM1.view.readCov (fresh12 i v) (Rect.unit (s := S3328x1024) ![3072, 0] S256x1024.size inb_S3328x1024_S256x1024_3072_0).toLoadRect = rdBands (k0_pay2 (F := F)) 12 := by
  rw [View.readCov_eq_canon']
  exact funext fun j => (untouched12 i v _ (at_least 3072 _ j)).trans (rd_at scM1 (Memref.isWhole_whole _) (k0_pay2 (F := F)) (Rect.unit (s := S3328x1024) ![3072, 0] S256x1024.size inb_S3328x1024_S256x1024_3072_0) j).symm

theorem fresh_eq : fresh13 i v = accPieces i v (rdBands (k0_pay2 (F := F))) ++ [zeroAcc] := by
  unfold fresh13; rw [load12]
  unfold fresh12; rw [load11]
  unfold fresh11; rw [load10]
  unfold fresh10; rw [load9]
  unfold fresh9; rw [load8]
  unfold fresh8; rw [load7]
  unfold fresh7; rw [load6]
  unfold fresh6; rw [load5]
  unfold fresh5; rw [load4]
  unfold fresh4; rw [load3]
  unfold fresh3; rw [load2]
  unfold fresh2; rw [load1]
  unfold fresh1; rw [load0]
  rfl

end

theorem acc_of_first (h0 : first (grid0.coords t)) : (leaves m c t y z g).acc = accAfter (grid0.coords t) (loads m c t) (k0_pay2 (F := F)) := by
  rw [acc_first m c t y z g h0, fresh_eq, View.writes_append, (Memref.isWhole_whole cc0_scratch1).eq_unread (zeroed_acc _)]
  rfl

/-- A store of a band leaves the rows above it. -/
theorem below (f : scM1.view.ty.Contents (Elt F)) (o : ℕ) (inb) (w : Vec F S256x1024 .f32) (L : List (View.Piece (Elt F) S3328x1024 .f32)) (x : S3328x1024.Idx) (h : (x 0).val < o) :
    scM1.view.read (Elt F) (scM1.view.writes (Elt F) f ((⟨Rect.unit (s := S3328x1024) ![o, 0] S256x1024.size inb, w⟩ : View.Piece (Elt F) S3328x1024 .f32) :: L)) x
      = scM1.view.read (Elt F) (scM1.view.writes (Elt F) f L) x :=
  View.read_writes_cons_rows_of_not_mem scM1.view f inb w L x (o := o) (W := 256) rfl rfl (Or.inl h)

theorem low_left (i : grid0.Coords) (v : Loads F) (z : Vec F S3328x1024 .f32) (x : S3328x1024.Idx) (h : (x 0).val < 1536) :
    scM1.view.read (Elt F) (scM1.view.writes (Elt F) ((Memref.isWhole_whole cc0_scratch1).unread z) (lowPieces i v (rdBands z))) x = accAfter i v z x := by
  unfold accAfter accPieces lowPieces
  exact ((below _ 3072 _ _ _ x (by omega)).trans <| (below _ 2816 _ _ _ x (by omega)).trans <| (below _ 2560 _ _ _ x (by omega)).trans <|
    (below _ 2304 _ _ _ x (by omega)).trans <| (below _ 2048 _ _ _ x (by omega)).trans <| (below _ 1792 _ _ _ x (by omega)).trans <|
    below _ 1536 _ _ _ x h).symm

theorem parts_cover (x : S3328x1024.Idx) : x ∈ highPart.set ∨ x ∈ lowPart.set := by
  have hd : (x 1).val < 1024 := (x 1).isLt
  have hr : (x 0).val < 3328 := (x 0).isLt
  by_cases hx : (x 0).val < 1536
  · refine Or.inr (Rect.mem_set_unit.mpr fun a => ?_)
    match a with
    | 0 => exact ⟨Nat.zero_le _, show (x 0).val < 0 + 1536 by omega⟩
    | 1 => exact ⟨Nat.zero_le _, show (x 1).val < 0 + 1024 by omega⟩
  · refine Or.inl (Rect.mem_set_unit.mpr fun a => ?_)
    match a with
    | 0 => exact ⟨show 1536 ≤ (x 0).val by omega, show (x 0).val < 1536 + 1792 by omega⟩
    | 1 => exact ⟨Nat.zero_le _, show (x 1).val < 0 + 1024 by omega⟩

theorem low_row (j : lowPart.shape.Idx) : (lowPart.emb j 0).val < 1536 := by
  have hj : (j 0).val < 1536 := (j 0).isLt
  show 0 + 1 * (j 0).val < 1536
  omega

/-- At the last point the accumulator leaves, in two parts that cover it. -/
theorem large_of_last (h1 : last (grid0.coords t)) : (leaves m c t y z g).large = accAfter (grid0.coords t) (loads m c t) z := by
  rw [large_last m c t y z g h1]
  generalize loads m c t = v
  generalize grid0.coords t = i
  exact (View.read_whole (Val := Elt F) main_v38_1 _).symm.trans
    (two_left gwMem.view g highPart lowPart (accAfter i v z) _ _ (fun j => by unfold accAfter; rfl) (fun j => low_left i v z _ (low_row j)) parts_cover)

end Cert.Proj

end
-- ==== Proof.ProjFrame.lean ====
/- The frame of the projection's gradient, and what its results end at. -/
module

public import proofs.«01_k».proof.Proof.ProjState
public import Idealize.ShloMosaic.Lib.Pipeline.FrameValue
public import Idealize.ShloMosaic.Lib.Pipeline.TableIdle

@[expose] public section

set_option maxRecDepth 16384

noncomputable section

namespace Cert.Proj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-- The first result's tile after a point. -/
def tile (t : Fin cfg0.N) : Vec F S512x1024 .f32 := stored (grid0.coords t) (loads m c t)

/-- The small sums and the accumulator once `n` points have run. -/
def sumsAt : ℕ → Vec F S8x1024 .f32
  | 0 => k0_pay1 (F := F)
  | n + 1 => if h : n < cfg0.N then sumsAfter (grid0.coords ⟨n, h⟩) (loads m c ⟨n, h⟩) (sumsAt n) else sumsAt n
def accAt : ℕ → Vec F S3328x1024 .f32
  | 0 => k0_pay2 (F := F)
  | n + 1 => if h : n < cfg0.N then accAfter (grid0.coords ⟨n, h⟩) (loads m c ⟨n, h⟩) (accAt n) else accAt n

theorem sumsAt_succ (t : Fin cfg0.N) : sumsAt m c (t.val + 1) = sumsAfter (grid0.coords t) (loads m c t) (sumsAt m c t.val) := by
  rw [sumsAt, dif_pos t.isLt]
theorem accAt_succ (t : Fin cfg0.N) : accAt m c (t.val + 1) = accAfter (grid0.coords t) (loads m c t) (accAt m c t.val) := by
  rw [accAt, dif_pos t.isLt]

/-- The large result once `n` points have run. -/
def largeAt (n : ℕ) : Buf (Elt F) (gwMem.view.loc (c : Thread nD τ)) := if n = 16 then accAt m c 16 else V m c main_v38_1

theorem leaves_eq (t : Fin cfg0.N) (y : Vec F S8x1024 .f32) (z : Vec F S3328x1024 .f32)
    (hy : t.val ≠ 0 → y = sumsAt m c t.val) (hz : t.val ≠ 0 → z = accAt m c t.val) :
    leaves m c t y z (largeAt m c t.val)
      = ⟨[⟨Rect.unit (s := S512x1024) ![0, 0] S512x1024.size inb_S512x1024_S512x1024_0_0, tile m c t⟩], sumsAt m c (t.val + 1), accAt m c (t.val + 1), largeAt m c (t.val + 1)⟩ := by
  have ht : t.val < 16 := Nat.lt_of_lt_of_eq t.isLt N_0
  have e1 := tile_left m c t y z (largeAt m c t.val)
  have e2 : (leaves m c t y z (largeAt m c t.val)).sums = sumsAt m c (t.val + 1) := by
    rw [sumsAt_succ]
    by_cases h0 : first (grid0.coords t)
    · rw [sums_of_first m c t y z _ h0, (first_iff t).mp h0]; rfl
    · rw [sums_of_later m c t y z _ h0, hy fun h => h0 ((first_iff t).mpr h)]
  have e3 : (leaves m c t y z (largeAt m c t.val)).acc = accAt m c (t.val + 1) := by
    rw [accAt_succ]
    by_cases h0 : first (grid0.coords t)
    · rw [acc_of_first m c t y z _ h0, (first_iff t).mp h0]; rfl
    · rw [acc_of_later m c t y z _ h0, hz fun h => h0 ((first_iff t).mpr h)]
  have e4 : (leaves m c t y z (largeAt m c t.val)).large = largeAt m c (t.val + 1) := by
    by_cases h1 : last (grid0.coords t)
    · have h15 : t.val = 15 := (last_iff t).mp h1
      rw [large_of_last m c t y z _ h1, hz (by omega), ← accAt_succ]
      unfold largeAt
      rw [if_pos (by omega), h15]
    · have h15 : t.val ≠ 15 := fun h => h1 ((last_iff t).mpr h)
      rw [large_before m c t y z _ h1]
      unfold largeAt
      rw [if_neg (by omega), if_neg (by omega)]
  generalize leaves m c t y z (largeAt m c t.val) = o at e1 e2 e3 e4 ⊢
  obtain ⟨o1, o2, o3, o4⟩ := o
  dsimp only at e1 e2 e3 e4
  subst e1 e2 e3 e4
  rfl

theorem point_runs (t : Fin cfg0.N) (y : Vec F S8x1024 .f32) (z : Vec F S3328x1024 .f32)
    (hy : t.val ≠ 0 → y = sumsAt m c t.val) (hz : t.val ≠ 0 → z = accAt m c t.val) : Runs c (grid0.coords t)
      (st0_0 t) (st0_1 t) (st0_2 t) (st0_3 t) (st0_4 t) (st0_5 t) (st0_6 t) (st0_7 t) (st0_8 t) (st0_9 t) (st0_10 t)
      (st0_11 t) (st0_12 t) (st0_13 t) (st0_14 t) (st0_15 t) (st0_16 t) (st0_17 t) (st0_18 t) (st0_19 t) (st0_20 t)
      (st0_21 t) (st0_22 t) scM0 scM1
      (hstage0_0 ((cfg0.slots t 0).cast nbuf0_0)) (hstage0_1 ((cfg0.slots t 1).cast nbuf0_1)) (hstage0_2 ((cfg0.slots
      t 2).cast nbuf0_2)) (hstage0_3 ((cfg0.slots t 3).cast nbuf0_3)) (hstage0_4 ((cfg0.slots t 4).cast nbuf0_4))
      (hstage0_5 ((cfg0.slots t 5).cast nbuf0_5)) (hstage0_6 ((cfg0.slots t 6).cast nbuf0_6)) (hstage0_7 ((cfg0.slots
      t 7).cast nbuf0_7)) (hstage0_8 ((cfg0.slots t 8).cast nbuf0_8)) (hstage0_9 ((cfg0.slots t 9).cast nbuf0_9))
      (hstage0_10 ((cfg0.slots t 10).cast nbuf0_10)) (hstage0_11 ((cfg0.slots t 11).cast nbuf0_11)) (hstage0_12
      ((cfg0.slots t 12).cast nbuf0_12)) (hstage0_13 ((cfg0.slots t 13).cast nbuf0_13)) (hstage0_14 ((cfg0.slots t
      14).cast nbuf0_14)) (hstage0_15 ((cfg0.slots t 15).cast nbuf0_15)) (hstage0_16 ((cfg0.slots t 16).cast
      nbuf0_16)) (hstage0_17 ((cfg0.slots t 17).cast nbuf0_17)) (hstage0_18 ((cfg0.slots t 18).cast nbuf0_18))
      (hstage0_19 ((cfg0.slots t 19).cast nbuf0_19)) (hstage0_20 ((cfg0.slots t 20).cast nbuf0_20)) (hstage0_21
      ((cfg0.slots t 21).cast nbuf0_21)) (hstage0_22 ((cfg0.slots t 22).cast nbuf0_22)) (Memref.isWhole_whole _)
      (Memref.isWhole_whole _)
      (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (X0_15 m c t) (iblk m c 16 t) (iblk m c 17 t) (iblk m c 18 t) (iblk m c 19 t) (iblk m c 20 t) y z (largeAt m c t.val)
      ⟨[⟨Rect.unit (s := S512x1024) ![0, 0] S512x1024.size inb_S512x1024_S512x1024_0_0, tile m c t⟩], sumsAt m c (t.val + 1), accAt m c (t.val + 1), largeAt m c (t.val + 1)⟩ := by
  rw [← leaves_eq m c t y z hy hz]
  exact leaves_runs m c t y z (largeAt m c t.val)

/-- The result left in the large memory. -/
def R0 : Finset (Ref sig .tc) := {main_v38_1}
theorem R0_sub : R0 ⊆ Pipeline.restRefs sig spec0 \ ∅ := by decide

abbrev osem0 : Fin 2 → SemLoc sig := fun j => (![SemLoc.dma 42, SemLoc.dma 43] : Fin 2 → SemLoc sig) j
theorem ownSemFacts0 : Pipeline.OwnSemFacts spec0 osem0 := by decide

theorem own_eq : (Pipeline.ownSems0 (Ix := Unit) (Name := ℕ) (U := Pipeline.UD sig nD τ) (Lvl := ℕ) (Val := Elt F) (τ := τ) osem0 c : sProp 𝕄)
      = iprop(semVal ((c : Thread nD τ), SemLoc.dma 42) 0 ∗ semVal ((c : Thread nD τ), SemLoc.dma 43) 0) := by
  rw [Pipeline.ownSems0_eq_of_list c osem0 [0, 1] (by decide) (by decide)]; rfl

/-- What holds between the points, once `n` of them have run: the rows' cotangent at anything, the accumulator at its sums so
    far, the cells at zero, and the large result. -/
def between (n : ℕ) : sProp 𝕄 :=
  iprop(iprop((∃ d, owns (c : Thread nD τ) scM0 fullShare d) ∗ (∃ z, ⌜n ≠ 0 → z = accAt m c n⌝ ∗ owns (c : Thread nD τ) scM1 fullShare z)) ∗ (∃ r, prngReg c r)
    ∗ iprop(semVal ((c : Thread nD τ), SemLoc.dma 42) 0 ∗ semVal ((c : Thread nD τ), SemLoc.dma 43) 0) ∗ iprop(emp) ∗ gwAt c (largeAt m c n))

/-- The proof's data: the arrays as the region finds them, each input's block left in place, the first result's tile
    and the small sums so far. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => X0_15 m c t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => tile m c t
    | ⟨22, _⟩ => sumsAt m c (t.val + 1)
    | ⟨_ + 23, h⟩ => absurd h (Nat.not_lt.2 (Nat.le_add_left _ _))
  Φ n := between m c n.val
  q w := Pipeline.shareOf spec0 w
  owed _ := 0

theorem A_eq (w : Fin cfg0.W) : (dats m 0 c).A w = V m c (Pipeline.arrRef spec0 w) := by dsimp only [dats]

theorem after_22 (t : Fin cfg0.N) : (dats m 0 c).after 22 t = sumsAt m c (t.val + 1) := by dsimp only [dats]
theorem after_21 (t : Fin cfg0.N) : (dats m 0 c).after 21 t = tile m c t := by dsimp only [dats]

theorem after_0 (t : Fin cfg0.N) : (dats m 0 c).after 0 t = iblk m c 0 t := by dsimp only [dats]
theorem before_0 (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]) t d).trans
    (by unfold Dat.fetched Dat.blockOf iblk; rw [A_eq]; try rfl)
theorem after_1 (t : Fin cfg0.N) : (dats m 0 c).after 1 t = iblk m c 1 t := by dsimp only [dats]
theorem before_1 (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]) t d).trans
    (by unfold Dat.fetched Dat.blockOf iblk; rw [A_eq]; try rfl)
theorem after_2 (t : Fin cfg0.N) : (dats m 0 c).after 2 t = iblk m c 2 t := by dsimp only [dats]
theorem before_2 (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]) t d).trans
    (by unfold Dat.fetched Dat.blockOf iblk; rw [A_eq]; try rfl)
theorem after_3 (t : Fin cfg0.N) : (dats m 0 c).after 3 t = iblk m c 3 t := by dsimp only [dats]
theorem before_3 (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]) t d).trans
    (by unfold Dat.fetched Dat.blockOf iblk; rw [A_eq]; try rfl)
theorem after_4 (t : Fin cfg0.N) : (dats m 0 c).after 4 t = iblk m c 4 t := by dsimp only [dats]
theorem before_4 (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]) t d).trans
    (by unfold Dat.fetched Dat.blockOf iblk; rw [A_eq]; try rfl)
theorem after_5 (t : Fin cfg0.N) : (dats m 0 c).after 5 t = iblk m c 5 t := by dsimp only [dats]
theorem before_5 (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]) t d).trans
    (by unfold Dat.fetched Dat.blockOf iblk; rw [A_eq]; try rfl)
theorem after_6 (t : Fin cfg0.N) : (dats m 0 c).after 6 t = iblk m c 6 t := by dsimp only [dats]
theorem before_6 (t : Fin cfg0.N) (d) : (dats m 0 c).before 6 t d = iblk m c 6 t :=
  ((dats m 0 c).before_in_eq_fetched 6 rfl (fun _ => rfl) (fun _ _ _ => rfl) (fun t => by rw [after_6]; unfold Dat.blockOf iblk; rw [A_eq]) t d).trans
    (by unfold Dat.fetched Dat.blockOf iblk; rw [A_eq]; try rfl)
theorem after_7 (t : Fin cfg0.N) : (dats m 0 c).after 7 t = iblk m c 7 t := by dsimp only [dats]
theorem before_7 (t : Fin cfg0.N) (d) : (dats m 0 c).before 7 t d = iblk m c 7 t :=
  ((dats m 0 c).before_in_eq_fetched 7 rfl (fun _ => rfl) (fun _ _ _ => rfl) (fun t => by rw [after_7]; unfold Dat.blockOf iblk; rw [A_eq]) t d).trans
    (by unfold Dat.fetched Dat.blockOf iblk; rw [A_eq]; try rfl)
theorem after_8 (t : Fin cfg0.N) : (dats m 0 c).after 8 t = iblk m c 8 t := by dsimp only [dats]
theorem before_8 (t : Fin cfg0.N) (d) : (dats m 0 c).before 8 t d = iblk m c 8 t :=
  ((dats m 0 c).before_in_eq_fetched 8 rfl (fun _ => rfl) (fun _ _ _ => rfl) (fun t => by rw [after_8]; unfold Dat.blockOf iblk; rw [A_eq]) t d).trans
    (by unfold Dat.fetched Dat.blockOf iblk; rw [A_eq]; try rfl)
theorem after_9 (t : Fin cfg0.N) : (dats m 0 c).after 9 t = iblk m c 9 t := by dsimp only [dats]
theorem before_9 (t : Fin cfg0.N) (d) : (dats m 0 c).before 9 t d = iblk m c 9 t :=
  ((dats m 0 c).before_in_eq_fetched 9 rfl (fun _ => rfl) (fun _ _ _ => rfl) (fun t => by rw [after_9]; unfold Dat.blockOf iblk; rw [A_eq]) t d).trans
    (by unfold Dat.fetched Dat.blockOf iblk; rw [A_eq]; try rfl)
theorem after_10 (t : Fin cfg0.N) : (dats m 0 c).after 10 t = iblk m c 10 t := by dsimp only [dats]
theorem before_10 (t : Fin cfg0.N) (d) : (dats m 0 c).before 10 t d = iblk m c 10 t :=
  ((dats m 0 c).before_in_eq_fetched 10 rfl (fun _ => rfl) (fun _ _ _ => rfl) (fun t => by rw [after_10]; unfold Dat.blockOf iblk; rw [A_eq]) t d).trans
    (by unfold Dat.fetched Dat.blockOf iblk; rw [A_eq]; try rfl)
theorem after_11 (t : Fin cfg0.N) : (dats m 0 c).after 11 t = iblk m c 11 t := by dsimp only [dats]
theorem before_11 (t : Fin cfg0.N) (d) : (dats m 0 c).before 11 t d = iblk m c 11 t :=
  ((dats m 0 c).before_in_eq_fetched 11 rfl (fun _ => rfl) (fun _ _ _ => rfl) (fun t => by rw [after_11]; unfold Dat.blockOf iblk; rw [A_eq]) t d).trans
    (by unfold Dat.fetched Dat.blockOf iblk; rw [A_eq]; try rfl)
theorem after_12 (t : Fin cfg0.N) : (dats m 0 c).after 12 t = iblk m c 12 t := by dsimp only [dats]
theorem before_12 (t : Fin cfg0.N) (d) : (dats m 0 c).before 12 t d = iblk m c 12 t :=
  ((dats m 0 c).before_in_eq_fetched 12 rfl (fun _ => rfl) (fun _ _ _ => rfl) (fun t => by rw [after_12]; unfold Dat.blockOf iblk; rw [A_eq]) t d).trans
    (by unfold Dat.fetched Dat.blockOf iblk; rw [A_eq]; try rfl)
theorem after_13 (t : Fin cfg0.N) : (dats m 0 c).after 13 t = iblk m c 13 t := by dsimp only [dats]
theorem before_13 (t : Fin cfg0.N) (d) : (dats m 0 c).before 13 t d = iblk m c 13 t :=
  ((dats m 0 c).before_in_eq_fetched 13 rfl (fun _ => rfl) (fun _ _ _ => rfl) (fun t => by rw [after_13]; unfold Dat.blockOf iblk; rw [A_eq]) t d).trans
    (by unfold Dat.fetched Dat.blockOf iblk; rw [A_eq]; try rfl)
theorem after_14 (t : Fin cfg0.N) : (dats m 0 c).after 14 t = iblk m c 14 t := by dsimp only [dats]
theorem before_14 (t : Fin cfg0.N) (d) : (dats m 0 c).before 14 t d = iblk m c 14 t :=
  ((dats m 0 c).before_in_eq_fetched 14 rfl (fun _ => rfl) (fun _ _ _ => rfl) (fun t => by rw [after_14]; unfold Dat.blockOf iblk; rw [A_eq]) t d).trans
    (by unfold Dat.fetched Dat.blockOf iblk; rw [A_eq]; try rfl)
theorem after_16 (t : Fin cfg0.N) : (dats m 0 c).after 16 t = iblk m c 16 t := by dsimp only [dats]
theorem before_16 (t : Fin cfg0.N) (d) : (dats m 0 c).before 16 t d = iblk m c 16 t :=
  ((dats m 0 c).before_in_eq_fetched 16 rfl (fun _ => rfl) (fun _ _ _ => rfl) (fun t => by rw [after_16]; unfold Dat.blockOf iblk; rw [A_eq]) t d).trans
    (by unfold Dat.fetched Dat.blockOf iblk; rw [A_eq]; try rfl)
theorem after_17 (t : Fin cfg0.N) : (dats m 0 c).after 17 t = iblk m c 17 t := by dsimp only [dats]
theorem before_17 (t : Fin cfg0.N) (d) : (dats m 0 c).before 17 t d = iblk m c 17 t :=
  ((dats m 0 c).before_in_eq_fetched 17 rfl (fun _ => rfl) (fun _ _ _ => rfl) (fun t => by rw [after_17]; unfold Dat.blockOf iblk; rw [A_eq]) t d).trans
    (by unfold Dat.fetched Dat.blockOf iblk; rw [A_eq]; try rfl)
theorem after_18 (t : Fin cfg0.N) : (dats m 0 c).after 18 t = iblk m c 18 t := by dsimp only [dats]
theorem before_18 (t : Fin cfg0.N) (d) : (dats m 0 c).before 18 t d = iblk m c 18 t :=
  ((dats m 0 c).before_in_eq_fetched 18 rfl (fun _ => rfl) (fun _ _ _ => rfl) (fun t => by rw [after_18]; unfold Dat.blockOf iblk; rw [A_eq]) t d).trans
    (by unfold Dat.fetched Dat.blockOf iblk; rw [A_eq]; try rfl)
theorem after_19 (t : Fin cfg0.N) : (dats m 0 c).after 19 t = iblk m c 19 t := by dsimp only [dats]
theorem before_19 (t : Fin cfg0.N) (d) : (dats m 0 c).before 19 t d = iblk m c 19 t :=
  ((dats m 0 c).before_in_eq_fetched 19 rfl (fun _ => rfl) (fun _ _ _ => rfl) (fun t => by rw [after_19]; unfold Dat.blockOf iblk; rw [A_eq]) t d).trans
    (by unfold Dat.fetched Dat.blockOf iblk; rw [A_eq]; try rfl)
theorem after_20 (t : Fin cfg0.N) : (dats m 0 c).after 20 t = iblk m c 20 t := by dsimp only [dats]
theorem before_20 (t : Fin cfg0.N) (d) : (dats m 0 c).before 20 t d = iblk m c 20 t :=
  ((dats m 0 c).before_in_eq_fetched 20 rfl (fun _ => rfl) (fun _ _ _ => rfl) (fun t => by rw [after_20]; unfold Dat.blockOf iblk; rw [A_eq]) t d).trans
    (by unfold Dat.fetched Dat.blockOf iblk; rw [A_eq]; try rfl)
theorem after_15 (t : Fin cfg0.N) : (dats m 0 c).after 15 t = X0_15 m c t := by dsimp only [dats]
theorem before_15 (t : Fin cfg0.N) (d) : (dats m 0 c).before 15 t d = X0_15 m c t :=
  ((dats m 0 c).before_in_eq_fetched 15 rfl (fun _ => rfl)
      (fun t t' h => funext fun a => congrArg (fun n => Pipeline.Clip.of n ((cfg0.win 15).size a) (S8192x2560.size a)) (congrFun h a))
      (fun t => by rw [after_15]; unfold X0_15; rw [Pipeline.Window.cut_fill]; unfold Dat.blockOf iblk; rw [A_eq]; try rfl) t d).trans
    (by unfold Dat.fetched X0_15; rw [fill0_15 t d dflt0_15]; unfold Dat.blockOf iblk; rw [A_eq]; try rfl)

theorem fresh_22 : ∀ t : Fin cfg0.N, t.val ≠ 0 → cfg0.fresh 22 t.val = false := by decide +kernel

/-- The small sums' window stays where it is, so a point finds in it what the point before left. -/
theorem before_22 (t : Fin cfg0.N) (d) (ht : t.val ≠ 0) : (dats m 0 c).before 22 t d = sumsAt m c t.val := by
  refine ((dats m 0 c).before_out_traj 22 rfl (fun _ _ => rfl) (fun _ _ h => absurd h Bool.false_ne_true) t.val t rfl d).trans ?_
  rw [fresh_22 t ht, if_neg Bool.false_ne_true, after_22]
  exact congrArg (sumsAt m c) (Nat.succ_pred_eq_of_pos (Nat.pos_of_ne_zero ht))

/-- The launch's invariant with the large result at given contents. -/
theorem invariant_eq (c : Dev nD) (G : (c : Dev nD) → (b : Ref sig .tc) → Buf (Elt F) ((c.tc : Thread nD τ).loc b)) :
    (Pipeline.ΦDRG osem0 spec0 ∅ R0 (V m) G c : sProp 𝕄)
      = iprop(iprop((∃ d, owns (c : Thread nD τ) scM0 fullShare d) ∗ (∃ d, owns (c : Thread nD τ) scM1 fullShare d)) ∗ (∃ r, prngReg c r)
          ∗ iprop(semVal ((c : Thread nD τ), SemLoc.dma 42) 0 ∗ semVal ((c : Thread nD τ), SemLoc.dma 43) 0) ∗ iprop(emp) ∗ gwAt c (G c main_v38_1)) := by
  rw [Pipeline.ΦDRG_eq, scopedRest0_eq, own_eq, BI.bigSep_empty]
  unfold Pipeline.routed; rw [BI.bigSep_eq_bigSepL_of_eq [main_v38_1] (by decide) (by decide)]
  simp only [scM0, scM1, owns_whole]; try rfl

/-- The buffers after the run, as far as the launch leaves them to the body. -/
def ends (c : Dev nD) (b : Ref sig .tc) : Buf (Elt F) ((c.tc : Thread nD τ).loc b) :=
  Function.update (V m c) main_v38_1 (accAt m c 16) b

theorem ends_large : ends m c main_v38_1 = accAt m c 16 := Function.update_self _ _ _

theorem enter : (Pipeline.ΦDRG osem0 spec0 ∅ R0 (V m) (V m) c : sProp 𝕄) ⊢ (dats m 0 c).Φ 0 := by
  rw [invariant_eq, show (dats m 0 c).Φ 0 = between m c 0 from rfl]
  unfold between
  rw [show largeAt m c 0 = V m c main_v38_1 from if_neg (by omega)]
  iintro ⟨⟨H0, ⟨%d, H1⟩⟩, Hg, Hq, He, Hh⟩
  isplitl [H0 H1]
  · isplitl [H0]; · iexact H0
    iexists d; isplitr; · ipureintro; exact fun h => absurd rfl h
    iexact H1
  isplitl [Hg]; · iexact Hg
  isplitl [Hq]; · iexact Hq
  isplitl [He]; · iexact He
  iexact Hh

theorem leave : (dats m 0 c).Φ (Fin.last cfg0.N) ⊢ (Pipeline.ΦDRG osem0 spec0 ∅ R0 (V m) (ends m) c : sProp 𝕄) := by
  rw [invariant_eq, ends_large, show (dats m 0 c).Φ (Fin.last cfg0.N) = between m c cfg0.N from rfl, show cfg0.N = 16 from N_0]
  unfold between
  rw [show largeAt m c 16 = accAt m c 16 from if_pos rfl]
  iintro ⟨⟨H0, ⟨%d, -, H1⟩⟩, Hg, Hq, He, Hh⟩
  isplitl [H0 H1]
  · isplitl [H0]; · iexact H0
    iexists d; iexact H1
  isplitl [Hg]; · iexact Hg
  isplitl [Hq]; · iexact Hq
  isplitl [He]; · iexact He
  iexact Hh

/-- What the body is called with at a point, -/
def before (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d))
    ∗ (∃ d, owns (c : Thread nD τ) (st0_22 t) fullShare ((dats m 0 c).before 22 t d)))

/-- and what it returns. -/
def after (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t)
    ∗ owns (c : Thread nD τ) (st0_22 t) fullShare ((dats m 0 c).after 22 t))

set_option maxHeartbeats 16000000 in
theorem sound_body (t : Fin cfg0.N) :
    before m c t ⊢ wp frame (wpE (defs₀ (F := F)) Variants.none c none) Set.univ (bodyAt0 t) (fun _ => after m c t) := by
  unfold before after bodyAt0
  simp only [before_0, before_1, before_2, before_3, before_4, before_5, before_6, before_7, before_8, before_9, before_10, before_11, before_12, before_13, before_14, before_15, before_16, before_17, before_18, before_19, before_20]
  rw [show (dats m 0 c).Φ t.succ = between m c (t.val + 1) from rfl,
    show (dats m 0 c).Φ t.castSucc = between m c t.val from rfl,
    after_0, after_1, after_2, after_3, after_4, after_5, after_6, after_7, after_8, after_9, after_10, after_11, after_12, after_13, after_14, after_15, after_16, after_17, after_18, after_19, after_20, after_21, after_22]
  unfold between Dat.owesAt Pipeline.owesWithin
  rw [show (dats m 0 c).owed t.castSucc = 0 from rfl, show (dats m 0 c).owed t.succ = 0 from rfl]
  iintro ⟨⟨⟨HS0, ⟨%z, %hz, HS1⟩⟩, Hg, ⟨Hq0, Hq1⟩, -, Hh0⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply (point_runs m c t ((dats m 0 c).before 22 t d22) z (before_22 m c t d22) hz _)
  unfold held beside
  isplitl [H0 H1 H2 H3 H4 H5 H6 H7 H8 H9 H10 H11 H12 H13 H14 H15 H16 H17 H18 H19 H20]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
  isplitl [H21]; · iexists _; iexact H21
  isplitl [H22 HS0 HS1 Hq0 Hq1 Hh0 HW]
  · isplitl [H22]; · iexact H22
    isplitl [HS0]; · iexact HS0
    isplitl [HS1]; · iexact HS1
    isplitl [Hq0]; · iexact Hq0
    isplitl [Hq1]; · iexact Hq1
    isplitl [Hh0]; · iexact Hh0
    iexists W; iexact HW
  iintro ⟨⟨H0, H1, H2, H3, H4, H5, H6, H7, H8, H9, H10, H11, H12, H13, H14, H15, H16, H17, H18, H19, H20⟩, ⟨%e21, H21⟩, H22, HS0, HS1, Hq0, Hq1, Hh0, ⟨%W', HW'⟩⟩
  isplitl [HS0 HS1 Hg Hq0 Hq1 Hh0]
  · isplitl [HS0 HS1]
    · isplitl [HS0]; · iexact HS0
      iexists _; isplitr
      swap; · iexact HS1
      ipureintro; exact fun _ => rfl
    isplitl [Hg]; · iexact Hg
    isplitl [Hq0 Hq1]
    · isplitl [Hq0]; · iexact Hq0
      iexact Hq1
    isplitr
    · iempintro
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]
  · unfold owns; iexists _; isplitr
    swap; · iexact H21
    ipureintro
    exact whole_left _ _ no_offset _ _
  iexact H22

theorem defs₀_row (t : Fin cfg0.N) : defs₀ (F := F) .tc cfg0.body (cfg0.bodyArgs t (cfg0.slots t)) = bodyAt0 t := by
  unfold defs₀; rw [Defs.onTc_tc]

theorem body_obligation : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the arrays end at what the proof's data say of them, the large result at the sums over every tile, every counter at zero. -/
theorem run_main : θ_run defs (onTc (τ := τ) (main (F := F))) (s₀ m ρ)
    (fun r => Pipeline.FramePostRG cfgs (dats m) (0 : Fin 1) R0 (V m) (ends m) r ∧ r.2.sem = fun _ => 0) :=
  Pipeline.θ_run_frame_dmaRG_shared (Q' := _) cfgs (dats m) (0 : Fin 1) launch₀0 osem0 defs₀ Variants.none ownSemFacts0 ∅ R0
    (Finset.empty_subset _) R0_sub m ρ main (hbody := fun c => (body_obligation m c).loose) (hq := fun _ _ _ => rfl)
    (howed := fun _ _ => rfl) (V := V m) (hmain := Pipeline.hmain_prefix cfgs 0 defs₀ Variants.none m main hostOps0 hostOps0_sub hostOps0_fresh main_chain)
    (hA := A_eq m) (G := ends m) (hin := enter m) (hout := leave m) (hQ' := fun _ h => h)

/-- An input's array ends as the region found it. -/
theorem input_end {r : MemSt nD τ sig (Elt F)} (w : Fin cfg0.W) (hin : (cfg0.win w).isOut = false)
    (h : r.mem ((cfg0.spec w).arr.view.loc (c.tc : Thread nD τ)) = (dats m 0 c).arrAt w cfg0.N) :
    r.mem ((cfg0.spec w).arr.view.loc (c.tc : Thread nD τ)) = V m c (Pipeline.arrRef spec0 w) :=
  h.trans (((dats m 0 c).arrAt_in w hin _).trans (A_eq m c w))

/-- The arguments as they were. -/
def Kept (r : PUnit × MemSt nD τ sig (Elt F)) (c : Dev nD) : Prop :=
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)

/-- What the three results end at. -/
theorem run_tiles : θ_run defs (onTc (τ := τ) (main (F := F))) ⟨m, fun _ => 0, ρ⟩ (fun r => (∀ c : Dev nD, Kept m r c)
      ∧ (r.2.sem = fun _ => 0) ∧ ∀ c : Dev nD, r.2.mem ((c.tc : Thread nD τ).loc main_v38_0) = (dats m 0 c).arrAt 21 cfg0.N
        ∧ r.2.mem ((c.tc : Thread nD τ).loc main_v38_1) = accAt m c 16
        ∧ r.2.mem ((c.tc : Thread nD τ).loc main_v38_2) = (dats m 0 c).arrAt 22 cfg0.N) :=
  (θ_run defs _ _).mono (fun r h => ⟨fun c => ⟨(input_end m c 0 rfl ((h.1.1 c).1 0)).trans (V_main_arg0 m c),
      ((h.1.1 c).2 main_arg1 (Finset.mem_sdiff.mpr ⟨Pipeline.mem_restRefs_of main_arg1 (by decide) (by decide), by decide⟩)).trans (V_main_arg1 m c),
      ((h.1.1 c).2 main_arg2 (Finset.mem_sdiff.mpr ⟨Pipeline.mem_restRefs_of main_arg2 (by decide) (by decide), by decide⟩)).trans (V_main_arg2 m c),
      ((h.1.1 c).2 main_arg3 (Finset.mem_sdiff.mpr ⟨Pipeline.mem_restRefs_of main_arg3 (by decide) (by decide), by decide⟩)).trans (V_main_arg3 m c),
      (input_end m c 2 rfl ((h.1.1 c).1 2)).trans (V_main_arg4 m c),
      (input_end m c 3 rfl ((h.1.1 c).1 3)).trans (V_main_arg5 m c),
      (input_end m c 4 rfl ((h.1.1 c).1 4)).trans (V_main_arg6 m c),
      (input_end m c 5 rfl ((h.1.1 c).1 5)).trans (V_main_arg7 m c),
      (input_end m c 8 rfl ((h.1.1 c).1 8)).trans (V_main_arg8 m c),
      (input_end m c 9 rfl ((h.1.1 c).1 9)).trans (V_main_arg9 m c),
      (input_end m c 10 rfl ((h.1.1 c).1 10)).trans (V_main_arg10 m c),
      (input_end m c 11 rfl ((h.1.1 c).1 11)).trans (V_main_arg11 m c),
      (input_end m c 14 rfl ((h.1.1 c).1 14)).trans (V_main_arg12 m c),
      (input_end m c 12 rfl ((h.1.1 c).1 12)).trans (V_main_arg13 m c)⟩, h.2,
    fun c => ⟨(h.1.1 c).1 21, (h.1.2 c main_v38_1 (Finset.mem_singleton_self _)).trans (ends_large m c), (h.1.1 c).1 22⟩⟩) (run_main m ρ)

/-- Every execution ends, the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) ∧ r.2.sem = fun _ => 0) :=
  (θ_run defs _ _).mono (fun _ h => ⟨h.1, h.2.1⟩) (run_tiles m ρ)

end Cert.Proj

end
-- ==== Proof.ProjBits.lean ====
/- The projection's frame over bits, for the kernel as it prints. -/
module

public import proofs.«01_k».proof.Proof.ProjFrame
public import proofs.«01_k».proof.Proof.Gen.Kernel2
public import Idealize.ShloMosaic.PureOps.BitExact

@[expose] public section

set_option maxRecDepth 65536

noncomputable section

namespace Cert.Proj

open Idealize.ShloMosaic Idealize.SL.Sem Idealize.ShloMosaic.Tactic

/-- The frame of the kernel over bits, and of its idealized program over bits: no rule was used, so they are one program. -/
def keptBits : Prop :=
  ∀ (m : (ℓ : Loc Cert.Kernel2.nD Cert.Kernel2.τ Cert.Kernel2.sig) → Buf (Elt Bits) ℓ) (g : Dev Cert.Kernel2.nD → PrngReg),
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13))
      ∧ r.2.sem = fun _ => 0)

def keptSame : Prop :=
  ∀ (m : (ℓ : Loc Cert.Kernel2Ideal.nD Cert.Kernel2Ideal.τ Cert.Kernel2Ideal.sig) → Buf (Elt Bits) ℓ) (g : Dev Cert.Kernel2Ideal.nD → PrngReg),
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13))
      ∧ r.2.sem = fun _ => 0)

theorem bits_same : keptBits = keptSame := by
  unfold keptBits keptSame
  sl_kernel_rfl

theorem frame_bits : keptBits := bits_same ▸ fun m ρ => frame (F := Bits) m ρ

end Cert.Proj

end
-- ==== Proof.ProjModel.lean ====
/- The gradient of the projection's input, over the reals. -/
module

public import proofs.«01_k».proof.Proof.Grad
public import proofs.«01_k».proof.Proof.RefHead

@[expose] public section

set_option maxRecDepth 16384

noncomputable section

namespace Cert.Proj

open Idealize.ShloMosaic Cert.Chain

/-- The arguments as reals. -/
structure PArgs where
  x : Fin 8192 → Fin 1024 → ℝ
  g : Fin 1024 → ℝ
  w : Fin 1024 → Fin 3328 → ℝ
  cw : Fin 3 → Fin 512 → ℝ
  dh : Fin 8192 → Fin 1024 → ℝ
  dq : Fin 8192 → Fin 512 → ℝ
  dk : Fin 8192 → Fin 128 → ℝ
  dv : Fin 8192 → Fin 128 → ℝ
  dkh : Fin 16 → Fin 128 → Fin 128 → ℝ
  dvh : Fin 16 → Fin 128 → Fin 128 → ℝ
  dga : Fin 8192 → Fin 512 → ℝ
  db : Fin 8192 → Fin 512 → ℝ
  dcv : Fin 8192 → Fin 512 → ℝ
  dgc : Fin 8192 → Fin 512 → ℝ

/-- The norm's small constant. -/
def eps : ℝ := (Ideal.ofBits .f32 0x3727C5AC#32).toReal

theorem eps_word : Ideal.ofBits .f32 0x3727C5AC#32 = ((eps : ℝ) : EReal) := by
  unfold eps
  simp [Ideal.ofBits, Ideal.ieee, -EReal.coe_mul]

theorem eps_pos : 0 < eps := by
  unfold eps
  simp [Ideal.ofBits, Ideal.ieee, -EReal.coe_mul]
  try norm_num

theorem thousand : Ideal.ofBits .f32 0x44800000#32 = ((1024 : ℝ) : EReal) := by
  simp [Ideal.ofBits, Ideal.ieee, -EReal.coe_mul]; norm_num

/-- The inverse root, of what is positive. -/
theorem rsqrt_pos {y : ℝ} (hy : 0 < y) : Ideal.rsqrt (y : EReal) = (((Real.sqrt y)⁻¹ : ℝ) : EReal) := by
  rw [Ideal.rsqrt_coe, if_neg hy.not_gt, if_neg hy.ne']

variable (a : PArgs)

/-- The row's mean square, its inverse root, and the row normed. -/
def msq (s : Fin 8192) : ℝ := (∑ d : Fin 1024, a.x s d * a.x s d) / 1024 + eps
def inv (s : Fin 8192) : ℝ := (Real.sqrt (msq a s))⁻¹
def xr (s : Fin 8192) (d : Fin 1024) : ℝ := a.x s d * inv a s

/-- The projection. -/
def pj (s : Fin 8192) (e : Fin 3328) : ℝ := ∑ d : Fin 1024, xr a s d * a.g d * a.w d e

/-- A tile's last rows receive what the tile after them had of the block before it. -/
def withHalo (t : Fin 8192 → Fin 128 → ℝ) (u : Fin 16 → Fin 128 → Fin 128 → ℝ) (s : Fin 8192) (l : Fin 128) : ℝ :=
  t s l + if h : 384 ≤ s.val % 512 ∧ s.val / 512 + 1 < 16 then u ⟨s.val / 512 + 1, h.2⟩ ⟨s.val % 512 - 384, by omega⟩ l else 0

def unropedKey (s : Fin 8192) (l : Fin 128) : ℝ :=
  unroped (fun k => withHalo a.dk a.dkh s ⟨64 * (l.val / 64) + k.val, by omega⟩) s ⟨l.val % 64, by omega⟩

/-- The convolution's cotangent, `k` rows further. -/
def later (s : Fin 8192) (k : ℕ) (c : Fin 512) : ℝ := if h : s.val + k < 8192 then a.dcv ⟨s.val + k, h⟩ c else 0

def du (s : Fin 8192) (c : Fin 512) : ℝ := a.cw 2 c * a.dcv s c + a.cw 1 c * later a s 1 c + a.cw 0 c * later a s 2 c

/-- The projection's cotangent. -/
def dp (s : Fin 8192) (e : Fin 3328) : ℝ :=
  if h : e.val < 512 then a.dq s ⟨e.val, h⟩
  else if h : e.val < 640 then unropedKey a s ⟨e.val - 512, by omega⟩
  else if h : e.val < 768 then withHalo a.dv a.dvh s ⟨e.val - 640, by omega⟩
  else if h : e.val < 1280 then a.dga s ⟨e.val - 768, by omega⟩
  else if h : e.val < 1792 then a.db s ⟨e.val - 1280, by omega⟩
  else if h : e.val < 2304 then du a s ⟨e.val - 1792, by omega⟩ * pj a s ⟨e.val + 512, by omega⟩
  else if h : e.val < 2816 then du a s ⟨e.val - 2304, by omega⟩ * pj a s ⟨e.val - 512, by omega⟩
  else a.dgc s ⟨e.val - 2816, by omega⟩

/-- The scaled normed row's cotangent, and the input's. -/
def dg (s : Fin 8192) (d : Fin 1024) : ℝ := (∑ e : Fin 3328, dp a s e * a.w d e) * a.g d
def gx (s : Fin 8192) (d : Fin 1024) : ℝ :=
  inv a s * (dg a s d - xr a s d * ((∑ d' : Fin 1024, dg a s d' * xr a s d') / 1024)) + a.dh s d

theorem msq_pos (s : Fin 8192) : 0 < msq a s :=
  add_pos_of_nonneg_of_pos (div_nonneg (Finset.sum_nonneg fun d _ => mul_self_nonneg _) (by norm_num)) eps_pos

theorem inv_sq (s : Fin 8192) : inv a s * inv a s = 1 / msq a s := by
  unfold inv
  rw [← mul_inv, Real.mul_self_sqrt (msq_pos a s).le, one_div]

/-- The input's cotangent as the reference sums it. -/
theorem gx_eq (s : Fin 8192) (d : Fin 1024) :
    a.dh s d + dg a s d * inv a s + a.x s d * ((∑ d' : Fin 1024, a.x s d' * dg a s d') * (-1 / 2 * (inv a s / msq a s)) / 1024)
      + (∑ d' : Fin 1024, a.x s d' * dg a s d') * (-1 / 2 * (inv a s / msq a s)) / 1024 * a.x s d = gx a s d := by
  have hs : ∑ d' : Fin 1024, dg a s d' * xr a s d' = (∑ d' : Fin 1024, a.x s d' * dg a s d') * inv a s := by
    rw [Finset.sum_mul]
    exact Finset.sum_congr rfl fun d' _ => by unfold xr; ring
  unfold gx
  rw [hs, xr, div_eq_mul_one_div (inv a s) (msq a s), ← inv_sq]
  ring

/-- The rotation's transpose over both heads' lanes. -/
theorem unroped_lanes (y : Fin 128 → ℝ) (s : Fin 8192) (l : Fin 128) :
    y l * cosLane s l + y ⟨(l.val + 8) % 128, Nat.mod_lt _ (by omega)⟩ * (0 - firstSin s l) + y ⟨(l.val + 120) % 128, Nat.mod_lt _ (by omega)⟩ * (0 - secondSin s l)
      = unroped (fun k => y ⟨64 * (l.val / 64) + k.val, by omega⟩) s ⟨l.val % 64, by omega⟩ := by
  have hl := l.isLt
  unfold cosLane firstSin secondSin unroped
  have e0 : y ⟨64 * (l.val / 64) + l.val % 64, by omega⟩ = y l := congrArg y (Fin.ext (by simp only; omega))
  by_cases h1 : l.val % 64 < 8
  · rw [dif_pos (by omega), if_pos h1, if_neg (by omega), dif_pos h1]
    have e2 : y ⟨(l.val + 8) % 128, by omega⟩ = y ⟨64 * (l.val / 64) + (l.val % 64 + 8), by omega⟩ := congrArg y (Fin.ext (by simp only; omega))
    have e4 : (⟨l.val % 8, by omega⟩ : Fin 8) = ⟨l.val % 64, h1⟩ := Fin.ext (by simp only; omega)
    simp only [e0, e2, e4]
    ring
  · by_cases h2 : l.val % 64 < 16
    · rw [dif_pos (by omega), if_neg h1, if_pos (by omega), dif_neg h1, dif_pos h2]
      have e2 : y ⟨(l.val + 120) % 128, by omega⟩ = y ⟨64 * (l.val / 64) + (l.val % 64 - 8), by omega⟩ := congrArg y (Fin.ext (by simp only; omega))
      have e4 : (⟨l.val % 8, by omega⟩ : Fin 8) = ⟨l.val % 64 - 8, by omega⟩ := Fin.ext (by simp only; omega)
      simp only [e0, e2, e4]
      ring
    · rw [dif_neg (by omega), if_neg h1, if_neg (by omega), dif_neg h1, dif_neg h2]
      simp only [e0]
      ring

end Cert.Proj

end
-- ==== Proof.ProjWeights.lean ====
/- The gradients of the projection's weights and of its norm's scale, over the reals. -/
module

public import proofs.«01_k».proof.Proof.ProjModel

@[expose] public section

noncomputable section

namespace Cert.Proj

open Cert.Chain

variable (a : PArgs)

/-- The normed row's cotangent. -/
def back (s : Fin 8192) (d : Fin 1024) : ℝ := ∑ f : Fin 3328, dp a s f * a.w d f

/-- The weights' gradient, transposed, and the scale's. -/
def gw (f : Fin 3328) (d : Fin 1024) : ℝ := ∑ s : Fin 8192, dp a s f * (xr a s d * a.g d)
def gn (d : Fin 1024) : ℝ := ∑ s : Fin 8192, back a s d * xr a s d

/-- The scale's gradient lies in the first of eight rows. -/
def gnRow (r : Fin 8) (d : Fin 1024) : ℝ := if r.val = 0 then gn a d else 0

/-- What the first `n` tiles' rows add to a sum over all rows. -/
def upTo (f : Fin 8192 → ℝ) (n : ℕ) : ℝ := ∑ t ∈ Finset.univ.filter (fun t : Fin 16 => t.val < n), ∑ r : Fin 512, f (tileRow t r)

theorem upTo_zero (f : Fin 8192 → ℝ) : upTo f 0 = 0 := by
  unfold upTo
  rw [Finset.filter_false_of_mem fun t _ => by omega, Finset.sum_empty]

theorem upTo_succ (f : Fin 8192 → ℝ) (t : Fin 16) : upTo f (t.val + 1) = upTo f t.val + ∑ r : Fin 512, f (tileRow t r) := by
  unfold upTo
  have h : Finset.univ.filter (fun u : Fin 16 => u.val < t.val + 1) = insert t (Finset.univ.filter fun u : Fin 16 => u.val < t.val) := by
    ext u
    simp only [Finset.mem_filter, Finset.mem_univ, true_and, Finset.mem_insert, Fin.ext_iff]
    omega
  rw [h, Finset.sum_insert (by simp), add_comm]

theorem upTo_all (f : Fin 8192 → ℝ) : upTo f 16 = ∑ s : Fin 8192, f s := by
  unfold upTo
  rw [Finset.filter_true_of_mem fun t _ => t.isLt, ← Finset.sum_product', Finset.univ_product_univ]
  refine Finset.sum_bij' (fun p _ => tileRow p.1 p.2) (fun s _ => (⟨s.val / 512, by omega⟩, ⟨s.val % 512, by omega⟩)) (by simp) (by simp) ?_ ?_ (by simp)
  · rintro ⟨t, r⟩ _
    have hr := r.isLt
    exact Prod.ext (Fin.ext (by show (512 * t.val + r.val) / 512 = t.val; omega)) (Fin.ext (by show (512 * t.val + r.val) % 512 = r.val; omega))
  · intro s _
    exact Fin.ext (by show 512 * (s.val / 512) + s.val % 512 = s.val; omega)

end Cert.Proj

end
-- ==== Proof.ProjPay.lean ====
/- The projection's body, operation by operation, at an index. -/
module

public import proofs.«01_k».proof.Proof.ProjWeights
public import proofs.«01_k».proof.Proof.Gen.Kernel2Ideal.Skeleton

@[expose] public section

set_option maxRecDepth 16384

noncomputable section

namespace Cert.Proj

open Cert.Kernel2Ideal Cert.Kernel2Ideal.Gen Idealize.ShloMosaic Cert.Chain

/-- One but at the last point. -/
def keep (t : Fin 16) : ℝ := if t.val = 15 then 0 else 1

theorem keepWord : ∀ t : Fin 16, Scalar.cmpi .eq (BitVec.ofNat 32 t.val) 15#32 = if t.val = 15 then 1#1 else 0#1 := by decide

theorem one_word : Ideal.ofBits .f32 0x3F800000#32 = ((1 : ℝ) : EReal) := by
  simp [Ideal.ofBits, Ideal.ieee, -EReal.coe_mul]; try norm_num

theorem zero_word : Ideal.ofBits .f32 0x00000000#32 = ((0 : ℝ) : EReal) := by
  simp [Ideal.ofBits, Ideal.ieee, -EReal.coe_mul]

theorem pay3_eq (i : grid0.Coords) (t : Fin 16) (h : (i 0).val = t.val) : (k0_pay3 (F := Ideal) i : EReal) = ((keep t : ℝ) : EReal) := by
  unfold k0_pay3 keep
  simp only [h]
  rw [keepWord]
  split_ifs
  · exact zero_word
  · exact one_word

theorem pay5_at (i : grid0.Coords) (v6 : Vec Ideal S1x128x128 .f32) (v10 : Vec Ideal S512x128 .f32) (r : Fin 512) (l : Fin 128) :
    k0_pay5 i v6 v10 (ix2 r l) = v10 (ix2 r l) + if h : r.val < 384 then (0 : EReal) else v6 (ix3 0 ⟨r.val - 384, by omega⟩ l) * k0_pay3 (F := Ideal) i := by
  unfold k0_pay5 k0_pay4
  pointwise
  try rfl

theorem pay6_at (i : grid0.Coords) (v13 : Vec Ideal S1x128x128 .f32) (v17 : Vec Ideal S512x128 .f32) (r : Fin 512) (l : Fin 128) :
    k0_pay6 i v13 v17 (ix2 r l) = v17 (ix2 r l) + if h : r.val < 384 then (0 : EReal) else v13 (ix3 0 ⟨r.val - 384, by omega⟩ l) * k0_pay3 (F := Ideal) i := by
  unfold k0_pay6 k0_pay4
  pointwise
  try rfl

theorem pay7_at (v : Vec Ideal S512x512 .bf16) (r c : Fin 512) : k0_pay7 v (ix2 r c) = v (ix2 r c) := by
  unfold k0_pay7
  pointwise

theorem pay8_at (v : Vec Ideal S512x128 .f32) (r : Fin 512) (l : Fin 128) : k0_pay8 v (ix2 r l) = v (ix2 r l) := by
  unfold k0_pay8
  pointwise

theorem pay9_at (v : Vec Ideal S512x128 .f32) (r : Fin 512) (l : Fin 128) : k0_pay9 v (ix2 r l) = 0 - v (ix2 r l) := by
  unfold k0_pay9
  pointwise
  try rfl

theorem pay10_at (v12 v25 v29 v30 : FVec Ideal S512x128 .f32) (r : Fin 512) (l : Fin 128) :
    k0_pay10 v12 v25 v29 v30 (ix2 r l) = v12 (ix2 r l) * v25 (ix2 r l)
      + v12 (ix2 r ⟨(l.val + 8) % 128, Nat.mod_lt _ (by omega)⟩) * v29 (ix2 r l)
      + v12 (ix2 r ⟨(l.val + 120) % 128, Nat.mod_lt _ (by omega)⟩) * (0 - v30 (ix2 r l)) := by
  unfold k0_pay10
  pointwise
  try rfl

theorem pay11_at (v : FVec Ideal S512x128 .f32) (r : Fin 512) (l : Fin 128) : k0_pay11 v (ix2 r l) = v (ix2 r l) := by
  unfold k0_pay11
  pointwise

theorem pay12_at (v : Vec Ideal S512x512 .bf16) (r c : Fin 512) : k0_pay12 v (ix2 r c) = v (ix2 r c) := by
  unfold k0_pay12
  pointwise

theorem pay13_at (v : Vec Ideal S512x512 .bf16) (r c : Fin 512) : k0_pay13 v (ix2 r c) = v (ix2 r c) := by
  unfold k0_pay13
  pointwise

theorem pay14_at (k : Ideal .f32) (v : Vec Ideal S8x512 .f32) (r : Fin 8) (c : Fin 512) : k0_pay14 k v (ix2 r c) = v (ix2 r c) * k := by
  unfold k0_pay14
  pointwise

theorem pay15_at (v : Vec Ideal S1x8x128 .f32) (r : Fin 8) (l : Fin 128) : k0_pay15 v (ix2 r l) = v (ix3 0 r l) := by
  unfold k0_pay15
  pointwise

/-- The four quarters of the taps side by side. -/
def quarter (v62 : FVec Ideal S8x128 .f32) (v63 v65 v67 : Vec Ideal S1x8x128 .f32) (r : Fin 8) (c : Fin 512) : EReal :=
  if h : c.val < 128 then v62 (ix2 r ⟨c.val, h⟩)
  else if h : c.val - 128 < 128 then v63 (ix3 0 r ⟨c.val - 128, h⟩)
  else if h : c.val - 128 - 128 < 128 then v65 (ix3 0 r ⟨c.val - 128 - 128, h⟩)
  else v67 (ix3 0 r ⟨c.val - 128 - 128 - 128, by omega⟩)

theorem rowWord : ∀ r : Fin 512, IntOp.cmpi .eq (BitVec.ofNat 32 r.val) 511#32 = (if r.val = 511 then 1#1 else 0#1)
    ∧ IntOp.cmpi .eq (BitVec.ofNat 32 r.val) 510#32 = if r.val = 510 then 1#1 else 0#1 := by decide +kernel

theorem pay16_at (v57 : Vec Ideal S512x512 .f32) (v60 : FVec Ideal S8x512 .f32) (v62 : FVec Ideal S8x128 .f32) (v63 v65 v67 : Vec Ideal S1x8x128 .f32)
    (r c : Fin 512) :
    k0_pay16 v57 v60 v62 v63 v65 v67 (ix2 r c) = quarter v62 v63 v65 v67 2 c * v57 (ix2 r c)
      + quarter v62 v63 v65 v67 1 c * (if r.val = 511 then v60 (ix2 0 c) else v57 (ix2 ⟨(r.val + 1) % 512, Nat.mod_lt _ (by omega)⟩ c))
      + quarter v62 v63 v65 v67 0 c * (if r.val = 511 then v60 (ix2 1 c) else if r.val = 510 then v60 (ix2 0 c)
          else v57 (ix2 ⟨(r.val + 2) % 512, Nat.mod_lt _ (by omega)⟩ c)) := by
  unfold k0_pay16
  pointwise
  rw [(rowWord r).1, (rowWord r).2]
  have hs : ∀ (p : Prop) [Decidable p] (x y : EReal), Scalar.select (if p then 1#1 else 0#1) x y = if p then x else y := by
    intro p _ x y
    unfold Scalar.select
    split_ifs <;> simp_all
  have e1 : (r.val + 512 - 511) % 512 = (r.val + 1) % 512 := by omega
  have e2 : (r.val + 512 - 510) % 512 = (r.val + 2) % 512 := by omega
  simp only [hs, e1, e2]
  rfl

theorem pay17_at (v57 : Vec Ideal S512x512 .f32) (v60 : FVec Ideal S8x512 .f32) (v62 : FVec Ideal S8x128 .f32) (v63 v65 v67 : Vec Ideal S1x8x128 .f32)
    (v103 : Vec Ideal S512x512 .f32) (r c : Fin 512) :
    k0_pay17 v57 v60 v62 v63 v65 v67 v103 (ix2 r c) = k0_pay16 v57 v60 v62 v63 v65 v67 (ix2 r c) * v103 (ix2 r c) := by
  unfold k0_pay17
  pointwise

theorem pay18_at (v : FVec Ideal S512x512 .bf16) (r c : Fin 512) : k0_pay18 v (ix2 r c) = v (ix2 r c) := by
  unfold k0_pay18
  pointwise

theorem pay19_at (v102 : FVec Ideal S512x512 .f32) (v : Vec Ideal S512x512 .f32) (r c : Fin 512) : k0_pay19 v102 v (ix2 r c) = v102 (ix2 r c) * v (ix2 r c) := by
  unfold k0_pay19
  pointwise

theorem pay20_at (v : Vec Ideal S512x512 .bf16) (r c : Fin 512) : k0_pay20 v (ix2 r c) = v (ix2 r c) := by
  unfold k0_pay20
  pointwise

theorem pay21_at (v : Vec Ideal S512x1024 .f32) (r : Fin 512) (u : Fin 1) :
    k0_pay21 v (ix2 r u) = Ideal.rsqrt (Ideal.div (∑ d : Fin 1024, v (ix2 r d) * v (ix2 r d)) (Ideal.ofBits .f32 0x44800000#32) + Ideal.ofBits .f32 0x3727C5AC#32) := by
  unfold k0_pay21
  pointwise
  try rfl

theorem pay22_at (v : Vec Ideal S512x1024 .f32) (r : Fin 512) (d : Fin 1024) :
    k0_pay22 v (ix2 r d) = v (ix2 r d) * k0_pay21 v (ix2 r 0) := by
  unfold k0_pay22
  pointwise

theorem pay24_at (v : Vec Ideal S512x3328 .bf16) (w : Vec Ideal S3328x1024 .bf16) (r : Fin 512) (d : Fin 1024) :
    k0_pay24 v w (ix2 r d) = ∑ e : Fin 3328, v (ix2 r e) * w (ix2 e d) := by
  unfold k0_pay24
  pointwise

theorem pay26_at (v129 : FVec Ideal S512x1 .f32) (v131 v140 : FVec Ideal S512x1024 .f32) (v148 : Vec Ideal S1x1024 .f32) (v162 : Vec Ideal S512x1024 .f32)
    (r : Fin 512) (d : Fin 1024) :
    k0_pay26 v129 v131 v140 v148 v162 (ix2 r d) = v129 (ix2 r 0) * (v140 (ix2 r d) * v148 (ix2 0 d)
        - v131 (ix2 r d) * Ideal.div (∑ k : Fin 1024, v140 (ix2 r k) * v148 (ix2 0 k) * v131 (ix2 r k)) (Ideal.ofBits .f32 0x44800000#32)) + v162 (ix2 r d) := by
  unfold k0_pay26
  pointwise
  try rfl

/-- The scaled normed rows, the small sums and the accumulator's bands. -/
theorem pay23_at (v : Vec Ideal S512x1024 .f32) (w : Vec Ideal S1x1024 .f32) (r : Fin 512) (d : Fin 1024) :
    k0_pay23 v w (ix2 r d) = v (ix2 r d) * k0_pay21 v (ix2 r 0) * w (ix2 0 d) := by
  unfold k0_pay23
  pointwise
  try rfl

theorem pay25_at (n b : FVec Ideal S512x1024 .f32) (y : Vec Ideal S1x1024 .f32) (d : Fin 1024) :
    k0_pay25 n b y (ix2 0 d) = y (ix2 0 d) + ∑ r : Fin 512, b (ix2 r d) * n (ix2 r d) := by
  unfold k0_pay25
  pointwise
  try rfl

theorem pay27_at (n : FVec Ideal S512x1024 .bf16) (l : Vec Ideal S256x1024 .f32) (p : Vec Ideal S512x256 .bf16) (r : Fin 256) (d : Fin 1024) : k0_pay27 n l p (ix2 r d) = l (ix2 r d) + ∑ q : Fin 512, p (ix2 q r) * n (ix2 q d) := by
  unfold k0_pay27
  pointwise
theorem pay30_at (n : FVec Ideal S512x1024 .bf16) (l : Vec Ideal S256x1024 .f32) (p : Vec Ideal S512x256 .bf16) (r : Fin 256) (d : Fin 1024) : k0_pay30 n l p (ix2 r d) = l (ix2 r d) + ∑ q : Fin 512, p (ix2 q r) * n (ix2 q d) := by
  unfold k0_pay30
  pointwise
theorem pay31_at (n : FVec Ideal S512x1024 .bf16) (l : Vec Ideal S256x1024 .f32) (p : Vec Ideal S512x256 .bf16) (r : Fin 256) (d : Fin 1024) : k0_pay31 n l p (ix2 r d) = l (ix2 r d) + ∑ q : Fin 512, p (ix2 q r) * n (ix2 q d) := by
  unfold k0_pay31
  pointwise
theorem pay32_at (n : FVec Ideal S512x1024 .bf16) (l : Vec Ideal S256x1024 .f32) (p : Vec Ideal S512x256 .bf16) (r : Fin 256) (d : Fin 1024) : k0_pay32 n l p (ix2 r d) = l (ix2 r d) + ∑ q : Fin 512, p (ix2 q r) * n (ix2 q d) := by
  unfold k0_pay32
  pointwise
theorem pay35_at (n : FVec Ideal S512x1024 .bf16) (l : Vec Ideal S256x1024 .f32) (p : Vec Ideal S512x256 .bf16) (r : Fin 256) (d : Fin 1024) : k0_pay35 n l p (ix2 r d) = l (ix2 r d) + ∑ q : Fin 512, p (ix2 q r) * n (ix2 q d) := by
  unfold k0_pay35
  pointwise
theorem pay36_at (n : FVec Ideal S512x1024 .bf16) (l : Vec Ideal S256x1024 .f32) (p : Vec Ideal S512x256 .bf16) (r : Fin 256) (d : Fin 1024) : k0_pay36 n l p (ix2 r d) = l (ix2 r d) + ∑ q : Fin 512, p (ix2 q r) * n (ix2 q d) := by
  unfold k0_pay36
  pointwise
theorem pay37_at (n : FVec Ideal S512x1024 .bf16) (l : Vec Ideal S256x1024 .f32) (p : Vec Ideal S512x256 .bf16) (r : Fin 256) (d : Fin 1024) : k0_pay37 n l p (ix2 r d) = l (ix2 r d) + ∑ q : Fin 512, p (ix2 q r) * n (ix2 q d) := by
  unfold k0_pay37
  pointwise
theorem pay38_at (n : FVec Ideal S512x1024 .bf16) (l : Vec Ideal S256x1024 .f32) (p : Vec Ideal S512x256 .bf16) (r : Fin 256) (d : Fin 1024) : k0_pay38 n l p (ix2 r d) = l (ix2 r d) + ∑ q : Fin 512, p (ix2 q r) * n (ix2 q d) := by
  unfold k0_pay38
  pointwise
theorem pay39_at (n : FVec Ideal S512x1024 .bf16) (l : Vec Ideal S256x1024 .f32) (p : Vec Ideal S512x256 .bf16) (r : Fin 256) (d : Fin 1024) : k0_pay39 n l p (ix2 r d) = l (ix2 r d) + ∑ q : Fin 512, p (ix2 q r) * n (ix2 q d) := by
  unfold k0_pay39
  pointwise
theorem pay40_at (n : FVec Ideal S512x1024 .bf16) (l : Vec Ideal S256x1024 .f32) (p : Vec Ideal S512x256 .bf16) (r : Fin 256) (d : Fin 1024) : k0_pay40 n l p (ix2 r d) = l (ix2 r d) + ∑ q : Fin 512, p (ix2 q r) * n (ix2 q d) := by
  unfold k0_pay40
  pointwise
theorem pay41_at (n : FVec Ideal S512x1024 .bf16) (l : Vec Ideal S256x1024 .f32) (p : Vec Ideal S512x256 .bf16) (r : Fin 256) (d : Fin 1024) : k0_pay41 n l p (ix2 r d) = l (ix2 r d) + ∑ q : Fin 512, p (ix2 q r) * n (ix2 q d) := by
  unfold k0_pay41
  pointwise
theorem pay29_at (n : FVec Ideal S512x1024 .bf16) (l : Vec Ideal S256x1024 .f32) (p : Vec Ideal S512x256 .bf16) (r : Fin 256) (d : Fin 1024) : k0_pay29 l (k0_pay28 n p) (ix2 r d) = l (ix2 r d) + ∑ q : Fin 512, p (ix2 q r) * n (ix2 q d) := by
  unfold k0_pay29 k0_pay28
  pointwise
theorem pay34_at (n : FVec Ideal S512x1024 .bf16) (l : Vec Ideal S256x1024 .f32) (p : Vec Ideal S512x256 .bf16) (r : Fin 256) (d : Fin 1024) : k0_pay34 l (k0_pay33 n p) (ix2 r d) = l (ix2 r d) + ∑ q : Fin 512, p (ix2 q r) * n (ix2 q d) := by
  unfold k0_pay34 k0_pay33
  pointwise

theorem pay1_at (y : S8x1024.Idx) : k0_pay1 (F := Ideal) y = ((0 : ℝ) : EReal) := by
  unfold k0_pay1
  exact zero_word

theorem pay2_at (x : S3328x1024.Idx) : k0_pay2 (F := Ideal) x = ((0 : ℝ) : EReal) := by
  unfold k0_pay2
  exact zero_word

/-! ## Over the reals -/

variable (a : PArgs) (t : Fin 16)

theorem halo_real (i : grid0.Coords) (hi : (i 0).val = t.val) (f : Fin 8192 → Fin 128 → ℝ) (u : Fin 16 → Fin 128 → Fin 128 → ℝ)
    (x : Fin 512 → Fin 128 → EReal) (hx : ∀ r l, x r l = ((f (tileRow t r) l : ℝ) : EReal))
    (y : Fin 128 → Fin 128 → EReal) (hy : ∀ (h : t.val + 1 < 16) r l, y r l = ((u ⟨t.val + 1, h⟩ r l : ℝ) : EReal)) (r : Fin 512) (l : Fin 128) :
    (x r l + if h : r.val < 384 then (0 : EReal) else y ⟨r.val - 384, by omega⟩ l * k0_pay3 (F := Ideal) i) = ((withHalo f u (tileRow t r) l : ℝ) : EReal) := by
  have hr := r.isLt
  have ht := t.isLt
  unfold withHalo
  rw [hx, pay3_eq i t hi]
  have e1 : (tileRow t r).val % 512 = r.val := by show (512 * t.val + r.val) % 512 = r.val; omega
  have e2 : (tileRow t r).val / 512 = t.val := by show (512 * t.val + r.val) / 512 = t.val; omega
  by_cases h : r.val < 384
  · rw [dif_pos h, dif_neg (by rw [e1]; omega), EReal.coe_add, EReal.coe_zero]
  · rw [dif_neg h]
    unfold keep
    by_cases h15 : t.val = 15
    · rw [if_pos h15, dif_neg (by rw [e2]; omega), EReal.coe_zero, mul_zero, add_zero, add_zero]
    · rw [if_neg h15, dif_pos (by rw [e1, e2]; omega), hy (by omega), EReal.coe_one, mul_one, ← EReal.coe_add]
      have e3 : ∀ (p : ℕ) (hp : p < 16) (q : ℕ) (hq : q < 128), p = t.val + 1 → q = r.val - 384 →
          u ⟨p, hp⟩ ⟨q, hq⟩ l = u ⟨t.val + 1, by omega⟩ ⟨r.val - 384, by omega⟩ l := by
        rintro _ _ _ _ rfl rfl
        rfl
      rw [e3 ((tileRow t r).val / 512 + 1) _ ((tileRow t r).val % 512 - 384) _ (by rw [e2]) (by rw [e1])]

theorem keys_real (i : grid0.Coords) (hi : (i 0).val = t.val) (x4 : Vec Ideal S512x128 .f32) (x8 : Vec Ideal S1x128x128 .f32)
    (x18 x19 x20 : Vec Ideal S512x128 .f32)
    (h4 : ∀ r l, x4 (ix2 r l) = ((a.dk (tileRow t r) l : ℝ) : EReal))
    (h8 : ∀ (h : t.val + 1 < 16) r l, x8 (ix3 0 r l) = ((a.dkh ⟨t.val + 1, h⟩ r l : ℝ) : EReal))
    (h18 : ∀ r l, x18 (ix2 r l) = ((cosLane (tileRow t r) l : ℝ) : EReal))
    (h19 : ∀ r l, x19 (ix2 r l) = ((firstSin (tileRow t r) l : ℝ) : EReal))
    (h20 : ∀ r l, x20 (ix2 r l) = ((secondSin (tileRow t r) l : ℝ) : EReal)) (r : Fin 512) (l : Fin 128) :
    k0_pay10 (k0_pay5 i x8 x4) (k0_pay8 x18) (k0_pay9 x19) x20 (ix2 r l) = ((unropedKey a (tileRow t r) l : ℝ) : EReal) := by
  have hh : ∀ l, k0_pay5 i x8 x4 (ix2 r l) = ((withHalo a.dk a.dkh (tileRow t r) l : ℝ) : EReal) := fun l => by
    rw [pay5_at]
    exact halo_real t i hi a.dk a.dkh (fun r l => x4 (ix2 r l)) h4 (fun r l => x8 (ix3 0 r l)) h8 r l
  rw [pay10_at, pay8_at, pay9_at, hh, hh, hh, h18, h19, h20, ← EReal.coe_zero, ← EReal.coe_sub, ← EReal.coe_sub, ← EReal.coe_mul, ← EReal.coe_mul,
    ← EReal.coe_mul, ← EReal.coe_add, ← EReal.coe_add]
  exact congrArg _ (unroped_lanes (fun l => withHalo a.dk a.dkh (tileRow t r) l) (tileRow t r) l)

theorem vals_real (i : grid0.Coords) (hi : (i 0).val = t.val) (x5 : Vec Ideal S512x128 .f32) (x9 : Vec Ideal S1x128x128 .f32)
    (h5 : ∀ r l, x5 (ix2 r l) = ((a.dv (tileRow t r) l : ℝ) : EReal))
    (h9 : ∀ (h : t.val + 1 < 16) r l, x9 (ix3 0 r l) = ((a.dvh ⟨t.val + 1, h⟩ r l : ℝ) : EReal)) (r : Fin 512) (l : Fin 128) :
    k0_pay11 (k0_pay6 i x9 x5) (ix2 r l) = ((withHalo a.dv a.dvh (tileRow t r) l : ℝ) : EReal) := by
  rw [pay11_at, pay6_at]
  exact halo_real t i hi a.dv a.dvh (fun r l => x5 (ix2 r l)) h5 (fun r l => x9 (ix3 0 r l)) h9 r l

theorem quarter_real (v62 : FVec Ideal S8x128 .f32) (v63 v65 v67 : Vec Ideal S1x8x128 .f32) (r : Fin 8) (hr : r.val < 3)
    (h0 : ∀ l : Fin 128, v62 (ix2 r l) = ((a.cw ⟨r.val, hr⟩ ⟨l.val, by omega⟩ : ℝ) : EReal))
    (h1 : ∀ l : Fin 128, v63 (ix3 0 r l) = ((a.cw ⟨r.val, hr⟩ ⟨128 + l.val, by omega⟩ : ℝ) : EReal))
    (h2 : ∀ l : Fin 128, v65 (ix3 0 r l) = ((a.cw ⟨r.val, hr⟩ ⟨256 + l.val, by omega⟩ : ℝ) : EReal))
    (h3 : ∀ l : Fin 128, v67 (ix3 0 r l) = ((a.cw ⟨r.val, hr⟩ ⟨384 + l.val, by omega⟩ : ℝ) : EReal)) (c : Fin 512) :
    quarter v62 v63 v65 v67 r c = ((a.cw ⟨r.val, hr⟩ c : ℝ) : EReal) := by
  unfold quarter
  split
  · rw [h0]
  split
  · rw [h1]; exact congrArg (fun k => ((a.cw ⟨r.val, hr⟩ k : ℝ) : EReal)) (Fin.ext (by simp only; omega))
  split
  · rw [h2]; exact congrArg (fun k => ((a.cw ⟨r.val, hr⟩ k : ℝ) : EReal)) (Fin.ext (by simp only; omega))
  · rw [h3]; exact congrArg (fun k => ((a.cw ⟨r.val, hr⟩ k : ℝ) : EReal)) (Fin.ext (by simp only; omega))

theorem du_real (i : grid0.Coords) (hi : (i 0).val = t.val) (x13 : Vec Ideal S512x512 .f32) (x14 : Vec Ideal S8x512 .f32)
    (v62 : FVec Ideal S8x128 .f32) (v63 v65 v67 : Vec Ideal S1x8x128 .f32)
    (hq : ∀ (r : Fin 8) (hr : r.val < 3) c, quarter v62 v63 v65 v67 r c = ((a.cw ⟨r.val, hr⟩ c : ℝ) : EReal))
    (h13 : ∀ r c, x13 (ix2 r c) = ((a.dcv (tileRow t r) c : ℝ) : EReal))
    (h14 : ∀ (h : t.val + 1 < 16) (r : Fin 8) c, x14 (ix2 r c) = ((a.dcv ⟨512 * (t.val + 1) + r.val, by omega⟩ c : ℝ) : EReal)) (r c : Fin 512) :
    k0_pay16 x13 (k0_pay14 (k0_pay3 (F := Ideal) i) x14) v62 v63 v65 v67 (ix2 r c) = ((du a (tileRow t r) c : ℝ) : EReal) := by
  have hr := r.isLt
  have ht := t.isLt
  have hn : ∀ (k : Fin 8), k.val < 2 → k0_pay14 (k0_pay3 (F := Ideal) i) x14 (ix2 k c) = ((later a (tileRow t ⟨511, by omega⟩) (k.val + 1) c : ℝ) : EReal) := fun k hk => by
    rw [pay14_at, pay3_eq i t hi]
    unfold keep later
    by_cases h15 : t.val = 15
    · rw [if_pos h15, dif_neg (by show ¬ 512 * t.val + 511 + (k.val + 1) < 8192; omega), EReal.coe_zero, mul_zero]
    · rw [if_neg h15, dif_pos (by show 512 * t.val + 511 + (k.val + 1) < 8192; omega), h14 (by omega), EReal.coe_one, mul_one]
      exact congrArg (fun s => ((a.dcv s c : ℝ) : EReal)) (Fin.ext (by show 512 * (t.val + 1) + k.val = 512 * t.val + 511 + (k.val + 1); omega))
  have hl : ∀ (k : ℕ) (q : Fin 512), q.val = r.val + k → x13 (ix2 q c) = ((later a (tileRow t r) k c : ℝ) : EReal) := fun k q hk => by
    unfold later
    rw [h13, dif_pos (by show 512 * t.val + r.val + k < 8192; omega)]
    exact congrArg (fun s => ((a.dcv s c : ℝ) : EReal)) (Fin.ext (by show 512 * t.val + q.val = 512 * t.val + r.val + k; omega))
  have he : ∀ (j k : ℕ) (p : Fin 512), p.val + j = r.val + k → later a (tileRow t p) j c = later a (tileRow t r) k c := fun j k p h => by
    unfold later
    have e : (tileRow t p).val + j = (tileRow t r).val + k := by show 512 * t.val + p.val + j = 512 * t.val + r.val + k; omega
    simp only [e]
  have h1 : (if r.val = 511 then k0_pay14 (k0_pay3 (F := Ideal) i) x14 (ix2 0 c) else x13 (ix2 ⟨(r.val + 1) % 512, Nat.mod_lt _ (by omega)⟩ c))
      = ((later a (tileRow t r) 1 c : ℝ) : EReal) := by
    split_ifs with h
    · rw [hn 0 (by decide)]; exact congrArg _ (he _ _ _ (by simp [h]))
    · exact hl 1 _ (by simp only; omega)
  have h2 : (if r.val = 511 then k0_pay14 (k0_pay3 (F := Ideal) i) x14 (ix2 1 c) else if r.val = 510 then k0_pay14 (k0_pay3 (F := Ideal) i) x14 (ix2 0 c)
      else x13 (ix2 ⟨(r.val + 2) % 512, Nat.mod_lt _ (by omega)⟩ c)) = ((later a (tileRow t r) 2 c : ℝ) : EReal) := by
    split_ifs with h h'
    · rw [hn 1 (by decide)]; exact congrArg _ (he _ _ _ (by simp [h]))
    · rw [hn 0 (by decide)]; exact congrArg _ (he _ _ _ (by simp [h']))
    · exact hl 2 _ (by simp only; omega)
  rw [pay16_at, h1, h2, hq 2 (by decide), hq 1 (by decide), hq 0 (by decide), h13, ← EReal.coe_mul, ← EReal.coe_mul, ← EReal.coe_mul, ← EReal.coe_add, ← EReal.coe_add]
  rfl

theorem inv_real (x0 : Vec Ideal S512x1024 .f32) (h0 : ∀ r d, x0 (ix2 r d) = ((a.x (tileRow t r) d : ℝ) : EReal)) (r : Fin 512) (u : Fin 1) :
    k0_pay21 x0 (ix2 r u) = ((inv a (tileRow t r) : ℝ) : EReal) := by
  rw [pay21_at]
  simp only [h0, ← EReal.coe_mul]
  rw [sum_coe, thousand, div_coe _ (by norm_num), eps_word, ← EReal.coe_add]
  exact rsqrt_pos (msq_pos a (tileRow t r))

/-- The tile of the input's cotangent. -/
theorem tile_real (x0 : Vec Ideal S512x1024 .f32) (x1 : Vec Ideal S1x1024 .f32) (x2 : Vec Ideal S512x1024 .f32) (p : Vec Ideal S512x3328 .bf16)
    (x17 : Vec Ideal S3328x1024 .bf16)
    (h0 : ∀ r d, x0 (ix2 r d) = ((a.x (tileRow t r) d : ℝ) : EReal)) (h1 : ∀ d, x1 (ix2 0 d) = ((a.g d : ℝ) : EReal))
    (h2 : ∀ r d, x2 (ix2 r d) = ((a.dh (tileRow t r) d : ℝ) : EReal)) (hp : ∀ r e, p (ix2 r e) = ((dp a (tileRow t r) e : ℝ) : EReal))
    (h17 : ∀ e d, x17 (ix2 e d) = ((a.w d e : ℝ) : EReal)) (r : Fin 512) (d : Fin 1024) :
    k0_pay26 (k0_pay21 x0) (k0_pay22 x0) (k0_pay24 p x17) x1 x2 (ix2 r d) = ((gx a (tileRow t r) d : ℝ) : EReal) := by
  have hx : ∀ d, k0_pay22 x0 (ix2 r d) = ((xr a (tileRow t r) d : ℝ) : EReal) := fun d => by
    rw [pay22_at, inv_real a t x0 h0, h0, ← EReal.coe_mul]; rfl
  have hm : ∀ d, k0_pay24 p x17 (ix2 r d) = ((∑ e : Fin 3328, dp a (tileRow t r) e * a.w d e : ℝ) : EReal) := fun d => by
    rw [pay24_at, ← sum_coe]
    exact Finset.sum_congr rfl fun e _ => by rw [hp, h17, ← EReal.coe_mul]
  rw [pay26_at]
  simp only [hx, hm, h1, h2, inv_real a t x0 h0, ← EReal.coe_mul]
  rw [sum_coe, thousand, div_coe _ (by norm_num), ← EReal.coe_mul, ← EReal.coe_sub, ← EReal.coe_mul, ← EReal.coe_add]
  rfl

/-- The normed row's cotangent and the scaled normed row of a tile. -/
theorem back_real (p : Vec Ideal S512x3328 .bf16) (x17 : Vec Ideal S3328x1024 .bf16) (hp : ∀ r e, p (ix2 r e) = ((dp a (tileRow t r) e : ℝ) : EReal))
    (h17 : ∀ e d, x17 (ix2 e d) = ((a.w d e : ℝ) : EReal)) (r : Fin 512) (d : Fin 1024) : k0_pay24 p x17 (ix2 r d) = ((back a (tileRow t r) d : ℝ) : EReal) := by
  unfold back
  rw [pay24_at, ← sum_coe]
  exact Finset.sum_congr rfl fun e _ => by rw [hp, h17, ← EReal.coe_mul]

theorem norm_real (x0 : Vec Ideal S512x1024 .f32) (h0 : ∀ r d, x0 (ix2 r d) = ((a.x (tileRow t r) d : ℝ) : EReal)) (r : Fin 512) (d : Fin 1024) :
    k0_pay22 x0 (ix2 r d) = ((xr a (tileRow t r) d : ℝ) : EReal) := by
  rw [pay22_at, inv_real a t x0 h0, h0, ← EReal.coe_mul]; rfl

theorem scaled_real (x0 : Vec Ideal S512x1024 .f32) (x1 : Vec Ideal S1x1024 .f32) (h0 : ∀ r d, x0 (ix2 r d) = ((a.x (tileRow t r) d : ℝ) : EReal))
    (h1 : ∀ d, x1 (ix2 0 d) = ((a.g d : ℝ) : EReal)) (r : Fin 512) (d : Fin 1024) :
    k0_pay23 x0 x1 (ix2 r d) = ((xr a (tileRow t r) d * a.g d : ℝ) : EReal) := by
  rw [pay23_at, inv_real a t x0 h0, h0, h1, ← EReal.coe_mul, ← EReal.coe_mul]; rfl

/-- One tile's addition to a sum over all rows. -/
theorem add_tile (f : Fin 8192 → ℝ) (g h : Fin 512 → EReal) (u v : Fin 512 → ℝ) (hg : ∀ q, g q = ((u q : ℝ) : EReal)) (hh : ∀ q, h q = ((v q : ℝ) : EReal))
    (hf : ∀ q, u q * v q = f (tileRow t q)) : ((upTo f t.val : ℝ) : EReal) + ∑ q : Fin 512, g q * h q = ((upTo f (t.val + 1) : ℝ) : EReal) := by
  rw [upTo_succ, EReal.coe_add, ← sum_coe]
  exact congrArg _ (Finset.sum_congr rfl fun q _ => by rw [hg, hh, ← EReal.coe_mul, hf])

end Cert.Proj

end
-- ==== Proof.ProjReal.lean ====
/- The loads of a tile, said as reals. -/
module

public import proofs.«01_k».proof.Proof.ProjTile
public import proofs.«01_k».proof.Proof.ProjPay

@[expose] public section

set_option maxRecDepth 16384

noncomputable section

namespace Cert.Proj

open Cert.Kernel2Ideal Cert.Kernel2Ideal.Gen Idealize.ShloMosaic Idealize.ShloMosaic.Tactic Idealize.SL.Sem Cert.Chain

/-- The loads hold the arguments, and what the program's opening made of them. -/
structure LoadsReal (v : Loads Ideal) (a : PArgs) (t : Fin 16) : Prop where
  l0 : ∀ r d, v.l0 (ix2 r d) = ((a.x (tileRow t r) d : ℝ) : EReal)
  l1 : ∀ d, v.l1 (ix2 0 d) = ((a.g d : ℝ) : EReal)
  l2 : ∀ r d, v.l2 (ix2 r d) = ((a.dh (tileRow t r) d : ℝ) : EReal)
  l3 : ∀ r k, v.l3 (ix2 r k) = ((a.dq (tileRow t r) k : ℝ) : EReal)
  l4 : ∀ r k, v.l4 (ix2 r k) = ((a.dk (tileRow t r) k : ℝ) : EReal)
  l5 : ∀ r k, v.l5 (ix2 r k) = ((a.dv (tileRow t r) k : ℝ) : EReal)
  l8 : ∀ (h : t.val + 1 < 16) r k, v.l8 (ix3 0 r k) = ((a.dkh ⟨t.val + 1, h⟩ r k : ℝ) : EReal)
  l9 : ∀ (h : t.val + 1 < 16) r k, v.l9 (ix3 0 r k) = ((a.dvh ⟨t.val + 1, h⟩ r k : ℝ) : EReal)
  l10 : ∀ r k, v.l10 (ix2 r k) = ((a.dga (tileRow t r) k : ℝ) : EReal)
  l11 : ∀ r k, v.l11 (ix2 r k) = ((a.db (tileRow t r) k : ℝ) : EReal)
  l12 : ∀ r k, v.l12 (ix2 r k) = ((a.dgc (tileRow t r) k : ℝ) : EReal)
  l13 : ∀ r k, v.l13 (ix2 r k) = ((a.dcv (tileRow t r) k : ℝ) : EReal)
  l14 : ∀ (h : t.val + 1 < 16) (r : Fin 8) k, v.l14 (ix2 r k) = ((a.dcv ⟨512 * (t.val + 1) + r.val, by omega⟩ k : ℝ) : EReal)
  left : ∀ (r k : Fin 512), v.left (ix2 r k) = ((pj a (tileRow t r) ⟨1792 + k.val, by omega⟩ : ℝ) : EReal)
  right : ∀ (r k : Fin 512), v.right (ix2 r k) = ((pj a (tileRow t r) ⟨2304 + k.val, by omega⟩ : ℝ) : EReal)
  q0 : ∀ (r : Fin 8) (hr : r.val < 3) (l : Fin 128), v.q0 (ix3 0 r l) = ((a.cw ⟨r.val, hr⟩ ⟨l.val, by omega⟩ : ℝ) : EReal)
  q1 : ∀ (r : Fin 8) (hr : r.val < 3) (l : Fin 128), v.q1 (ix3 0 r l) = ((a.cw ⟨r.val, hr⟩ ⟨128 + l.val, by omega⟩ : ℝ) : EReal)
  q2 : ∀ (r : Fin 8) (hr : r.val < 3) (l : Fin 128), v.q2 (ix3 0 r l) = ((a.cw ⟨r.val, hr⟩ ⟨256 + l.val, by omega⟩ : ℝ) : EReal)
  q3 : ∀ (r : Fin 8) (hr : r.val < 3) (l : Fin 128), v.q3 (ix3 0 r l) = ((a.cw ⟨r.val, hr⟩ ⟨384 + l.val, by omega⟩ : ℝ) : EReal)
  l17 : ∀ f d, v.l17 (ix2 f d) = ((a.w d f : ℝ) : EReal)
  l18 : ∀ r l, v.l18 (ix2 r l) = ((cosLane (tileRow t r) l : ℝ) : EReal)
  l19 : ∀ r l, v.l19 (ix2 r l) = ((firstSin (tileRow t r) l : ℝ) : EReal)
  l20 : ∀ r l, v.l20 (ix2 r l) = ((secondSin (tileRow t r) l : ℝ) : EReal)

end Cert.Proj

end
-- ==== Proof.ProjOut.lean ====
/- What the body stores at a tile, as reals. -/
module

public import proofs.«01_k».proof.Proof.ProjReal
public import proofs.«01_k».proof.Proof.ProjState

@[expose] public section

set_option maxRecDepth 16384

noncomputable section

namespace Cert.Proj

open Cert.Kernel2Ideal Cert.Kernel2Ideal.Gen Idealize.ShloMosaic Idealize.ShloMosaic.Tactic Idealize.SL.Sem Cert.Chain

/-- A band of columns, 512 or 128 wide. -/
theorem wide_band (G : S512x3328.Idx → EReal) (o : ℕ) (ho : o + 512 ≤ 3328) (inb) (w : S512x512.Idx → EReal)
    (h : ∀ r k : Fin 512, w (ix2 r k) = G (ix2 r ⟨o + k.val, by omega⟩)) (x : (Rect.unit (s := S512x3328) ![0, o] S512x512.size inb).shape.Idx) :
    w x = G ((Rect.unit (s := S512x3328) ![0, o] S512x512.size inb).emb x) := by
  rw [show x = (ix2 (x 0) (x 1) : S512x512.Idx) from (eq_ix2 x)]
  refine (h _ _).trans (congrArg G (funext fun a => Fin.ext ?_))
  match a with
  | 0 => exact (Nat.zero_add _).symm.trans (congrArg (0 + ·) (Nat.one_mul (x 0).val).symm)
  | 1 => exact (congrArg (o + ·) (Nat.one_mul (x 1).val)).symm

theorem narrow_band (G : S512x3328.Idx → EReal) (o : ℕ) (ho : o + 128 ≤ 3328) (inb) (w : S512x128.Idx → EReal)
    (h : ∀ (r : Fin 512) (k : Fin 128), w (ix2 r k) = G (ix2 r ⟨o + k.val, by omega⟩)) (x : (Rect.unit (s := S512x3328) ![0, o] S512x128.size inb).shape.Idx) :
    w x = G ((Rect.unit (s := S512x3328) ![0, o] S512x128.size inb).emb x) := by
  rw [show x = (ix2 (x 0) (x 1) : S512x128.Idx) from (eq_ix2 x)]
  refine (h _ _).trans (congrArg G (funext fun a => Fin.ext ?_))
  match a with
  | 0 => exact (Nat.zero_add _).symm.trans (congrArg (0 + ·) (Nat.one_mul (x 0).val).symm)
  | 1 => exact (congrArg (o + ·) (Nat.one_mul (x 1).val)).symm

variable {a : PArgs}

/-- The cotangent's bands. -/
theorem dp_query (s : Fin 8192) (k : Fin 512) : dp a s ⟨0 + k.val, by omega⟩ = a.dq s k := by
  unfold dp; rw [dif_pos (by simp only; omega)]; exact congrArg _ (Fin.ext (by simp only; omega))
theorem dp_key (s : Fin 8192) (k : Fin 128) : dp a s ⟨512 + k.val, by omega⟩ = unropedKey a s k := by
  unfold dp; rw [dif_neg (by simp only; omega), dif_pos (by simp only; omega)]; exact congrArg _ (Fin.ext (by simp only; omega))
theorem dp_value (s : Fin 8192) (k : Fin 128) : dp a s ⟨640 + k.val, by omega⟩ = withHalo a.dv a.dvh s k := by
  unfold dp; rw [dif_neg (by simp only; omega), dif_neg (by simp only; omega), dif_pos (by simp only; omega)]; exact congrArg _ (Fin.ext (by simp only; omega))
theorem dp_gate (s : Fin 8192) (k : Fin 512) : dp a s ⟨768 + k.val, by omega⟩ = a.dga s k := by
  unfold dp; rw [dif_neg (by simp only; omega), dif_neg (by simp only; omega), dif_neg (by simp only; omega), dif_pos (by simp only; omega)]; exact congrArg _ (Fin.ext (by simp only; omega))
theorem dp_second (s : Fin 8192) (k : Fin 512) : dp a s ⟨1280 + k.val, by omega⟩ = a.db s k := by
  unfold dp
  rw [dif_neg (by simp only; omega), dif_neg (by simp only; omega), dif_neg (by simp only; omega), dif_neg (by simp only; omega), dif_pos (by simp only; omega)]
  exact congrArg _ (Fin.ext (by simp only; omega))
theorem dp_left (s : Fin 8192) (k : Fin 512) : dp a s ⟨1792 + k.val, by omega⟩ = du a s k * pj a s ⟨2304 + k.val, by omega⟩ := by
  unfold dp
  rw [dif_neg (by simp only; omega), dif_neg (by simp only; omega), dif_neg (by simp only; omega), dif_neg (by simp only; omega), dif_neg (by simp only; omega),
    dif_pos (by simp only; omega)]
  exact congrArg₂ (fun p q => du a s p * pj a s q) (Fin.ext (by simp only; omega)) (Fin.ext (by simp only; omega))
theorem dp_right (s : Fin 8192) (k : Fin 512) : dp a s ⟨2304 + k.val, by omega⟩ = du a s k * pj a s ⟨1792 + k.val, by omega⟩ := by
  unfold dp
  rw [dif_neg (by simp only; omega), dif_neg (by simp only; omega), dif_neg (by simp only; omega), dif_neg (by simp only; omega), dif_neg (by simp only; omega),
    dif_neg (by simp only; omega), dif_pos (by simp only; omega)]
  exact congrArg₂ (fun p q => du a s p * pj a s q) (Fin.ext (by simp only; omega)) (Fin.ext (by simp only; omega))
theorem dp_last (s : Fin 8192) (k : Fin 512) : dp a s ⟨2816 + k.val, by omega⟩ = a.dgc s k := by
  unfold dp
  rw [dif_neg (by simp only; omega), dif_neg (by simp only; omega), dif_neg (by simp only; omega), dif_neg (by simp only; omega), dif_neg (by simp only; omega),
    dif_neg (by simp only; omega), dif_neg (by simp only; omega)]
  exact congrArg _ (Fin.ext (by simp only; omega))

theorem tall_band (G : S3328x1024.Idx → EReal) (o : ℕ) (ho : o + 256 ≤ 3328) (inb) (w : S256x1024.Idx → EReal)
    (h : ∀ (r : Fin 256) (d : Fin 1024), w (ix2 r d) = G (ix2 ⟨o + r.val, by omega⟩ d)) (x : (Rect.unit (s := S3328x1024) ![o, 0] S256x1024.size inb).shape.Idx) :
    w x = G ((Rect.unit (s := S3328x1024) ![o, 0] S256x1024.size inb).emb x) := by
  rw [show x = (ix2 (x 0) (x 1) : S256x1024.Idx) from (eq_ix2 x)]
  refine (h _ _).trans (congrArg G (funext fun a => Fin.ext ?_))
  match a with
  | 0 => exact (congrArg (o + ·) (Nat.one_mul (x 0).val)).symm
  | 1 => exact (Nat.zero_add _).symm.trans (congrArg (0 + ·) (Nat.one_mul (x 1).val).symm)

/-- The accumulator and the small sums once the first `n` tiles are added. -/
def accArr (a : PArgs) (n : ℕ) : S3328x1024.Idx → EReal := fun x => ((upTo (fun s => dp a s (x 0) * (xr a s (x 1) * a.g (x 1))) n : ℝ) : EReal)
def sumArr (a : PArgs) (n : ℕ) : S8x1024.Idx → EReal := fun x => (((if (x 0).val = 0 then upTo (fun s => back a s (x 1) * xr a s (x 1)) n else 0) : ℝ) : EReal)

theorem accArr_ix (n : ℕ) (f : Fin 3328) (d : Fin 1024) : accArr a n (ix2 f d) = ((upTo (fun s => dp a s f * (xr a s d * a.g d)) n : ℝ) : EReal) := rfl

theorem band_idx (o : ℕ) (ho : o + 256 ≤ 3328) (inb) (r : Fin 256) (d : Fin 1024) :
    ((Rect.unit (s := S3328x1024) ![o, 0] S256x1024.size inb).idx (ix2 r d : S256x1024.Idx) : S3328x1024.Idx) = ix2 ⟨o + r.val, by omega⟩ d :=
  funext fun b => Fin.ext <| (Rect.idx_unit_val (s := S3328x1024) ![o, 0] S256x1024.size inb (ix2 r d : S256x1024.Idx) b).trans <|
    match b with
    | 0 => rfl
    | 1 => Nat.zero_add _

theorem column_idx (o : ℕ) (ho : o + 256 ≤ 3328) (inb) (q : Fin 512) (r : Fin 256) :
    ((Rect.unit (s := S512x3328) ![0, o] S512x256.size inb).idx (ix2 q r : S512x256.Idx) : S512x3328.Idx) = ix2 q ⟨o + r.val, by omega⟩ :=
  funext fun b => Fin.ext <| (Rect.idx_unit_val (s := S512x3328) ![0, o] S512x256.size inb (ix2 q r : S512x256.Idx) b).trans <|
    match b with
    | 0 => Nat.zero_add _
    | 1 => rfl

theorem band_before (n : ℕ) (o : ℕ) (ho : o + 256 ≤ 3328) (inb) (r : Fin 256) (d : Fin 1024) :
    (rd (F := Ideal) scM1 (Memref.isWhole_whole _) (accArr a n) (Rect.unit (s := S3328x1024) ![o, 0] S256x1024.size inb) (ix2 r d : S256x1024.Idx) : EReal) = accArr a n (ix2 ⟨o + r.val, by omega⟩ d) :=
  (rd_at (F := Ideal) scM1 (Memref.isWhole_whole _) (accArr a n) (Rect.unit (s := S3328x1024) ![o, 0] S256x1024.size inb) (ix2 r d : S256x1024.Idx)).trans
    (congrArg (accArr a n) (band_idx o ho inb r d))

variable {t : Fin 16} {v : Loads Ideal} (i : grid0.Coords) (hi : (i 0).val = t.val) (h : LoadsReal v a t)

include h in
theorem quarters (r : Fin 8) (hr : r.val < 3) (k : Fin 512) : quarter (k0_pay15 v.q0) v.q1 v.q2 v.q3 r k = ((a.cw ⟨r.val, hr⟩ k : ℝ) : EReal) :=
  quarter_real a _ _ _ _ r hr (fun l => (pay15_at _ _ _).trans (h.q0 r hr l)) (h.q1 r hr) (h.q2 r hr) (h.q3 r hr) k

include hi h in
theorem taps_real (r k : Fin 512) :
    k0_pay16 v.l13 (k0_pay14 (k0_pay3 (F := Ideal) i) v.l14) (k0_pay15 v.q0) v.q1 v.q2 v.q3 (ix2 r k) = ((du a (tileRow t r) k : ℝ) : EReal) :=
  du_real a t i hi _ _ _ _ _ _ (quarters h) h.l13 h.l14 r k

/-- The cotangent of a tile's rows. -/
def cotOf (a : PArgs) (t : Fin 16) : S512x3328.Idx → EReal := fun y => ((dp a (tileRow t (y 0)) (y 1) : ℝ) : EReal)

include hi h in
theorem cot_canon (y : S512x3328.Idx) : View.canon (Val := Elt Ideal) (cotPieces i v) y = cotOf a t y := by
  refine View.canon_apply_of_pieces (cotOf a t) _ (View.PiecesOf.mem ?_) y (View.cover_of_tiledBy (cotPieces i v) ![512, 128] (by sl_kernel_rfl) y)
  unfold cotPieces
  refine ⟨wide_band _ 2816 (by omega) inb_S512x3328_S512x512_0_2816 _ fun r k => ?_, wide_band _ 2304 (by omega) inb_S512x3328_S512x512_0_2304 _ fun r k => ?_, wide_band _ 1792 (by omega) inb_S512x3328_S512x512_0_1792 _ fun r k => ?_,
    wide_band _ 1280 (by omega) inb_S512x3328_S512x512_0_1280 _ fun r k => ?_, wide_band _ 768 (by omega) inb_S512x3328_S512x512_0_768 _ fun r k => ?_, narrow_band _ 640 (by omega) inb_S512x3328_S512x128_0_640 _ fun r k => ?_,
    narrow_band _ 512 (by omega) inb_S512x3328_S512x128_0_512 _ fun r k => ?_, wide_band _ 0 (by omega) inb_S512x3328_S512x512_0_0 _ fun r k => ?_, trivial⟩
  · exact ((pay20_at _ _ _).trans (h.l12 r k)).trans (congrArg _ (dp_last _ k).symm)
  · refine Eq.trans ?_ (congrArg (fun z : ℝ => (z : EReal)) (dp_right (tileRow t r) k).symm)
    exact ((pay19_at _ _ _ _).trans (congrArg₂ (· * ·) (taps_real i hi h r k) (h.left r k))).trans (EReal.coe_mul _ _).symm
  · refine Eq.trans ?_ (congrArg (fun z : ℝ => (z : EReal)) (dp_left (tileRow t r) k).symm)
    exact (((pay18_at _ _ _).trans (pay17_at _ _ _ _ _ _ _ _ _)).trans (congrArg₂ (· * ·) (taps_real i hi h r k) (h.right r k))).trans (EReal.coe_mul _ _).symm
  · exact ((pay13_at _ _ _).trans (h.l11 r k)).trans (congrArg _ (dp_second _ k).symm)
  · exact ((pay12_at _ _ _).trans (h.l10 r k)).trans (congrArg _ (dp_gate _ k).symm)
  · exact (vals_real a t i hi _ _ h.l5 h.l9 r k).trans (congrArg _ (dp_value _ k).symm)
  · exact (keys_real a t i hi _ _ _ _ _ h.l4 h.l8 h.l18 h.l19 h.l20 r k).trans (congrArg _ (dp_key _ k).symm)
  · exact ((pay7_at _ _ _).trans (h.l3 r k)).trans (congrArg _ (dp_query _ k).symm)

include hi h in
theorem cot_real (r : Fin 512) (f : Fin 3328) :
    scM0.view.readCov (cotPieces i v) (Rect.unit (s := S512x3328) ![0, 0] S512x3328.size inb_S512x3328_S512x3328_0_0).toLoadRect (ix2 r f)
      = ((dp a (tileRow t r) f : ℝ) : EReal) := by
  rw [View.readCov_eq_canon']
  refine (cot_canon i hi h _).trans (congrArg (cotOf a t) (?_ : _ = (ix2 r f : S512x3328.Idx)))
  refine funext fun a => Fin.ext ((Rect.idx_unit_val _ _ _ _ _).trans ?_)
  match a with
  | 0 => exact Nat.zero_add _
  | 1 => exact Nat.zero_add _

include hi h in
theorem stored_real (r : Fin 512) (d : Fin 1024) : stored i v (ix2 r d) = ((gx a (tileRow t r) d : ℝ) : EReal) :=
  tile_real a t _ _ _ _ _ h.l0 h.l1 h.l2 (cot_real i hi h) h.l17 r d

include hi h in
theorem column_real (o : ℕ) (ho : o + 256 ≤ 3328) (inb) (q : Fin 512) (r : Fin 256) :
    scM0.view.readCov (cotPieces i v) (Rect.unit (s := S512x3328) ![0, o] S512x256.size inb).toLoadRect (ix2 q r : S512x256.Idx)
      = ((dp a (tileRow t q) ⟨o + r.val, by omega⟩ : ℝ) : EReal) := by
  rw [View.readCov_eq_canon']
  exact (cot_canon i hi h _).trans (congrArg (cotOf a t) (column_idx o ho inb q r))

include hi h in
theorem band_real (o : ℕ) (ho : o + 256 ≤ 3328) (inb) (inb') (z : Vec Ideal S3328x1024 .f32) (hz : z = accArr a t.val) (w : S256x1024.Idx → EReal)
    (hw : ∀ (r : Fin 256) (d : Fin 1024), w (ix2 r d)
      = @HAdd.hAdd EReal EReal EReal _ (rd scM1 (Memref.isWhole_whole _) z (Rect.unit (s := S3328x1024) ![o, 0] S256x1024.size inb) (ix2 r d : S256x1024.Idx))
        (∑ q : Fin 512, @HMul.hMul EReal EReal EReal _ (scM0.view.readCov (cotPieces i v) (Rect.unit (s := S512x3328) ![0, o] S512x256.size inb').toLoadRect (ix2 q r : S512x256.Idx)) (xnOf v (ix2 q d))))
    (x : (Rect.unit (s := S3328x1024) ![o, 0] S256x1024.size inb).shape.Idx) :
    w x = accArr a (t.val + 1) ((Rect.unit (s := S3328x1024) ![o, 0] S256x1024.size inb).emb x) := by
  refine tall_band (G := accArr a (t.val + 1)) (o := o) (ho := ho) (inb := inb) (w := w) (h := fun r d => (hw r d).trans ?_) (x := x)
  have e2 : ∀ q : Fin 512, xnOf v (ix2 q d) = ((xr a (tileRow t q) d * a.g d : ℝ) : EReal) := fun q => scaled_real a t _ _ h.l0 h.l1 q d
  rw [hz, band_before t.val o ho inb r d, accArr_ix, accArr_ix]
  exact add_tile t (fun s => dp a s ⟨o + r.val, by omega⟩ * (xr a s d * a.g d)) _ _ _ _ (fun q => column_real i hi h o ho inb' q r) e2 fun q => rfl

include hi h in
theorem acc_real (z : Vec Ideal S3328x1024 .f32) (hz : z = accArr a t.val) : accAfter i v z = accArr a (t.val + 1) := by
  funext x
  unfold accAfter
  have hc := View.cover_of_tiledBy (accPieces i v (rdBands z)) ![256, 1024] (by sl_kernel_rfl) x
  refine (View.read_writes_apply_eq_canon _ _ _ _ hc).trans (View.canon_apply_of_pieces (accArr a (t.val + 1)) _ (View.PiecesOf.mem ?_) x hc)
  unfold accPieces
  refine ⟨band_real i hi h 3072 (by omega) _ inb_S512x3328_S512x256_0_3072 z hz _ (pay41_at _ _ _), band_real i hi h 2816 (by omega) _ inb_S512x3328_S512x256_0_2816 z hz _ (pay40_at _ _ _), band_real i hi h 2560 (by omega) _ inb_S512x3328_S512x256_0_2560 z hz _ (pay39_at _ _ _), band_real i hi h 2304 (by omega) _ inb_S512x3328_S512x256_0_2304 z hz _ (pay38_at _ _ _), band_real i hi h 2048 (by omega) _ inb_S512x3328_S512x256_0_2048 z hz _ (pay37_at _ _ _), band_real i hi h 1792 (by omega) _ inb_S512x3328_S512x256_0_1792 z hz _ (pay36_at _ _ _), band_real i hi h 1536 (by omega) _ inb_S512x3328_S512x256_0_1536 z hz _ (pay35_at _ _ _), band_real i hi h 1280 (by omega) _ inb_S512x3328_S512x256_0_1280 z hz _ (pay34_at _ _ _), band_real i hi h 1024 (by omega) _ inb_S512x3328_S512x256_0_1024 z hz _ (pay32_at _ _ _), band_real i hi h 768 (by omega) _ inb_S512x3328_S512x256_0_768 z hz _ (pay31_at _ _ _), band_real i hi h 512 (by omega) _ inb_S512x3328_S512x256_0_512 z hz _ (pay30_at _ _ _), band_real i hi h 256 (by omega) _ inb_S512x3328_S512x256_0_256 z hz _ (pay29_at _ _ _), band_real i hi h 0 (by omega) _ inb_S512x3328_S512x256_0_0 z hz _ (pay27_at _ _ _), trivial⟩

include hi h in
theorem sums_real (y : Vec Ideal S8x1024 .f32) (hy : y = sumArr a t.val) : sumsAfter i v y = sumArr a (t.val + 1) := by
  funext x
  unfold sumsAfter
  split_ifs with hx
  · refine (pay25_at _ _ _ _).trans ?_
    have e0 : y (topRow.idx (ix2 0 (x 1) : S1x1024.Idx)) = ((upTo (fun s => back a s (x 1) * xr a s (x 1)) t.val : ℝ) : EReal) := by
      rw [hy]
      refine (congrArg (sumArr a t.val) (?_ : _ = (ix2 0 (x 1) : S8x1024.Idx))).trans ?_
      · refine funext fun b => Fin.ext ((Rect.idx_unit_val _ _ _ _ _).trans ?_)
        match b with
        | 0 => rfl
        | 1 => exact Nat.zero_add _
      · exact congrArg (fun u : ℝ => (u : EReal)) (if_pos rfl)
    rw [e0]
    refine (add_tile t (fun s => back a s (x 1) * xr a s (x 1)) _ _ _ _ (fun q => back_real a t _ _ (cot_real i hi h) h.l17 q (x 1)) (fun q => norm_real a t _ h.l0 q (x 1)) fun q => rfl).trans ?_
    exact congrArg (fun u : ℝ => (u : EReal)) (if_pos hx).symm
  · rw [hy]
    exact congrArg (fun u : ℝ => (u : EReal)) ((if_neg hx).trans (if_neg hx).symm)

end Cert.Proj

end
-- ==== Proof.ProjHost.lean ====
/- The projection's arrays at the region's entry, from the arguments. -/
module

public import proofs.«01_k».proof.Proof.ProjModel
public import proofs.«01_k».proof.Proof.Gen.Kernel2Ideal.Frame

@[expose] public section

set_option maxRecDepth 16384

noncomputable section

namespace Cert.Proj

open Cert.Kernel2Ideal Cert.Kernel2Ideal.Gen Idealize.ShloMosaic Idealize.SL.Sem Cert.Chain

variable (W : Valuation τ sig (Elt Ideal)) (a : PArgs)

/-- The arguments the host reads are those reals. -/
structure HostGiven : Prop where
  x : ∀ s d, W (Proc.devRef .tc main_arg0) (ix2 s d) = ((a.x s d : ℝ) : EReal)
  g : ∀ d, W (Proc.devRef .tc main_arg1) (ix1 d) = ((a.g d : ℝ) : EReal)
  w : ∀ d e, W (Proc.devRef .tc main_arg2) (ix2 d e) = ((a.w d e : ℝ) : EReal)
  cw : ∀ r c, W (Proc.devRef .tc main_arg3) (ix2 r c) = ((a.cw r c : ℝ) : EReal)

variable {W a}

set_option maxHeartbeats 3200000 in
theorem host_rest (e : HostGiven W a) (s : Fin 8192) (c : Fin 2560) :
    StableHlo.after hostOps0 W (Proc.devRef .tc main_v14) (ix2 s c) = ((pj a s ⟨768 + c.val, by omega⟩ : ℝ) : EReal) := by
  have hx := e.x
  have hg := e.g
  have hw := e.w
  clear e
  simp only [hostOps0]
  after_reads_at
  generalize W (Proc.devRef .tc main_arg0) = x at hx ⊢
  generalize W (Proc.devRef .tc main_arg1) = g at hg ⊢
  generalize W (Proc.devRef .tc main_arg2) = w at hw ⊢
  have hs : ∑ d : Fin 1024, @HMul.hMul EReal EReal EReal _ (x (ix2 s d)) (x (ix2 s d)) = (((∑ d : Fin 1024, a.x s d * a.x s d : ℝ)) : EReal) := by
    rw [← sum_coe]
    exact Finset.sum_congr rfl fun d _ => by rw [hx, ← EReal.coe_mul]
  rw [hs, thousand, div_coe _ (by norm_num), eps_word, ← EReal.coe_add, show ((∑ d : Fin 1024, a.x s d * a.x s d) / 1024 + eps) = msq a s from rfl, rsqrt_pos (msq_pos a s)]
  unfold pj
  rw [← sum_coe]
  exact Finset.sum_congr rfl fun d _ => by rw [hx, hg, hw, ← EReal.coe_mul, ← EReal.coe_mul, ← EReal.coe_mul]; rfl

set_option maxHeartbeats 3200000 in
theorem host_taps (e : HostGiven W a) (b : Fin 4) (r : Fin 8) (hr : r.val < 3) (l : Fin 128) :
    StableHlo.after hostOps0 W (Proc.devRef .tc main_v18) (ix3 b r l) = ((a.cw ⟨r.val, hr⟩ ⟨128 * b.val + l.val, by omega⟩ : ℝ) : EReal) := by
  have hc := e.cw
  clear e
  simp only [hostOps0]
  after_reads_at
  generalize W (Proc.devRef .tc main_arg3) = x at hc ⊢
  rw [dif_pos hr, hc]
  exact congrArg (fun k => ((a.cw ⟨r.val, hr⟩ k : ℝ) : EReal)) (Fin.ext (by simp only; omega))

set_option maxHeartbeats 3200000 in
theorem host_scale (e : HostGiven W a) (d : Fin 1024) :
    StableHlo.after hostOps0 W (Proc.devRef .tc main_v17) (ix2 0 d) = ((a.g d : ℝ) : EReal) := by
  have hg := e.g
  clear e
  simp only [hostOps0]
  after_reads_at
  exact hg _

set_option maxHeartbeats 3200000 in
theorem host_weights (e : HostGiven W a) (f : Fin 3328) (d : Fin 1024) :
    StableHlo.after hostOps0 W (Proc.devRef .tc main_v20) (ix2 f d) = ((a.w d f : ℝ) : EReal) := by
  have hw := e.w
  clear e
  simp only [hostOps0]
  after_reads_at
  exact hw _ _

theorem cos_at (r : Fin 8192) (f : Fin 8) : Ideal.cos (((FloatOps.sitofp FTy.f32 (BitVec.ofNat 32 r.val) : Ideal .f32) : EReal)
      * Ideal.pow (Ideal.ofBits FTy.f32 0x48F42400#32) (((FloatOps.sitofp FTy.f32 (BitVec.ofNat 32 f.val) : Ideal .f32) : EReal) * Ideal.ofBits FTy.f32 0xBE000000#32))
      = ((Real.cos (angle r f) : ℝ) : EReal) := by
  rw [angle_at]
  rfl

theorem sin_at (r : Fin 8192) (f : Fin 8) : Ideal.sin (((FloatOps.sitofp FTy.f32 (BitVec.ofNat 32 r.val) : Ideal .f32) : EReal)
      * Ideal.pow (Ideal.ofBits FTy.f32 0x48F42400#32) (((FloatOps.sitofp FTy.f32 (BitVec.ofNat 32 f.val) : Ideal .f32) : EReal) * Ideal.ofBits FTy.f32 0xBE000000#32))
      = ((Real.sin (angle r f) : ℝ) : EReal) := by
  rw [angle_at]
  rfl

set_option maxHeartbeats 3200000 in
theorem host_cos (r : Fin 8192) (l : Fin 128) :
    StableHlo.after hostOps0 W (Proc.devRef .tc main_v34) (ix2 r l) = ((cosLane r l : ℝ) : EReal) := by
  simp only [hostOps0]
  after_reads_simp
  pointwise
  after_reads_simp
  pointwise
  have hl := l.isLt
  refine pick_at l 1 1 (fun f => Ideal.cos (((FloatOps.sitofp FTy.f32 (BitVec.ofNat 32 r.val) : Ideal .f32) : EReal)
      * Ideal.pow (Ideal.ofBits FTy.f32 0x48F42400#32) (((FloatOps.sitofp FTy.f32 (BitVec.ofNat 32 f.val) : Ideal .f32) : EReal) * Ideal.ofBits FTy.f32 0xBE000000#32))) (fun f => Ideal.cos (((FloatOps.sitofp FTy.f32 (BitVec.ofNat 32 r.val) : Ideal .f32) : EReal)
      * Ideal.pow (Ideal.ofBits FTy.f32 0x48F42400#32) (((FloatOps.sitofp FTy.f32 (BitVec.ofNat 32 f.val) : Ideal .f32) : EReal) * Ideal.ofBits FTy.f32 0xBE000000#32))) (cosLane r l) (fun h => ?_) (fun h1 h2 => ?_) (fun h => ?_) rfl
  · refine (cos_at r ⟨l.val % 64, h⟩).trans ?_
    rw [cosLane, dif_pos (by omega)]
    have e1 : (⟨l.val % 64, h⟩ : Fin 8) = ⟨l.val % 8, by omega⟩ := Fin.ext (by simp only; omega)
    rw [e1]
  · refine (cos_at r ⟨l.val % 64 - 8, h2⟩).trans ?_
    rw [cosLane, dif_pos (by omega)]
    have e1 : (⟨l.val % 64 - 8, h2⟩ : Fin 8) = ⟨l.val % 8, by omega⟩ := Fin.ext (by simp only; omega)
    rw [e1]
  · rw [cosLane, dif_neg (by omega)]; rfl

set_option maxHeartbeats 3200000 in
theorem host_first (r : Fin 8192) (l : Fin 128) :
    StableHlo.after hostOps0 W (Proc.devRef .tc main_v36) (ix2 r l) = ((firstSin r l : ℝ) : EReal) := by
  simp only [hostOps0]
  after_reads_simp
  pointwise
  after_reads_simp
  pointwise
  have hl := l.isLt
  refine pick_at l 0 0 (fun f => Neg.neg (α := EReal) <| Ideal.sin (((FloatOps.sitofp FTy.f32 (BitVec.ofNat 32 r.val) : Ideal .f32) : EReal)
      * Ideal.pow (Ideal.ofBits FTy.f32 0x48F42400#32) (((FloatOps.sitofp FTy.f32 (BitVec.ofNat 32 f.val) : Ideal .f32) : EReal) * Ideal.ofBits FTy.f32 0xBE000000#32))) (fun _ => 0) (firstSin r l) (fun h => ?_) (fun h1 h2 => ?_) (fun h => ?_) rfl
  · refine (congrArg (Neg.neg (α := EReal)) (sin_at r ⟨l.val % 64, h⟩)).trans ?_
    rw [firstSin, if_pos (by omega), EReal.coe_neg]
    have e1 : (⟨l.val % 64, h⟩ : Fin 8) = ⟨l.val % 8, by omega⟩ := Fin.ext (by simp only; omega)
    rw [e1]
  · rw [firstSin, if_neg (by omega)]; rfl
  · rw [firstSin, if_neg (by omega)]; rfl

set_option maxHeartbeats 3200000 in
theorem host_second (r : Fin 8192) (l : Fin 128) :
    StableHlo.after hostOps0 W (Proc.devRef .tc main_v37) (ix2 r l) = ((secondSin r l : ℝ) : EReal) := by
  simp only [hostOps0]
  after_reads_simp
  pointwise
  after_reads_simp
  pointwise
  have hl := l.isLt
  refine pick_at l 0 0 (fun _ => 0) (fun f => Ideal.sin (((FloatOps.sitofp FTy.f32 (BitVec.ofNat 32 r.val) : Ideal .f32) : EReal)
      * Ideal.pow (Ideal.ofBits FTy.f32 0x48F42400#32) (((FloatOps.sitofp FTy.f32 (BitVec.ofNat 32 f.val) : Ideal .f32) : EReal) * Ideal.ofBits FTy.f32 0xBE000000#32))) (secondSin r l) (fun h => ?_) (fun h1 h2 => ?_) (fun h => ?_) rfl
  · rw [secondSin, if_neg (by omega)]; rfl
  · refine (sin_at r ⟨l.val % 64 - 8, h2⟩).trans ?_
    rw [secondSin, if_pos (by omega)]
    have e1 : (⟨l.val % 64 - 8, h2⟩ : Fin 8) = ⟨l.val % 8, by omega⟩ := Fin.ext (by simp only; omega)
    rw [e1]
  · rw [secondSin, if_neg (by omega)]; rfl

end Cert.Proj

end
-- ==== Proof.ProjWin.lean ====
/- A tile's blocks as reals. -/
module

public import proofs.«01_k».proof.Proof.ProjHost
public import proofs.«01_k».proof.Proof.ProjPay
public import proofs.«01_k».proof.Proof.Region

@[expose] public section

set_option maxRecDepth 16384

noncomputable section

namespace Cert.Proj

open Cert.Kernel2Ideal Cert.Kernel2Ideal.Gen Idealize.ShloMosaic Idealize.SL.Sem Cert.Chain

variable (m : (ℓ : Loc nD τ sig) → Buf (Elt Ideal) ℓ) (c : Dev nD)

theorem rowIdx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_8.index t = ![min (t.val + 1) 15, 0, 0]
    ∧ win0_9.index t = ![min (t.val + 1) 15, 0, 0] ∧ win0_10.index t = ![t.val, 0] ∧ win0_11.index t = ![t.val, 0] ∧ win0_12.index t = ![t.val, 0]
    ∧ win0_13.index t = ![t.val, 0] ∧ win0_14.index t = ![min (64 * (t.val + 1)) 1023, 0] ∧ win0_15.index t = ![t.val, 1] ∧ win0_16.index t = ![0, 0, 0]
    ∧ win0_17.index t = ![0, 0] ∧ win0_18.index t = ![t.val, 0] ∧ win0_19.index t = ![t.val, 0] ∧ win0_20.index t = ![t.val, 0] ∧ win0_21.index t = ![t.val, 0] := by
  decide +kernel

variable {m c}

theorem emb0 (t : Fin grid0.N) (ht : t.val < 16) (r : Fin 512) (k : Fin 1024) :
    ((win0_0.blk t).view.emb (ix2 r k) : S8192x1024.Idx) = ix2 ⟨512 * t.val + r.val, by omega⟩ k := by
  have e := (rowIdx t).1
  refine funext fun (a : Fin 2) => Fin.ext ((Pipeline.Window.rect_emb_val win0_0 t _ a rfl).trans ?_)
  rw [e]
  match a with
  | 0 => exact congrArg (· + r.val) (Nat.mul_comm t.val 512)
  | 1 => exact congrArg (· + k.val) (Nat.zero_mul 1024) |>.trans (Nat.zero_add _)

theorem blk0 (t : Fin 16) (r : Fin 512) (k : Fin 1024) : iblk m c 0 t (ix2 r k) = V m c main_arg0 (ix2 (tileRow t r) k) := by
  unfold iblk
  generalize V m c main_arg0 = x
  exact congrArg x (emb0 t t.isLt r k)

theorem emb2 (t : Fin grid0.N) (ht : t.val < 16) (r : Fin 512) (k : Fin 1024) :
    ((win0_2.blk t).view.emb (ix2 r k) : S8192x1024.Idx) = ix2 ⟨512 * t.val + r.val, by omega⟩ k := by
  have e := (rowIdx t).2.2.1
  refine funext fun (a : Fin 2) => Fin.ext ((Pipeline.Window.rect_emb_val win0_2 t _ a rfl).trans ?_)
  rw [e]
  match a with
  | 0 => exact congrArg (· + r.val) (Nat.mul_comm t.val 512)
  | 1 => exact congrArg (· + k.val) (Nat.zero_mul 1024) |>.trans (Nat.zero_add _)

theorem blk2 (t : Fin 16) (r : Fin 512) (k : Fin 1024) : iblk m c 2 t (ix2 r k) = V m c main_arg4 (ix2 (tileRow t r) k) := by
  unfold iblk
  generalize V m c main_arg4 = x
  exact congrArg x (emb2 t t.isLt r k)

theorem emb3 (t : Fin grid0.N) (ht : t.val < 16) (r : Fin 512) (k : Fin 512) :
    ((win0_3.blk t).view.emb (ix2 r k) : S8192x512.Idx) = ix2 ⟨512 * t.val + r.val, by omega⟩ k := by
  have e := (rowIdx t).2.2.2.1
  refine funext fun (a : Fin 2) => Fin.ext ((Pipeline.Window.rect_emb_val win0_3 t _ a rfl).trans ?_)
  rw [e]
  match a with
  | 0 => exact congrArg (· + r.val) (Nat.mul_comm t.val 512)
  | 1 => exact congrArg (· + k.val) (Nat.zero_mul 512) |>.trans (Nat.zero_add _)

theorem blk3 (t : Fin 16) (r : Fin 512) (k : Fin 512) : iblk m c 3 t (ix2 r k) = V m c main_arg5 (ix2 (tileRow t r) k) := by
  unfold iblk
  generalize V m c main_arg5 = x
  exact congrArg x (emb3 t t.isLt r k)

theorem emb4 (t : Fin grid0.N) (ht : t.val < 16) (r : Fin 512) (k : Fin 128) :
    ((win0_4.blk t).view.emb (ix2 r k) : S8192x128.Idx) = ix2 ⟨512 * t.val + r.val, by omega⟩ k := by
  have e := (rowIdx t).2.2.2.2.1
  refine funext fun (a : Fin 2) => Fin.ext ((Pipeline.Window.rect_emb_val win0_4 t _ a rfl).trans ?_)
  rw [e]
  match a with
  | 0 => exact congrArg (· + r.val) (Nat.mul_comm t.val 512)
  | 1 => exact congrArg (· + k.val) (Nat.zero_mul 128) |>.trans (Nat.zero_add _)

theorem blk4 (t : Fin 16) (r : Fin 512) (k : Fin 128) : iblk m c 4 t (ix2 r k) = V m c main_arg6 (ix2 (tileRow t r) k) := by
  unfold iblk
  generalize V m c main_arg6 = x
  exact congrArg x (emb4 t t.isLt r k)

theorem emb5 (t : Fin grid0.N) (ht : t.val < 16) (r : Fin 512) (k : Fin 128) :
    ((win0_5.blk t).view.emb (ix2 r k) : S8192x128.Idx) = ix2 ⟨512 * t.val + r.val, by omega⟩ k := by
  have e := (rowIdx t).2.2.2.2.2.1
  refine funext fun (a : Fin 2) => Fin.ext ((Pipeline.Window.rect_emb_val win0_5 t _ a rfl).trans ?_)
  rw [e]
  match a with
  | 0 => exact congrArg (· + r.val) (Nat.mul_comm t.val 512)
  | 1 => exact congrArg (· + k.val) (Nat.zero_mul 128) |>.trans (Nat.zero_add _)

theorem blk5 (t : Fin 16) (r : Fin 512) (k : Fin 128) : iblk m c 5 t (ix2 r k) = V m c main_arg7 (ix2 (tileRow t r) k) := by
  unfold iblk
  generalize V m c main_arg7 = x
  exact congrArg x (emb5 t t.isLt r k)

theorem emb10 (t : Fin grid0.N) (ht : t.val < 16) (r : Fin 512) (k : Fin 512) :
    ((win0_10.blk t).view.emb (ix2 r k) : S8192x512.Idx) = ix2 ⟨512 * t.val + r.val, by omega⟩ k := by
  have e := (rowIdx t).2.2.2.2.2.2.2.2.1
  refine funext fun (a : Fin 2) => Fin.ext ((Pipeline.Window.rect_emb_val win0_10 t _ a rfl).trans ?_)
  rw [e]
  match a with
  | 0 => exact congrArg (· + r.val) (Nat.mul_comm t.val 512)
  | 1 => exact congrArg (· + k.val) (Nat.zero_mul 512) |>.trans (Nat.zero_add _)

theorem blk10 (t : Fin 16) (r : Fin 512) (k : Fin 512) : iblk m c 10 t (ix2 r k) = V m c main_arg10 (ix2 (tileRow t r) k) := by
  unfold iblk
  generalize V m c main_arg10 = x
  exact congrArg x (emb10 t t.isLt r k)

theorem emb11 (t : Fin grid0.N) (ht : t.val < 16) (r : Fin 512) (k : Fin 512) :
    ((win0_11.blk t).view.emb (ix2 r k) : S8192x512.Idx) = ix2 ⟨512 * t.val + r.val, by omega⟩ k := by
  have e := (rowIdx t).2.2.2.2.2.2.2.2.2.1
  refine funext fun (a : Fin 2) => Fin.ext ((Pipeline.Window.rect_emb_val win0_11 t _ a rfl).trans ?_)
  rw [e]
  match a with
  | 0 => exact congrArg (· + r.val) (Nat.mul_comm t.val 512)
  | 1 => exact congrArg (· + k.val) (Nat.zero_mul 512) |>.trans (Nat.zero_add _)

theorem blk11 (t : Fin 16) (r : Fin 512) (k : Fin 512) : iblk m c 11 t (ix2 r k) = V m c main_arg11 (ix2 (tileRow t r) k) := by
  unfold iblk
  generalize V m c main_arg11 = x
  exact congrArg x (emb11 t t.isLt r k)

theorem emb12 (t : Fin grid0.N) (ht : t.val < 16) (r : Fin 512) (k : Fin 512) :
    ((win0_12.blk t).view.emb (ix2 r k) : S8192x512.Idx) = ix2 ⟨512 * t.val + r.val, by omega⟩ k := by
  have e := (rowIdx t).2.2.2.2.2.2.2.2.2.2.1
  refine funext fun (a : Fin 2) => Fin.ext ((Pipeline.Window.rect_emb_val win0_12 t _ a rfl).trans ?_)
  rw [e]
  match a with
  | 0 => exact congrArg (· + r.val) (Nat.mul_comm t.val 512)
  | 1 => exact congrArg (· + k.val) (Nat.zero_mul 512) |>.trans (Nat.zero_add _)

theorem blk12 (t : Fin 16) (r : Fin 512) (k : Fin 512) : iblk m c 12 t (ix2 r k) = V m c main_arg13 (ix2 (tileRow t r) k) := by
  unfold iblk
  generalize V m c main_arg13 = x
  exact congrArg x (emb12 t t.isLt r k)

theorem emb13 (t : Fin grid0.N) (ht : t.val < 16) (r : Fin 512) (k : Fin 512) :
    ((win0_13.blk t).view.emb (ix2 r k) : S8192x512.Idx) = ix2 ⟨512 * t.val + r.val, by omega⟩ k := by
  have e := (rowIdx t).2.2.2.2.2.2.2.2.2.2.2.1
  refine funext fun (a : Fin 2) => Fin.ext ((Pipeline.Window.rect_emb_val win0_13 t _ a rfl).trans ?_)
  rw [e]
  match a with
  | 0 => exact congrArg (· + r.val) (Nat.mul_comm t.val 512)
  | 1 => exact congrArg (· + k.val) (Nat.zero_mul 512) |>.trans (Nat.zero_add _)

theorem blk13 (t : Fin 16) (r : Fin 512) (k : Fin 512) : iblk m c 13 t (ix2 r k) = V m c main_arg12 (ix2 (tileRow t r) k) := by
  unfold iblk
  generalize V m c main_arg12 = x
  exact congrArg x (emb13 t t.isLt r k)

theorem emb18 (t : Fin grid0.N) (ht : t.val < 16) (r : Fin 512) (k : Fin 128) :
    ((win0_18.blk t).view.emb (ix2 r k) : S8192x128.Idx) = ix2 ⟨512 * t.val + r.val, by omega⟩ k := by
  have e := (rowIdx t).2.2.2.2.2.2.2.2.2.2.2.2.2.2.2.2.1
  refine funext fun (a : Fin 2) => Fin.ext ((Pipeline.Window.rect_emb_val win0_18 t _ a rfl).trans ?_)
  rw [e]
  match a with
  | 0 => exact congrArg (· + r.val) (Nat.mul_comm t.val 512)
  | 1 => exact congrArg (· + k.val) (Nat.zero_mul 128) |>.trans (Nat.zero_add _)

theorem blk18 (t : Fin 16) (r : Fin 512) (k : Fin 128) : iblk m c 18 t (ix2 r k) = V m c main_v34 (ix2 (tileRow t r) k) := by
  unfold iblk
  generalize V m c main_v34 = x
  exact congrArg x (emb18 t t.isLt r k)

theorem emb19 (t : Fin grid0.N) (ht : t.val < 16) (r : Fin 512) (k : Fin 128) :
    ((win0_19.blk t).view.emb (ix2 r k) : S8192x128.Idx) = ix2 ⟨512 * t.val + r.val, by omega⟩ k := by
  have e := (rowIdx t).2.2.2.2.2.2.2.2.2.2.2.2.2.2.2.2.2.1
  refine funext fun (a : Fin 2) => Fin.ext ((Pipeline.Window.rect_emb_val win0_19 t _ a rfl).trans ?_)
  rw [e]
  match a with
  | 0 => exact congrArg (· + r.val) (Nat.mul_comm t.val 512)
  | 1 => exact congrArg (· + k.val) (Nat.zero_mul 128) |>.trans (Nat.zero_add _)

theorem blk19 (t : Fin 16) (r : Fin 512) (k : Fin 128) : iblk m c 19 t (ix2 r k) = V m c main_v36 (ix2 (tileRow t r) k) := by
  unfold iblk
  generalize V m c main_v36 = x
  exact congrArg x (emb19 t t.isLt r k)

theorem emb20 (t : Fin grid0.N) (ht : t.val < 16) (r : Fin 512) (k : Fin 128) :
    ((win0_20.blk t).view.emb (ix2 r k) : S8192x128.Idx) = ix2 ⟨512 * t.val + r.val, by omega⟩ k := by
  have e := (rowIdx t).2.2.2.2.2.2.2.2.2.2.2.2.2.2.2.2.2.2.1
  refine funext fun (a : Fin 2) => Fin.ext ((Pipeline.Window.rect_emb_val win0_20 t _ a rfl).trans ?_)
  rw [e]
  match a with
  | 0 => exact congrArg (· + r.val) (Nat.mul_comm t.val 512)
  | 1 => exact congrArg (· + k.val) (Nat.zero_mul 128) |>.trans (Nat.zero_add _)

theorem blk20 (t : Fin 16) (r : Fin 512) (k : Fin 128) : iblk m c 20 t (ix2 r k) = V m c main_v37 (ix2 (tileRow t r) k) := by
  unfold iblk
  generalize V m c main_v37 = x
  exact congrArg x (emb20 t t.isLt r k)

theorem emb8 (t : Fin grid0.N) (ht : t.val + 1 < 16) (r k : Fin 128) :
    ((win0_8.blk t).view.emb (ix3 0 r k) : S16x128x128.Idx) = ix3 ⟨t.val + 1, ht⟩ r k := by
  have e := (rowIdx t).2.2.2.2.2.2.1
  refine funext fun (a : Fin 3) => Fin.ext ((Pipeline.Window.rect_emb_val win0_8 t _ a rfl).trans ?_)
  rw [e]
  match a with
  | 0 => show min (t.val + 1) 15 * 1 + 0 = t.val + 1; omega
  | 1 => exact congrArg (· + r.val) (Nat.zero_mul 128) |>.trans (Nat.zero_add _)
  | 2 => exact congrArg (· + k.val) (Nat.zero_mul 128) |>.trans (Nat.zero_add _)

theorem blk8 (t : Fin 16) (ht : t.val + 1 < 16) (r k : Fin 128) : iblk m c 8 t (ix3 0 r k) = V m c main_arg8 (ix3 ⟨t.val + 1, ht⟩ r k) := by
  unfold iblk
  generalize V m c main_arg8 = x
  exact congrArg x (emb8 t ht r k)

theorem emb9 (t : Fin grid0.N) (ht : t.val + 1 < 16) (r k : Fin 128) :
    ((win0_9.blk t).view.emb (ix3 0 r k) : S16x128x128.Idx) = ix3 ⟨t.val + 1, ht⟩ r k := by
  have e := (rowIdx t).2.2.2.2.2.2.2.1
  refine funext fun (a : Fin 3) => Fin.ext ((Pipeline.Window.rect_emb_val win0_9 t _ a rfl).trans ?_)
  rw [e]
  match a with
  | 0 => show min (t.val + 1) 15 * 1 + 0 = t.val + 1; omega
  | 1 => exact congrArg (· + r.val) (Nat.zero_mul 128) |>.trans (Nat.zero_add _)
  | 2 => exact congrArg (· + k.val) (Nat.zero_mul 128) |>.trans (Nat.zero_add _)

theorem blk9 (t : Fin 16) (ht : t.val + 1 < 16) (r k : Fin 128) : iblk m c 9 t (ix3 0 r k) = V m c main_arg9 (ix3 ⟨t.val + 1, ht⟩ r k) := by
  unfold iblk
  generalize V m c main_arg9 = x
  exact congrArg x (emb9 t ht r k)

theorem emb14 (t : Fin grid0.N) (ht : t.val + 1 < 16) (r : Fin 8) (k : Fin 512) :
    ((win0_14.blk t).view.emb (ix2 r k) : S8192x512.Idx) = ix2 ⟨512 * (t.val + 1) + r.val, by omega⟩ k := by
  have e := (rowIdx t).2.2.2.2.2.2.2.2.2.2.2.2.1
  refine funext fun (a : Fin 2) => Fin.ext ((Pipeline.Window.rect_emb_val win0_14 t _ a rfl).trans ?_)
  rw [e]
  match a with
  | 0 => show min (64 * (t.val + 1)) 1023 * 8 + r.val = 512 * (t.val + 1) + r.val; omega
  | 1 => exact congrArg (· + k.val) (Nat.zero_mul 512) |>.trans (Nat.zero_add _)

theorem blk14 (t : Fin 16) (ht : t.val + 1 < 16) (r : Fin 8) (k : Fin 512) :
    iblk m c 14 t (ix2 r k) = V m c main_arg12 (ix2 ⟨512 * (t.val + 1) + r.val, by omega⟩ k) := by
  unfold iblk
  generalize V m c main_arg12 = x
  exact congrArg x (emb14 t ht r k)

theorem emb1 (t : Fin grid0.N) (k : Fin 1024) : ((win0_1.blk t).view.emb (ix2 0 k) : S1x1024.Idx) = ix2 0 k := by
  have e := (rowIdx t).2.1
  refine funext fun (a : Fin 2) => Fin.ext ((Pipeline.Window.rect_emb_val win0_1 t _ a rfl).trans ?_)
  rw [e]
  match a with
  | 0 => rfl
  | 1 => exact congrArg (· + k.val) (Nat.zero_mul 1024) |>.trans (Nat.zero_add _)

theorem blk1 (t : Fin 16) (k : Fin 1024) : iblk m c 1 t (ix2 0 k) = V m c main_v17 (ix2 0 k) := by
  unfold iblk
  generalize V m c main_v17 = x
  exact congrArg x (emb1 t k)

theorem emb17 (t : Fin grid0.N) (r : Fin 3328) (k : Fin 1024) : ((win0_17.blk t).view.emb (ix2 r k) : S3328x1024.Idx) = ix2 r k := by
  have e := (rowIdx t).2.2.2.2.2.2.2.2.2.2.2.2.2.2.2.1
  refine funext fun (a : Fin 2) => Fin.ext ((Pipeline.Window.rect_emb_val win0_17 t _ a rfl).trans ?_)
  rw [e]
  match a with
  | 0 => exact congrArg (· + r.val) (Nat.zero_mul 3328) |>.trans (Nat.zero_add _)
  | 1 => exact congrArg (· + k.val) (Nat.zero_mul 1024) |>.trans (Nat.zero_add _)

theorem blk17 (t : Fin 16) (r : Fin 3328) (k : Fin 1024) : iblk m c 17 t (ix2 r k) = V m c main_v20 (ix2 r k) := by
  unfold iblk
  generalize V m c main_v20 = x
  exact congrArg x (emb17 t r k)

theorem emb16 (t : Fin grid0.N) (b : Fin 4) (r : Fin 8) (k : Fin 128) : ((win0_16.blk t).view.emb (ix3 b r k) : S4x8x128.Idx) = ix3 b r k := by
  have e := (rowIdx t).2.2.2.2.2.2.2.2.2.2.2.2.2.2.1
  refine funext fun (a : Fin 3) => Fin.ext ((Pipeline.Window.rect_emb_val win0_16 t _ a rfl).trans ?_)
  rw [e]
  match a with
  | 0 => exact congrArg (· + b.val) (Nat.zero_mul 4) |>.trans (Nat.zero_add _)
  | 1 => exact congrArg (· + r.val) (Nat.zero_mul 8) |>.trans (Nat.zero_add _)
  | 2 => exact congrArg (· + k.val) (Nat.zero_mul 128) |>.trans (Nat.zero_add _)

theorem blk16 (t : Fin 16) (b : Fin 4) (r : Fin 8) (k : Fin 128) : iblk m c 16 t (ix3 b r k) = V m c main_v18 (ix3 b r k) := by
  unfold iblk
  generalize V m c main_v18 = x
  exact congrArg x (emb16 t b r k)

theorem emb21 (t : Fin grid0.N) (ht : t.val < 16) (r : Fin 512) (k : Fin 1024) :
    ((win0_21.blk t).view.emb (ix2 r k) : S8192x1024.Idx) = ix2 ⟨512 * t.val + r.val, by omega⟩ k := by
  have e := (rowIdx t).2.2.2.2.2.2.2.2.2.2.2.2.2.2.2.2.2.2.2
  refine funext fun (a : Fin 2) => Fin.ext ((Pipeline.Window.rect_emb_val win0_21 t _ a rfl).trans ?_)
  rw [e]
  match a with
  | 0 => exact congrArg (· + r.val) (Nat.mul_comm t.val 512)
  | 1 => exact congrArg (· + k.val) (Nat.zero_mul 1024) |>.trans (Nat.zero_add _)

theorem blk15 (t : Fin 16) (r : Fin 512) (k : Fin 1024) :
    X0_15 m c t (ix2 r k) = V m c main_v14 (ix2 (tileRow t r) ⟨1024 + k.val, by omega⟩) := by
  have e := (rowIdx t).2.2.2.2.2.2.2.2.2.2.2.2.2.1
  unfold X0_15 Pipeline.Window.fill
  rw [dif_pos (moved0_15 t (ix2 r k))]
  unfold iblk
  generalize V m c main_v14 = x
  refine congrArg x (funext fun (a : Fin 2) => Fin.ext ((Pipeline.Window.rect_emb_val win0_15 t _ a rfl).trans ?_))
  rw [e]
  match a with
  | 0 => exact congrArg (· + r.val) (Nat.mul_comm t.val 512)
  | 1 => exact congrArg (· + k.val) (Nat.one_mul 1024)

end Cert.Proj

end
-- ==== Proof.ProjFinite.lean ====
/- The projection's finite arguments as reals. -/
module

public import proofs.«01_k».proof.Defs
public import proofs.«01_k».proof.Proof.Finite
public import proofs.«01_k».proof.Proof.ProjHost

@[expose] public section

set_option maxRecDepth 16384

noncomputable section

namespace Cert.Proj

open Cert.Kernel2Ideal Idealize.ShloMosaic Idealize.SL.Sem Cert.Chain

theorem pre_facts : Cert.Pre_finite2.Facts where
  bcast_S_S8192x1024 := by decide
  bcast_S_S1024 := by decide
  bcast_S_S1024x3328 := by decide
  bcast_S_S3x512 := by decide
  bcast_S_S8192x512 := by decide
  bcast_S_S8192x128 := by decide
  bcast_S_S16x128x128 := by decide

theorem top_half : Ideal.ofBits .bf16 0x7F80#16 = (⊤ : EReal) := by
  simp [Ideal.ofBits, Ideal.ieee]

/-- An array of the shorter format that the precondition holds of is of reals. -/
theorem real_of_half {s : Shape} {x b : FVec Ideal s .bf16} (h : cmpf .olt (Host.absf x) b = fun _ => 1#1) (hb : ∀ i, b i = Ideal.ofBits .bf16 0x7F80#16) (i : s.Idx) :
    x i = ((x i).toReal : EReal) := by
  have hi : BitVec.ofBool (decide (FloatOps.absf (F := Ideal) (φ := .bf16) (x i) < b i)) = 1#1 := congrFun h i
  rw [hb, top_half] at hi
  have ha : FloatOps.absf (F := Ideal) (φ := .f32) (x i) < (⊤ : EReal) := by
    by_contra hn
    rw [decide_eq_false (show ¬(FloatOps.absf (F := Ideal) (φ := .bf16) (x i) < (⊤ : EReal)) from hn)] at hi
    exact absurd hi (by decide)
  exact real_of_abs ha

variable {m : (ℓ : Loc nD τ sig) → Buf (Elt Ideal) ℓ}

/-- The reals of the argument arrays. -/
def argsOf (x : S8192x1024.Idx → EReal) (g : S1024.Idx → EReal) (w : S1024x3328.Idx → EReal) (cw : S3x512.Idx → EReal) (dh : S8192x1024.Idx → EReal) (dq : S8192x512.Idx → EReal) (dk : S8192x128.Idx → EReal) (dv : S8192x128.Idx → EReal) (dkh : S16x128x128.Idx → EReal) (dvh : S16x128x128.Idx → EReal) (dga : S8192x512.Idx → EReal) (db : S8192x512.Idx → EReal) (dcv : S8192x512.Idx → EReal) (dgc : S8192x512.Idx → EReal) : PArgs where
  x s d := (x (ix2 s d)).toReal
  g d := (g (ix1 d)).toReal
  w d e := (w (ix2 d e)).toReal
  cw r c := (cw (ix2 r c)).toReal
  dh s d := (dh (ix2 s d)).toReal
  dq s c := (dq (ix2 s c)).toReal
  dk s c := (dk (ix2 s c)).toReal
  dv s c := (dv (ix2 s c)).toReal
  dkh t i c := (dkh (ix3 t i c)).toReal
  dvh t i c := (dvh (ix3 t i c)).toReal
  dga s c := (dga (ix2 s c)).toReal
  db s c := (db (ix2 s c)).toReal
  dcv s c := (dcv (ix2 s c)).toReal
  dgc s c := (dgc (ix2 s c)).toReal

/-- The reals of device `c`'s arguments. -/
def argsAt (m : (ℓ : Loc nD τ sig) → Buf (Elt Ideal) ℓ) (c : Dev nD) : PArgs :=
  argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))

/-- Device `c`'s arguments are those reals. -/
structure Given (m : (ℓ : Loc nD τ sig) → Buf (Elt Ideal) ℓ) (c : Dev nD) (a : PArgs) : Prop where
  x : ∀ s d, m ((c.tc : Thread nD τ).loc main_arg0) (ix2 s d) = ((a.x s d : ℝ) : EReal)
  g : ∀ d, m ((c.tc : Thread nD τ).loc main_arg1) (ix1 d) = ((a.g d : ℝ) : EReal)
  w : ∀ d e, m ((c.tc : Thread nD τ).loc main_arg2) (ix2 d e) = ((a.w d e : ℝ) : EReal)
  cw : ∀ r c', m ((c.tc : Thread nD τ).loc main_arg3) (ix2 r c') = ((a.cw r c' : ℝ) : EReal)
  dh : ∀ s d, m ((c.tc : Thread nD τ).loc main_arg4) (ix2 s d) = ((a.dh s d : ℝ) : EReal)
  dq : ∀ s c', m ((c.tc : Thread nD τ).loc main_arg5) (ix2 s c') = ((a.dq s c' : ℝ) : EReal)
  dk : ∀ s c', m ((c.tc : Thread nD τ).loc main_arg6) (ix2 s c') = ((a.dk s c' : ℝ) : EReal)
  dv : ∀ s c', m ((c.tc : Thread nD τ).loc main_arg7) (ix2 s c') = ((a.dv s c' : ℝ) : EReal)
  dkh : ∀ t i c', m ((c.tc : Thread nD τ).loc main_arg8) (ix3 t i c') = ((a.dkh t i c' : ℝ) : EReal)
  dvh : ∀ t i c', m ((c.tc : Thread nD τ).loc main_arg9) (ix3 t i c') = ((a.dvh t i c' : ℝ) : EReal)
  dga : ∀ s c', m ((c.tc : Thread nD τ).loc main_arg10) (ix2 s c') = ((a.dga s c' : ℝ) : EReal)
  db : ∀ s c', m ((c.tc : Thread nD τ).loc main_arg11) (ix2 s c') = ((a.db s c' : ℝ) : EReal)
  dcv : ∀ s c', m ((c.tc : Thread nD τ).loc main_arg12) (ix2 s c') = ((a.dcv s c' : ℝ) : EReal)
  dgc : ∀ s c', m ((c.tc : Thread nD τ).loc main_arg13) (ix2 s c') = ((a.dgc s c' : ℝ) : EReal)

theorem given_of (h : Cert.Pre_Kernel2Ideal_finite2 (hPre_finite2 := pre_facts) m) (c : Dev nD) : Given m c (argsAt m c) where
  x s d := real_of (h c).1 (fun _ => rfl) (ix2 s d)
  g d := real_of (h c).2.1 (fun _ => rfl) (ix1 d)
  w d e := real_of (h c).2.2.1 (fun _ => rfl) (ix2 d e)
  cw r c' := real_of (h c).2.2.2.1 (fun _ => rfl) (ix2 r c')
  dh s d := real_of (h c).2.2.2.2.1 (fun _ => rfl) (ix2 s d)
  dq s c' := real_of_half (h c).2.2.2.2.2.1 (fun _ => rfl) (ix2 s c')
  dk s c' := real_of (h c).2.2.2.2.2.2.1 (fun _ => rfl) (ix2 s c')
  dv s c' := real_of (h c).2.2.2.2.2.2.2.1 (fun _ => rfl) (ix2 s c')
  dkh t i c' := real_of (h c).2.2.2.2.2.2.2.2.1 (fun _ => rfl) (ix3 t i c')
  dvh t i c' := real_of (h c).2.2.2.2.2.2.2.2.2.1 (fun _ => rfl) (ix3 t i c')
  dga s c' := real_of_half (h c).2.2.2.2.2.2.2.2.2.2.1 (fun _ => rfl) (ix2 s c')
  db s c' := real_of_half (h c).2.2.2.2.2.2.2.2.2.2.2.1 (fun _ => rfl) (ix2 s c')
  dcv s c' := real_of (h c).2.2.2.2.2.2.2.2.2.2.2.2.1 (fun _ => rfl) (ix2 s c')
  dgc s c' := real_of_half (h c).2.2.2.2.2.2.2.2.2.2.2.2.2 (fun _ => rfl) (ix2 s c')

theorem host_given {c : Dev nD} {a : PArgs} (e : Given m c a) : HostGiven (fun b => m (c, b)) a := ⟨e.x, e.g, e.w, e.cw⟩

end Cert.Proj

end
-- ==== Proof.ProjLoads.lean ====
/- What the body loads at a tile, as reals. -/
module

public import proofs.«01_k».proof.Proof.ProjReal
public import proofs.«01_k».proof.Proof.ProjWin
public import proofs.«01_k».proof.Proof.ProjFinite

@[expose] public section

set_option maxRecDepth 16384

noncomputable section

namespace Cert.Proj

open Cert.Kernel2Ideal Cert.Kernel2Ideal.Gen Idealize.ShloMosaic Idealize.ShloMosaic.Tactic Idealize.SL.Sem Cert.Chain

variable (m : (ℓ : Loc nD τ sig) → Buf (Elt Ideal) ℓ) (c : Dev nD)

/-- A load of a whole buffer. -/
theorem rd_whole {s : Shape} {e : EltTy} (a : Memref sig .tc .vmem s e) (h : a.IsWhole) (x : s.Idx → Elt Ideal e) {off : Fin s.rank → ℕ}
    (h0 : off = fun _ => 0) (inb : ∀ a, off a + s.size a ≤ s.size a) (j : s.Idx) : rd (F := Ideal) a h x (Rect.unit off s.size inb) j = x j := by
  subst h0
  refine (rd_at (F := Ideal) a h x (Rect.unit _ s.size inb) j).trans (congrArg x (funext fun a => Fin.ext ?_))
  exact (Rect.idx_unit_val _ s.size inb j a).trans (Nat.zero_add _)

theorem zero2 : (![0, 0] : Fin 2 → ℕ) = fun _ => 0 := funext (by decide)
theorem zero3 : (![0, 0, 0] : Fin 3 → ℕ) = fun _ => 0 := funext (by decide)

variable {m c} {a : PArgs} (e : Given m c a) (t : Fin 16)

theorem rest_half (a1 : Memref sig .tc .vmem S512x1024 .f32) (h : a1.IsWhole) (x : S512x1024.Idx → EReal) (o : ℕ) (ho : o + 512 ≤ 1024)
    (inb : ∀ a, (![0, o] : Fin 2 → ℕ) a + S512x512.size a ≤ S512x1024.size a) (r k : Fin 512) :
    rd (F := Ideal) (e := .f32) a1 h x (Rect.unit (s := S512x1024) ![0, o] S512x512.size inb) (ix2 r k) = x (ix2 r ⟨o + k.val, by omega⟩) := by
  refine (rd_at (F := Ideal) (e := .f32) a1 h x (Rect.unit (s := S512x1024) ![0, o] S512x512.size inb) (ix2 r k)).trans
    (congrArg x (funext fun (a : Fin 2) => Fin.ext ((Rect.idx_unit_val (s := S512x1024) ![0, o] S512x512.size inb (ix2 r k) a).trans ?_)))
  match a with
  | 0 => exact Nat.zero_add _
  | 1 => rfl

theorem tap_quarter (a1 : Memref sig .tc .vmem S4x8x128 .f32) (h : a1.IsWhole) (x : S4x8x128.Idx → EReal) (b : Fin 4)
    (inb : ∀ a, (![b.val, 0, 0] : Fin 3 → ℕ) a + S1x8x128.size a ≤ S4x8x128.size a) (r : Fin 8) (l : Fin 128) :
    rd (F := Ideal) (e := .f32) a1 h x (Rect.unit (s := S4x8x128) ![b.val, 0, 0] S1x8x128.size inb) (ix3 0 r l) = x (ix3 b r l) := by
  refine (rd_at (F := Ideal) (e := .f32) a1 h x (Rect.unit (s := S4x8x128) ![b.val, 0, 0] S1x8x128.size inb) (ix3 0 r l)).trans
    (congrArg x (funext fun (a : Fin 3) => Fin.ext ((Rect.idx_unit_val (s := S4x8x128) ![b.val, 0, 0] S1x8x128.size inb (ix3 0 r l) a).trans ?_)))
  match a with
  | 0 => exact Nat.add_zero _
  | 1 => exact Nat.zero_add _
  | 2 => exact Nat.zero_add _

set_option maxHeartbeats 3200000 in
include e in
theorem loads_real : LoadsReal (loads m c t) a t where
  l0 r d := ((rd_whole _ _ _ zero2 _ _).trans (blk0 t r d)).trans ((congrFun (V_main_arg0 m c) _).trans (e.x _ _))
  l1 d := ((rd_whole _ _ _ zero2 _ _).trans (blk1 t d)).trans (host_scale (host_given e) d)
  l2 r d := ((rd_whole _ _ _ zero2 _ _).trans (blk2 t r d)).trans ((congrFun (V_main_arg4 m c) _).trans (e.dh _ _))
  l3 r d := ((rd_whole _ _ _ zero2 _ _).trans (blk3 t r d)).trans ((congrFun (V_main_arg5 m c) _).trans (e.dq _ _))
  l4 r d := ((rd_whole _ _ _ zero2 _ _).trans (blk4 t r d)).trans ((congrFun (V_main_arg6 m c) _).trans (e.dk _ _))
  l5 r d := ((rd_whole _ _ _ zero2 _ _).trans (blk5 t r d)).trans ((congrFun (V_main_arg7 m c) _).trans (e.dv _ _))
  l8 h r k := ((rd_whole _ _ _ zero3 _ _).trans (blk8 t h r k)).trans ((congrFun (V_main_arg8 m c) _).trans (e.dkh _ _ _))
  l9 h r k := ((rd_whole _ _ _ zero3 _ _).trans (blk9 t h r k)).trans ((congrFun (V_main_arg9 m c) _).trans (e.dvh _ _ _))
  l10 r d := ((rd_whole _ _ _ zero2 _ _).trans (blk10 t r d)).trans ((congrFun (V_main_arg10 m c) _).trans (e.dga _ _))
  l11 r d := ((rd_whole _ _ _ zero2 _ _).trans (blk11 t r d)).trans ((congrFun (V_main_arg11 m c) _).trans (e.db _ _))
  l12 r d := ((rd_whole _ _ _ zero2 _ _).trans (blk12 t r d)).trans ((congrFun (V_main_arg13 m c) _).trans (e.dgc _ _))
  l13 r d := ((rd_whole _ _ _ zero2 _ _).trans (blk13 t r d)).trans ((congrFun (V_main_arg12 m c) _).trans (e.dcv _ _))
  l14 h r d := ((rd_whole _ _ _ zero2 _ _).trans (blk14 t h r d)).trans ((congrFun (V_main_arg12 m c) _).trans (e.dcv _ _))
  left r k := ((rest_half _ _ _ 0 (by omega) _ r k).trans (blk15 t r _)).trans ((host_rest (host_given e) _ _).trans
    (congrArg (fun q => ((pj a (tileRow t r) q : ℝ) : EReal)) (Fin.ext (by simp only; omega))))
  right r k := ((rest_half _ _ _ 512 (by omega) _ r k).trans (blk15 t r _)).trans ((host_rest (host_given e) _ _).trans
    (congrArg (fun q => ((pj a (tileRow t r) q : ℝ) : EReal)) (Fin.ext (by simp only; omega))))
  q0 r hr l := ((tap_quarter _ _ _ 0 _ r l).trans (blk16 t 0 r l)).trans ((host_taps (host_given e) 0 r hr l).trans
    (congrArg (fun q => ((a.cw ⟨r.val, hr⟩ q : ℝ) : EReal)) (Fin.ext (Nat.zero_add _))))
  q1 r hr l := ((tap_quarter _ _ _ 1 _ r l).trans (blk16 t 1 r l)).trans (host_taps (host_given e) 1 r hr l)
  q2 r hr l := ((tap_quarter _ _ _ 2 _ r l).trans (blk16 t 2 r l)).trans (host_taps (host_given e) 2 r hr l)
  q3 r hr l := ((tap_quarter _ _ _ 3 _ r l).trans (blk16 t 3 r l)).trans (host_taps (host_given e) 3 r hr l)
  l17 f d := ((rd_whole _ _ _ zero2 _ _).trans (blk17 t f d)).trans (host_weights (host_given e) f d)
  l18 r l := ((rd_whole _ _ _ zero2 _ _).trans (blk18 t r l)).trans (host_cos _ _)
  l19 r l := ((rd_whole _ _ _ zero2 _ _).trans (blk19 t r l)).trans (host_first _ _)
  l20 r l := ((rd_whole _ _ _ zero2 _ _).trans (blk20 t r l)).trans (host_second _ _)

end Cert.Proj

end
-- ==== Proof.ProjRef.lean ====
/- The projection's reference over the reals. -/
module

public import proofs.«01_k».proof.Proof.ProjWeights
public import proofs.«01_k».proof.Proof.RefOut
public import proofs.«01_k».proof.Proof.Gen.Reference2Ideal.Run

@[expose] public section

set_option maxRecDepth 16384

noncomputable section

namespace Cert.Proj

open Cert.Reference2Ideal Cert.Reference2Ideal.Value Idealize.ShloMosaic Idealize.SL.Sem Cert.Chain

variable (W : Valuation τ sig (Elt Ideal)) (a : PArgs)

/-- The reference's arguments are those reals. -/
structure Taken : Prop where
  x : ∀ s d, W (Proc.devRef .tc main_arg0) (ix2 s d) = ((a.x s d : ℝ) : EReal)
  g : ∀ d, W (Proc.devRef .tc main_arg1) (ix1 d) = ((a.g d : ℝ) : EReal)
  w : ∀ d e, W (Proc.devRef .tc main_arg2) (ix2 d e) = ((a.w d e : ℝ) : EReal)
  cw : ∀ r c, W (Proc.devRef .tc main_arg3) (ix2 r c) = ((a.cw r c : ℝ) : EReal)
  dh : ∀ s d, W (Proc.devRef .tc main_arg4) (ix2 s d) = ((a.dh s d : ℝ) : EReal)
  dq : ∀ s c, W (Proc.devRef .tc main_arg5) (ix2 s c) = ((a.dq s c : ℝ) : EReal)
  dk : ∀ s c, W (Proc.devRef .tc main_arg6) (ix2 s c) = ((a.dk s c : ℝ) : EReal)
  dv : ∀ s c, W (Proc.devRef .tc main_arg7) (ix2 s c) = ((a.dv s c : ℝ) : EReal)
  dkh : ∀ t i c, W (Proc.devRef .tc main_arg8) (ix3 t i c) = ((a.dkh t i c : ℝ) : EReal)
  dvh : ∀ t i c, W (Proc.devRef .tc main_arg9) (ix3 t i c) = ((a.dvh t i c : ℝ) : EReal)
  dga : ∀ s c, W (Proc.devRef .tc main_arg10) (ix2 s c) = ((a.dga s c : ℝ) : EReal)
  db : ∀ s c, W (Proc.devRef .tc main_arg11) (ix2 s c) = ((a.db s c : ℝ) : EReal)
  dcv : ∀ s c, W (Proc.devRef .tc main_arg12) (ix2 s c) = ((a.dcv s c : ℝ) : EReal)
  dgc : ∀ s c, W (Proc.devRef .tc main_arg13) (ix2 s c) = ((a.dgc s c : ℝ) : EReal)

variable {W a}

theorem ref_angle (r : Fin 8192) (f : Fin 8) : res_main_v54 W (ix2 r f) = ((angle r f : ℝ) : EReal) := by
  unfold res_main_v54
  clean_types
  pointwise
  rw [sitofp_nat (by omega), sitofp_nat (by omega), rope_base, two, sixteen, ← EReal.coe_mul, ← EReal.coe_neg, div_coe _ (by norm_num)]
  show _ * (((500000 : ℝ) ^ (-(2 * (f.val : ℝ)) / 16) : ℝ) : EReal) = _
  rw [← EReal.coe_mul, angle, show -(2 * (f.val : ℝ)) / 16 = (f.val : ℝ) * (-1 / 8) by ring]

theorem ref_cos (r : Fin 8192) (f : Fin 8) : res_main_v56 W (ix4 0 r 0 f) = ((Real.cos (angle r f) : ℝ) : EReal) := by
  unfold res_main_v56
  clean_types
  pointwise
  rw [ref_angle]
  rfl

theorem ref_sin (r : Fin 8192) (f : Fin 8) : res_main_v58 W (ix4 0 r 0 f) = ((Real.sin (angle r f) : ℝ) : EReal) := by
  unfold res_main_v58
  clean_types
  pointwise
  rw [ref_angle]
  rfl

theorem ref_msq (e : Taken W a) (s : Fin 8192) : res_main_v18 W (ix2 s 0) = ((msq a s : ℝ) : EReal) := by
  unfold res_main_v18
  clean_types
  pointwise
  rw [eps_word, thousand]
  simp only [e.x]
  rw [sum_mul_of (fun d => ((a.x s d : ℝ) : EReal)) (fun d => ((a.x s d : ℝ) : EReal)) (a.x s) (a.x s) (fun _ => rfl) (fun _ => rfl), div_coe _ (by norm_num), ← EReal.coe_add]
  rfl

theorem ref_inv (e : Taken W a) (s : Fin 8192) : res_main_v19 W (ix2 s 0) = ((inv a s : ℝ) : EReal) := by
  unfold res_main_v19
  clean_types
  pointwise
  rw [ref_msq e, rsqrt_pos (msq_pos a s)]
  rfl

theorem ref_norm (e : Taken W a) (s : Fin 8192) (d : Fin 1024) : res_main_v24 W (ix2 s d) = ((xr a s d : ℝ) : EReal) := by
  unfold res_main_v24
  clean_types
  pointwise
  rw [e.x, ref_inv e, ← EReal.coe_mul]
  rfl

theorem ref_scaled (e : Taken W a) (s : Fin 8192) (d : Fin 1024) : res_main_v27 W (ix2 s d) = ((xr a s d * a.g d : ℝ) : EReal) := by
  unfold res_main_v27 res_main_v25
  clean_types
  pointwise
  rw [ref_norm e, e.g, ← EReal.coe_mul]

theorem ref_pj (e : Taken W a) (s : Fin 8192) (c : Fin 3328) : res_main_v28 W (ix2 s c) = ((pj a s c : ℝ) : EReal) := by
  unfold res_main_v28
  clean_types
  pointwise
  refine sum_of _ _ fun d => ?_
  rw [ref_scaled e, e.w, ← EReal.coe_mul]

theorem ref_left (e : Taken W a) (s : Fin 8192) (c : Fin 512) : res_main_v34 W (ix2 s c) = ((pj a s ⟨c.val + 1792, by omega⟩ : ℝ) : EReal) := by
  unfold res_main_v34
  clean_types
  pointwise
  rw [ref_pj e]
  exact congrArg (fun v => ((pj a s v : ℝ) : EReal)) (Fin.ext (Nat.add_comm _ _))

theorem ref_right (e : Taken W a) (s : Fin 8192) (c : Fin 512) : res_main_v35 W (ix2 s c) = ((pj a s ⟨c.val + 2304, by omega⟩ : ℝ) : EReal) := by
  unfold res_main_v35
  clean_types
  pointwise
  rw [ref_pj e]
  exact congrArg (fun v => ((pj a s v : ℝ) : EReal)) (Fin.ext (Nat.add_comm _ _))

/-- The convolution's cotangent's three shifts. -/
theorem ref_du (e : Taken W a) (s : Fin 8192) (c : Fin 512) : res_main_v116 W (ix2 s c) = ((du a s c : ℝ) : EReal) := by
  unfold res_main_v116 res_main_v113 res_main_v97 res_main_v90 res_main_v84 res_main_v102
  clean_types
  pointwise
  simp only [Finset.univ_unique, Finset.sum_singleton, e.cw, e.dcv]
  unfold du later
  have hs := s.isLt
  rw [← EReal.coe_mul, EReal.coe_add, EReal.coe_add]
  refine congrArg₂ (· + ·) (congrArg₂ (· + ·) rfl ?_) ?_
  · by_cases h : s.val + 1 < 8192
    · rw [dif_pos (by omega), dif_pos h, ← EReal.coe_mul]
      exact congrArg (fun v => ((a.cw 1 c * a.dcv v c : ℝ) : EReal)) (Fin.ext (by first | omega | (simp only; omega)))
    · rw [dif_neg (by omega), dif_neg h, mul_zero]
      rfl
  · by_cases h : s.val + 2 < 8192
    · rw [dif_pos (by omega), dif_pos h, ← EReal.coe_mul]
      exact congrArg (fun v => ((a.cw 0 c * a.dcv v c : ℝ) : EReal)) (Fin.ext (by first | omega | (simp only; omega)))
    · rw [dif_neg (by omega), dif_neg h, mul_zero]
      rfl

/-- What the tile before passes on is added to its last rows, -/
def haloOf (x : FVec Ideal S8192x128 .f32) (y : FVec Ideal S16x128x128 .f32) : FVec Ideal S8192x128 .f32 :=
  addf x (shapeCast S8192x128 (pad S16x512x128 ![0, 384, 0] ![1, 0, 0] ![0, 0, 0] (extractStridedSlice S15x128x128 ![1, 0, 0] y Gen.slices_S16x128x128_S15x128x128_1_0_0) (sitofp (F := Ideal) .f32 (constantI S_ 32 0#32)) Gen.pads_S15x128x128_S16x512x128_010_38400_000 Gen.h_S_) Gen.shapeCasts_S16x512x128_S8192x128)

theorem halo_val (x : FVec Ideal S8192x128 .f32) (y : FVec Ideal S16x128x128 .f32) (f : Fin 8192 → Fin 128 → ℝ) (u : Fin 16 → Fin 128 → Fin 128 → ℝ)
    (hx : ∀ s c, x (ix2 s c) = ((f s c : ℝ) : EReal)) (hy : ∀ t i c, y (ix3 t i c) = ((u t i c : ℝ) : EReal)) (s : Fin 8192) (c : Fin 128) :
    haloOf x y (ix2 s c) = ((withHalo f u s c : ℝ) : EReal) := by
  unfold haloOf
  pointwise
  unfold withHalo
  refine Eq.trans ?_ (EReal.coe_add _ _).symm
  refine congrArg₂ (· + ·) (hx s c) ?_
  by_cases h : 384 ≤ s.val % 512 ∧ s.val / 512 + 1 < 16
  · rw [dif_pos (by omega), dif_pos h, hy]
    exact congrArg (fun v => ((u v ⟨s.val % 512 - 384, by omega⟩ c : ℝ) : EReal)) (Fin.ext (Nat.add_comm _ _))
  · rw [dif_neg (by omega), dif_neg h]
    exact (sitofp_nat (n := 0) (by omega)).trans (by norm_num)

/-- the keys' heads side by side, -/
theorem keys_heads (x : FVec Ideal S8192x128 .f32) (s : Fin 8192) (g : Fin 2) (k : Fin 64) :
    shapeCast S1x8192x2x64 x Gen.shapeCasts_S8192x128_S1x8192x2x64 (ix4 0 s g k) = x (ix2 s ⟨g.val * 64 + k.val, by omega⟩) := by
  pointwise

theorem keys_row (z : FVec Ideal S1x8192x2x64 .f32) (r : Fin 8192) (l : Fin 128) :
    shapeCast S8192x128 z Gen.shapeCasts_S1x8192x2x64_S8192x128 (ix2 r l) = z (ix4 0 r ⟨l.val / 64, by omega⟩ ⟨l.val % 64, by omega⟩) := by
  pointwise

theorem keys_first (p q : FVec Ideal S1x8192x2x8 .f32) (r : Fin 8192) (h : Fin 2) (k : Fin 16) :
    addf (pad S1x8192x2x16 ![0, 0, 0, 8] ![0, 0, 0, 0] ![0, 0, 0, 0] p (constant S_ .f32 0x00000000#32) Gen.pads_S1x8192x2x8_S1x8192x2x16_000_000_000_800 Gen.h_S_) (pad S1x8192x2x16 ![0, 0, 0, 0] ![0, 0, 0, 8] ![0, 0, 0, 0] q (constant S_ .f32 0x00000000#32) Gen.pads_S1x8192x2x8_S1x8192x2x16_000_000_000_080 Gen.h_S_) (ix4 0 r h k)
      = if hk : k.val < 8 then q (ix4 0 r h ⟨k.val, hk⟩) else p (ix4 0 r h ⟨k.val - 8, by omega⟩) := by
  pointwise
  by_cases hk : k.val < 8
  · rw [dif_neg (by omega), dif_pos hk, dif_pos hk, zero_add]
  · rw [dif_pos (by omega), dif_neg hk, dif_neg hk, add_zero]

theorem keys_whole (x : FVec Ideal S1x8192x2x64 .f32) (p : FVec Ideal S1x8192x2x16 .f32) (r : Fin 8192) (h : Fin 2) (k : Fin 64) :
    addf (pad S1x8192x2x64 ![0, 0, 0, 16] ![0, 0, 0, 0] ![0, 0, 0, 0] (extractStridedSlice S1x8192x2x48 ![0, 0, 0, 16] x Gen.slices_S1x8192x2x64_S1x8192x2x48_0_0_0_16) (constant S_ .f32 0x00000000#32) Gen.pads_S1x8192x2x48_S1x8192x2x64_000_000_000_1600 Gen.h_S_) (pad S1x8192x2x64 ![0, 0, 0, 0] ![0, 0, 0, 48] ![0, 0, 0, 0] p (constant S_ .f32 0x00000000#32) Gen.pads_S1x8192x2x16_S1x8192x2x64_000_000_000_0480 Gen.h_S_) (ix4 0 r h k)
      = if hk : k.val < 16 then p (ix4 0 r h ⟨k.val, hk⟩) else x (ix4 0 r h k) := by
  pointwise
  by_cases hk : k.val < 16
  · rw [dif_neg (by omega), dif_pos hk, dif_pos hk, zero_add]
  · have ek : (⟨16 + (k.val - 16), by omega⟩ : Fin 64) = k := Fin.ext (by simp only; omega)
    rw [dif_pos (by omega), dif_neg hk, dif_neg hk, add_zero, ek]

theorem keys_high (u v : FVec Ideal S1x8192x2x8 .f32) (c s : FVec Ideal S1x8192x1x8 .f32) (r : Fin 8192) (h : Fin 2) (f : Fin 8) :
    addf (mulf v (broadcastInDim S1x8192x2x8 ![0, 1, 2, 3] Gen.bcast_S1x8192x1x8_S1x8192x2x8_0_1_2_3 c)) (mulf (Host.negf u) (broadcastInDim S1x8192x2x8 ![0, 1, 2, 3] Gen.bcast_S1x8192x1x8_S1x8192x2x8_0_1_2_3 s)) (ix4 0 r h f)
      = v (ix4 0 r h f) * c (ix4 0 r 0 f) + (Neg.neg (α := EReal) (u (ix4 0 r h f))) * s (ix4 0 r 0 f) := by
  pointwise

theorem keys_low (u v : FVec Ideal S1x8192x2x8 .f32) (c s : FVec Ideal S1x8192x1x8 .f32) (r : Fin 8192) (h : Fin 2) (f : Fin 8) :
    addf (mulf v (broadcastInDim S1x8192x2x8 ![0, 1, 2, 3] Gen.bcast_S1x8192x1x8_S1x8192x2x8_0_1_2_3 s)) (mulf u (broadcastInDim S1x8192x2x8 ![0, 1, 2, 3] Gen.bcast_S1x8192x1x8_S1x8192x2x8_0_1_2_3 c)) (ix4 0 r h f)
      = v (ix4 0 r h f) * s (ix4 0 r 0 f) + u (ix4 0 r h f) * c (ix4 0 r 0 f) := by
  pointwise

/-- and their rope's transpose. -/
def unropeOf (x : FVec Ideal S1x8192x2x64 .f32) (u v : FVec Ideal S1x8192x2x8 .f32) (c s : FVec Ideal S1x8192x1x8 .f32) : FVec Ideal S8192x128 .f32 :=
  shapeCast S8192x128 (addf (pad S1x8192x2x64 ![0, 0, 0, 16] ![0, 0, 0, 0] ![0, 0, 0, 0] (extractStridedSlice S1x8192x2x48 ![0, 0, 0, 16] x Gen.slices_S1x8192x2x64_S1x8192x2x48_0_0_0_16) (constant S_ .f32 0x00000000#32) Gen.pads_S1x8192x2x48_S1x8192x2x64_000_000_000_1600 Gen.h_S_) (pad S1x8192x2x64 ![0, 0, 0, 0] ![0, 0, 0, 48] ![0, 0, 0, 0] (addf (pad S1x8192x2x16 ![0, 0, 0, 8] ![0, 0, 0, 0] ![0, 0, 0, 0] (addf (mulf v (broadcastInDim S1x8192x2x8 ![0, 1, 2, 3] Gen.bcast_S1x8192x1x8_S1x8192x2x8_0_1_2_3 c)) (mulf (Host.negf u) (broadcastInDim S1x8192x2x8 ![0, 1, 2, 3] Gen.bcast_S1x8192x1x8_S1x8192x2x8_0_1_2_3 s))) (constant S_ .f32 0x00000000#32) Gen.pads_S1x8192x2x8_S1x8192x2x16_000_000_000_800 Gen.h_S_) (pad S1x8192x2x16 ![0, 0, 0, 0] ![0, 0, 0, 8] ![0, 0, 0, 0] (addf (mulf v (broadcastInDim S1x8192x2x8 ![0, 1, 2, 3] Gen.bcast_S1x8192x1x8_S1x8192x2x8_0_1_2_3 s)) (mulf u (broadcastInDim S1x8192x2x8 ![0, 1, 2, 3] Gen.bcast_S1x8192x1x8_S1x8192x2x8_0_1_2_3 c))) (constant S_ .f32 0x00000000#32) Gen.pads_S1x8192x2x8_S1x8192x2x16_000_000_000_080 Gen.h_S_)) (constant S_ .f32 0x00000000#32) Gen.pads_S1x8192x2x16_S1x8192x2x64_000_000_000_0480 Gen.h_S_)) Gen.shapeCasts_S1x8192x2x64_S8192x128

theorem unrope_val (x : FVec Ideal S1x8192x2x64 .f32) (u v : FVec Ideal S1x8192x2x8 .f32) (c s : FVec Ideal S1x8192x1x8 .f32) (y : Fin 8192 → Fin 2 → Fin 64 → ℝ)
    (hx : ∀ r h k, x (ix4 0 r h k) = ((y r h k : ℝ) : EReal)) (hu : ∀ r h f, u (ix4 0 r h f) = ((y r h ⟨f.val, by omega⟩ : ℝ) : EReal))
    (hv : ∀ r h f, v (ix4 0 r h f) = ((y r h ⟨f.val + 8, by omega⟩ : ℝ) : EReal)) (hc : ∀ r f, c (ix4 0 r 0 f) = ((Real.cos (angle r f) : ℝ) : EReal))
    (hs : ∀ r f, s (ix4 0 r 0 f) = ((Real.sin (angle r f) : ℝ) : EReal)) (r : Fin 8192) (l : Fin 128) :
    unropeOf x u v c s (ix2 r l) = ((unroped (y r ⟨l.val / 64, by omega⟩) r ⟨l.val % 64, by omega⟩ : ℝ) : EReal) := by
  unfold unropeOf
  rw [keys_row, keys_whole]
  unfold unroped
  by_cases h1 : l.val % 64 < 8
  · rw [dif_pos (show l.val % 64 < 16 by omega), keys_first, dif_pos h1, dif_pos h1, keys_low, hu, hv, hc, hs, add_comm, ← EReal.coe_mul, ← EReal.coe_mul, ← EReal.coe_add]
  · by_cases h2 : l.val % 64 < 16
    · rw [dif_pos h2, keys_first, dif_neg h1, dif_neg h1, dif_pos h2, keys_high, hu, hv, hc, hs, EReal.coe_sub, EReal.coe_mul, EReal.coe_mul, EReal.neg_mul, ← sub_eq_add_neg]
      have e1 : (⟨l.val % 64 - 8 + 8, by omega⟩ : Fin 64) = ⟨l.val % 64, by omega⟩ := Fin.ext (by simp only; omega)
      rw [e1]
    · rw [dif_neg h2, dif_neg h1, dif_neg h2, hx]

/-- The keys' cotangent with its block's, by head and lane. -/
def haloKey (a : PArgs) (s : Fin 8192) (g : Fin 2) (k : Fin 64) : ℝ := withHalo a.dk a.dkh s ⟨g.val * 64 + k.val, by omega⟩

theorem ref_haloKey (e : Taken W a) (s : Fin 8192) (g : Fin 2) (k : Fin 64) : res_main_v119 W (ix4 0 s g k) = ((haloKey a s g k : ℝ) : EReal) :=
  ((congrFun (rfl : res_main_v119 W = shapeCast S1x8192x2x64 (haloOf (W (Proc.devRef .tc main_arg6)) (W (Proc.devRef .tc main_arg8))) Gen.shapeCasts_S8192x128_S1x8192x2x64) _).trans
    (keys_heads _ s g k)).trans (halo_val _ _ a.dk a.dkh e.dk e.dkh s _)

theorem ref_keyLow (e : Taken W a) (s : Fin 8192) (g : Fin 2) (f : Fin 8) : res_main_v123 W (ix4 0 s g f) = ((haloKey a s g ⟨f.val, by omega⟩ : ℝ) : EReal) := by
  unfold res_main_v123 res_main_v120
  clean_types
  pointwise
  exact ref_haloKey e _ _ _

theorem ref_keyHigh (e : Taken W a) (s : Fin 8192) (g : Fin 2) (f : Fin 8) : res_main_v124 W (ix4 0 s g f) = ((haloKey a s g ⟨f.val + 8, by omega⟩ : ℝ) : EReal) := by
  unfold res_main_v124 res_main_v120
  clean_types
  pointwise
  rw [ref_haloKey e]
  exact congrArg (fun k => ((haloKey a s g k : ℝ) : EReal)) (Fin.ext (Nat.add_comm _ _))

theorem ref_unroped (e : Taken W a) (s : Fin 8192) (l : Fin 128) :
    unropeOf (res_main_v119 W) (res_main_v123 W) (res_main_v124 W) (res_main_v56 W) (res_main_v58 W) (ix2 s l) = ((unropedKey a s l : ℝ) : EReal) := by
  rw [unrope_val _ _ _ _ _ (haloKey a) (ref_haloKey e) (ref_keyLow e) (ref_keyHigh e) ref_cos ref_sin]
  unfold unropedKey haloKey
  exact congrArg (fun y => ((unroped y s ⟨l.val % 64, by omega⟩ : ℝ) : EReal)) (funext fun k => congrArg (withHalo a.dk a.dkh s) (Fin.ext (by show l.val / 64 * 64 + k.val = 64 * (l.val / 64) + k.val; omega)))

/-- The eight cotangents side by side. -/
def besideOf (p : FVec Ideal S8192x512 .f32) (q r : FVec Ideal S8192x128 .f32) (s t u v w : FVec Ideal S8192x512 .f32) : FVec Ideal S8192x3328 .f32 :=
  concatenate S8192x3328 1 [⟨S8192x512, p⟩, ⟨S8192x128, q⟩, ⟨S8192x128, r⟩, ⟨S8192x512, s⟩, ⟨S8192x512, t⟩, ⟨S8192x512, u⟩, ⟨S8192x512, v⟩, ⟨S8192x512, w⟩]
    Gen.concatenates_S8192x512_S8192x128_S8192x128_S8192x512_S8192x512_S8192x512_S8192x512_S8192x512_S8192x3328_d1

theorem beside_val (p : FVec Ideal S8192x512 .f32) (q r : FVec Ideal S8192x128 .f32) (s t u v w : FVec Ideal S8192x512 .f32) (i : Fin 8192) (e : Fin 3328) :
    besideOf p q r s t u v w (ix2 i e) = if h : e.val < 512 then p (ix2 i ⟨e.val, h⟩)
      else if h : e.val < 640 then q (ix2 i ⟨e.val - 512, by omega⟩)
      else if h : e.val < 768 then r (ix2 i ⟨e.val - 640, by omega⟩)
      else if h : e.val < 1280 then s (ix2 i ⟨e.val - 768, by omega⟩)
      else if h : e.val < 1792 then t (ix2 i ⟨e.val - 1280, by omega⟩)
      else if h : e.val < 2304 then u (ix2 i ⟨e.val - 1792, by omega⟩)
      else if h : e.val < 2816 then v (ix2 i ⟨e.val - 2304, by omega⟩)
      else w (ix2 i ⟨e.val - 2816, by omega⟩) := by
  unfold besideOf
  pointwise
  refine dite_congr rfl (fun h => rfl) fun h => ?_
  refine dite_congr (propext (by omega)) (fun h => rfl) fun h => ?_
  refine dite_congr (propext (by omega)) (fun h => congrArg (fun v => r (ix2 i v)) (Fin.ext (Nat.sub_sub _ _ _))) fun h => ?_
  refine dite_congr (propext (by omega)) (fun h => congrArg (fun v => s (ix2 i v)) (Fin.ext (by simp only [Nat.sub_sub]))) fun h => ?_
  refine dite_congr (propext (by omega)) (fun h => congrArg (fun v => t (ix2 i v)) (Fin.ext (by simp only [Nat.sub_sub]))) fun h => ?_
  refine dite_congr (propext (by omega)) (fun h => congrArg (fun v => u (ix2 i v)) (Fin.ext (by simp only [Nat.sub_sub]))) fun h => ?_
  refine dite_congr (propext (by omega)) (fun h => congrArg (fun y => v (ix2 i y)) (Fin.ext (by simp only [Nat.sub_sub]))) fun h => ?_
  exact congrArg (fun v => w (ix2 i v)) (Fin.ext (by simp only [Nat.sub_sub]))

def backOf (p : FVec Ideal S8192x3328 .f32) (w : FVec Ideal S1024x3328 .f32) : FVec Ideal S8192x1024 .f32 :=
  Host.dotGeneral dot_S8192x3328_S1024x3328_S8192x1024_1_1_0_0_n_n none p w

theorem back_val (p : FVec Ideal S8192x3328 .f32) (w : FVec Ideal S1024x3328 .f32) (s : Fin 8192) (d : Fin 1024) :
    backOf p w (ix2 s d) = ∑ e : Fin 3328, @HMul.hMul EReal EReal EReal _ (p (ix2 s e)) (w (ix2 d e)) := by
  unfold backOf
  pointwise

def cotangentOf (W : Valuation τ sig (Elt Ideal)) : FVec Ideal S8192x3328 .f32 :=
  besideOf (extf .f32 (W (Proc.devRef .tc main_arg5)) Gen.bitsLt_bf16_f32) (unropeOf (res_main_v119 W) (res_main_v123 W) (res_main_v124 W) (res_main_v56 W) (res_main_v58 W))
    (haloOf (W (Proc.devRef .tc main_arg7)) (W (Proc.devRef .tc main_arg9))) (extf .f32 (W (Proc.devRef .tc main_arg10)) Gen.bitsLt_bf16_f32)
    (extf .f32 (W (Proc.devRef .tc main_arg11)) Gen.bitsLt_bf16_f32) (mulf (res_main_v116 W) (res_main_v35 W)) (mulf (res_main_v34 W) (res_main_v116 W))
    (extf .f32 (W (Proc.devRef .tc main_arg13)) Gen.bitsLt_bf16_f32)

theorem ref_cotangent (e : Taken W a) (s : Fin 8192) (c : Fin 3328) : cotangentOf W (ix2 s c) = ((dp a s c : ℝ) : EReal) := by
  unfold cotangentOf
  rw [beside_val]
  unfold dp
  split_ifs with h1 h2 h3 h4 h5 h6 h7
  · exact e.dq _ _
  · exact ref_unroped e _ _
  · exact halo_val _ _ a.dv a.dvh e.dv e.dvh s _
  · exact e.dga _ _
  · exact e.db _ _
  · refine (mulf_apply _ _ _).trans ?_
    rw [ref_du e, ref_right e, EReal.coe_mul]
    exact congrArg (fun v => ((du a s ⟨c.val - 1792, by omega⟩ : ℝ) : EReal) * ((pj a s v : ℝ) : EReal)) (Fin.ext (by first | omega | (simp only; omega)))
  · refine (mulf_apply _ _ _).trans ?_
    rw [ref_du e, ref_left e, EReal.coe_mul]
    refine (mul_comm _ _).trans (congrArg (fun v => ((du a s ⟨c.val - 2304, by omega⟩ : ℝ) : EReal) * ((pj a s v : ℝ) : EReal)) ?_)
    exact Fin.ext (by show c.val - 2304 + 1792 = c.val - 512; omega)
  · exact e.dgc _ _

theorem ref_back (e : Taken W a) (s : Fin 8192) (d : Fin 1024) : backOf (cotangentOf W) (W (Proc.devRef .tc main_arg2)) (ix2 s d) = ((∑ c : Fin 3328, dp a s c * a.w d c : ℝ) : EReal) :=
  (back_val _ _ s d).trans (sum_mul_of _ _ _ _ (fun c => ref_cotangent e s c) (fun c => e.w d c))

def scaledOf (p : FVec Ideal S8192x1024 .f32) (g : FVec Ideal S1024 .f32) : FVec Ideal S8192x1024 .f32 :=
  mulf p (broadcastInDim S8192x1024 ![0, 1] Gen.bcast_S1x1024_S8192x1024_0_1 (broadcastInDim S1x1024 ![1] Gen.bcast_S1024_S1x1024_1 g))

theorem scaled_val (p : FVec Ideal S8192x1024 .f32) (g : FVec Ideal S1024 .f32) (s : Fin 8192) (d : Fin 1024) :
    scaledOf p g (ix2 s d) = @HMul.hMul EReal EReal EReal _ (p (ix2 s d)) (g (ix1 d)) := by
  unfold scaledOf
  pointwise

theorem ref_dg (e : Taken W a) (s : Fin 8192) (d : Fin 1024) : res_main_v150 W (ix2 s d) = ((dg a s d : ℝ) : EReal) := by
  have h : res_main_v150 W = scaledOf (backOf (cotangentOf W) (W (Proc.devRef .tc main_arg2))) (W (Proc.devRef .tc main_arg1)) := rfl
  rw [h, scaled_val, ref_back e, e.g]
  exact (EReal.coe_mul _ _).symm

theorem half : Ideal.ofBits .f32 0xBF000000#32 = ((-1 / 2 : ℝ) : EReal) := by
  simp [Ideal.ofBits, Ideal.ieee, -EReal.coe_mul]; norm_num

theorem ref_row (e : Taken W a) (s : Fin 8192) (d : Fin 1024) :
    res_main_v162 W (ix2 s d) = (((∑ d' : Fin 1024, a.x s d' * dg a s d') * (-1 / 2 * (inv a s / msq a s)) / 1024 : ℝ) : EReal) := by
  unfold res_main_v162
  clean_types
  pointwise
  simp only [Finset.univ_unique, Finset.sum_singleton]
  have hs : ∑ d' : Fin 1024, @HMul.hMul EReal EReal EReal _ (W (Proc.devRef .tc main_arg0) (ix2 s d')) (res_main_v150 W (ix2 s d')) = ((∑ d' : Fin 1024, a.x s d' * dg a s d' : ℝ) : EReal) :=
    sum_mul_of _ _ _ _ (fun d' => e.x s d') (fun d' => ref_dg e s d')
  have hm : res_main_v18 W (ix2 s default) = ((msq a s : ℝ) : EReal) := ref_msq e s
  have hi : res_main_v19 W (ix2 s default) = ((inv a s : ℝ) : EReal) := ref_inv e s
  rw [half, thousand, hm, hi, div_coe _ (msq_pos a s).ne', ← EReal.coe_mul]
  refine (congrArg (fun z : EReal => Ideal.div (z * _) _) hs).trans ?_
  rw [← EReal.coe_mul, div_coe _ (by norm_num)]

/-- The reference's result. -/
def refOut (W : Valuation τ sig (Elt Ideal)) : FVec Ideal S8192x1024 .f32 :=
  addf (addf (addf (W (Proc.devRef .tc main_arg4)) (mulf (res_main_v150 W) (broadcastInDim S8192x1024 ![0, 1] Gen.bcast_S8192x1_S8192x1024_0_1 (res_main_v19 W)))) (mulf (W (Proc.devRef .tc main_arg0)) (res_main_v162 W))) (mulf (res_main_v162 W) (W (Proc.devRef .tc main_arg0)))

theorem ref_out (e : Taken W a) : refOut W = fun x => ((gx a (x 0) (x 1) : ℝ) : EReal) := by
  funext x
  obtain ⟨s, d, rfl⟩ : ∃ s d, x = ix2 s d := ⟨x 0, x 1, eq_ix2 x⟩
  unfold refOut
  clean_types
  pointwise
  rw [ref_dg e, ref_inv e, ref_row e, e.dh, e.x, ← EReal.coe_mul, ← EReal.coe_mul, ← EReal.coe_mul, ← EReal.coe_add, ← EReal.coe_add, ← EReal.coe_add, gx_eq]
  try rfl

/-- The weights' gradient, transposed, as the reference forms it, -/
def weightsOf (p : FVec Ideal S8192x3328 .f32) (q : FVec Ideal S8192x1024 .f32) : FVec Ideal S3328x1024 .f32 :=
  transpose S3328x1024 [1, 0] (transpose S1024x3328 [1, 0] (Host.dotGeneral dot_S8192x3328_S8192x1024_S3328x1024_0_0_1_1_n_n none p q) Gen.transposes_S3328x1024_S1024x3328_1_0) Gen.transposes_S1024x3328_S3328x1024_1_0

theorem weights_val (p : FVec Ideal S8192x3328 .f32) (q : FVec Ideal S8192x1024 .f32) (f : Fin 3328) (d : Fin 1024) :
    weightsOf p q (ix2 f d) = ∑ s : Fin 8192, @HMul.hMul EReal EReal EReal _ (p (ix2 s f)) (q (ix2 s d)) := by
  unfold weightsOf
  pointwise

theorem ref_weights (e : Taken W a) : weightsOf (res_main_v142 W) (res_main_v27 W) = fun x => ((gw a (x 0) (x 1) : ℝ) : EReal) := by
  funext x
  obtain ⟨f, d, rfl⟩ : ∃ f d, x = ix2 f d := ⟨x 0, x 1, eq_ix2 x⟩
  have h : res_main_v142 W = cotangentOf W := rfl
  rw [weights_val, h]
  exact sum_mul_of _ _ (fun s => dp a s f) (fun s => xr a s d * a.g d) (fun s => ref_cotangent e s f) (fun s => ref_scaled e s d)

/-- and the scale's, in the first of eight rows. -/
def smallOf (p q : FVec Ideal S8192x1024 .f32) : FVec Ideal S8x1024 .f32 :=
  pad S8x1024 ![0, 0] ![7, 0] ![0, 0] (broadcastInDim S1x1024 ![1] Gen.bcast_S1024_S1x1024_1 (Host.reduceAdd (shapeCast S1x1024 (Host.reduceAdd (mulf p q) (constant S_ .f32 0x00000000#32) Gen.reducesTo_S8192x1024_S1024_d0 Gen.h_S_) Gen.shapeCasts_S1024_S1x1024) (constant S_ .f32 0x00000000#32) Gen.reducesTo_S1x1024_S1024_d0 Gen.h_S_)) (sitofp (F := Ideal) .f32 (constantI S_ 32 0#32)) Gen.pads_S1x1024_S8x1024_070_000 Gen.h_S_

theorem small_val (p q : FVec Ideal S8192x1024 .f32) (r : Fin 8) (d : Fin 1024) :
    smallOf p q (ix2 r d) = if r.val = 0 then ∑ s : Fin 8192, @HMul.hMul EReal EReal EReal _ (p (ix2 s d)) (q (ix2 s d)) else 0 := by
  unfold smallOf
  pointwise
  by_cases hr : r.val = 0
  · rw [dif_pos (by omega), if_pos hr, Finset.univ_unique, Finset.sum_singleton]
  · rw [dif_neg (by omega), if_neg hr]
    exact (sitofp_nat (n := 0) (by omega)).trans (by norm_num)

theorem ref_small (e : Taken W a) : smallOf (res_main_v24 W) (res_main_v145 W) = fun x => ((gnRow a (x 0) (x 1) : ℝ) : EReal) := by
  funext x
  obtain ⟨r, d, rfl⟩ : ∃ r d, x = ix2 r d := ⟨x 0, x 1, eq_ix2 x⟩
  have h : res_main_v145 W = backOf (cotangentOf W) (W (Proc.devRef .tc main_arg2)) := rfl
  rw [small_val, h]
  show _ = ((gnRow a r d : ℝ) : EReal)
  unfold gnRow
  split_ifs
  · refine (sum_mul_of _ _ (fun s => xr a s d) (fun s => back a s d) (fun s => ref_norm e s d) (fun s => ref_back e s d)).trans (congrArg _ ?_)
    exact Finset.sum_congr rfl fun s _ => mul_comm _ _
  · rfl

end Cert.Proj

end
-- ==== Proof.ProjDone.lean ====
/- The kernel's gradients of the projection's input, weights and scale are the reference's. -/
module

public import proofs.«01_k».proof.Proof.ProjFrame
public import proofs.«01_k».proof.Proof.ProjOut
public import proofs.«01_k».proof.Proof.ProjLoads
public import proofs.«01_k».proof.Proof.ProjRef

@[expose] public section

set_option maxRecDepth 16384

noncomputable section

namespace Cert.Proj

open Idealize.ShloMosaic Idealize.SL.Sem Cert.Chain

/-- The gradients of the projection's input, of its weights and of the norm's scale, as arrays. -/
def gradArr (a : PArgs) : Cert.Kernel2Ideal.S8192x1024.Idx → EReal := fun x => ((gx a (x 0) (x 1) : ℝ) : EReal)
def weightArr (a : PArgs) : Cert.Kernel2Ideal.S3328x1024.Idx → EReal := fun x => ((gw a (x 0) (x 1) : ℝ) : EReal)
def scaleArr (a : PArgs) : Cert.Kernel2Ideal.S8x1024.Idx → EReal := fun x => ((gnRow a (x 0) (x 1) : ℝ) : EReal)

section
open Cert.Kernel2Ideal Cert.Kernel2Ideal.Gen

variable {m : (ℓ : Loc nD τ sig) → Buf (Elt Ideal) ℓ} {c : Dev nD} {a : PArgs} (e : Given m c a)

theorem coord (t : Fin 16) : ((grid0.coords t) 0).val = t.val :=
  have e0 : ((grid0.coords t) 0).val = t.val / 1 % 16 := Pipeline.Grid.coords_val (G := grid0) t 0 (by decide) rfl
  e0.trans (by omega)

include e in
theorem tile_at (t : Fin 16) (y : S512x1024.Idx) : tile m c t y = gradArr a (ix2 (tileRow t (y 0)) (y 1)) := by
  unfold tile
  exact (congrArg (stored (grid0.coords t) (loads m c t)) (eq_ix2 y)).trans (stored_real (grid0.coords t) (coord t) (loads_real e t) (y 0) (y 1))

theorem emb_tile (t : Fin 16) (y : S512x1024.Idx) : ((win0_21.blk t).view.emb y : S8192x1024.Idx) = ix2 (tileRow t (y 0)) (y 1) :=
  (congrArg (fun z : S512x1024.Idx => ((win0_21.blk t).view.emb z : S8192x1024.Idx)) (eq_ix2 y)).trans (emb21 t t.isLt (y 0) (y 1))

include e in
theorem grad_left : (dats m 0 c).arrAt 21 cfg0.N = gradArr a := by
  refine (dats m 0 c).arrAt_eq_of_covers 21 _ (by decide +kernel) fun t hf y => ?_
  rw [after_21]
  have h := tile_at e t y
  generalize tile m c t = x at h ⊢
  exact h.trans (congrArg (gradArr a) (emb_tile t y)).symm

include e in
theorem acc_at : ∀ n : ℕ, n ≤ 16 → accAt m c n = accArr a n
  | 0, _ => by
    unfold accAt
    exact funext fun x => (pay2_at x).trans (congrArg (fun u : ℝ => (u : EReal)) (upTo_zero _).symm)
  | n + 1, hn => by
    have h := acc_at n (by omega)
    let t : Fin cfg0.N := (⟨n, by omega⟩ : Fin 16)
    exact (accAt_succ m c t).trans (acc_real (grid0.coords t) (coord ⟨n, by omega⟩) (loads_real e ⟨n, by omega⟩) (accAt m c n) h)

include e in
theorem sums_at : ∀ n : ℕ, n ≤ 16 → sumsAt m c n = sumArr a n
  | 0, _ => by
    unfold sumsAt
    refine funext fun x => (pay1_at x).trans (congrArg (fun u : ℝ => (u : EReal)) ?_)
    split_ifs
    · exact (upTo_zero _).symm
    · rfl
  | n + 1, hn => by
    have h := sums_at n (by omega)
    let t : Fin cfg0.N := (⟨n, by omega⟩ : Fin 16)
    exact (sumsAt_succ m c t).trans (sums_real (grid0.coords t) (coord ⟨n, by omega⟩) (loads_real e ⟨n, by omega⟩) (sumsAt m c n) h)

theorem acc_all : accArr a 16 = weightArr a := funext fun _ => congrArg (fun u : ℝ => (u : EReal)) (upTo_all _)
theorem sums_all : sumArr a 16 = scaleArr a := funext fun x => by
  unfold sumArr scaleArr gnRow gn
  rw [upTo_all]

theorem sums_index : ∀ t : Fin grid0.N, win0_22.index t (0 : Fin 2) = 0 ∧ win0_22.index t (1 : Fin 2) = 0 := by
  decide +kernel

theorem emb_sums (t : Fin grid0.N) (y : S8x1024.Idx) : ((win0_22.blk t).view.emb y : S8x1024.Idx) = y := by
  obtain ⟨e0, e1⟩ := sums_index t
  refine funext fun (a : Fin 2) => Fin.ext ((Pipeline.Window.rect_emb_val win0_22 t _ a rfl).trans ?_)
  match a with
  | 0 => rw [e0]; exact (congrArg (· + (y 0).val) (Nat.zero_mul 8)).trans (Nat.zero_add _)
  | 1 => rw [e1]; exact (congrArg (· + (y 1).val) (Nat.zero_mul 1024)).trans (Nat.zero_add _)

include e in
theorem scale_left : (dats m 0 c).arrAt 22 cfg0.N = scaleArr a := by
  refine (dats m 0 c).arrAt_eq_of_covers 22 _ (by decide +kernel) fun t hf y => ?_
  have ht : t.val < 16 := Nat.lt_of_lt_of_eq t.isLt N_0
  have h15 : t.val = 15 := by have := (flush0_22 t).mp hf; omega
  rw [after_22, h15]
  have h := congrFun ((sums_at e 16 (by omega)).trans sums_all) y
  generalize sumsAt m c (15 + 1) = x at h ⊢
  exact h.trans (congrArg (scaleArr a) (emb_sums t y)).symm
end

/-- The kernel's run: the three gradients, and its arguments kept. -/
theorem kernel_run (m : (ℓ : Loc Cert.Kernel2Ideal.nD Cert.Kernel2Ideal.τ Cert.Kernel2Ideal.sig) → Buf (Elt Ideal) ℓ) (ρ : Dev Cert.Kernel2Ideal.nD → PrngReg) (a : Dev Cert.Kernel2Ideal.nD → PArgs) (he : ∀ c, Given m c (a c)) :
    θ_run (Cert.Kernel2Ideal.defs (F := Ideal)) (onTc (τ := Cert.Kernel2Ideal.τ) (Cert.Kernel2Ideal.main (F := Ideal))) ⟨m, fun _ => 0, ρ⟩ fun r => ∀ c : Dev Cert.Kernel2Ideal.nD,
      r.2.mem ((c.tc : Thread Cert.Kernel2Ideal.nD Cert.Kernel2Ideal.τ).loc Cert.Kernel2Ideal.main_v38_0) = gradArr (a c)
      ∧ r.2.mem ((c.tc : Thread Cert.Kernel2Ideal.nD Cert.Kernel2Ideal.τ).loc Cert.Kernel2Ideal.main_v38_1) = weightArr (a c)
      ∧ r.2.mem ((c.tc : Thread Cert.Kernel2Ideal.nD Cert.Kernel2Ideal.τ).loc Cert.Kernel2Ideal.main_v38_2) = scaleArr (a c)
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13) :=
  (θ_run Cert.Kernel2Ideal.defs _ _).mono (fun _ h c => ⟨(h.2.2 c).1.trans (grad_left (he c)), (h.2.2 c).2.1.trans ((acc_at (he c) 16 (by omega)).trans acc_all),
    (h.2.2 c).2.2.trans (scale_left (he c)), h.1 c⟩) (run_tiles m ρ)

/-- The reference's run: the same gradients, and its arguments kept. -/
theorem reference_run (m : (ℓ : Loc Cert.Reference2Ideal.nD Cert.Reference2Ideal.τ Cert.Reference2Ideal.sig) → Buf (Elt Ideal) ℓ) (ρ : Dev Cert.Reference2Ideal.nD → PrngReg)
    (a : Dev Cert.Reference2Ideal.nD → PArgs) (he : ∀ c, Taken (StableHlo.launchContents m c) (a c)) :
    θ_run (Cert.Reference2Ideal.defs (F := Ideal)) (onTc (τ := Cert.Reference2Ideal.τ) (Cert.Reference2Ideal.main (F := Ideal))) ⟨m, fun _ => 0, ρ⟩ fun r => ∀ c : Dev Cert.Reference2Ideal.nD,
      r.2.mem ((c.tc : Thread Cert.Reference2Ideal.nD Cert.Reference2Ideal.τ).loc Cert.Reference2Ideal.main_v166) = gradArr (a c)
      ∧ r.2.mem ((c.tc : Thread Cert.Reference2Ideal.nD Cert.Reference2Ideal.τ).loc Cert.Reference2Ideal.main_v167) = weightArr (a c)
      ∧ r.2.mem ((c.tc : Thread Cert.Reference2Ideal.nD Cert.Reference2Ideal.τ).loc Cert.Reference2Ideal.main_v169) = scaleArr (a c)
      ∧ r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13) :=
  (θ_run Cert.Reference2Ideal.defs _ _).mono (fun _ h c => ⟨(h c).1.trans (ref_out (he c)), (h c).2.1.trans (ref_weights (he c)), (h c).2.2.1.trans (ref_small (he c)), (h c).2.2.2⟩) (Cert.Reference2Ideal.Value.run (F := Ideal) m ρ)

theorem frame_reference : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The kernel's gradients are the reference's. -/
theorem gradient : Cert.algebraic_Kernel2Ideal_Reference2Ideal_pre_finite2 (hPre_finite2 := pre_facts) := by
  intro m ρ m' ρ' hpre hagree
  have hk := given_of hpre
  refine ⟨_, _, _, kernel_run m ρ (argsAt m) hk, reference_run m' ρ' (argsAt m) fun c => ?_⟩
  obtain ⟨h0, h1, h2, h3, h4, h5, h6, h7, h8, h9, h10, h11, h12, h13⟩ := hagree c
  exact ⟨fun s d => (congrFun h0 _).trans ((hk c).x s d), fun d => (congrFun h1 _).trans ((hk c).g d), fun d f => (congrFun h2 _).trans ((hk c).w d f),
    fun r k => (congrFun h3 _).trans ((hk c).cw r k), fun s d => (congrFun h4 _).trans ((hk c).dh s d), fun s k => (congrFun h5 _).trans ((hk c).dq s k),
    fun s k => (congrFun h6 _).trans ((hk c).dk s k), fun s k => (congrFun h7 _).trans ((hk c).dv s k), fun t i k => (congrFun h8 _).trans ((hk c).dkh t i k),
    fun t i k => (congrFun h9 _).trans ((hk c).dvh t i k), fun s k => (congrFun h10 _).trans ((hk c).dga s k), fun s k => (congrFun h11 _).trans ((hk c).db s k),
    fun s k => (congrFun h12 _).trans ((hk c).dcv s k), fun s k => (congrFun h13 _).trans ((hk c).dgc s k)⟩

end Cert.Proj

end
-- ==== Proof.lean ====
module

public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame

public import proofs.«01_k».proof.Proof.Gen.Reference2Ideal
public import proofs.«01_k».proof.Proof.Gen.Reference2Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Finish
public import proofs.«01_k».proof.Proof.ProjBits
public import proofs.«01_k».proof.Proof.ProjDone
public import Idealize.ShloMosaic.Adequacy
public import Idealize.ShloMosaic.Init

@[expose] public section

noncomputable section

namespace Cert.Proof

open Idealize.ShloMosaic Idealize.SL.Sem

theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The kernel's gradients of the queries, the keys and the values are the reference's. -/
theorem gradients : Cert.algebraic_KernelIdeal_ReferenceIdeal_pre_finite (hPre_finite := Cert.Chain.pre_facts) := by
  intro m ρ m' ρ' hpre hagree
  have hk := Cert.Chain.given_of hpre
  refine ⟨_, _, _, Cert.Chain.kernel_run ρ (Cert.Chain.argsAt m) hk, Cert.Chain.reference_run m' ρ' (Cert.Chain.argsAt m) fun c => ?_⟩
  obtain ⟨h0, h1, h2, h3, h4⟩ := hagree c
  exact ⟨fun r h k => (congrFun h0 _).trans ((hk c).q r h k), fun r g k => (congrFun h1 _).trans ((hk c).k r g k), fun h => (congrFun h2 _).trans ((hk c).s h),
    fun r g k => (congrFun h3 _).trans ((hk c).v r g k), fun r l => (congrFun h4 _).trans ((hk c).ct r l)⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Chain.pre_facts, Cert.Proj.pre_facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Proj.frame_bits m ρ, fun m ρ _ => Cert.Proj.frame (F := Ideal) m ρ, fun m ρ _ => Cert.Proj.frame (F := Ideal) m ρ,
  Cert.Proj.frame_reference, fun m ρ _ => Cert.Proj.frame_reference m ρ trivial,
  trivial, gradients, trivial, Cert.Proj.gradient⟩

end Cert.Proof

end
